-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_act_finite [hPre_act_finite : Cert.Pre_act_finite.Facts] (m : (ℓ : Loc Cert.KernelIdeal.nD Cert.KernelIdeal.τ Cert.KernelIdeal.sig) → Buf (Elt Ideal) ℓ) : Prop :=
  ∀ c : Dev Cert.KernelIdeal.nD,
    (Cert.Pre_act_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_act_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_act_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_act_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_act_finite [hPre_act_finite : Cert.Pre_act_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_act_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_act_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_act_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_act_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_dh_finite [hPre_dh_finite : Cert.Pre_dh_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_dh_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_dh_finite [hPre_dh_finite : Cert.Pre_dh_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_dh_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mixer_dh_finite [hPre_mixer_dh_finite : Cert.Pre_mixer_dh_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.1 = (fun _ => 1#1)
    ∧ (Cert.Pre_mixer_dh_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mixer_dh_finite [hPre_mixer_dh_finite : Cert.Pre_mixer_dh_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.1 = (fun _ => 1#1)
    ∧ (Cert.Pre_mixer_dh_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_loss_finite [hPre_loss_finite : Cert.Pre_loss_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).1 = (fun _ => 1#1)
    ∧ (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2.1 = (fun _ => 1#1)
    ∧ (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2.2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_loss_finite [hPre_loss_finite : Cert.Pre_loss_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).1 = (fun _ => 1#1)
    ∧ (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2.1 = (fun _ => 1#1)
    ∧ (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2.2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_dc_bounded [hPre_dc_bounded : Cert.Pre_dc_bounded.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_dc_bounded.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_dc_bounded [hPre_dc_bounded : Cert.Pre_dc_bounded.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_dc_bounded.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_act_finite [hKernelIdeal : Cert.KernelIdeal.Facts] [hPre_act_finite : Cert.Pre_act_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_act_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_act_finite [hReferenceIdeal : Cert.ReferenceIdeal.Facts] [hPre_act_finite : Cert.Pre_act_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_act_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_dh_finite [hKernel3Ideal : Cert.Kernel3Ideal.Facts] [hPre_dh_finite : Cert.Pre_dh_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_dh_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_dh_finite [hReference3Ideal : Cert.Reference3Ideal.Facts] [hPre_dh_finite : Cert.Pre_dh_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_dh_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_mixer_dh_finite [hKernel7Ideal : Cert.Kernel7Ideal.Facts] [hPre_mixer_dh_finite : Cert.Pre_mixer_dh_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mixer_dh_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_mixer_dh_finite [hReference7Ideal : Cert.Reference7Ideal.Facts] [hPre_mixer_dh_finite : Cert.Pre_mixer_dh_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mixer_dh_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_loss_finite [hKernel22Ideal : Cert.Kernel22Ideal.Facts] [hPre_loss_finite : Cert.Pre_loss_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_loss_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_loss_finite [hReference22Ideal : Cert.Reference22Ideal.Facts] [hPre_loss_finite : Cert.Pre_loss_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_loss_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Kernel35Ideal_pre_dc_bounded [hKernel35Ideal : Cert.Kernel35Ideal.Facts] [hPre_dc_bounded : Cert.Pre_dc_bounded.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_dc_bounded m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_dc_bounded [hReference35Ideal : Cert.Reference35Ideal.Facts] [hPre_dc_bounded : Cert.Pre_dc_bounded.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_dc_bounded m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def preserves_Kernel_KernelIdeal : Prop :=
  True

def algebraic_KernelIdeal_ReferenceIdeal_pre_act_finite [hKernelIdeal : Cert.KernelIdeal.Facts] [hReferenceIdeal : Cert.ReferenceIdeal.Facts] [hPre_act_finite : Cert.Pre_act_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_act_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_dh_finite [hKernel3Ideal : Cert.Kernel3Ideal.Facts] [hReference3Ideal : Cert.Reference3Ideal.Facts] [hPre_dh_finite : Cert.Pre_dh_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_dh_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v34) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_mixer_dh_finite [hKernel7Ideal : Cert.Kernel7Ideal.Facts] [hReference7Ideal : Cert.Reference7Ideal.Facts] [hPre_mixer_dh_finite : Cert.Pre_mixer_dh_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mixer_dh_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v21_0)) (v1 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_0) = v0 c
          ∧ r.2.mem ((c.tc : Thread Cert.Kernel7Ideal.nD Cert.Kernel7Ideal.τ).loc Cert.Kernel7Ideal.main_v21_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v12_0)) (v1 : (c : Dev Cert.Kernel12Ideal.nD) → Buf (Elt Ideal) ((c.tc : Thread Cert.Kernel12Ideal.nD Cert.Kernel12Ideal.τ).loc Cert.Kernel12Ideal.main_v12_1)) (v2 : (c : Dev Cert.Kernel12Ideal.nD) → Buf (Elt Ideal) ((c.tc : Thread Cert.Kernel12Ideal.nD Cert.Kernel12Ideal.τ).loc Cert.Kernel12Ideal.main_v12_2)) (v3 : (c : Dev Cert.Kernel12Ideal.nD) → Buf (Elt Ideal) ((c.tc : Thread Cert.Kernel12Ideal.nD Cert.Kernel12Ideal.τ).loc Cert.Kernel12Ideal.main_v12_3)) (v4 : (c : Dev Cert.Kernel12Ideal.nD) → Buf (Elt Ideal) ((c.tc : Thread Cert.Kernel12Ideal.nD Cert.Kernel12Ideal.τ).loc Cert.Kernel12Ideal.main_v12_4)) (v5 : (c : Dev Cert.Kernel12Ideal.nD) → Buf (Elt Ideal) ((c.tc : Thread Cert.Kernel12Ideal.nD Cert.Kernel12Ideal.τ).loc Cert.Kernel12Ideal.main_v12_5)) (v6 : (c : Dev Cert.Kernel12Ideal.nD) → Buf (Elt Ideal) ((c.tc : Thread Cert.Kernel12Ideal.nD Cert.Kernel12Ideal.τ).loc Cert.Kernel12Ideal.main_v12_6)) (v7 : (c : Dev Cert.Kernel12Ideal.nD) → Buf (Elt Ideal) ((c.tc : Thread Cert.Kernel12Ideal.nD Cert.Kernel12Ideal.τ).loc Cert.Kernel12Ideal.main_v12_7)) (v8 : (c : Dev Cert.Kernel12Ideal.nD) → Buf (Elt Ideal) ((c.tc : Thread Cert.Kernel12Ideal.nD Cert.Kernel12Ideal.τ).loc Cert.Kernel12Ideal.main_v12_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12_0) = v0 c
          ∧ r.2.mem ((c.tc : Thread Cert.Kernel12Ideal.nD Cert.Kernel12Ideal.τ).loc Cert.Kernel12Ideal.main_v12_1) = v1 c
          ∧ r.2.mem ((c.tc : Thread Cert.Kernel12Ideal.nD Cert.Kernel12Ideal.τ).loc Cert.Kernel12Ideal.main_v12_2) = v2 c
          ∧ r.2.mem ((c.tc : Thread Cert.Kernel12Ideal.nD Cert.Kernel12Ideal.τ).loc Cert.Kernel12Ideal.main_v12_3) = v3 c
          ∧ r.2.mem ((c.tc : Thread Cert.Kernel12Ideal.nD Cert.Kernel12Ideal.τ).loc Cert.Kernel12Ideal.main_v12_4) = v4 c
          ∧ r.2.mem ((c.tc : Thread Cert.Kernel12Ideal.nD Cert.Kernel12Ideal.τ).loc Cert.Kernel12Ideal.main_v12_5) = v5 c
          ∧ r.2.mem ((c.tc : Thread Cert.Kernel12Ideal.nD Cert.Kernel12Ideal.τ).loc Cert.Kernel12Ideal.main_v12_6) = v6 c
          ∧ r.2.mem ((c.tc : Thread Cert.Kernel12Ideal.nD Cert.Kernel12Ideal.τ).loc Cert.Kernel12Ideal.main_v12_7) = v7 c
          ∧ r.2.mem ((c.tc : Thread Cert.Kernel12Ideal.nD Cert.Kernel12Ideal.τ).loc Cert.Kernel12Ideal.main_v12_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v72) = v0 c
          ∧ r.2.mem ((c.tc : Thread Cert.Reference12Ideal.nD Cert.Reference12Ideal.τ).loc Cert.Reference12Ideal.main_v73) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v74) = v3 c
          ∧ r.2.mem ((c.tc : Thread Cert.Reference12Ideal.nD Cert.Reference12Ideal.τ).loc Cert.Reference12Ideal.main_v75) = v4 c
          ∧ r.2.mem ((c.tc : Thread Cert.Reference12Ideal.nD Cert.Reference12Ideal.τ).loc Cert.Reference12Ideal.main_v52) = v5 c
          ∧ r.2.mem ((c.tc : Thread Cert.Reference12Ideal.nD Cert.Reference12Ideal.τ).loc Cert.Reference12Ideal.main_v76) = v6 c
          ∧ r.2.mem ((c.tc : Thread Cert.Reference12Ideal.nD Cert.Reference12Ideal.τ).loc Cert.Reference12Ideal.main_v77) = v7 c
          ∧ r.2.mem ((c.tc : Thread Cert.Reference12Ideal.nD Cert.Reference12Ideal.τ).loc Cert.Reference12Ideal.main_v58) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)) (v2 : (c : Dev Cert.Kernel13Ideal.nD) → Buf (Elt Ideal) ((c.tc : Thread Cert.Kernel13Ideal.nD Cert.Kernel13Ideal.τ).loc Cert.Kernel13Ideal.main_v8_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_v8_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_v15) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_loss_finite [hKernel22Ideal : Cert.Kernel22Ideal.Facts] [hReference22Ideal : Cert.Reference22Ideal.Facts] [hPre_loss_finite : Cert.Pre_loss_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_loss_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v49) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_v20) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal_pre_dc_bounded [hKernel35Ideal : Cert.Kernel35Ideal.Facts] [hReference35Ideal : Cert.Reference35Ideal.Facts] [hPre_dc_bounded : Cert.Pre_dc_bounded.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_dc_bounded m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_v7) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v5) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v4)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v2) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_act_finite : Cert.Pre_act_finite.Facts) (hPre_dh_finite : Cert.Pre_dh_finite.Facts) (hPre_mixer_dh_finite : Cert.Pre_mixer_dh_finite.Facts) (hPre_loss_finite : Cert.Pre_loss_finite.Facts) (hPre_dc_bounded : Cert.Pre_dc_bounded.Facts),
    quiescent_Kernel (hKernel := hKernel)
    ∧ quiescent_KernelIdeal (hKernelIdeal := hKernelIdeal)
    ∧ quiescent_KernelIdeal_pre_act_finite (hKernelIdeal := hKernelIdeal) (hPre_act_finite := hPre_act_finite)
    ∧ quiescent_ReferenceIdeal (hReferenceIdeal := hReferenceIdeal)
    ∧ quiescent_ReferenceIdeal_pre_act_finite (hReferenceIdeal := hReferenceIdeal) (hPre_act_finite := hPre_act_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_dh_finite (hKernel3Ideal := hKernel3Ideal) (hPre_dh_finite := hPre_dh_finite)
    ∧ quiescent_Reference3Ideal (hReference3Ideal := hReference3Ideal)
    ∧ quiescent_Reference3Ideal_pre_dh_finite (hReference3Ideal := hReference3Ideal) (hPre_dh_finite := hPre_dh_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_mixer_dh_finite (hKernel7Ideal := hKernel7Ideal) (hPre_mixer_dh_finite := hPre_mixer_dh_finite)
    ∧ quiescent_Reference7Ideal (hReference7Ideal := hReference7Ideal)
    ∧ quiescent_Reference7Ideal_pre_mixer_dh_finite (hReference7Ideal := hReference7Ideal) (hPre_mixer_dh_finite := hPre_mixer_dh_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_loss_finite (hKernel22Ideal := hKernel22Ideal) (hPre_loss_finite := hPre_loss_finite)
    ∧ quiescent_Reference22Ideal (hReference22Ideal := hReference22Ideal)
    ∧ quiescent_Reference22Ideal_pre_loss_finite (hReference22Ideal := hReference22Ideal) (hPre_loss_finite := hPre_loss_finite)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_dc_bounded (hKernel35Ideal := hKernel35Ideal) (hPre_dc_bounded := hPre_dc_bounded)
    ∧ quiescent_Reference35Ideal (hReference35Ideal := hReference35Ideal)
    ∧ quiescent_Reference35Ideal_pre_dc_bounded (hReference35Ideal := hReference35Ideal) (hPre_dc_bounded := hPre_dc_bounded)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_act_finite (hKernelIdeal := hKernelIdeal) (hReferenceIdeal := hReferenceIdeal) (hPre_act_finite := hPre_act_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_dh_finite (hKernel3Ideal := hKernel3Ideal) (hReference3Ideal := hReference3Ideal) (hPre_dh_finite := hPre_dh_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_mixer_dh_finite (hKernel7Ideal := hKernel7Ideal) (hReference7Ideal := hReference7Ideal) (hPre_mixer_dh_finite := hPre_mixer_dh_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_loss_finite (hKernel22Ideal := hKernel22Ideal) (hReference22Ideal := hReference22Ideal) (hPre_loss_finite := hPre_loss_finite)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_dc_bounded (hKernel35Ideal := hKernel35Ideal) (hReference35Ideal := hReference35Ideal) (hPre_dc_bounded := hPre_dc_bounded)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_act_finite.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  bcast_S_S2816x1024 : S_.BroadcastsInDim S2816x1024 (![] : Fin 0 → Fin S2816x1024.rank)
  bcast_S_S2048x1024 : S_.BroadcastsInDim S2048x1024 (![] : Fin 0 → Fin S2048x1024.rank)

variable [Facts]

def fn {F : FTy → Type} [FloatOps F] (main_arg0 : FVec F S2048x2816 .f32) (main_arg1 : FVec F S2048x2816 .f32) (main_arg2 : FVec F S1024x2816 .f32) (main_arg3 : FVec F S1024x2816 .f32) (main_arg4 : FVec F S2816x1024 .f32) (main_arg5 : FVec F S2048x1024 .f32) : IVec S2048x2816 1 × IVec S2048x2816 1 × IVec S2816x1024 1 × IVec S2048x1024 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_v3 : FVec F S2048x2816 .f32 := Host.absf main_arg1
  let main_cst_0 : FVec F S_ .f32 := constant S_ .f32 0x7F800000#32
  let main_v4 : FVec F S2048x2816 .f32 := broadcastInDim S2048x2816 ![] bcast_S_S2048x2816 main_cst_0
  let main_v5 : IVec S2048x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S2048x1024 .f32 := Host.absf main_arg5
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_dc_bounded.lean ====
abbrev S2048x128 : Shape := ⟨2, ![2048, 128]⟩
abbrev S1x128 : Shape := ⟨2, ![1, 128]⟩
abbrev S_ : Shape := ⟨0, ![]⟩

class Facts : Prop where
  bcast_S_S2048x128 : S_.BroadcastsInDim S2048x128 (![] : Fin 0 → Fin S2048x128.rank)

variable [Facts]

def fn {F : FTy → Type} [FloatOps F] (main_arg0 : FVec F S2048x128 .f32) (main_arg1 : FVec F S2048x128 .f32) (main_arg2 : FVec F S1x128 .f32) : IVec S2048x128 1 :=
  let main_cst : FVec F S_ .f32 := constant S_ .f32 0x7F800000#32
  let main_v0 : FVec F S2048x128 .f32 := broadcastInDim S2048x128 ![] bcast_S_S2048x128 main_cst
  let main_v1 : IVec S2048x128 1 := cmpf .olt main_arg0 main_v0
  main_v1
-- ==== Pre_dh_finite.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2048x2816 : S_.BroadcastsInDim S2048x2816 (![] : Fin 0 → Fin S2048x2816.rank)

variable [Facts]

def fn_part1 {F : FTy → Type} [FloatOps F] (main_arg7 : FVec F S2048x1024 .f32) (main_v2 : IVec S2048x1024 1) (main_v5 : IVec S1x1024 1) (main_v8 : IVec S1024x2816 1) (main_v11 : IVec S1024x2816 1) (main_v14 : IVec S2048x2816 1) (main_v17 : IVec S2048x2816 1) : IVec S2048x1024 1 × IVec S1x1024 1 × IVec S1024x2816 1 × IVec S1024x2816 1 × IVec S2048x2816 1 × IVec S2048x2816 1 × IVec S2048x1024 1 :=
  let main_v18 : FVec F S2048x1024 .f32 := Host.absf main_arg7
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S2048x1024 .f32) (main_arg1 : FVec F S1x1024 .f32) (main_arg2 : FVec F S1024x2816 .f32) (main_arg3 : FVec F S1024x2816 .f32) (main_arg4 : FVec F S2816x1024 .f32) (main_arg5 : FVec F S2048x2816 .f32) (main_arg6 : FVec F S2048x2816 .f32) (main_arg7 : FVec F S2048x1024 .f32) : IVec S2048x1024 1 × IVec S1x1024 1 × IVec S1024x2816 1 × IVec S1024x2816 1 × IVec S2048x2816 1 × IVec S2048x2816 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2048x2816 .f32 := Host.absf main_arg5
  let main_cst_3 : FVec F S_ .f32 := constant S_ .f32 0x7F800000#32
  let main_v13 : FVec F S2048x2816 .f32 := broadcastInDim S2048x2816 ![] bcast_S_S2048x2816 main_cst_3
  let main_v14 : IVec S2048x2816 1 := cmpf .olt main_v12 main_v13
  let main_v15 : FVec F S2048x2816 .f32 := Host.absf main_arg6
  let main_cst_4 : FVec F S_ .f32 := constant S_ .f32 0x7F800000#32
  let main_v16 : FVec F S2048x2816 .f32 := broadcastInDim S2048x2816 ![] bcast_S_S2048x2816 main_cst_4
  let main_v17 : IVec S2048x2816 1 := cmpf .olt main_v15 main_v16
  fn_part1 (F := F) main_arg7 main_v2 main_v5 main_v8 main_v11 main_v14 main_v17
-- ==== Pre_loss_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) : IVec S2048x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_mixer_dh_finite.lean ====
abbrev S2048x1024 : Shape := ⟨2, ![2048, 1024]⟩
abbrev S1x1024 : Shape := ⟨2, ![1, 1024]⟩
abbrev S1024x3080 : Shape := ⟨2, ![1024, 3080]⟩
abbrev S1024x2048 : Shape := ⟨2, ![1024, 2048]⟩
abbrev S2048x3072 : Shape := ⟨2, ![2048, 3072]⟩
abbrev S2048x8 : Shape := ⟨2, ![2048, 8]⟩
abbrev S2048x2048 : Shape := ⟨2, ![2048, 2048]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x3080 : S_.BroadcastsInDim S1024x3080 (![] : Fin 0 → Fin S1024x3080.rank)
  bcast_S_S1024x2048 : S_.BroadcastsInDim S1024x2048 (![] : Fin 0 → Fin S1024x2048.rank)
  bcast_S_S2048x3072 : S_.BroadcastsInDim S2048x3072 (![] : Fin 0 → Fin S2048x3072.rank)
  bcast_S_S2048x8 : S_.BroadcastsInDim S2048x8 (![] : Fin 0 → Fin S2048x8.rank)
  bcast_S_S2048x2048 : S_.BroadcastsInDim S2048x2048 (![] : Fin 0 → Fin S2048x2048.rank)

variable [Facts]

def fn_part1 {F : FTy → Type} [FloatOps F] (main_arg6 : FVec F S2048x2048 .f32) (main_arg7 : FVec F S2048x1024 .f32) (main_v2 : IVec S2048x1024 1) (main_v5 : IVec S1x1024 1) (main_v8 : IVec S1024x3080 1) (main_v11 : IVec S1024x2048 1) (main_v14 : IVec S2048x3072 1) (main_v17 : IVec S2048x8 1) : IVec S2048x1024 1 × IVec S1x1024 1 × IVec S1024x3080 1 × IVec S1024x2048 1 × IVec S2048x3072 1 × IVec S2048x8 1 × IVec S2048x2048 1 × IVec S2048x1024 1 :=
  let main_v18 : FVec F S2048x2048 .f32 := Host.absf main_arg6
  let main_cst_5 : FVec F S_ .f32 := constant S_ .f32 0x7F800000#32
  let main_v19 : FVec F S2048x2048 .f32 := broadcastInDim S2048x2048 ![] bcast_S_S2048x2048 main_cst_5
  let main_v20 : IVec S2048x2048 1 := cmpf .olt main_v18 main_v19
  let main_v21 : FVec F S2048x1024 .f32 := Host.absf main_arg7
  let main_cst_6 : FVec F S_ .f32 := constant S_ .f32 0x7F800000#32
  let main_v22 : FVec F S2048x1024 .f32 := broadcastInDim S2048x1024 ![] bcast_S_S2048x1024 main_cst_6
  let main_v23 : IVec S2048x1024 1 := cmpf .olt main_v21 main_v22
  (main_v2, main_v5, main_v8, main_v11, main_v14, main_v17, main_v20, main_v23)

def fn {F : FTy → Type} [FloatOps F] (main_arg0 : FVec F S2048x1024 .f32) (main_arg1 : FVec F S1x1024 .f32) (main_arg2 : FVec F S1024x3080 .f32) (main_arg3 : FVec F S1024x2048 .f32) (main_arg4 : FVec F S2048x3072 .f32) (main_arg5 : FVec F S2048x8 .f32) (main_arg6 : FVec F S2048x2048 .f32) (main_arg7 : FVec F S2048x1024 .f32) : IVec S2048x1024 1 × IVec S1x1024 1 × IVec S1024x3080 1 × IVec S1024x2048 1 × IVec S2048x3072 1 × IVec S2048x8 1 × IVec S2048x2048 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3080 .f32 := Host.absf main_arg2
  let main_cst_1 : FVec F S_ .f32 := constant S_ .f32 0x7F800000#32
  let main_v7 : FVec F S1024x3080 .f32 := broadcastInDim S1024x3080 ![] bcast_S_S1024x3080 main_cst_1
  let main_v8 : IVec S1024x3080 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S2048x3072 .f32 := Host.absf main_arg4
  let main_cst_3 : FVec F S_ .f32 := constant S_ .f32 0x7F800000#32
  let main_v13 : FVec F S2048x3072 .f32 := broadcastInDim S2048x3072 ![] bcast_S_S2048x3072 main_cst_3
  let main_v14 : IVec S2048x3072 1 := cmpf .olt main_v12 main_v13
  let main_v15 : FVec F S2048x8 .f32 := Host.absf main_arg5
  let main_cst_4 : FVec F S_ .f32 := constant S_ .f32 0x7F800000#32
  let main_v16 : FVec F S2048x8 .f32 := broadcastInDim S2048x8 ![] bcast_S_S2048x8 main_cst_4
  let main_v17 : IVec S2048x8 1 := cmpf .olt main_v15 main_v16
  fn_part1 (F := F) main_arg6 main_arg7 main_v2 main_v5 main_v8 main_v11 main_v14 main_v17
-- ==== Kernel.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x4x704 : Shape := ⟨3, ![2048, 4, 704]⟩
abbrev S4x2048x704 : Shape := ⟨3, ![4, 2048, 704]⟩
abbrev S512x1024 : Shape := ⟨2, ![512, 1024]⟩
abbrev S1x1x704x1024 : Shape := ⟨4, ![1, 1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 24
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2816x1024, .f32⟩
  | .hbm, ⟨7, _⟩ => ⟨S2816x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x1x704x1024, .f32⟩
  | .hbm, ⟨12, _⟩ => ⟨S4x1x704x1024, .f32⟩
  | .hbm, ⟨13, _⟩ => ⟨S4x1x704x1024, .f32⟩
  | .hbm, ⟨14, _⟩ => ⟨S4x3x704x1024, .f32⟩
  | .hbm, ⟨15, _⟩ => ⟨S4x3x704x1024, .bf16⟩
  | .hbm, ⟨16, _⟩ => ⟨S2048x4x704, .f32⟩
  | .hbm, ⟨17, _⟩ => ⟨S4x2048x704, .f32⟩
  | .hbm, ⟨18, _⟩ => ⟨S4x2048x704, .bf16⟩
  | .hbm, ⟨19, _⟩ => ⟨S2048x4x704, .f32⟩
  | .hbm, ⟨20, _⟩ => ⟨S4x2048x704, .f32⟩
  | .hbm, ⟨21, _⟩ => ⟨S4x2048x704, .bf16⟩
  | .hbm, ⟨22, _⟩ => ⟨S4x2048x704, .bf16⟩
  | .hbm, ⟨23, _⟩ => ⟨S4x2048x704, .bf16⟩
  | .local _ .vmem, ⟨0, _⟩ => ⟨S512x1024, .f32⟩
  | .local _ .vmem, ⟨1, _⟩ => ⟨S512x1024, .f32⟩
  | .local _ .vmem, ⟨2, _⟩ => ⟨S1x1x704x1024, .bf16⟩
  | .local _ .vmem, ⟨3, _⟩ => ⟨S1x1x704x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x4x704, .f32⟩
  | .hbm, ⟨35, _⟩ => ⟨S4x2048x704, .f32⟩
  | .hbm, ⟨36, _⟩ => ⟨S4x2048x704, .bf16⟩
  | .hbm, ⟨37, _⟩ => ⟨S2048x4x704, .f32⟩
  | .hbm, ⟨38, _⟩ => ⟨S4x2048x704, .f32⟩
  | .hbm, ⟨39, _⟩ => ⟨S4x2048x704, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩

abbrev nD : Nat := 1
abbrev τ : Topo := Topo.v7x

variable {F : FTy → Type} [FloatOps F]
-- ==== Kernel2.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x3x704x1024 : Shape := ⟨4, ![4, 3, 704, 1024]⟩
abbrev S1024x1024 : Shape := ⟨2, ![1024, 1024]⟩
abbrev S1x1024x704 : Shape := ⟨3, ![1, 1024, 704]⟩
abbrev S1x3x704x1024 : Shape := ⟨4, ![1, 3, 704, 1024]⟩
abbrev S3x704x1024 : Shape := ⟨3, ![3, 704, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 16
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S2048x1024, .bf16⟩
  | .hbm, ⟨6, _⟩ => ⟨S2048x4x704, .f32⟩
  | .hbm, ⟨7, _⟩ => ⟨S4x2048x704, .f32⟩
  | .hbm, ⟨8, _⟩ => ⟨S4x2048x704, .bf16⟩
  | .hbm, ⟨9, _⟩ => ⟨S2048x4x704, .f32⟩
  | .hbm, ⟨10, _⟩ => ⟨S4x2048x704, .f32⟩
  | .hbm, ⟨11, _⟩ => ⟨S4x2048x704, .bf16⟩
  | .hbm, ⟨12, _⟩ => ⟨S2048x4x704, .f32⟩
  | .hbm, ⟨13, _⟩ => ⟨S4x2048x704, .f32⟩
  | .hbm, ⟨14, _⟩ => ⟨S4x2048x704, .bf16⟩
  | .hbm, ⟨15, _⟩ => ⟨S4x3x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1x3x704x1024, .bf16⟩
  | .local _ .vmem, ⟨11, _⟩ => ⟨S1x3x704x1024, .bf16⟩
  | .local _ .vmem, ⟨12, _⟩ => ⟨S3x704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v36 : BitVec 1 := Scalar.cmpi .eq arg1 c1_i32
  let v37 : BitVec 32 := Scalar.extui v36
  let c0_i32_32 : BitVec 32 := 0#32
  let v38 : BitVec 1 := Scalar.cmpi .ne v37 c0_i32_32
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S1024x2816, .f32⟩
  | .hbm, ⟨9, _⟩ => ⟨S_, .f32⟩
  | .hbm, ⟨10, _⟩ => ⟨S2816x1024, .f32⟩
  | .hbm, ⟨11, _⟩ => ⟨S2048x2816, .f32⟩
  | .hbm, ⟨12, _⟩ => ⟨S2048x2816, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1024x2816, .f32⟩
  | .hbm, ⟨21, _⟩ => ⟨S2816x1024, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S1024x2816, .f32⟩
  | .hbm, ⟨26, _⟩ => ⟨S2816x1024, .f32⟩
  | .hbm, ⟨27, _⟩ => ⟨S2816x1024, .f32⟩
  | .hbm, ⟨28, _⟩ => ⟨S4x704x1024, .f32⟩
  | .hbm, ⟨29, _⟩ => ⟨S4x704x1024, .f32⟩
  | .hbm, ⟨30, _⟩ => ⟨S4x704x1024, .f32⟩
  | .hbm, ⟨31, _⟩ => ⟨S4x1x704x1024, .f32⟩
  | .hbm, ⟨32, _⟩ => ⟨S4x1x704x1024, .f32⟩
  | .hbm, ⟨33, _⟩ => ⟨S4x1x704x1024, .f32⟩
  | .hbm, ⟨34, _⟩ => ⟨S4x3x704x1024, .f32⟩
  | .hbm, ⟨35, _⟩ => ⟨S4x3x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x4x704 : Shape := ⟨3, ![2048, 4, 704]⟩
abbrev S4x2048x704 : Shape := ⟨3, ![4, 2048, 704]⟩
abbrev S4x256x704 : Shape := ⟨3, ![4, 256, 704]⟩
abbrev S256x1024 : Shape := ⟨2, ![256, 1024]⟩
abbrev S256x1 : Shape := ⟨2, ![256, 1]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S1024 : Shape := ⟨1, ![1024]⟩

abbrev nBuf : Space → Nat
  | .hbm => 37
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2816x1024, .f32⟩
  | .hbm, ⟨20, _⟩ => ⟨S2816x1024, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4x1x704x1024, .f32⟩
  | .hbm, ⟨25, _⟩ => ⟨S4x1x704x1024, .f32⟩
  | .hbm, ⟨26, _⟩ => ⟨S4x1x704x1024, .f32⟩
  | .hbm, ⟨27, _⟩ => ⟨S4x3x704x1024, .f32⟩
  | .hbm, ⟨28, _⟩ => ⟨S4x3x704x1024, .bf16⟩
  | .hbm, ⟨29, _⟩ => ⟨S2048x4x704, .f32⟩
  | .hbm, ⟨30, _⟩ => ⟨S4x2048x704, .f32⟩
  | .hbm, ⟨31, _⟩ => ⟨S4x2048x704, .bf16⟩
  | .hbm, ⟨32, _⟩ => ⟨S2048x4x704, .f32⟩
  | .hbm, ⟨33, _⟩ => ⟨S4x2048x704, .f32⟩
  | .hbm, ⟨34, _⟩ => ⟨S4x2048x704, .bf16⟩
  | .hbm, ⟨35, _⟩ => ⟨S2048x1024, .f32⟩
  | .hbm, ⟨36, _⟩ => ⟨S1x1024, .f32⟩
  | .local _ .vmem, ⟨0, _⟩ => ⟨S4x256x704, .bf16⟩
  | .local _ .vmem, ⟨1, _⟩ => ⟨S4x256x704, .bf16⟩
  | .local _ .vmem, ⟨2, _⟩ => ⟨S4x256x704, .bf16⟩
  | .local _ .vmem, ⟨3, _⟩ => ⟨S4x256x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_72 : BitVec 32 := 0#32
  let v73 : BitVec 1 := Scalar.cmpi .ne v72 c0_i32_72
  v73

def k0_cond2 (i : grid0.Coords) : BitVec 1 :=
  let arg0 : BitVec 32 := BitVec.ofNat 32 (i 0).val
  let c0_i32_73 : BitVec 32 := 0#32
  let v74 : BitVec 1 := Scalar.cmpi .ne arg0 c0_i32_73
  let v75 : BitVec 32 := Scalar.extui v74
  let c0_i32_74 : BitVec 32 := 0#32
  let v76 : BitVec 1 := Scalar.cmpi .ne v75 c0_i32_74
  v76

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩

abbrev nBuf : Space → Nat
  | .hbm => 15
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S1024x1024, .bf16⟩
  | .hbm, ⟨7, _⟩ => ⟨S2048x2048, .f32⟩
  | .hbm, ⟨8, _⟩ => ⟨S2048x2048, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_29 : BitVec 32 := 0#32
  let v51 : BitVec 1 := Scalar.cmpi .ne v50 c0_i32_29
  v51

def k0_cond2 (i : grid0.Coords) : BitVec 1 :=
  let arg1 : BitVec 32 := BitVec.ofNat 32 (i 1).val
  let c0_i32_30 : BitVec 32 := 0#32
  let v52 : BitVec 1 := Scalar.cmpi .ne arg1 c0_i32_30
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S2048x2048 : Shape := ⟨2, ![2048, 2048]⟩
abbrev S1x2048 : Shape := ⟨2, ![1, 2048]⟩
abbrev S2048x1024 : Shape := ⟨2, ![2048, 1024]⟩
abbrev S1024x1024 : Shape := ⟨2, ![1024, 1024]⟩
abbrev S_ : Shape := ⟨0, ![]⟩
abbrev S2048 : Shape := ⟨1, ![2048]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x2048, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x1024, .bf16⟩
  | .hbm, ⟨41, _⟩ => ⟨S2048x1024, .bf16⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | .hbm, ⟨46, _⟩ => ⟨S1x1024, .f32⟩
  | .hbm, ⟨47, _⟩ => ⟨S1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel5.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S4x2048x704 : Shape := ⟨3, ![4, 2048, 704]⟩
abbrev S512x1024 : Shape := ⟨2, ![512, 1024]⟩
abbrev S1x1x704x1024 : Shape := ⟨4, ![1, 1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 18
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .bf16⟩
  | .hbm, ⟨5, _⟩ => ⟨S2816x1024, .f32⟩
  | .hbm, ⟨6, _⟩ => ⟨S2816x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x1x704x1024, .f32⟩
  | .hbm, ⟨11, _⟩ => ⟨S4x1x704x1024, .f32⟩
  | .hbm, ⟨12, _⟩ => ⟨S4x1x704x1024, .f32⟩
  | .hbm, ⟨13, _⟩ => ⟨S4x3x704x1024, .f32⟩
  | .hbm, ⟨14, _⟩ => ⟨S4x3x704x1024, .bf16⟩
  | .hbm, ⟨15, _⟩ => ⟨S4x2048x704, .bf16⟩
  | .hbm, ⟨16, _⟩ => ⟨S4x2048x704, .bf16⟩
  | .hbm, ⟨17, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x4x704, .f32⟩
  | .hbm, ⟨17, _⟩ => ⟨S4x2048x704, .f32⟩
  | .hbm, ⟨18, _⟩ => ⟨S4x2048x704, .bf16⟩
  | .hbm, ⟨19, _⟩ => ⟨S2048x4x704, .f32⟩
  | .hbm, ⟨20, _⟩ => ⟨S4x2048x704, .f32⟩
  | .hbm, ⟨21, _⟩ => ⟨S4x2048x704, .bf16⟩
  | .hbm, ⟨22, _⟩ => ⟨S2048x4x704, .f32⟩
  | .hbm, ⟨23, _⟩ => ⟨S4x2048x704, .f32⟩
  | .hbm, ⟨24, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel6.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩
abbrev S4x704x1024 : Shape := ⟨3, ![4, 704, 1024]⟩
abbrev S4x1x704x1024 : Shape := ⟨4, ![4, 1, 704, 1024]⟩
abbrev S4x3x704x1024 : Shape := ⟨4, ![4, 3, 704, 1024]⟩
abbrev S2048x4x704 : Shape := ⟨3, ![2048, 4, 704]⟩
abbrev S4x2048x704 : Shape := ⟨3, ![4, 2048, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 19
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2816x1024, .f32⟩
  | .hbm, ⟨6, _⟩ => ⟨S2816x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x1x704x1024, .f32⟩
  | .hbm, ⟨11, _⟩ => ⟨S4x1x704x1024, .f32⟩
  | .hbm, ⟨12, _⟩ => ⟨S4x1x704x1024, .f32⟩
  | .hbm, ⟨13, _⟩ => ⟨S4x3x704x1024, .f32⟩
  | .hbm, ⟨14, _⟩ => ⟨S4x3x704x1024, .bf16⟩
  | .hbm, ⟨15, _⟩ => ⟨S2048x4x704, .f32⟩
  | .hbm, ⟨16, _⟩ => ⟨S4x2048x704, .f32⟩
  | .hbm, ⟨17, _⟩ => ⟨S4x2048x704, .bf16⟩
  | .hbm, ⟨18, _⟩ => ⟨S2048x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2048x2816 : Shape := ⟨2, ![2048, 2816]⟩
abbrev S1024x2816 : Shape := ⟨2, ![1024, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S1x1024 : Shape := ⟨2, ![1, 1024]⟩
abbrev S1024x3080 : Shape := ⟨2, ![1024, 3080]⟩
abbrev S1024x2048 : Shape := ⟨2, ![1024, 2048]⟩
abbrev S2048x3072 : Shape := ⟨2, ![2048, 3072]⟩
abbrev S2048x8 : Shape := ⟨2, ![2048, 8]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S3080x1024 : Shape := ⟨2, ![3080, 1024]⟩
abbrev S8x1024 : Shape := ⟨2, ![8, 1024]⟩
abbrev S128x1024 : Shape := ⟨2, ![128, 1024]⟩
abbrev S2048x128 : Shape := ⟨2, ![2048, 128]⟩
abbrev S256x3072 : Shape := ⟨2, ![256, 3072]⟩
abbrev S256x1024 : Shape := ⟨2, ![256, 1024]⟩
abbrev S256x128 : Shape := ⟨2, ![256, 128]⟩
abbrev S3072x1024 : Shape := ⟨2, ![3072, 1024]⟩
abbrev S1024x1024 : Shape := ⟨2, ![1024, 1024]⟩
abbrev S256x1 : Shape := ⟨2, ![256, 1]⟩
abbrev S256 : Shape := ⟨1, ![256]⟩
abbrev S1024 : Shape := ⟨1, ![1024]⟩

abbrev nBuf : Space → Nat
  | .hbm => 38
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3080, .f32⟩
  | .hbm, ⟨3, _⟩ => ⟨S1024x2048, .f32⟩
  | .hbm, ⟨4, _⟩ => ⟨S2048x3072, .f32⟩
  | .hbm, ⟨5, _⟩ => ⟨S2048x8, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S3080x1024, .f32⟩
  | .hbm, ⟨20, _⟩ => ⟨S3080x1024, .bf16⟩
  | .hbm, ⟨21, _⟩ => ⟨S2048x1024, .f32⟩
  | .hbm, ⟨22, _⟩ => ⟨S2048x1024, .bf16⟩
  | .hbm, ⟨23, _⟩ => ⟨S8x1024, .bf16⟩
  | .hbm, ⟨24, _⟩ => ⟨S_, .i32⟩
  | .hbm, ⟨25, _⟩ => ⟨S_, .bf16⟩
  | .hbm, ⟨26, _⟩ => ⟨S128x1024, .bf16⟩
  | .hbm, ⟨27, _⟩ => ⟨S_, .i32⟩
  | .hbm, ⟨28, _⟩ => ⟨S_, .f32⟩
  | .hbm, ⟨29, _⟩ => ⟨S2048x128, .f32⟩
  | .hbm, ⟨30, _⟩ => ⟨S2048x128, .bf16⟩
  | .hbm, ⟨31, _⟩ => ⟨S2048x1024, .f32⟩
  | .hbm, ⟨32, _⟩ => ⟨S2048x1024, .bf16⟩
  | .hbm, ⟨33, _⟩ => ⟨S2048x1024, .f32⟩
  | .hbm, ⟨34, _⟩ => ⟨S2048x1024, .bf16⟩
  | .hbm, ⟨35, _⟩ => ⟨S2048x3072, .bf16⟩
  | .hbm, ⟨36, _⟩ => ⟨S2048x1024, .f32⟩
  | .hbm, ⟨37, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S3072x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x1024, .bf16⟩
  | .local _ .vmem, ⟨12, _⟩ => ⟨S256x1024, .f32⟩
  | .local _ .vmem, ⟨13, _⟩ => ⟨S256x1024, .f32⟩
  | .local _ .vmem, ⟨14, _⟩ => ⟨S256x1, .f32⟩
  | .local _ .vmem, ⟨15, _⟩ => ⟨S256x1, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_c_2 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_31 : BitVec 32 := 0#32
  let v49 : BitVec 1 := Scalar.cmpi .ne v48 c0_i32_31
  v49

def k0_cond2 (i : grid0.Coords) : BitVec 1 :=
  let arg0 : BitVec 32 := BitVec.ofNat 32 (i 0).val
  let c0_i32_32 : BitVec 32 := 0#32
  let v50 : BitVec 1 := Scalar.cmpi .ne arg0 c0_i32_32
  let v51 : BitVec 32 := Scalar.extui v50
  let c0_i32_33 : BitVec 32 := 0#32
  let v52 : BitVec 1 := Scalar.cmpi .ne v51 c0_i32_33
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S2048x1024 : Shape := ⟨2, ![2048, 1024]⟩
abbrev S1x1024 : Shape := ⟨2, ![1, 1024]⟩
abbrev S1024x3080 : Shape := ⟨2, ![1024, 3080]⟩
abbrev S1024x2048 : Shape := ⟨2, ![1024, 2048]⟩
abbrev S2048x3072 : Shape := ⟨2, ![2048, 3072]⟩
abbrev S2048x8 : Shape := ⟨2, ![2048, 8]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S2048x3080 : Shape := ⟨2, ![2048, 3080]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3080, .f32⟩
  | .hbm, ⟨3, _⟩ => ⟨S1024x2048, .f32⟩
  | .hbm, ⟨4, _⟩ => ⟨S2048x3072, .f32⟩
  | .hbm, ⟨5, _⟩ => ⟨S2048x8, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x3080, .f32⟩
  | .hbm, ⟨28, _⟩ => ⟨S2048x3072, .f32⟩
  | .hbm, ⟨29, _⟩ => ⟨S2048x8, .f32⟩
  | .hbm, ⟨30, _⟩ => ⟨S2048x2048, .f32⟩
  | .hbm, ⟨31, _⟩ => ⟨S2048x1024, .f32⟩
  | .hbm, ⟨32, _⟩ => ⟨S_, .f32⟩
  | .hbm, ⟨33, _⟩ => ⟨S2048x3080, .f32⟩
  | .hbm, ⟨34, _⟩ => ⟨S_, .f32⟩
  | .hbm, ⟨35, _⟩ => ⟨S2048x3080, .f32⟩
  | .hbm, ⟨36, _⟩ => ⟨S2048x3080, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel8.lean ====
abbrev S2048x1024 : Shape := ⟨2, ![2048, 1024]⟩
abbrev S2048x3072 : Shape := ⟨2, ![2048, 3072]⟩
abbrev S3072x1024 : Shape := ⟨2, ![3072, 1024]⟩
abbrev S2048x768 : Shape := ⟨2, ![2048, 768]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S2048x1024, .bf16⟩
  | .hbm, ⟨3, _⟩ => ⟨S2048x3072, .bf16⟩
  | .hbm, ⟨4, _⟩ => ⟨S3072x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S_, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S1024x3080 : Shape := ⟨2, ![1024, 3080]⟩
abbrev S3080x1024 : Shape := ⟨2, ![3080, 1024]⟩
abbrev S_ : Shape := ⟨0, ![]⟩
abbrev S1x3072 : Shape := ⟨2, ![1, 3072]⟩
abbrev S2048x3072 : Shape := ⟨2, ![2048, 3072]⟩
abbrev S512x1024 : Shape := ⟨2, ![512, 1024]⟩
abbrev S1x512 : Shape := ⟨2, ![1, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x3080, .f32⟩
  | .hbm, ⟨2, _⟩ => ⟨S3080x1024, .f32⟩
  | .hbm, ⟨3, _⟩ => ⟨S3080x1024, .bf16⟩
  | .hbm, ⟨4, _⟩ => ⟨S2048x1024, .bf16⟩
  | .hbm, ⟨5, _⟩ => ⟨S_, .f32⟩
  | .hbm, ⟨6, _⟩ => ⟨S1x3072, .f32⟩
  | .hbm, ⟨7, _⟩ => ⟨S2048x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x1024 : Shape := ⟨2, ![2048, 1024]⟩
abbrev S1024x3080 : Shape := ⟨2, ![1024, 3080]⟩
abbrev S1024x512 : Shape := ⟨2, ![1024, 512]⟩
abbrev S2048x512 : Shape := ⟨2, ![2048, 512]⟩
abbrev S_ : Shape := ⟨0, ![]⟩
abbrev S2048x3072 : Shape := ⟨2, ![2048, 3072]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3080, .f32⟩
  | .hbm, ⟨2, _⟩ => ⟨S1024x512, .f32⟩
  | .hbm, ⟨3, _⟩ => ⟨S2048x512, .f32⟩
  | .hbm, ⟨4, _⟩ => ⟨S1024x512, .f32⟩
  | .hbm, ⟨5, _⟩ => ⟨S2048x512, .f32⟩
  | .hbm, ⟨6, _⟩ => ⟨S1024x512, .f32⟩
  | .hbm, ⟨7, _⟩ => ⟨S2048x512, .f32⟩
  | .hbm, ⟨8, _⟩ => ⟨S1024x512, .f32⟩
  | .hbm, ⟨9, _⟩ => ⟨S2048x512, .f32⟩
  | .hbm, ⟨10, _⟩ => ⟨S1024x512, .f32⟩
  | .hbm, ⟨11, _⟩ => ⟨S2048x512, .f32⟩
  | .hbm, ⟨12, _⟩ => ⟨S1024x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x3072, .f32⟩
  | .hbm, ⟨21, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel11.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩
abbrev S512x1024 : Shape := ⟨2, ![512, 1024]⟩
abbrev S1x512 : Shape := ⟨2, ![1, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x2048, .f32⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S1024x704 : Shape := ⟨2, ![1024, 704]⟩
abbrev S704x1024 : Shape := ⟨2, ![704, 1024]⟩
abbrev S1x704x1024 : Shape := ⟨3, ![1, 704, 1024]⟩
abbrev S3x704x1024 : Shape := ⟨3, ![3, 704, 1024]⟩
abbrev S88x1024 : Shape := ⟨2, ![88, 1024]⟩
abbrev S3x88x1024 : Shape := ⟨3, ![3, 88, 1024]⟩
abbrev S1x88x1024 : Shape := ⟨3, ![1, 88, 1024]⟩

abbrev nBuf : Space → Nat
  | .hbm => 33
  | .vmem => 38
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S704x1024, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S1024x704, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S3x704x1024, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S3x88x1024, .f32⟩
  | .local _ .vmem, ⟨19, _⟩ => ⟨S3x88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference12Ideal.lean ====
abbrev S1024x704 : Shape := ⟨2, ![1024, 704]⟩
abbrev S704x1024 : Shape := ⟨2, ![704, 1024]⟩
abbrev S_ : Shape := ⟨0, ![]⟩

abbrev nBuf : Space → Nat
  | .hbm => 117
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S704x1024, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S1024x704, .f32⟩
  | .hbm, ⟨11, _⟩ => ⟨S704x1024, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S_, .f32⟩
  | .hbm, ⟨46, _⟩ => ⟨S1024x704, .f32⟩
  | .hbm, ⟨47, _⟩ => ⟨S1024x704, .f32⟩
  | .hbm, ⟨48, _⟩ => ⟨S_, .f32⟩
  | .hbm, ⟨49, _⟩ => ⟨S1024x704, .f32⟩
  | .hbm, ⟨50, _⟩ => ⟨S1024x704, .f32⟩
  | .hbm, ⟨51, _⟩ => ⟨S1024x704, .f32⟩
  | .hbm, ⟨52, _⟩ => ⟨S_, .f32⟩
  | .hbm, ⟨53, _⟩ => ⟨S1024x704, .f32⟩
  | .hbm, ⟨54, _⟩ => ⟨S1024x704, .f32⟩
  | .hbm, ⟨55, _⟩ => ⟨S1024x704, .f32⟩
  | .hbm, ⟨56, _⟩ => ⟨S_, .f32⟩
  | .hbm, ⟨57, _⟩ => ⟨S1024x704, .f32⟩
  | .hbm, ⟨58, _⟩ => ⟨S1024x704, .f32⟩
  | .hbm, ⟨59, _⟩ => ⟨S1024x704, .f32⟩
  | .hbm, ⟨60, _⟩ => ⟨S_, .f32⟩
  | .hbm, ⟨61, _⟩ => ⟨S1024x704, .f32⟩
  | .hbm, ⟨62, _⟩ => ⟨S1024x704, .f32⟩
  | .hbm, ⟨63, _⟩ => ⟨S_, .f32⟩
  | .hbm, ⟨64, _⟩ => ⟨S1024x704, .f32⟩
  | .hbm, ⟨65, _⟩ => ⟨S1024x704, .f32⟩
  | .hbm, ⟨66, _⟩ => ⟨S1024x704, .f32⟩
  | .hbm, ⟨67, _⟩ => ⟨S_, .f32⟩
  | .hbm, ⟨68, _⟩ => ⟨S1024x704, .f32⟩
  | .hbm, ⟨69, _⟩ => ⟨S1024x704, .f32⟩
  | .hbm, ⟨70, _⟩ => ⟨S1024x704, .f32⟩
  | .hbm, ⟨71, _⟩ => ⟨S_, .f32⟩
  | .hbm, ⟨72, _⟩ => ⟨S1024x704, .f32⟩
  | .hbm, ⟨73, _⟩ => ⟨S1024x704, .f32⟩
  | .hbm, ⟨74, _⟩ => ⟨S1024x704, .f32⟩
  | .hbm, ⟨75, _⟩ => ⟨S_, .f32⟩
  | .hbm, ⟨76, _⟩ => ⟨S1024x704, .f32⟩
  | .hbm, ⟨77, _⟩ => ⟨S1024x704, .f32⟩
  | .hbm, ⟨78, _⟩ => ⟨S_, .f32⟩
  | .hbm, ⟨79, _⟩ => ⟨S704x1024, .f32⟩
  | .hbm, ⟨80, _⟩ => ⟨S704x1024, .f32⟩
  | .hbm, ⟨81, _⟩ => ⟨S_, .f32⟩
  | .hbm, ⟨82, _⟩ => ⟨S704x1024, .f32⟩
  | .hbm, ⟨83, _⟩ => ⟨S704x1024, .f32⟩
  | .hbm, ⟨84, _⟩ => ⟨S704x1024, .f32⟩
  | .hbm, ⟨85, _⟩ => ⟨S_, .f32⟩
  | .hbm, ⟨86, _⟩ => ⟨S704x1024, .f32⟩
  | .hbm, ⟨87, _⟩ => ⟨S704x1024, .f32⟩
  | .hbm, ⟨88, _⟩ => ⟨S704x1024, .f32⟩
  | .hbm, ⟨89, _⟩ => ⟨S_, .f32⟩
  | .hbm, ⟨90, _⟩ => ⟨S704x1024, .f32⟩
  | .hbm, ⟨91, _⟩ => ⟨S704x1024, .f32⟩
  | .hbm, ⟨92, _⟩ => ⟨S704x1024, .f32⟩
  | .hbm, ⟨93, _⟩ => ⟨S_, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S704x1024, .f32⟩
  | .hbm, ⟨100, _⟩ => ⟨S_, .f32⟩
  | .hbm, ⟨101, _⟩ => ⟨S704x1024, .f32⟩
  | .hbm, ⟨102, _⟩ => ⟨S704x1024, .f32⟩
  | .hbm, ⟨103, _⟩ => ⟨S704x1024, .f32⟩
  | .hbm, ⟨104, _⟩ => ⟨S_, .f32⟩
  | .hbm, ⟨105, _⟩ => ⟨S704x1024, .f32⟩
  | .hbm, ⟨106, _⟩ => ⟨S704x1024, .f32⟩
  | .hbm, ⟨107, _⟩ => ⟨S704x1024, .f32⟩
  | .hbm, ⟨108, _⟩ => ⟨S_, .f32⟩
  | .hbm, ⟨109, _⟩ => ⟨S704x1024, .f32⟩
  | .hbm, ⟨110, _⟩ => ⟨S704x1024, .f32⟩
  | .hbm, ⟨111, _⟩ => ⟨S704x1024, .f32⟩
  | .hbm, ⟨112, _⟩ => ⟨S704x1024, .f32⟩
  | .hbm, ⟨113, _⟩ => ⟨S704x1024, .f32⟩
  | .hbm, ⟨114, _⟩ => ⟨S704x1024, .f32⟩
  | .hbm, ⟨115, _⟩ => ⟨S704x1024, .f32⟩
  | .hbm, ⟨116, _⟩ => ⟨S704x1024, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩

abbrev nD : Nat := 1
abbrev τ : Topo := Topo.v7x

variable {F : FTy → Type} [FloatOps F]
-- ==== Kernel13.lean ====
abbrev S1024x770 : Shape := ⟨2, ![1024, 770]⟩
abbrev S1x1024x770 : Shape := ⟨3, ![1, 1024, 770]⟩
abbrev S770x1x1024 : Shape := ⟨3, ![770, 1, 1024]⟩
abbrev S110x1x1024 : Shape := ⟨3, ![110, 1, 1024]⟩

abbrev nBuf : Space → Nat
  | .hbm => 15
  | .vmem => 14
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S1x1024x770, .f32⟩
  | .hbm, ⟨5, _⟩ => ⟨S770x1x1024, .f32⟩
  | .hbm, ⟨6, _⟩ => ⟨S1x1024x770, .f32⟩
  | .hbm, ⟨7, _⟩ => ⟨S770x1x1024, .f32⟩
  | .hbm, ⟨8, _⟩ => ⟨S1x1024x770, .f32⟩
  | .hbm, ⟨9, _⟩ => ⟨S770x1x1024, .f32⟩
  | .hbm, ⟨10, _⟩ => ⟨S1x1024x770, .f32⟩
  | .hbm, ⟨11, _⟩ => ⟨S770x1x1024, .f32⟩
  | .hbm, ⟨12, _⟩ => ⟨S770x1x1024, .f32⟩
  | .hbm, ⟨13, _⟩ => ⟨S770x1x1024, .f32⟩
  | .hbm, ⟨14, _⟩ => ⟨S770x1x1024, .f32⟩
  | .local _ .vmem, ⟨0, _⟩ => ⟨S110x1x1024, .f32⟩
  | .local _ .vmem, ⟨1, _⟩ => ⟨S110x1x1024, .f32⟩
  | .local _ .vmem, ⟨2, _⟩ => ⟨S110x1x1024, .f32⟩
  | .local _ .vmem, ⟨3, _⟩ => ⟨S110x1x1024, .f32⟩
  | .local _ .vmem, ⟨4, _⟩ => ⟨S110x1x1024, .f32⟩
  | .local _ .vmem, ⟨5, _⟩ => ⟨S110x1x1024, .f32⟩
  | .local _ .vmem, ⟨6, _⟩ => ⟨S110x1x1024, .f32⟩
  | .local _ .vmem, ⟨7, _⟩ => ⟨S110x1x1024, .f32⟩
  | .local _ .vmem, ⟨8, _⟩ => ⟨S110x1x1024, .f32⟩
  | .local _ .vmem, ⟨9, _⟩ => ⟨S110x1x1024, .f32⟩
  | .local _ .vmem, ⟨10, _⟩ => ⟨S110x1x1024, .f32⟩
  | .local _ .vmem, ⟨11, _⟩ => ⟨S110x1x1024, .f32⟩
  | .local _ .vmem, ⟨12, _⟩ => ⟨S110x1x1024, .f32⟩
  | .local _ .vmem, ⟨13, _⟩ => ⟨S110x1x1024, .f32⟩
  | _, _ => ⟨S1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S110x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S110x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S110x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S110x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S110x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S110x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S110x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x770 : Shape := ⟨2, ![1024, 770]⟩
abbrev S_ : Shape := ⟨0, ![]⟩
abbrev S770x1024 : Shape := ⟨2, ![770, 1024]⟩
abbrev S770x1x1024 : Shape := ⟨3, ![770, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S_, .f32⟩
  | .hbm, ⟨5, _⟩ => ⟨S1024x770, .f32⟩
  | .hbm, ⟨6, _⟩ => ⟨S1024x770, .f32⟩
  | .hbm, ⟨7, _⟩ => ⟨S_, .f32⟩
  | .hbm, ⟨8, _⟩ => ⟨S1024x770, .f32⟩
  | .hbm, ⟨9, _⟩ => ⟨S1024x770, .f32⟩
  | .hbm, ⟨10, _⟩ => ⟨S1024x770, .f32⟩
  | .hbm, ⟨11, _⟩ => ⟨S_, .f32⟩
  | .hbm, ⟨12, _⟩ => ⟨S1024x770, .f32⟩
  | .hbm, ⟨13, _⟩ => ⟨S1024x770, .f32⟩
  | .hbm, ⟨14, _⟩ => ⟨S1024x770, .f32⟩
  | .hbm, ⟨15, _⟩ => ⟨S_, .f32⟩
  | .hbm, ⟨16, _⟩ => ⟨S1024x770, .f32⟩
  | .hbm, ⟨17, _⟩ => ⟨S1024x770, .f32⟩
  | .hbm, ⟨18, _⟩ => ⟨S1024x770, .f32⟩
  | .hbm, ⟨19, _⟩ => ⟨S_, .f32⟩
  | .hbm, ⟨20, _⟩ => ⟨S1024x770, .f32⟩
  | .hbm, ⟨21, _⟩ => ⟨S1024x770, .f32⟩
  | .hbm, ⟨22, _⟩ => ⟨S_, .f32⟩
  | .hbm, ⟨23, _⟩ => ⟨S1024x770, .f32⟩
  | .hbm, ⟨24, _⟩ => ⟨S1024x770, .f32⟩
  | .hbm, ⟨25, _⟩ => ⟨S1024x770, .f32⟩
  | .hbm, ⟨26, _⟩ => ⟨S_, .f32⟩
  | .hbm, ⟨27, _⟩ => ⟨S1024x770, .f32⟩
  | .hbm, ⟨28, _⟩ => ⟨S1024x770, .f32⟩
  | .hbm, ⟨29, _⟩ => ⟨S1024x770, .f32⟩
  | .hbm, ⟨30, _⟩ => ⟨S_, .f32⟩
  | .hbm, ⟨31, _⟩ => ⟨S1024x770, .f32⟩
  | .hbm, ⟨32, _⟩ => ⟨S1024x770, .f32⟩
  | .hbm, ⟨33, _⟩ => ⟨S1024x770, .f32⟩
  | .hbm, ⟨34, _⟩ => ⟨S_, .f32⟩
  | .hbm, ⟨35, _⟩ => ⟨S1024x770, .f32⟩
  | .hbm, ⟨36, _⟩ => ⟨S1024x770, .f32⟩
  | .hbm, ⟨37, _⟩ => ⟨S770x1024, .f32⟩
  | .hbm, ⟨38, _⟩ => ⟨S770x1x1024, .f32⟩
  | .hbm, ⟨39, _⟩ => ⟨S770x1024, .f32⟩
  | .hbm, ⟨40, _⟩ => ⟨S770x1x1024, .f32⟩
  | .hbm, ⟨41, _⟩ => ⟨S770x1024, .f32⟩
  | .hbm, ⟨42, _⟩ => ⟨S770x1x1024, .f32⟩
  | _, _ => ⟨S1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel14.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1x2048x1024, .bf16⟩
  | .hbm, ⟨5, _⟩ => ⟨S1024x1024, .bf16⟩
  | .hbm, ⟨6, _⟩ => ⟨S1x1024x1024, .bf16⟩
  | .hbm, ⟨7, _⟩ => ⟨S2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S2048x512 : Shape := ⟨2, ![2048, 512]⟩
abbrev S512x1024 : Shape := ⟨2, ![512, 1024]⟩
abbrev S2048x2048 : Shape := ⟨2, ![2048, 2048]⟩
abbrev S1x2048 : Shape := ⟨2, ![1, 2048]⟩
abbrev S1024x1024 : Shape := ⟨2, ![1024, 1024]⟩
abbrev S1024x4x256 : Shape := ⟨3, ![1024, 4, 256]⟩
abbrev S4x1024x256 : Shape := ⟨3, ![4, 1024, 256]⟩
abbrev S2048x1024 : Shape := ⟨2, ![2048, 1024]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x1024, .f32⟩
  | .hbm, ⟨3, _⟩ => ⟨S512x1024, .f32⟩
  | .hbm, ⟨4, _⟩ => ⟨S2048x2048, .f32⟩
  | .hbm, ⟨5, _⟩ => ⟨S1x2048, .f32⟩
  | .hbm, ⟨6, _⟩ => ⟨S1024x1024, .f32⟩
  | .hbm, ⟨7, _⟩ => ⟨S1024x4x256, .f32⟩
  | .hbm, ⟨8, _⟩ => ⟨S4x1024x256, .f32⟩
  | .hbm, ⟨9, _⟩ => ⟨S4x1024x256, .bf16⟩
  | .hbm, ⟨10, _⟩ => ⟨S2048x512, .bf16⟩
  | .hbm, ⟨11, _⟩ => ⟨S2048x512, .bf16⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S2048x1024, .f32⟩
  | .hbm, ⟨16, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .bf16⟩
  | .local _ .vmem, ⟨17, _⟩ => ⟨S512x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2048x512 : Shape := ⟨2, ![2048, 512]⟩
abbrev S512x1024 : Shape := ⟨2, ![512, 1024]⟩
abbrev S2048x2048 : Shape := ⟨2, ![2048, 2048]⟩
abbrev S1x2048 : Shape := ⟨2, ![1, 2048]⟩
abbrev S_ : Shape := ⟨0, ![]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x1024, .f32⟩
  | .hbm, ⟨3, _⟩ => ⟨S512x1024, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference19Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S512x1024 : Shape := ⟨2, ![512, 1024]⟩
abbrev S2048x1024 : Shape := ⟨2, ![2048, 1024]⟩
abbrev S1024x1024 : Shape := ⟨2, ![1024, 1024]⟩
abbrev S1024x4x256 : Shape := ⟨3, ![1024, 4, 256]⟩
abbrev S4x1024x256 : Shape := ⟨3, ![4, 1024, 256]⟩
abbrev S2048x512 : Shape := ⟨2, ![2048, 512]⟩
abbrev S4x512x256 : Shape := ⟨3, ![4, 512, 256]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 9
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2048x1024, .f32⟩
  | .hbm, ⟨3, _⟩ => ⟨S1024x1024, .f32⟩
  | .hbm, ⟨4, _⟩ => ⟨S1024x4x256, .f32⟩
  | .hbm, ⟨5, _⟩ => ⟨S4x1024x256, .f32⟩
  | .hbm, ⟨6, _⟩ => ⟨S4x1024x256, .bf16⟩
  | .hbm, ⟨7, _⟩ => ⟨S2048x1024, .bf16⟩
  | .hbm, ⟨8, _⟩ => ⟨S2048x512, .bf16⟩
  | .local _ .vmem, ⟨0, _⟩ => ⟨S512x1024, .bf16⟩
  | .local _ .vmem, ⟨1, _⟩ => ⟨S512x1024, .bf16⟩
  | .local _ .vmem, ⟨2, _⟩ => ⟨S4x512x256, .bf16⟩
  | .local _ .vmem, ⟨3, _⟩ => ⟨S512x512, .bf16⟩
  | .local _ .vmem, ⟨4, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S512x1024 : Shape := ⟨2, ![512, 1024]⟩
abbrev S2048x1024 : Shape := ⟨2, ![2048, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2048x1024, .f32⟩
  | .hbm, ⟨3, _⟩ => ⟨S_, .f32⟩
  | .hbm, ⟨4, _⟩ => ⟨S2048x512, .f32⟩
  | .hbm, ⟨5, _⟩ => ⟨S2048x1024, .f32⟩
  | .hbm, ⟨6, _⟩ => ⟨S2048x512, .f32⟩
  | .hbm, ⟨7, _⟩ => ⟨S2048x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel21.lean ====
abbrev S2048x512 : Shape := ⟨2, ![2048, 512]⟩
abbrev S2048x1024 : Shape := ⟨2, ![2048, 1024]⟩
abbrev S4x1024x256 : Shape := ⟨3, ![4, 1024, 256]⟩
abbrev S2048x256 : Shape := ⟨2, ![2048, 256]⟩
abbrev S1x1024x256 : Shape := ⟨3, ![1, 1024, 256]⟩
abbrev S512x256 : Shape := ⟨2, ![512, 256]⟩
abbrev S1x512x256 : Shape := ⟨3, ![1, 512, 256]⟩

abbrev nBuf : Space → Nat
  | .hbm => 9
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x512, .bf16⟩
  | .hbm, ⟨5, _⟩ => ⟨S2048x512, .bf16⟩
  | .hbm, ⟨6, _⟩ => ⟨S2048x1024, .bf16⟩
  | .hbm, ⟨7, _⟩ => ⟨S2048x1024, .bf16⟩
  | .hbm, ⟨8, _⟩ => ⟨S4x1024x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x1024x256, .bf16⟩
  | .local _ .vmem, ⟨7, _⟩ => ⟨S1x1024x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S1024x1024 : Shape := ⟨2, ![1024, 1024]⟩
abbrev S1024x4x256 : Shape := ⟨3, ![1024, 4, 256]⟩
abbrev S4x1024x256 : Shape := ⟨3, ![4, 1024, 256]⟩

abbrev nBuf : Space → Nat
  | .hbm => 16
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S512x1024, .f32⟩
  | .hbm, ⟨12, _⟩ => ⟨S1024x1024, .f32⟩
  | .hbm, ⟨13, _⟩ => ⟨S1024x4x256, .f32⟩
  | .hbm, ⟨14, _⟩ => ⟨S4x1024x256, .f32⟩
  | .hbm, ⟨15, _⟩ => ⟨S4x1024x256, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel22.lean ====
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_17 : BitVec 32 := 0#32
  let v45 : BitVec 1 := Scalar.cmpi .ne v44 c0_i32_17
  v45

def k0_cond2 (i : grid0.Coords) : BitVec 1 :=
  let arg0 : BitVec 32 := BitVec.ofNat 32 (i 0).val
  let c0_i32_18 : BitVec 32 := 0#32
  let v46 : BitVec 1 := Scalar.cmpi .ne arg0 c0_i32_18
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel23.lean ====
abbrev S2048x1024 : Shape := ⟨2, ![2048, 1024]⟩
abbrev S1x1024 : Shape := ⟨2, ![1, 1024]⟩
abbrev S2048x1 : Shape := ⟨2, ![2048, 1]⟩
abbrev S256x1024 : Shape := ⟨2, ![256, 1024]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S2048x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1, .f32⟩
  | .local _ .vmem, ⟨6, _⟩ => ⟨S256x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel24.lean ====
abbrev S4x3x352x1024 : Shape := ⟨4, ![4, 3, 352, 1024]⟩
abbrev S3x3x352x1024 : Shape := ⟨4, ![3, 3, 352, 1024]⟩
abbrev S_ : Shape := ⟨0, ![]⟩
abbrev S2 : Shape := ⟨1, ![2]⟩
abbrev S3x704x1024 : Shape := ⟨3, ![3, 704, 1024]⟩
abbrev S1x1x352x1024 : Shape := ⟨4, ![1, 1, 352, 1024]⟩
abbrev S1 : Shape := ⟨1, ![1]⟩
abbrev S3x1x352x1024 : Shape := ⟨4, ![3, 1, 352, 1024]⟩
abbrev S1x352x1024 : Shape := ⟨3, ![1, 352, 1024]⟩
abbrev S352x1024 : Shape := ⟨2, ![352, 1024]⟩
abbrev S3x352x1024 : Shape := ⟨3, ![3, 352, 1024]⟩

abbrev nBuf : Space → Nat
  | .hbm => 5
  | .vmem => 6
  | .smem => 1
  | _ => 0

abbrev bufTy : (tb : Table) → Fin (tcTables nBuf tb) → BufTy
  | .hbm, ⟨0, _⟩ => ⟨S4x3x352x1024, .bf16⟩
  | .hbm, ⟨1, _⟩ => ⟨S3x3x352x1024, .bf16⟩
  | .hbm, ⟨2, _⟩ => ⟨S_, .i32⟩
  | .hbm, ⟨3, _⟩ => ⟨S3x704x1024, .f32⟩
  | .hbm, ⟨4, _⟩ => ⟨S3x352x1024, .f32⟩
  | .local _ .vmem, ⟨0, _⟩ => ⟨S1x1x352x1024, .bf16⟩
  | .local _ .vmem, ⟨1, _⟩ => ⟨S1x1x352x1024, .bf16⟩
  | .local _ .vmem, ⟨2, _⟩ => ⟨S3x1x352x1024, .bf16⟩
  | .local _ .vmem, ⟨3, _⟩ => ⟨S3x1x352x1024, .bf16⟩
  | .local _ .vmem, ⟨4, _⟩ => ⟨S1x352x1024, .f32⟩
  | .local _ .vmem, ⟨5, _⟩ => ⟨S1x352x1024, .f32⟩
  | .local _ .smem, ⟨0, _⟩ => ⟨S2, .i32⟩
  | _, _ => ⟨S4x3x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

abbrev stage0_0 : Fin 2 → Memref sig .tc .vmem S1x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4x3x352x1024 : Shape := ⟨4, ![4, 3, 352, 1024]⟩
abbrev S3x3x352x1024 : Shape := ⟨4, ![3, 3, 352, 1024]⟩
abbrev S1x3x352x1024 : Shape := ⟨4, ![1, 3, 352, 1024]⟩
abbrev S3x352x1024 : Shape := ⟨3, ![3, 352, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x3x352x1024, .bf16⟩
  | .hbm, ⟨1, _⟩ => ⟨S3x3x352x1024, .bf16⟩
  | .hbm, ⟨2, _⟩ => ⟨S1x3x352x1024, .bf16⟩
  | .hbm, ⟨3, _⟩ => ⟨S3x352x1024, .bf16⟩
  | .hbm, ⟨4, _⟩ => ⟨S3x352x1024, .f32⟩
  | .hbm, ⟨5, _⟩ => ⟨S3x3x352x1024, .f32⟩
  | .hbm, ⟨6, _⟩ => ⟨S_, .f32⟩
  | .hbm, ⟨7, _⟩ => ⟨S3x352x1024, .f32⟩
  | .hbm, ⟨8, _⟩ => ⟨S3x352x1024, .f32⟩
  | _, _ => ⟨S4x3x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4x1x400x1024 : Shape := ⟨4, ![4, 1, 400, 1024]⟩
abbrev S3x1x400x1024 : Shape := ⟨4, ![3, 1, 400, 1024]⟩
abbrev S_ : Shape := ⟨0, ![]⟩
abbrev S2 : Shape := ⟨1, ![2]⟩
abbrev S1x800x1024 : Shape := ⟨3, ![1, 800, 1024]⟩
abbrev S1x1x400x1024 : Shape := ⟨4, ![1, 1, 400, 1024]⟩
abbrev S1 : Shape := ⟨1, ![1]⟩
abbrev S1x400x1024 : Shape := ⟨3, ![1, 400, 1024]⟩
abbrev S400x1024 : Shape := ⟨2, ![400, 1024]⟩

abbrev nBuf : Space → Nat
  | .hbm => 5
  | .vmem => 3
  | .smem => 1
  | _ => 0

abbrev bufTy : (tb : Table) → Fin (tcTables nBuf tb) → BufTy
  | .hbm, ⟨0, _⟩ => ⟨S4x1x400x1024, .bf16⟩
  | .hbm, ⟨1, _⟩ => ⟨S3x1x400x1024, .bf16⟩
  | .hbm, ⟨2, _⟩ => ⟨S_, .i32⟩
  | .hbm, ⟨3, _⟩ => ⟨S1x800x1024, .f32⟩
  | .hbm, ⟨4, _⟩ => ⟨S1x400x1024, .f32⟩
  | .local _ .vmem, ⟨0, _⟩ => ⟨S1x1x400x1024, .bf16⟩
  | .local _ .vmem, ⟨1, _⟩ => ⟨S3x1x400x1024, .bf16⟩
  | .local _ .vmem, ⟨2, _⟩ => ⟨S1x400x1024, .f32⟩
  | .local _ .smem, ⟨0, _⟩ => ⟨S2, .i32⟩
  | _, _ => ⟨S4x1x400x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

abbrev stage0_0 : Fin 1 → Memref sig .tc .vmem S1x1x400x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x400x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference25Ideal.lean ====
abbrev S4x1x400x1024 : Shape := ⟨4, ![4, 1, 400, 1024]⟩
abbrev S3x1x400x1024 : Shape := ⟨4, ![3, 1, 400, 1024]⟩
abbrev S1x1x400x1024 : Shape := ⟨4, ![1, 1, 400, 1024]⟩
abbrev S1x400x1024 : Shape := ⟨3, ![1, 400, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1x400x1024, .bf16⟩
  | .hbm, ⟨1, _⟩ => ⟨S3x1x400x1024, .bf16⟩
  | .hbm, ⟨2, _⟩ => ⟨S1x1x400x1024, .bf16⟩
  | .hbm, ⟨3, _⟩ => ⟨S1x400x1024, .bf16⟩
  | .hbm, ⟨4, _⟩ => ⟨S1x400x1024, .f32⟩
  | .hbm, ⟨5, _⟩ => ⟨S3x1x400x1024, .f32⟩
  | .hbm, ⟨6, _⟩ => ⟨S_, .f32⟩
  | .hbm, ⟨7, _⟩ => ⟨S1x400x1024, .f32⟩
  | .hbm, ⟨8, _⟩ => ⟨S1x400x1024, .f32⟩
  | _, _ => ⟨S4x1x400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4x1x256x1024 : Shape := ⟨4, ![4, 1, 256, 1024]⟩
abbrev S3x1x256x1024 : Shape := ⟨4, ![3, 1, 256, 1024]⟩
abbrev S_ : Shape := ⟨0, ![]⟩
abbrev S2 : Shape := ⟨1, ![2]⟩
abbrev S1x512x1024 : Shape := ⟨3, ![1, 512, 1024]⟩
abbrev S1x1x256x1024 : Shape := ⟨4, ![1, 1, 256, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 5
  | .vmem => 3
  | .smem => 1
  | _ => 0

abbrev bufTy : (tb : Table) → Fin (tcTables nBuf tb) → BufTy
  | .hbm, ⟨0, _⟩ => ⟨S4x1x256x1024, .bf16⟩
  | .hbm, ⟨1, _⟩ => ⟨S3x1x256x1024, .bf16⟩
  | .hbm, ⟨2, _⟩ => ⟨S_, .i32⟩
  | .hbm, ⟨3, _⟩ => ⟨S1x512x1024, .f32⟩
  | .hbm, ⟨4, _⟩ => ⟨S1x256x1024, .f32⟩
  | .local _ .vmem, ⟨0, _⟩ => ⟨S1x1x256x1024, .bf16⟩
  | .local _ .vmem, ⟨1, _⟩ => ⟨S3x1x256x1024, .bf16⟩
  | .local _ .vmem, ⟨2, _⟩ => ⟨S1x256x1024, .f32⟩
  | .local _ .smem, ⟨0, _⟩ => ⟨S2, .i32⟩
  | _, _ => ⟨S4x1x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

abbrev stage0_0 : Fin 1 → Memref sig .tc .vmem S1x1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference26Ideal.lean ====
abbrev S4x1x256x1024 : Shape := ⟨4, ![4, 1, 256, 1024]⟩
abbrev S3x1x256x1024 : Shape := ⟨4, ![3, 1, 256, 1024]⟩
abbrev S1x1x256x1024 : Shape := ⟨4, ![1, 1, 256, 1024]⟩
abbrev S1x256x1024 : Shape := ⟨3, ![1, 256, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1x256x1024, .bf16⟩
  | .hbm, ⟨1, _⟩ => ⟨S3x1x256x1024, .bf16⟩
  | .hbm, ⟨2, _⟩ => ⟨S1x1x256x1024, .bf16⟩
  | .hbm, ⟨3, _⟩ => ⟨S1x256x1024, .bf16⟩
  | .hbm, ⟨4, _⟩ => ⟨S1x256x1024, .f32⟩
  | .hbm, ⟨5, _⟩ => ⟨S3x1x256x1024, .f32⟩
  | .hbm, ⟨6, _⟩ => ⟨S_, .f32⟩
  | .hbm, ⟨7, _⟩ => ⟨S1x256x1024, .f32⟩
  | .hbm, ⟨8, _⟩ => ⟨S1x256x1024, .f32⟩
  | _, _ => ⟨S4x1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4x1x512x256 : Shape := ⟨4, ![4, 1, 512, 256]⟩
abbrev S3x1x512x256 : Shape := ⟨4, ![3, 1, 512, 256]⟩
abbrev S_ : Shape := ⟨0, ![]⟩
abbrev S2 : Shape := ⟨1, ![2]⟩
abbrev S1x1024x256 : Shape := ⟨3, ![1, 1024, 256]⟩
abbrev S1x1x256x256 : Shape := ⟨4, ![1, 1, 256, 256]⟩
abbrev S1 : Shape := ⟨1, ![1]⟩
abbrev S3x1x256x256 : Shape := ⟨4, ![3, 1, 256, 256]⟩
abbrev S1x256x256 : Shape := ⟨3, ![1, 256, 256]⟩
abbrev S256x256 : Shape := ⟨2, ![256, 256]⟩
abbrev S1x512x256 : Shape := ⟨3, ![1, 512, 256]⟩

abbrev nBuf : Space → Nat
  | .hbm => 5
  | .vmem => 6
  | .smem => 1
  | _ => 0

abbrev bufTy : (tb : Table) → Fin (tcTables nBuf tb) → BufTy
  | .hbm, ⟨0, _⟩ => ⟨S4x1x512x256, .bf16⟩
  | .hbm, ⟨1, _⟩ => ⟨S3x1x512x256, .bf16⟩
  | .hbm, ⟨2, _⟩ => ⟨S_, .i32⟩
  | .hbm, ⟨3, _⟩ => ⟨S1x1024x256, .f32⟩
  | .hbm, ⟨4, _⟩ => ⟨S1x512x256, .f32⟩
  | .local _ .vmem, ⟨0, _⟩ => ⟨S1x1x256x256, .bf16⟩
  | .local _ .vmem, ⟨1, _⟩ => ⟨S1x1x256x256, .bf16⟩
  | .local _ .vmem, ⟨2, _⟩ => ⟨S3x1x256x256, .bf16⟩
  | .local _ .vmem, ⟨3, _⟩ => ⟨S3x1x256x256, .bf16⟩
  | .local _ .vmem, ⟨4, _⟩ => ⟨S1x256x256, .f32⟩
  | .local _ .vmem, ⟨5, _⟩ => ⟨S1x256x256, .f32⟩
  | .local _ .smem, ⟨0, _⟩ => ⟨S2, .i32⟩
  | _, _ => ⟨S4x1x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S4x1x512x256 : Shape := ⟨4, ![4, 1, 512, 256]⟩
abbrev S3x1x512x256 : Shape := ⟨4, ![3, 1, 512, 256]⟩
abbrev S1x1x512x256 : Shape := ⟨4, ![1, 1, 512, 256]⟩
abbrev S1x512x256 : Shape := ⟨3, ![1, 512, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1x512x256, .bf16⟩
  | .hbm, ⟨1, _⟩ => ⟨S3x1x512x256, .bf16⟩
  | .hbm, ⟨2, _⟩ => ⟨S1x1x512x256, .bf16⟩
  | .hbm, ⟨3, _⟩ => ⟨S1x512x256, .bf16⟩
  | .hbm, ⟨4, _⟩ => ⟨S1x512x256, .f32⟩
  | .hbm, ⟨5, _⟩ => ⟨S3x1x512x256, .f32⟩
  | .hbm, ⟨6, _⟩ => ⟨S_, .f32⟩
  | .hbm, ⟨7, _⟩ => ⟨S1x512x256, .f32⟩
  | .hbm, ⟨8, _⟩ => ⟨S1x512x256, .f32⟩
  | _, _ => ⟨S4x1x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4x1x128x1024 : Shape := ⟨4, ![4, 1, 128, 1024]⟩
abbrev S3x1x128x1024 : Shape := ⟨4, ![3, 1, 128, 1024]⟩
abbrev S_ : Shape := ⟨0, ![]⟩
abbrev S2 : Shape := ⟨1, ![2]⟩
abbrev S1x256x1024 : Shape := ⟨3, ![1, 256, 1024]⟩
abbrev S1x1x128x1024 : Shape := ⟨4, ![1, 1, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 5
  | .vmem => 3
  | .smem => 1
  | _ => 0

abbrev bufTy : (tb : Table) → Fin (tcTables nBuf tb) → BufTy
  | .hbm, ⟨0, _⟩ => ⟨S4x1x128x1024, .bf16⟩
  | .hbm, ⟨1, _⟩ => ⟨S3x1x128x1024, .bf16⟩
  | .hbm, ⟨2, _⟩ => ⟨S_, .i32⟩
  | .hbm, ⟨3, _⟩ => ⟨S1x256x1024, .f32⟩
  | .hbm, ⟨4, _⟩ => ⟨S1x128x1024, .f32⟩
  | .local _ .vmem, ⟨0, _⟩ => ⟨S1x1x128x1024, .bf16⟩
  | .local _ .vmem, ⟨1, _⟩ => ⟨S3x1x128x1024, .bf16⟩
  | .local _ .vmem, ⟨2, _⟩ => ⟨S1x128x1024, .f32⟩
  | .local _ .smem, ⟨0, _⟩ => ⟨S2, .i32⟩
  | _, _ => ⟨S4x1x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

abbrev stage0_0 : Fin 1 → Memref sig .tc .vmem S1x1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference28Ideal.lean ====
abbrev S4x1x128x1024 : Shape := ⟨4, ![4, 1, 128, 1024]⟩
abbrev S3x1x128x1024 : Shape := ⟨4, ![3, 1, 128, 1024]⟩
abbrev S1x1x128x1024 : Shape := ⟨4, ![1, 1, 128, 1024]⟩
abbrev S1x128x1024 : Shape := ⟨3, ![1, 128, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1x128x1024, .bf16⟩
  | .hbm, ⟨1, _⟩ => ⟨S3x1x128x1024, .bf16⟩
  | .hbm, ⟨2, _⟩ => ⟨S1x1x128x1024, .bf16⟩
  | .hbm, ⟨3, _⟩ => ⟨S1x128x1024, .bf16⟩
  | .hbm, ⟨4, _⟩ => ⟨S1x128x1024, .f32⟩
  | .hbm, ⟨5, _⟩ => ⟨S3x1x128x1024, .f32⟩
  | .hbm, ⟨6, _⟩ => ⟨S_, .f32⟩
  | .hbm, ⟨7, _⟩ => ⟨S1x128x1024, .f32⟩
  | .hbm, ⟨8, _⟩ => ⟨S1x128x1024, .f32⟩
  | _, _ => ⟨S4x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S4x3x704x1024 : Shape := ⟨4, ![4, 3, 704, 1024]⟩
abbrev S4x3x352x1024 : Shape := ⟨4, ![4, 3, 352, 1024]⟩
abbrev S_ : Shape := ⟨0, ![]⟩
abbrev S2 : Shape := ⟨1, ![2]⟩
abbrev S1x1x352x1024 : Shape := ⟨4, ![1, 1, 352, 1024]⟩
abbrev S1 : Shape := ⟨1, ![1]⟩
abbrev S352x1024 : Shape := ⟨2, ![352, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x3x704x1024, .bf16⟩
  | .hbm, ⟨1, _⟩ => ⟨S4x3x352x1024, .bf16⟩
  | .hbm, ⟨2, _⟩ => ⟨S_, .i32⟩
  | .hbm, ⟨3, _⟩ => ⟨S4x3x352x1024, .bf16⟩
  | .local _ .vmem, ⟨0, _⟩ => ⟨S1x1x352x1024, .bf16⟩
  | .local _ .vmem, ⟨1, _⟩ => ⟨S1x1x352x1024, .bf16⟩
  | .local _ .vmem, ⟨2, _⟩ => ⟨S1x1x352x1024, .bf16⟩
  | .local _ .vmem, ⟨3, _⟩ => ⟨S1x1x352x1024, .bf16⟩
  | .local _ .vmem, ⟨4, _⟩ => ⟨S1x1x352x1024, .bf16⟩
  | .local _ .vmem, ⟨5, _⟩ => ⟨S1x1x352x1024, .bf16⟩
  | .local _ .smem, ⟨0, _⟩ => ⟨S2, .i32⟩
  | _, _ => ⟨S4x3x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference29Ideal.lean ====
abbrev S4x3x704x1024 : Shape := ⟨4, ![4, 3, 704, 1024]⟩
abbrev S4x3x352x1024 : Shape := ⟨4, ![4, 3, 352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x3x704x1024, .bf16⟩
  | .hbm, ⟨1, _⟩ => ⟨S4x3x352x1024, .bf16⟩
  | .hbm, ⟨2, _⟩ => ⟨S4x3x352x1024, .bf16⟩
  | .hbm, ⟨3, _⟩ => ⟨S4x3x352x1024, .f32⟩
  | .hbm, ⟨4, _⟩ => ⟨S4x3x352x1024, .f32⟩
  | .hbm, ⟨5, _⟩ => ⟨S4x3x352x1024, .f32⟩
  | .hbm, ⟨6, _⟩ => ⟨S4x3x352x1024, .bf16⟩
  | _, _ => ⟨S4x3x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel30.lean ====
abbrev S4x1x800x1024 : Shape := ⟨4, ![4, 1, 800, 1024]⟩
abbrev S4x1x400x1024 : Shape := ⟨4, ![4, 1, 400, 1024]⟩
abbrev S_ : Shape := ⟨0, ![]⟩
abbrev S2 : Shape := ⟨1, ![2]⟩
abbrev S1x1x400x1024 : Shape := ⟨4, ![1, 1, 400, 1024]⟩
abbrev S1 : Shape := ⟨1, ![1]⟩
abbrev S400x1024 : Shape := ⟨2, ![400, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x1x800x1024, .bf16⟩
  | .hbm, ⟨1, _⟩ => ⟨S4x1x400x1024, .bf16⟩
  | .hbm, ⟨2, _⟩ => ⟨S_, .i32⟩
  | .hbm, ⟨3, _⟩ => ⟨S4x1x400x1024, .bf16⟩
  | .local _ .vmem, ⟨0, _⟩ => ⟨S1x1x400x1024, .bf16⟩
  | .local _ .vmem, ⟨1, _⟩ => ⟨S1x1x400x1024, .bf16⟩
  | .local _ .vmem, ⟨2, _⟩ => ⟨S1x1x400x1024, .bf16⟩
  | .local _ .vmem, ⟨3, _⟩ => ⟨S1x1x400x1024, .bf16⟩
  | .local _ .vmem, ⟨4, _⟩ => ⟨S1x1x400x1024, .bf16⟩
  | .local _ .vmem, ⟨5, _⟩ => ⟨S1x1x400x1024, .bf16⟩
  | .local _ .smem, ⟨0, _⟩ => ⟨S2, .i32⟩
  | _, _ => ⟨S4x1x800x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x400x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x400x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference30Ideal.lean ====
abbrev S4x1x800x1024 : Shape := ⟨4, ![4, 1, 800, 1024]⟩
abbrev S4x1x400x1024 : Shape := ⟨4, ![4, 1, 400, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x1x800x1024, .bf16⟩
  | .hbm, ⟨1, _⟩ => ⟨S4x1x400x1024, .bf16⟩
  | .hbm, ⟨2, _⟩ => ⟨S4x1x400x1024, .bf16⟩
  | .hbm, ⟨3, _⟩ => ⟨S4x1x400x1024, .f32⟩
  | .hbm, ⟨4, _⟩ => ⟨S4x1x400x1024, .f32⟩
  | .hbm, ⟨5, _⟩ => ⟨S4x1x400x1024, .f32⟩
  | .hbm, ⟨6, _⟩ => ⟨S4x1x400x1024, .bf16⟩
  | _, _ => ⟨S4x1x800x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel31.lean ====
abbrev S4x1x512x1024 : Shape := ⟨4, ![4, 1, 512, 1024]⟩
abbrev S4x1x256x1024 : Shape := ⟨4, ![4, 1, 256, 1024]⟩
abbrev S_ : Shape := ⟨0, ![]⟩
abbrev S2 : Shape := ⟨1, ![2]⟩
abbrev S1x1x256x1024 : Shape := ⟨4, ![1, 1, 256, 1024]⟩
abbrev S1 : Shape := ⟨1, ![1]⟩
abbrev S256x1024 : Shape := ⟨2, ![256, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x1x512x1024, .bf16⟩
  | .hbm, ⟨1, _⟩ => ⟨S4x1x256x1024, .bf16⟩
  | .hbm, ⟨2, _⟩ => ⟨S_, .i32⟩
  | .hbm, ⟨3, _⟩ => ⟨S4x1x256x1024, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .smem, ⟨0, _⟩ => ⟨S2, .i32⟩
  | _, _ => ⟨S4x1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference31Ideal.lean ====
abbrev S4x1x512x1024 : Shape := ⟨4, ![4, 1, 512, 1024]⟩
abbrev S4x1x256x1024 : Shape := ⟨4, ![4, 1, 256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x1x512x1024, .bf16⟩
  | .hbm, ⟨1, _⟩ => ⟨S4x1x256x1024, .bf16⟩
  | .hbm, ⟨2, _⟩ => ⟨S4x1x256x1024, .bf16⟩
  | .hbm, ⟨3, _⟩ => ⟨S4x1x256x1024, .f32⟩
  | .hbm, ⟨4, _⟩ => ⟨S4x1x256x1024, .f32⟩
  | .hbm, ⟨5, _⟩ => ⟨S4x1x256x1024, .f32⟩
  | .hbm, ⟨6, _⟩ => ⟨S4x1x256x1024, .bf16⟩
  | _, _ => ⟨S4x1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel32.lean ====
abbrev S4x1x1024x256 : Shape := ⟨4, ![4, 1, 1024, 256]⟩
abbrev S4x1x512x256 : Shape := ⟨4, ![4, 1, 512, 256]⟩
abbrev S_ : Shape := ⟨0, ![]⟩
abbrev S2 : Shape := ⟨1, ![2]⟩
abbrev S1x1x256x256 : Shape := ⟨4, ![1, 1, 256, 256]⟩
abbrev S1 : Shape := ⟨1, ![1]⟩
abbrev S256x256 : Shape := ⟨2, ![256, 256]⟩

abbrev nBuf : Space → Nat
  | .hbm => 4
  | .vmem => 6
  | .smem => 1
  | _ => 0

abbrev bufTy : (tb : Table) → Fin (tcTables nBuf tb) → BufTy
  | .hbm, ⟨0, _⟩ => ⟨S4x1x1024x256, .bf16⟩
  | .hbm, ⟨1, _⟩ => ⟨S4x1x512x256, .bf16⟩
  | .hbm, ⟨2, _⟩ => ⟨S_, .i32⟩
  | .hbm, ⟨3, _⟩ => ⟨S4x1x512x256, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x256x256, .bf16⟩
  | .local _ .smem, ⟨0, _⟩ => ⟨S2, .i32⟩
  | _, _ => ⟨S4x1x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference32Ideal.lean ====
abbrev S4x1x1024x256 : Shape := ⟨4, ![4, 1, 1024, 256]⟩
abbrev S4x1x512x256 : Shape := ⟨4, ![4, 1, 512, 256]⟩

abbrev nBuf : Space → Nat
  | .hbm => 7
  | .vmem => 0
  | .smem => 0
  | _ => 0

abbrev bufTy : (tb : Table) → Fin (tcTables nBuf tb) → BufTy
  | .hbm, ⟨0, _⟩ => ⟨S4x1x1024x256, .bf16⟩
  | .hbm, ⟨1, _⟩ => ⟨S4x1x512x256, .bf16⟩
  | .hbm, ⟨2, _⟩ => ⟨S4x1x512x256, .bf16⟩
  | .hbm, ⟨3, _⟩ => ⟨S4x1x512x256, .f32⟩
  | .hbm, ⟨4, _⟩ => ⟨S4x1x512x256, .f32⟩
  | .hbm, ⟨5, _⟩ => ⟨S4x1x512x256, .f32⟩
  | .hbm, ⟨6, _⟩ => ⟨S4x1x512x256, .bf16⟩
  | _, _ => ⟨S4x1x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel33.lean ====
abbrev S4x1x256x1024 : Shape := ⟨4, ![4, 1, 256, 1024]⟩
abbrev S4x1x128x1024 : Shape := ⟨4, ![4, 1, 128, 1024]⟩
abbrev S_ : Shape := ⟨0, ![]⟩
abbrev S2 : Shape := ⟨1, ![2]⟩
abbrev S1x1x128x1024 : Shape := ⟨4, ![1, 1, 128, 1024]⟩
abbrev S1 : Shape := ⟨1, ![1]⟩
abbrev S128x1024 : Shape := ⟨2, ![128, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x1x256x1024, .bf16⟩
  | .hbm, ⟨1, _⟩ => ⟨S4x1x128x1024, .bf16⟩
  | .hbm, ⟨2, _⟩ => ⟨S_, .i32⟩
  | .hbm, ⟨3, _⟩ => ⟨S4x1x128x1024, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x128x1024, .bf16⟩
  | .local _ .vmem, ⟨5, _⟩ => ⟨S1x1x128x1024, .bf16⟩
  | .local _ .smem, ⟨0, _⟩ => ⟨S2, .i32⟩
  | _, _ => ⟨S4x1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference33Ideal.lean ====
abbrev S4x1x256x1024 : Shape := ⟨4, ![4, 1, 256, 1024]⟩
abbrev S4x1x128x1024 : Shape := ⟨4, ![4, 1, 128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x1x256x1024, .bf16⟩
  | .hbm, ⟨1, _⟩ => ⟨S4x1x128x1024, .bf16⟩
  | .hbm, ⟨2, _⟩ => ⟨S4x1x128x1024, .bf16⟩
  | .hbm, ⟨3, _⟩ => ⟨S4x1x128x1024, .f32⟩
  | .hbm, ⟨4, _⟩ => ⟨S4x1x128x1024, .f32⟩
  | .hbm, ⟨5, _⟩ => ⟨S4x1x128x1024, .f32⟩
  | .hbm, ⟨6, _⟩ => ⟨S4x1x128x1024, .bf16⟩
  | _, _ => ⟨S4x1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel34.lean ====
abbrev S2048x128 : Shape := ⟨2, ![2048, 128]⟩
abbrev S1x128 : Shape := ⟨2, ![1, 128]⟩
abbrev S128x128 : Shape := ⟨2, ![128, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S2048x128, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  v9
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v9 : BitVec 32 := Scalar.muli arg3 c128_i32
  let v10 : BitVec 32 := v9
  let v11 : Index := Scalar.indexCast v10
  let c0 : Index := 0#32
  ![v11.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference34Ideal.lean ====
abbrev S2048x128 : Shape := ⟨2, ![2048, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S_, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .i1⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S_, .f32⟩
  | .hbm, ⟨21, _⟩ => ⟨S_, .f32⟩
  | .hbm, ⟨22, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Kernel35.lean ====
abbrev S2048x128 : Shape := ⟨2, ![2048, 128]⟩
abbrev S1x128 : Shape := ⟨2, ![1, 128]⟩
abbrev S128x128 : Shape := ⟨2, ![128, 128]⟩
abbrev S128 : Shape := ⟨1, ![128]⟩

abbrev nBuf : Space → Nat
  | .hbm => 5
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S1x128, .f32⟩
  | .hbm, ⟨3, _⟩ => ⟨S2048x128, .f32⟩
  | .hbm, ⟨4, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c15_i32 : BitVec 32 := 15#32
  let c0_i32 : BitVec 32 := 0#32
  let c1_i32 : BitVec 32 := 1#32
  let arg5 : BitVec 32 := Scf.iv c0_i32 c1_i32 k0_t1
  let v10 : BitVec 32 := Scalar.subi c15_i32 arg5
  let c128_i32 : BitVec 32 := 128#32
  let v11 : BitVec 32 := Scalar.muli v10 c128_i32
  v11
def k0_off1 (k0_t1 : Fin k0_t1_loop.trips) : Fin 2 → Nat :=
  let c15_i32 : BitVec 32 := 15#32
  let c0_i32 : BitVec 32 := 0#32
  let c1_i32 : BitVec 32 := 1#32
  let arg5 : BitVec 32 := Scf.iv c0_i32 c1_i32 k0_t1
  let v10 : BitVec 32 := Scalar.subi c15_i32 arg5
  let c128_i32 : BitVec 32 := 128#32
  let v11 : BitVec 32 := Scalar.muli v10 c128_i32
  let v12 : BitVec 32 := v11
  let v13 : Index := Scalar.indexCast v12
  let c0_2 : Index := 0#32
  ![v13.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference35Ideal.lean ====
abbrev S2048x128 : Shape := ⟨2, ![2048, 128]⟩
abbrev S1x128 : Shape := ⟨2, ![1, 128]⟩
abbrev S_ : Shape := ⟨0, ![]⟩
abbrev S128 : Shape := ⟨1, ![128]⟩

abbrev nBuf : Space → Nat
  | .hbm => 65
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .i1⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S_, .f32⟩
  | .hbm, ⟨21, _⟩ => ⟨S2048x128, .f32⟩
  | .hbm, ⟨22, _⟩ => ⟨S2048x128, .i1⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .i1⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048x128, .f32⟩
  | .hbm, ⟨42, _⟩ => ⟨S2048x128, .i1⟩
  | .hbm, ⟨43, _⟩ => ⟨S_, .f32⟩
  | .hbm, ⟨44, _⟩ => ⟨S2048x128, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S_, .f32⟩
  | .hbm, ⟨54, _⟩ => ⟨S_, .f32⟩
  | .hbm, ⟨55, _⟩ => ⟨S2048x128, .f32⟩
  | .hbm, ⟨56, _⟩ => ⟨S_, .f32⟩
  | .hbm, ⟨57, _⟩ => ⟨S_, .f32⟩
  | .hbm, ⟨58, _⟩ => ⟨S2048x128, .f32⟩
  | .hbm, ⟨59, _⟩ => ⟨S2048x128, .f32⟩
  | .hbm, ⟨60, _⟩ => ⟨S2048x128, .f32⟩
  | .hbm, ⟨61, _⟩ => ⟨S2048x128, .f32⟩
  | .hbm, ⟨62, _⟩ => ⟨S_, .f32⟩
  | .hbm, ⟨63, _⟩ => ⟨S128, .f32⟩
  | .hbm, ⟨64, _⟩ => ⟨S1x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩

abbrev nD : Nat := 1
abbrev τ : Topo := Topo.v7x

variable {F : FTy → Type} [FloatOps F]
-- ==== Kernel36.lean ====
abbrev S4x1x512x256 : Shape := ⟨4, ![4, 1, 512, 256]⟩
abbrev S3x1x512x256 : Shape := ⟨4, ![3, 1, 512, 256]⟩
abbrev S2 : Shape := ⟨1, ![2]⟩
abbrev S1x1024x256 : Shape := ⟨3, ![1, 1024, 256]⟩
abbrev S1x1x256x256 : Shape := ⟨4, ![1, 1, 256, 256]⟩
abbrev S1 : Shape := ⟨1, ![1]⟩
abbrev S3x1x256x256 : Shape := ⟨4, ![3, 1, 256, 256]⟩
abbrev S1x256x256 : Shape := ⟨3, ![1, 256, 256]⟩
abbrev S256x256 : Shape := ⟨2, ![256, 256]⟩
abbrev S1x512x256 : Shape := ⟨3, ![1, 512, 256]⟩

abbrev nBuf : Space → Nat
  | .hbm => 4
  | .vmem => 6
  | .smem => 1
  | _ => 0

abbrev bufTy : (tb : Table) → Fin (tcTables nBuf tb) → BufTy
  | .hbm, ⟨0, _⟩ => ⟨S4x1x512x256, .bf16⟩
  | .hbm, ⟨1, _⟩ => ⟨S3x1x512x256, .bf16⟩
  | .hbm, ⟨2, _⟩ => ⟨S1x1024x256, .f32⟩
  | .hbm, ⟨3, _⟩ => ⟨S1x512x256, .f32⟩
  | .local _ .vmem, ⟨0, _⟩ => ⟨S1x1x256x256, .bf16⟩
  | .local _ .vmem, ⟨1, _⟩ => ⟨S1x1x256x256, .bf16⟩
  | .local _ .vmem, ⟨2, _⟩ => ⟨S3x1x256x256, .bf16⟩
  | .local _ .vmem, ⟨3, _⟩ => ⟨S3x1x256x256, .bf16⟩
  | .local _ .vmem, ⟨4, _⟩ => ⟨S1x256x256, .f32⟩
  | .local _ .vmem, ⟨5, _⟩ => ⟨S1x256x256, .f32⟩
  | .local _ .smem, ⟨0, _⟩ => ⟨S2, .i32⟩
  | _, _ => ⟨S4x1x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference36Ideal.lean ====
abbrev S4x1x512x256 : Shape := ⟨4, ![4, 1, 512, 256]⟩
abbrev S3x1x512x256 : Shape := ⟨4, ![3, 1, 512, 256]⟩
abbrev S1x1x512x256 : Shape := ⟨4, ![1, 1, 512, 256]⟩
abbrev S1x512x256 : Shape := ⟨3, ![1, 512, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1x512x256, .bf16⟩
  | .hbm, ⟨1, _⟩ => ⟨S3x1x512x256, .bf16⟩
  | .hbm, ⟨2, _⟩ => ⟨S1x1x512x256, .bf16⟩
  | .hbm, ⟨3, _⟩ => ⟨S1x512x256, .bf16⟩
  | .hbm, ⟨4, _⟩ => ⟨S1x512x256, .f32⟩
  | .hbm, ⟨5, _⟩ => ⟨S3x1x512x256, .f32⟩
  | .hbm, ⟨6, _⟩ => ⟨S_, .f32⟩
  | .hbm, ⟨7, _⟩ => ⟨S1x512x256, .f32⟩
  | .hbm, ⟨8, _⟩ => ⟨S1x512x256, .f32⟩
  | _, _ => ⟨S4x1x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel37.lean ====
abbrev S2048x1024 : Shape := ⟨2, ![2048, 1024]⟩
abbrev S1024x128 : Shape := ⟨2, ![1024, 128]⟩
abbrev S128x1024 : Shape := ⟨2, ![128, 1024]⟩
abbrev S_ : Shape := ⟨0, ![]⟩
abbrev S1x128 : Shape := ⟨2, ![1, 128]⟩
abbrev S2048x128 : Shape := ⟨2, ![2048, 128]⟩
abbrev S512x1024 : Shape := ⟨2, ![512, 1024]⟩
abbrev S512x128 : Shape := ⟨2, ![512, 128]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x1024, .bf16⟩
  | .hbm, ⟨3, _⟩ => ⟨S128x1024, .f32⟩
  | .hbm, ⟨4, _⟩ => ⟨S128x1024, .bf16⟩
  | .hbm, ⟨5, _⟩ => ⟨S_, .f32⟩
  | .hbm, ⟨6, _⟩ => ⟨S1x128, .f32⟩
  | .hbm, ⟨7, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference37Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel38.lean ====
abbrev S2048x1024 : Shape := ⟨2, ![2048, 1024]⟩
abbrev S2048x128 : Shape := ⟨2, ![2048, 128]⟩
abbrev S128x1024 : Shape := ⟨2, ![128, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x1024, .bf16⟩
  | .hbm, ⟨3, _⟩ => ⟨S2048x128, .bf16⟩
  | .hbm, ⟨4, _⟩ => ⟨S128x1024, .bf16⟩
  | .local _ .vmem, ⟨0, _⟩ => ⟨S2048x128, .bf16⟩
  | .local _ .vmem, ⟨1, _⟩ => ⟨S2048x1024, .bf16⟩
  | .local _ .vmem, ⟨2, _⟩ => ⟨S128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference38Ideal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S_, .f32⟩
  | .hbm, ⟨3, _⟩ => ⟨S1024x128, .f32⟩
  | .hbm, ⟨4, _⟩ => ⟨S2048x128, .f32⟩
  | .hbm, ⟨5, _⟩ => ⟨S128x1024, .f32⟩
  | .hbm, ⟨6, _⟩ => ⟨S1024x128, .f32⟩
  | .hbm, ⟨7, _⟩ => ⟨S128x1024, .f32⟩
  | .hbm, ⟨8, _⟩ => ⟨S128x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Basis.lean ====
/- The library modules that the proofs use. -/
module

public import Idealize.ShloMosaic.Lib.IdealHost
public import Idealize.ShloMosaic.Lib.Pipeline.ReadBack
public import Idealize.ShloMosaic.Lib.Pipeline.ValueKit
public import Idealize.ShloMosaic.Lib.Pipeline.ValueKit.Acc
public import Idealize.ShloMosaic.Lib.Pipeline.ValueKit.Basic
public import Idealize.ShloMosaic.Lib.Pointwise
public import Idealize.ShloMosaic.Lib.Quiescent
public import Idealize.ShloMosaic.Lib.StableHlo.ReadAt
public import Idealize.ShloMosaic.Lib.StableHlo.Run
public import Idealize.ShloMosaic.Lib.WholeRead
-- ==== Proof.Down.lean ====
/- The second product of a feed-forward half, added to its input: the values of the kernel's array. -/
module

public import proofs.«01_k».proof.Proof.Gen.Kernel6Ideal.Value
public import proofs.«01_k».proof.Proof.Gen.Reference6Ideal.Read
public import proofs.«01_k».proof.Proof.Basis

@[expose] public section

set_option maxRecDepth 16384

noncomputable section

namespace Cert.Proof.Down

open Cert.Kernel6Ideal Cert.Kernel6Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![0, t.val, 0] := by decide +kernel
theorem at1 : ∀ t : Fin grid0.N, win0_1.index t = ![0, 2, 0, 0] := by decide +kernel
theorem at2 : ∀ t : Fin grid0.N, win0_2.index t = ![t.val, 0] := by decide +kernel
theorem at3 : ∀ t : Fin grid0.N, win0_3.index t = ![t.val, 0] := by decide +kernel

theorem s_block (t : Fin cfg0.N) (r : Fin 4) (s : Fin 512) (u : Fin 704) :
    iblk m c 0 t (ix3 r s u) = (m (c.tc.loc main_arg0)) (ix2 ⟨t.val * 512 + s.val, by have := points t; omega⟩ ⟨r.val * 704 + u.val, by omega⟩) := by
  have h : iblk m c 0 t (ix3 r s u) = V m c main_v12 (ix3 r ⟨t.val * 512 + s.val, by have := points t; omega⟩ u) := by
    show V m c main_v12 ((win0_0.rect t).emb (ix3 r s u)) = _
    congr 1
    funext a
    apply Fin.ext
    refine (Pipeline.Window.rect_emb_val win0_0 t (ix3 r s u) a).trans ?_
    rw [at0]
    fin_cases a
    · exact Nat.zero_add _
    · rfl
    · exact Nat.zero_add _
  refine h.trans ?_
  have := points t
  unfold V
  after_reads_at

theorem w_block (t : Fin cfg0.N) (r : Fin 4) (s : Fin 1) (u : Fin 704) (v : Fin 1024) :
    iblk m c 1 t (ix4 r s u v) = (m (c.tc.loc main_arg3)) (ix2 ⟨r.val * 704 + u.val, by omega⟩ v) := by
  have h : iblk m c 1 t (ix4 r s u v) = V m c main_v9 (ix4 r 2 u v) := by
    show V m c main_v9 ((win0_1.rect t).emb (ix4 r s u v)) = _
    congr 1
    funext a
    apply Fin.ext
    refine (Pipeline.Window.rect_emb_val win0_1 t (ix4 r s u v) a).trans ?_
    rw [at1]
    fin_cases a
    · exact Nat.zero_add _
    · show 2 * 1 + s.val = 2; omega
    · exact Nat.zero_add _
    · exact Nat.zero_add _
  refine h.trans ?_
  have := points t
  unfold V
  after_reads_at
  after_reads_at

theorem x_block (t : Fin cfg0.N) (r : Fin 512) (s : Fin 1024) :
    iblk m c 2 t (ix2 r s) = (m (c.tc.loc main_arg4)) (ix2 ⟨t.val * 512 + r.val, by have := points t; omega⟩ s) := by
  have h : iblk m c 2 t (ix2 r s) = V m c main_arg4 (ix2 ⟨t.val * 512 + r.val, by have := points t; omega⟩ s) := by
    show V m c main_arg4 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg4]

/-- The reference's array, as a function of the arguments. -/
abbrev G3 : S2048x1024.Idx → EReal := Cert.Reference6Ideal.Read.val_main_v3 (F := Ideal) (m (c.tc.loc main_arg0)) (m (c.tc.loc main_arg3)) (m (c.tc.loc main_arg4))

theorem value3 (t : Fin cfg0.N) (r : Fin 512) (s : Fin 1024) :
    out0_3 (iblk m c 0 t) (iblk m c 1 t) (iblk m c 2 t) (ix2 r s) = G3 m c (ix2 ⟨t.val * 512 + r.val, by have := points t; omega⟩ s) := by
  unfold out0_3
  rw [View.canon_cons_unit_lit _ _ _ (by decide)]
  pointwise [k0_pay1, k0_pay2, s_block, w_block, x_block, Cert.Reference6Ideal.Read.val_main_v0, Cert.Reference6Ideal.Read.val_main_cst, Cert.Reference6Ideal.Read.val_main_v1, Cert.Reference6Ideal.Read.val_main_v2, Cert.Reference6Ideal.Read.val_main_v3]
  rw [Fin.sum_univ_tiles 4 704 rfl, Fin.sum_univ_four]
  rfl

theorem result3 (t : Fin cfg0.N) (j : S512x1024.Idx) :
    out0_3 (iblk m c 0 t) (iblk m c 1 t) (iblk m c 2 t) j = G3 m c ((win0_3.rect t).emb j) := by
  idx_vars j
  rw [value3]
  congr 1
  funext a
  apply Fin.ext
  refine Eq.symm ((Pipeline.Window.rect_emb_val win0_3 t (ix2 j0 j1) a).trans ?_)
  rw [at3]
  fin_cases a
  · rfl
  · exact Nat.zero_add _

theorem inside3 (t : Fin cfg0.N) (i : S2048x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v13).slice (win0_3.rect t)).set ↔ _
  rw [View.set_slice_whole, Rect.mem_set_unit]
  exact Iff.rfl

theorem covered3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  have hb : (i 0).val / 512 < 4 := by omega
  refine ⟨⟨(i 0).val / 512, by rw [show cfg0.N = 4 from N_0]; exact hb⟩, flush0_3 _, (inside3 _ _).mpr ?_⟩
  rw [at3]
  intro a
  fin_cases a
  · show ((i 0).val / 512) * 512 ≤ (i 0).val ∧ (i 0).val < ((i 0).val / 512) * 512 + 512; omega
  · show 0 * 1024 ≤ (i 1).val ∧ (i 1).val < 0 * 1024 + 1024; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.Down

end
-- ==== Proof.Up.lean ====
/- The first products of a feed-forward half and its gated activation: the values of the kernel's arrays. -/
module

public import proofs.«01_k».proof.Proof.Gen.Kernel5Ideal.Value
public import proofs.«01_k».proof.Proof.Gen.Reference5Ideal.Read
public import proofs.«01_k».proof.Proof.Basis

@[expose] public section

set_option maxRecDepth 16384

noncomputable section

namespace Cert.Proof.Up

open Cert.Kernel5Ideal Cert.Kernel5Ideal.Gen Idealize.ShloMosaic Idealize.ShloMosaic.TcCoe Idealize.SL.Sem Cert.Reference5Ideal.Read

variable (m : (ℓ : Loc nD τ sig) → Buf (Elt Ideal) ℓ) (c : Dev nD)

theorem points (t : Fin cfg0.N) : t.val < 16 := t.isLt.trans_eq N_0

/-! The block that each window has at point `t` of the grid. -/

theorem at0 : ∀ t : Fin grid0.N, win0_0.index t = ![t.val % 4, 0] := by decide +kernel
theorem at1 : ∀ t : Fin grid0.N, win0_1.index t = ![t.val / 4, 0, 0, 0] := by decide +kernel
theorem at2 : ∀ t : Fin grid0.N, win0_2.index t = ![t.val / 4, 1, 0, 0] := by decide +kernel
theorem at3 : ∀ t : Fin grid0.N, win0_3.index t = ![t.val / 4, t.val % 4, 0] := by decide +kernel
theorem at4 : ∀ t : Fin grid0.N, win0_4.index t = ![t.val / 4, t.val % 4, 0] := by decide +kernel
theorem at5 : ∀ t : Fin grid0.N, win0_5.index t = ![t.val / 4, t.val % 4, 0] := by decide +kernel

theorem h_block (t : Fin cfg0.N) (r : Fin 512) (s : Fin 1024) :
    iblk m c 0 t (ix2 r s) = (m (c.tc.loc main_arg0)) (ix2 ⟨t.val % 4 * 512 + r.val, by have := points t; omega⟩ s) := by
  have h : iblk m c 0 t (ix2 r s) = V m c main_v0 (ix2 ⟨t.val % 4 * 512 + r.val, by have := points t; omega⟩ s) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem gate_block (t : Fin cfg0.N) (r : Fin 1) (s : Fin 1) (u : Fin 704) (v : Fin 1024) :
    iblk m c 1 t (ix4 r s u v) = (m (c.tc.loc main_arg1)) (ix2 v ⟨t.val / 4 * 704 + u.val, by have := points t; omega⟩) := by
  have h : iblk m c 1 t (ix4 r s u v) = V m c main_v10 (ix4 ⟨t.val / 4, by have := points t; omega⟩ 0 u v) := by
    show V m c main_v10 ((win0_1.rect t).emb (ix4 r s u v)) = _
    congr 1
    funext a
    apply Fin.ext
    refine (Pipeline.Window.rect_emb_val win0_1 t (ix4 r s u v) a).trans ?_
    rw [at1]
    fin_cases a
    · show t.val / 4 * 1 + r.val = t.val / 4; omega
    · show 0 * 1 + s.val = 0; omega
    · exact Nat.zero_add _
    · exact Nat.zero_add _
  refine h.trans ?_
  have := points t
  unfold V
  after_reads_at
  after_reads_at

theorem up_block (t : Fin cfg0.N) (r : Fin 1) (s : Fin 1) (u : Fin 704) (v : Fin 1024) :
    iblk m c 2 t (ix4 r s u v) = (m (c.tc.loc main_arg2)) (ix2 v ⟨t.val / 4 * 704 + u.val, by have := points t; omega⟩) := by
  have h : iblk m c 2 t (ix4 r s u v) = V m c main_v10 (ix4 ⟨t.val / 4, by have := points t; omega⟩ 1 u v) := by
    show V m c main_v10 ((win0_2.rect t).emb (ix4 r s u v)) = _
    congr 1
    funext a
    apply Fin.ext
    refine (Pipeline.Window.rect_emb_val win0_2 t (ix4 r s u v) a).trans ?_
    rw [at2]
    fin_cases a
    · show t.val / 4 * 1 + r.val = t.val / 4; omega
    · show 1 * 1 + s.val = 1; omega
    · exact Nat.zero_add _
    · exact Nat.zero_add _
  refine h.trans ?_
  have := points t
  unfold V
  after_reads_at
  after_reads_at

/-- The reference's array, as a function of the arguments. -/
abbrev G3 : S4x2048x704.Idx → EReal := val_main_v6 (F := Ideal) (m (c.tc.loc main_arg0)) (m (c.tc.loc main_arg1))

theorem value3 (t : Fin cfg0.N) (r : Fin 1) (s : Fin 512) (u : Fin 704) :
    out0_3 (iblk m c 0 t) (iblk m c 1 t) (iblk m c 2 t) (ix3 r s u) = G3 m c (ix3 ⟨t.val / 4, by have := points t; omega⟩ ⟨t.val % 4 * 512 + s.val, by have := points t; omega⟩ u) := by
  unfold out0_3
  rw [View.canon_cons_unit_lit _ _ _ (by decide)]
  pointwise [k0_pay1, k0_pay2, k0_pay3, k0_pay4, k0_pay5, k0_pay6, h_block, gate_block, up_block, val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9, val_main_v10, val_main_v11, val_main_v12]
  try simp only [zero_sub]

theorem result3 (t : Fin cfg0.N) (j : S1x512x704.Idx) :
    out0_3 (iblk m c 0 t) (iblk m c 1 t) (iblk m c 2 t) j = G3 m c ((win0_3.rect t).emb j) := by
  idx_vars j
  rw [value3]
  congr 1
  funext a
  apply Fin.ext
  refine Eq.symm ((Pipeline.Window.rect_emb_val win0_3 t (ix3 j0 j1 j2) a).trans ?_)
  rw [at3]
  fin_cases a
  · show t.val / 4 * 1 + j0.val = t.val / 4; omega
  · rfl
  · exact Nat.zero_add _

theorem inside3 (t : Fin cfg0.N) (i : S4x2048x704.Idx) :
    i ∈ ((cfg0.win 3).blk t).view.set ↔ ∀ a : Fin 3, win0_3.index t a * S1x512x704.size a ≤ (i a).val ∧ (i a).val < win0_3.index t a * S1x512x704.size a + S1x512x704.size a := by
  show i ∈ ((View.whole main_v11_0).slice (win0_3.rect t)).set ↔ _
  rw [View.set_slice_whole, Rect.mem_set_unit]
  exact Iff.rfl

theorem covered3 (i : S4x2048x704.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 704 := (i 2).isLt
  have hb : (i 0).val * 4 + (i 1).val / 512 < 16 := by omega
  refine ⟨⟨(i 0).val * 4 + (i 1).val / 512, by rw [show cfg0.N = 16 from N_0]; exact hb⟩, flush0_3 _, (inside3 _ _).mpr ?_⟩
  rw [at3]
  intro a
  fin_cases a
  · show ((i 0).val * 4 + (i 1).val / 512) / 4 * 1 ≤ (i 0).val ∧ (i 0).val < ((i 0).val * 4 + (i 1).val / 512) / 4 * 1 + 1; omega
  · show ((i 0).val * 4 + (i 1).val / 512) % 4 * 512 ≤ (i 1).val ∧ (i 1).val < ((i 0).val * 4 + (i 1).val / 512) % 4 * 512 + 512; omega
  · show 0 * 704 ≤ (i 2).val ∧ (i 2).val < 0 * 704 + 704; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

/-- The reference's array, as a function of the arguments. -/
abbrev G4 : S4x2048x704.Idx → EReal := val_main_v9 (F := Ideal) (m (c.tc.loc main_arg0)) (m (c.tc.loc main_arg2))

theorem value4 (t : Fin cfg0.N) (r : Fin 1) (s : Fin 512) (u : Fin 704) :
    out0_4 (iblk m c 0 t) (iblk m c 1 t) (iblk m c 2 t) (ix3 r s u) = G4 m c (ix3 ⟨t.val / 4, by have := points t; omega⟩ ⟨t.val % 4 * 512 + s.val, by have := points t; omega⟩ u) := by
  unfold out0_4
  rw [View.canon_cons_unit_lit _ _ _ (by decide)]
  pointwise [k0_pay1, k0_pay2, k0_pay3, k0_pay4, k0_pay5, k0_pay6, h_block, gate_block, up_block, val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9, val_main_v10, val_main_v11, val_main_v12]
  try simp only [zero_sub]

theorem result4 (t : Fin cfg0.N) (j : S1x512x704.Idx) :
    out0_4 (iblk m c 0 t) (iblk m c 1 t) (iblk m c 2 t) j = G4 m c ((win0_4.rect t).emb j) := by
  idx_vars j
  rw [value4]
  congr 1
  funext a
  apply Fin.ext
  refine Eq.symm ((Pipeline.Window.rect_emb_val win0_4 t (ix3 j0 j1 j2) a).trans ?_)
  rw [at4]
  fin_cases a
  · show t.val / 4 * 1 + j0.val = t.val / 4; omega
  · rfl
  · exact Nat.zero_add _

theorem inside4 (t : Fin cfg0.N) (i : S4x2048x704.Idx) :
    i ∈ ((cfg0.win 4).blk t).view.set ↔ ∀ a : Fin 3, win0_4.index t a * S1x512x704.size a ≤ (i a).val ∧ (i a).val < win0_4.index t a * S1x512x704.size a + S1x512x704.size a := by
  show i ∈ ((View.whole main_v11_1).slice (win0_4.rect t)).set ↔ _
  rw [View.set_slice_whole, Rect.mem_set_unit]
  exact Iff.rfl

theorem covered4 (i : S4x2048x704.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 704 := (i 2).isLt
  have hb : (i 0).val * 4 + (i 1).val / 512 < 16 := by omega
  refine ⟨⟨(i 0).val * 4 + (i 1).val / 512, by rw [show cfg0.N = 16 from N_0]; exact hb⟩, flush0_4 _, (inside4 _ _).mpr ?_⟩
  rw [at4]
  intro a
  fin_cases a
  · show ((i 0).val * 4 + (i 1).val / 512) / 4 * 1 ≤ (i 0).val ∧ (i 0).val < ((i 0).val * 4 + (i 1).val / 512) / 4 * 1 + 1; omega
  · show ((i 0).val * 4 + (i 1).val / 512) % 4 * 512 ≤ (i 1).val ∧ (i 1).val < ((i 0).val * 4 + (i 1).val / 512) % 4 * 512 + 512; omega
  · show 0 * 704 ≤ (i 2).val ∧ (i 2).val < 0 * 704 + 704; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

/-- The reference's array, as a function of the arguments. -/
abbrev G5 : S4x2048x704.Idx → EReal := val_main_v12 (F := Ideal) (m (c.tc.loc main_arg0)) (m (c.tc.loc main_arg1)) (m (c.tc.loc main_arg2))

theorem value5 (t : Fin cfg0.N) (r : Fin 1) (s : Fin 512) (u : Fin 704) :
    out0_5 (iblk m c 0 t) (iblk m c 1 t) (iblk m c 2 t) (ix3 r s u) = G5 m c (ix3 ⟨t.val / 4, by have := points t; omega⟩ ⟨t.val % 4 * 512 + s.val, by have := points t; omega⟩ u) := by
  unfold out0_5
  rw [View.canon_cons_unit_lit _ _ _ (by decide)]
  pointwise [k0_pay1, k0_pay2, k0_pay3, k0_pay4, k0_pay5, k0_pay6, h_block, gate_block, up_block, val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9, val_main_v10, val_main_v11, val_main_v12]
  try simp only [zero_sub]

theorem result5 (t : Fin cfg0.N) (j : S1x512x704.Idx) :
    out0_5 (iblk m c 0 t) (iblk m c 1 t) (iblk m c 2 t) j = G5 m c ((win0_5.rect t).emb j) := by
  idx_vars j
  rw [value5]
  congr 1
  funext a
  apply Fin.ext
  refine Eq.symm ((Pipeline.Window.rect_emb_val win0_5 t (ix3 j0 j1 j2) a).trans ?_)
  rw [at5]
  fin_cases a
  · show t.val / 4 * 1 + j0.val = t.val / 4; omega
  · rfl
  · exact Nat.zero_add _

theorem inside5 (t : Fin cfg0.N) (i : S4x2048x704.Idx) :
    i ∈ ((cfg0.win 5).blk t).view.set ↔ ∀ a : Fin 3, win0_5.index t a * S1x512x704.size a ≤ (i a).val ∧ (i a).val < win0_5.index t a * S1x512x704.size a + S1x512x704.size a := by
  show i ∈ ((View.whole main_v11_2).slice (win0_5.rect t)).set ↔ _
  rw [View.set_slice_whole, Rect.mem_set_unit]
  exact Iff.rfl

theorem covered5 (i : S4x2048x704.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 704 := (i 2).isLt
  have hb : (i 0).val * 4 + (i 1).val / 512 < 16 := by omega
  refine ⟨⟨(i 0).val * 4 + (i 1).val / 512, by rw [show cfg0.N = 16 from N_0]; exact hb⟩, flush0_5 _, (inside5 _ _).mpr ?_⟩
  rw [at5]
  intro a
  fin_cases a
  · show ((i 0).val * 4 + (i 1).val / 512) / 4 * 1 ≤ (i 0).val ∧ (i 0).val < ((i 0).val * 4 + (i 1).val / 512) / 4 * 1 + 1; omega
  · show ((i 0).val * 4 + (i 1).val / 512) % 4 * 512 ≤ (i 1).val ∧ (i 1).val < ((i 0).val * 4 + (i 1).val / 512) % 4 * 512 + 512; omega
  · show 0 * 704 ≤ (i 2).val ∧ (i 2).val < 0 * 704 + 704; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

end Cert.Proof.Up

end
-- ==== Proof.QkvGrad.lean ====
/- The weight gradient of the projection to queries, keys and values: the values of the kernel's array. -/
module

public import proofs.«01_k».proof.Proof.Gen.Kernel8Ideal.Value
public import proofs.«01_k».proof.Proof.Gen.Reference8Ideal.Read
public import proofs.«01_k».proof.Proof.Basis

@[expose] public section

set_option maxRecDepth 16384

noncomputable section

namespace Cert.Proof.QkvGrad

open Cert.Kernel8Ideal Cert.Kernel8Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![0, t.val] := by decide +kernel
theorem at1 : ∀ t : Fin grid0.N, win0_1.index t = ![0, 0] := by decide +kernel
theorem at2 : ∀ t : Fin grid0.N, win0_2.index t = ![t.val, 0] := by decide +kernel

theorem d_block (t : Fin cfg0.N) (r : Fin 2048) (s : Fin 768) :
    iblk m c 0 t (ix2 r s) = (m (c.tc.loc main_arg1)) (ix2 r ⟨t.val * 768 + s.val, by have := points t; omega⟩) := by
  have h : iblk m c 0 t (ix2 r s) = V m c main_v1 (ix2 r ⟨t.val * 768 + s.val, by have := points t; omega⟩) := by
    show V m c main_v1 ((win0_0.rect t).emb (ix2 r s)) = _
    congr 1
    funext a
    apply Fin.ext
    refine (Pipeline.Window.rect_emb_val win0_0 t (ix2 r s) a).trans ?_
    rw [at0]
    fin_cases a
    · exact Nat.zero_add _
    · rfl
  refine h.trans ?_
  have := points t
  unfold V
  after_reads_at

theorem h_block (t : Fin cfg0.N) (r : Fin 2048) (s : Fin 1024) :
    iblk m c 1 t (ix2 r s) = (m (c.tc.loc main_arg0)) (ix2 r s) := by
  have h : iblk m c 1 t (ix2 r s) = V m c main_v0 (ix2 r s) := by
    show V m c main_v0 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  have := points t
  unfold V
  after_reads_at

/-- The reference's array, as a function of the arguments. -/
abbrev G2 : S3072x1024.Idx → EReal := Cert.Reference8Ideal.Read.val_main_v5 (F := Ideal) (m (c.tc.loc main_arg0)) (m (c.tc.loc main_arg1))

theorem value2 (t : Fin cfg0.N) (r : Fin 768) (s : Fin 1024) :
    out0_2 (iblk m c 0 t) (iblk m c 1 t) (ix2 r s) = G2 m c (ix2 ⟨t.val * 768 + r.val, by have := points t; omega⟩ s) := by
  unfold out0_2
  rw [View.canon_cons_unit_lit _ _ _ (by decide)]
  pointwise [k0_pay1, d_block, h_block, Cert.Reference8Ideal.Read.val_main_cst, Cert.Reference8Ideal.Read.val_main_v0, Cert.Reference8Ideal.Read.val_main_v1, Cert.Reference8Ideal.Read.val_main_v2, Cert.Reference8Ideal.Read.val_main_v3, Cert.Reference8Ideal.Read.val_main_v4, Cert.Reference8Ideal.Read.val_main_v5]
  try rfl

theorem result2 (t : Fin cfg0.N) (j : S768x1024.Idx) :
    out0_2 (iblk m c 0 t) (iblk m c 1 t) j = G2 m c ((win0_2.rect t).emb j) := by
  idx_vars j
  rw [value2]
  congr 1
  funext a
  apply Fin.ext
  refine Eq.symm ((Pipeline.Window.rect_emb_val win0_2 t (ix2 j0 j1) a).trans ?_)
  rw [at2]
  fin_cases a
  · rfl
  · exact Nat.zero_add _

theorem inside2 (t : Fin cfg0.N) (i : S3072x1024.Idx) :
    i ∈ ((cfg0.win 2).blk t).view.set ↔ ∀ a : Fin 2, win0_2.index t a * S768x1024.size a ≤ (i a).val ∧ (i a).val < win0_2.index t a * S768x1024.size a + S768x1024.size a := by
  show i ∈ ((View.whole main_v2).slice (win0_2.rect t)).set ↔ _
  rw [View.set_slice_whole, Rect.mem_set_unit]
  exact Iff.rfl

theorem covered2 (i : S3072x1024.Idx) : ∃ t : Fin cfg0.N, (cfg0.win 2).flush t = true ∧ i ∈ ((cfg0.win 2).blk t).view.set := by
  have h0 : (i 0).val < 3072 := (i 0).isLt
  have h1 : (i 1).val < 1024 := (i 1).isLt
  have hb : (i 0).val / 768 < 4 := by omega
  refine ⟨⟨(i 0).val / 768, by rw [show cfg0.N = 4 from N_0]; exact hb⟩, flush0_2 _, (inside2 _ _).mpr ?_⟩
  rw [at2]
  intro a
  fin_cases a
  · show ((i 0).val / 768) * 768 ≤ (i 0).val ∧ (i 0).val < ((i 0).val / 768) * 768 + 768; omega
  · show 0 * 1024 ≤ (i 1).val ∧ (i 1).val < 0 * 1024 + 1024; omega

theorem final2 : (dats m 0 c).arrAt 2 cfg0.N = G2 m c := by
  refine Pipeline.Dat.arrAt_eq_of_cover (dats m 0 c) 2 (G2 m c) (fun t _ => ?_) (covered2)
  rw [Value.flushed2]
  funext j
  exact result2 m c t j

end Cert.Proof.QkvGrad

end
-- ==== Proof.GateGrad.lean ====
/- The weight gradient of a branch's gates: the values of the kernel's array. -/
module

public import proofs.«01_k».proof.Proof.Gen.Kernel9Ideal.Value
public import proofs.«01_k».proof.Proof.Gen.Reference9Ideal.Read
public import proofs.«01_k».proof.Proof.Basis

@[expose] public section

set_option maxRecDepth 16384

noncomputable section

namespace Cert.Proof.GateGrad

open Cert.Kernel9Ideal Cert.Kernel9Ideal.Gen Idealize.ShloMosaic Idealize.ShloMosaic.TcCoe Idealize.SL.Sem

variable (m : (ℓ : Loc nD τ sig) → Buf (Elt Ideal) ℓ) (c : Dev nD)

theorem points (t : Fin cfg0.N) : t.val < 2 := t.isLt.trans_eq N_0

/-! The block that each window has at point `t` of the grid. -/

theorem at0 : ∀ t : Fin grid0.N, win0_0.index t = ![0, t.val] := by decide +kernel
theorem at1 : ∀ t : Fin grid0.N, win0_1.index t = ![0, 0] := by decide +kernel
theorem at2 : ∀ t : Fin grid0.N, win0_2.index t = ![t.val, 0] := by decide +kernel

theorem d_block (t : Fin cfg0.N) (r : Fin 2048) (s : Fin 512) :
    iblk m c 0 t (ix2 r s) = (m (c.tc.loc main_arg1)) (ix2 r ⟨t.val * 512 + s.val, by have := points t; omega⟩) := by
  have h : iblk m c 0 t (ix2 r s) = V m c main_v1 (ix2 r ⟨t.val * 512 + s.val, by have := points t; omega⟩) := by
    show V m c main_v1 ((win0_0.rect t).emb (ix2 r s)) = _
    congr 1
    funext a
    apply Fin.ext
    refine (Pipeline.Window.rect_emb_val win0_0 t (ix2 r s) a).trans ?_
    rw [at0]
    fin_cases a
    · exact Nat.zero_add _
    · rfl
  refine h.trans ?_
  have := points t
  unfold V
  after_reads_at

theorem h_block (t : Fin cfg0.N) (r : Fin 2048) (s : Fin 1024) :
    iblk m c 1 t (ix2 r s) = (m (c.tc.loc main_arg0)) (ix2 r s) := by
  have h : iblk m c 1 t (ix2 r s) = V m c main_v0 (ix2 r s) := by
    show V m c main_v0 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  have := points t
  unfold V
  after_reads_at

/-- The reference's array, as a function of the arguments. -/
abbrev G2 : S1024x1024.Idx → EReal := Cert.Reference9Ideal.Read.val_main_v5 (F := Ideal) (m (c.tc.loc main_arg0)) (m (c.tc.loc main_arg1))

theorem value2 (t : Fin cfg0.N) (r : Fin 512) (s : Fin 1024) :
    out0_2 (iblk m c 0 t) (iblk m c 1 t) (ix2 r s) = G2 m c (ix2 ⟨t.val * 512 + r.val, by have := points t; omega⟩ s) := by
  unfold out0_2
  rw [View.canon_cons_unit_lit _ _ _ (by decide)]
  pointwise [k0_pay1, d_block, h_block, Cert.Reference9Ideal.Read.val_main_cst, Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_v5]
  try rfl

theorem result2 (t : Fin cfg0.N) (j : S512x1024.Idx) :
    out0_2 (iblk m c 0 t) (iblk m c 1 t) j = G2 m c ((win0_2.rect t).emb j) := by
  idx_vars j
  rw [value2]
  congr 1
  funext a
  apply Fin.ext
  refine Eq.symm ((Pipeline.Window.rect_emb_val win0_2 t (ix2 j0 j1) a).trans ?_)
  rw [at2]
  fin_cases a
  · rfl
  · exact Nat.zero_add _

theorem inside2 (t : Fin cfg0.N) (i : S1024x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2).slice (win0_2.rect t)).set ↔ _
  rw [View.set_slice_whole, Rect.mem_set_unit]
  exact Iff.rfl

theorem covered2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hb : (i 0).val / 512 < 2 := by omega
  refine ⟨⟨(i 0).val / 512, by rw [show cfg0.N = 2 from N_0]; exact hb⟩, flush0_2 _, (inside2 _ _).mpr ?_⟩
  rw [at2]
  intro a
  fin_cases a
  · show ((i 0).val / 512) * 512 ≤ (i 0).val ∧ (i 0).val < ((i 0).val / 512) * 512 + 512; omega
  · show 0 * 1024 ≤ (i 1).val ∧ (i 1).val < 0 * 1024 + 1024; omega

theorem final2 : (dats m 0 c).arrAt 2 cfg0.N = G2 m c := by
  refine Pipeline.Dat.arrAt_eq_of_cover (dats m 0 c) 2 (G2 m c) (fun t _ => ?_) (covered2)
  rw [Value.flushed2]
  funext j
  exact result2 m c t j

end Cert.Proof.GateGrad

end
-- ==== Proof.Gates.lean ====
/- The projection to the gates: the values of the kernel's array. -/
module

public import proofs.«01_k».proof.Proof.Gen.Kernel11Ideal.Value
public import proofs.«01_k».proof.Proof.Gen.Reference11Ideal.Read
public import proofs.«01_k».proof.Proof.Basis

@[expose] public section

set_option maxRecDepth 16384

noncomputable section

namespace Cert.Proof.Gates

open Cert.Kernel11Ideal Cert.Kernel11Ideal.Gen Idealize.ShloMosaic Idealize.ShloMosaic.TcCoe Idealize.SL.Sem

variable (m : (ℓ : Loc nD τ sig) → Buf (Elt Ideal) ℓ) (c : Dev nD)

theorem points (t : Fin cfg0.N) : t.val < 16 := t.isLt.trans_eq N_0

/-! The block that each window has at point `t` of the grid. -/

theorem at0 : ∀ t : Fin grid0.N, win0_0.index t = ![t.val % 4, 0] := by decide +kernel
theorem at1 : ∀ t : Fin grid0.N, win0_1.index t = ![t.val / 4, 0] := by decide +kernel
theorem at2 : ∀ t : Fin grid0.N, win0_2.index t = ![0, t.val / 4] := by decide +kernel
theorem at3 : ∀ t : Fin grid0.N, win0_3.index t = ![t.val % 4, t.val / 4] := by decide +kernel

theorem h_block (t : Fin cfg0.N) (r : Fin 512) (s : Fin 1024) :
    iblk m c 0 t (ix2 r s) = (m (c.tc.loc main_arg0)) (ix2 ⟨t.val % 4 * 512 + r.val, by have := points t; omega⟩ s) := by
  have h : iblk m c 0 t (ix2 r s) = V m c main_v0 (ix2 ⟨t.val % 4 * 512 + r.val, by have := points t; omega⟩ s) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem w_block (t : Fin cfg0.N) (r : Fin 512) (s : Fin 1024) :
    iblk m c 1 t (ix2 r s) = (m (c.tc.loc main_arg1)) (ix2 s ⟨t.val / 4 * 512 + r.val, by have := points t; omega⟩) := by
  have h : iblk m c 1 t (ix2 r s) = V m c main_v2 (ix2 ⟨t.val / 4 * 512 + r.val, by have := points t; omega⟩ s) := by
    show V m c main_v2 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  have := points t
  unfold V
  after_reads_at

theorem bias_block (t : Fin cfg0.N) (r : Fin 1) (s : Fin 512) :
    iblk m c 2 t (ix2 r s) = (m (c.tc.loc main_arg2)) (ix2 r ⟨t.val / 4 * 512 + s.val, by have := points t; omega⟩) := by
  have h : iblk m c 2 t (ix2 r s) = V m c main_arg2 (ix2 r ⟨t.val / 4 * 512 + s.val, by have := points t; omega⟩) := by
    show V m c main_arg2 ((win0_2.rect t).emb (ix2 r s)) = _
    congr 1
    funext a
    apply Fin.ext
    refine (Pipeline.Window.rect_emb_val win0_2 t (ix2 r s) a).trans ?_
    rw [at2]
    fin_cases a
    · exact Nat.zero_add _
    · rfl
  refine h.trans ?_
  rw [V_main_arg2]

/-- The reference's array, as a function of the arguments. -/
abbrev G3 : S2048x2048.Idx → EReal := Cert.Reference11Ideal.Read.val_main_v2 (F := Ideal) (m (c.tc.loc main_arg0)) (m (c.tc.loc main_arg1)) (m (c.tc.loc main_arg2))

theorem value3 (t : Fin cfg0.N) (r : Fin 512) (s : Fin 512) :
    out0_3 (iblk m c 0 t) (iblk m c 1 t) (iblk m c 2 t) (ix2 r s) = G3 m c (ix2 ⟨t.val % 4 * 512 + r.val, by have := points t; omega⟩ ⟨t.val / 4 * 512 + s.val, by have := points t; omega⟩) := by
  unfold out0_3
  rw [View.canon_cons_unit_lit _ _ _ (by decide)]
  pointwise [k0_pay1, h_block, w_block, bias_block, Cert.Reference11Ideal.Read.val_main_v0, Cert.Reference11Ideal.Read.val_main_v1, Cert.Reference11Ideal.Read.val_main_v2]
  try rfl

theorem result3 (t : Fin cfg0.N) (j : S512x512.Idx) :
    out0_3 (iblk m c 0 t) (iblk m c 1 t) (iblk m c 2 t) j = G3 m c ((win0_3.rect t).emb j) := by
  idx_vars j
  rw [value3]
  congr 1
  funext a
  apply Fin.ext
  refine Eq.symm ((Pipeline.Window.rect_emb_val win0_3 t (ix2 j0 j1) a).trans ?_)
  rw [at3]
  fin_cases a
  · rfl
  · rfl

theorem inside3 (t : Fin cfg0.N) (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v3).slice (win0_3.rect t)).set ↔ _
  rw [View.set_slice_whole, Rect.mem_set_unit]
  exact Iff.rfl

theorem covered3 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  have hb : (i 1).val / 512 * 4 + (i 0).val / 512 < 16 := by omega
  refine ⟨⟨(i 1).val / 512 * 4 + (i 0).val / 512, by rw [show cfg0.N = 16 from N_0]; exact hb⟩, flush0_3 _, (inside3 _ _).mpr ?_⟩
  rw [at3]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.Gates

end
-- ==== Proof.MixOut.lean ====
/- The output projection of the mix: the values of the kernel's array. -/
module

public import proofs.«01_k».proof.Proof.Gen.Kernel17Ideal.Value
public import proofs.«01_k».proof.Proof.Gen.Reference17Ideal.Read
public import proofs.«01_k».proof.Proof.Basis

@[expose] public section

set_option maxRecDepth 16384

noncomputable section

namespace Cert.Proof.MixOut

open Cert.Kernel17Ideal Cert.Kernel17Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![0, t.val, 0] := by decide +kernel
theorem at1 : ∀ t : Fin grid0.N, win0_1.index t = ![0, 0, 0] := by decide +kernel
theorem at2 : ∀ t : Fin grid0.N, win0_2.index t = ![t.val, 0] := by decide +kernel
theorem at3 : ∀ t : Fin grid0.N, win0_3.index t = ![t.val, 0] := by decide +kernel

theorem mixed_block (t : Fin cfg0.N) (r : Fin 1) (s : Fin 512) (u : Fin 1024) :
    iblk m c 0 t (ix3 r s u) = (m (c.tc.loc main_arg0)) (ix2 ⟨t.val * 512 + s.val, by have := points t; omega⟩ u) := by
  have h : iblk m c 0 t (ix3 r s u) = V m c main_v1 (ix3 r ⟨t.val * 512 + s.val, by have := points t; omega⟩ u) := by
    show V m c main_v1 ((win0_0.rect t).emb (ix3 r s u)) = _
    congr 1
    funext a
    apply Fin.ext
    refine (Pipeline.Window.rect_emb_val win0_0 t (ix3 r s u) a).trans ?_
    rw [at0]
    fin_cases a
    · exact Nat.zero_add _
    · rfl
    · exact Nat.zero_add _
  refine h.trans ?_
  have := points t
  unfold V
  after_reads_at

theorem w_block (t : Fin cfg0.N) (r : Fin 1) (s : Fin 1024) (u : Fin 1024) :
    iblk m c 1 t (ix3 r s u) = (m (c.tc.loc main_arg1)) (ix2 s u) := by
  have h : iblk m c 1 t (ix3 r s u) = V m c main_v3 (ix3 r s u) := by
    show V m c main_v3 ((win0_1.rect t).emb (ix3 r s u)) = _
    congr 1
    funext a
    apply Fin.ext
    refine (Pipeline.Window.rect_emb_val win0_1 t (ix3 r s u) a).trans ?_
    rw [at1]
    fin_cases a
    · exact Nat.zero_add _
    · exact Nat.zero_add _
    · exact Nat.zero_add _
  refine h.trans ?_
  have := points t
  unfold V
  after_reads_at

theorem x_block (t : Fin cfg0.N) (r : Fin 512) (s : Fin 1024) :
    iblk m c 2 t (ix2 r s) = (m (c.tc.loc main_arg2)) (ix2 ⟨t.val * 512 + r.val, by have := points t; omega⟩ s) := by
  have h : iblk m c 2 t (ix2 r s) = V m c main_arg2 (ix2 ⟨t.val * 512 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

/-- The reference's array, as a function of the arguments. -/
abbrev G3 : S2048x1024.Idx → EReal := Cert.Reference17Ideal.Read.val_main_v1 (F := Ideal) (m (c.tc.loc main_arg0)) (m (c.tc.loc main_arg1)) (m (c.tc.loc main_arg2))

theorem value3 (t : Fin cfg0.N) (r : Fin 512) (s : Fin 1024) :
    out0_3 (iblk m c 0 t) (iblk m c 1 t) (iblk m c 2 t) (ix2 r s) = G3 m c (ix2 ⟨t.val * 512 + r.val, by have := points t; omega⟩ s) := by
  unfold out0_3
  rw [View.canon_cons_unit_lit _ _ _ (by decide)]
  pointwise [k0_pay1, mixed_block, w_block, x_block, Cert.Reference17Ideal.Read.val_main_v0, Cert.Reference17Ideal.Read.val_main_v1]
  try rfl

theorem result3 (t : Fin cfg0.N) (j : S512x1024.Idx) :
    out0_3 (iblk m c 0 t) (iblk m c 1 t) (iblk m c 2 t) j = G3 m c ((win0_3.rect t).emb j) := by
  idx_vars j
  rw [value3]
  congr 1
  funext a
  apply Fin.ext
  refine Eq.symm ((Pipeline.Window.rect_emb_val win0_3 t (ix2 j0 j1) a).trans ?_)
  rw [at3]
  fin_cases a
  · rfl
  · exact Nat.zero_add _

theorem inside3 (t : Fin cfg0.N) (i : S2048x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

theorem covered3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  have hb : (i 0).val / 512 < 4 := by omega
  refine ⟨⟨(i 0).val / 512, by rw [show cfg0.N = 4 from N_0]; exact hb⟩, flush0_3 _, (inside3 _ _).mpr ?_⟩
  rw [at3]
  intro a
  fin_cases a
  · show ((i 0).val / 512) * 512 ≤ (i 0).val ∧ (i 0).val < ((i 0).val / 512) * 512 + 512; omega
  · show 0 * 1024 ≤ (i 1).val ∧ (i 1).val < 0 * 1024 + 1024; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.MixOut

end
-- ==== Proof.Mix.lean ====
/- The gated mix of the two mixers: the values of the kernel's arrays. -/
module

public import proofs.«01_k».proof.Proof.Gen.Kernel18Ideal.Value
public import proofs.«01_k».proof.Proof.Gen.Reference18Ideal.Read
public import proofs.«01_k».proof.Proof.Basis

@[expose] public section

set_option maxRecDepth 16384

noncomputable section

namespace Cert.Proof.Mix

open Cert.Kernel18Ideal Cert.Kernel18Ideal.Gen Idealize.ShloMosaic Idealize.ShloMosaic.TcCoe Idealize.SL.Sem Cert.Reference18Ideal.Read

variable (m : (ℓ : Loc nD τ sig) → Buf (Elt Ideal) ℓ) (c : Dev nD)

theorem points (t : Fin cfg0.N) : t.val < 16 := t.isLt.trans_eq N_0

/-! The block that each window has at point `t` of the grid. -/

theorem at0 : ∀ t : Fin grid0.N, win0_0.index t = ![t.val / 4, 0] := by decide +kernel
theorem at1 : ∀ t : Fin grid0.N, win0_1.index t = ![t.val / 4, 0] := by decide +kernel
theorem at2 : ∀ t : Fin grid0.N, win0_2.index t = ![t.val % 4, 0, 0] := by decide +kernel
theorem at3 : ∀ t : Fin grid0.N, win0_3.index t = ![t.val % 4, 1, 0] := by decide +kernel
theorem at4 : ∀ t : Fin grid0.N, win0_4.index t = ![t.val / 4, t.val % 4] := by decide +kernel
theorem at5 : ∀ t : Fin grid0.N, win0_5.index t = ![t.val / 4, 4 + t.val % 4] := by decide +kernel
theorem at6 : ∀ t : Fin grid0.N, win0_6.index t = ![t.val / 4, t.val % 4] := by decide +kernel
theorem at7 : ∀ t : Fin grid0.N, win0_7.index t = ![t.val / 4, t.val % 4] := by decide +kernel
theorem at8 : ∀ t : Fin grid0.N, win0_8.index t = ![t.val / 4, t.val % 4] := by decide +kernel

theorem ya_block (t : Fin cfg0.N) (r : Fin 512) (s : Fin 512) :
    iblk m c 0 t (ix2 r s) = (m (c.tc.loc main_arg0)) (ix2 ⟨t.val / 4 * 512 + r.val, by have := points t; omega⟩ s) := by
  have h : iblk m c 0 t (ix2 r s) = V m c main_v4 (ix2 ⟨t.val / 4 * 512 + r.val, by have := points t; omega⟩ s) := by
    show V m c main_v4 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem yb_block (t : Fin cfg0.N) (r : Fin 512) (s : Fin 512) :
    iblk m c 1 t (ix2 r s) = (m (c.tc.loc main_arg1)) (ix2 ⟨t.val / 4 * 512 + r.val, by have := points t; omega⟩ s) := by
  have h : iblk m c 1 t (ix2 r s) = V m c main_v5 (ix2 ⟨t.val / 4 * 512 + r.val, by have := points t; omega⟩ s) := by
    show V m c main_v5 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  have := points t
  unfold V
  after_reads_at

theorem wa_block (t : Fin cfg0.N) (r : Fin 1) (s : Fin 512) (u : Fin 256) :
    iblk m c 2 t (ix3 r s u) = (m (c.tc.loc main_arg2)) (ix2 s ⟨t.val % 4 * 256 + u.val, by have := points t; omega⟩) := by
  have h : iblk m c 2 t (ix3 r s u) = V m c main_v3 (ix3 ⟨t.val % 4, by have := points t; omega⟩ ⟨0 * 512 + s.val, by have := points t; omega⟩ u) := by
    show V m c main_v3 ((win0_2.rect t).emb (ix3 r s u)) = _
    congr 1
    funext a
    apply Fin.ext
    refine (Pipeline.Window.rect_emb_val win0_2 t (ix3 r s u) a).trans ?_
    rw [at2]
    fin_cases a
    · show t.val % 4 * 1 + r.val = t.val % 4; omega
    · rfl
    · exact Nat.zero_add _
  refine h.trans ?_
  have := points t
  unfold V
  after_reads_at
  after_reads_at

theorem wb_block (t : Fin cfg0.N) (r : Fin 1) (s : Fin 512) (u : Fin 256) :
    iblk m c 3 t (ix3 r s u) = (m (c.tc.loc main_arg3)) (ix2 s ⟨t.val % 4 * 256 + u.val, by have := points t; omega⟩) := by
  have h : iblk m c 3 t (ix3 r s u) = V m c main_v3 (ix3 ⟨t.val % 4, by have := points t; omega⟩ ⟨1 * 512 + s.val, by have := points t; omega⟩ u) := by
    show V m c main_v3 ((win0_3.rect t).emb (ix3 r s u)) = _
    congr 1
    funext a
    apply Fin.ext
    refine (Pipeline.Window.rect_emb_val win0_3 t (ix3 r s u) a).trans ?_
    rw [at3]
    fin_cases a
    · show t.val % 4 * 1 + r.val = t.val % 4; omega
    · rfl
    · exact Nat.zero_add _
  refine h.trans ?_
  have := points t
  unfold V
  after_reads_at
  after_reads_at

theorem pa_block (t : Fin cfg0.N) (r : Fin 512) (s : Fin 256) :
    iblk m c 4 t (ix2 r s) = @HAdd.hAdd EReal EReal EReal _ ((m (c.tc.loc main_arg4)) (ix2 ⟨t.val / 4 * 512 + r.val, by have := points t; omega⟩ ⟨t.val % 4 * 256 + s.val, by have := points t; omega⟩)) ((m (c.tc.loc main_arg5)) (ix2 0 ⟨t.val % 4 * 256 + s.val, by have := points t; omega⟩)) := by
  have h : iblk m c 4 t (ix2 r s) = V m c main_v7 (ix2 ⟨t.val / 4 * 512 + r.val, by have := points t; omega⟩ ⟨t.val % 4 * 256 + s.val, by have := points t; omega⟩) := by
    show V m c main_v7 ((win0_4.rect t).emb (ix2 r s)) = _
    congr 1
    funext a
    apply Fin.ext
    refine (Pipeline.Window.rect_emb_val win0_4 t (ix2 r s) a).trans ?_
    rw [at4]
    fin_cases a
    · rfl
    · rfl
  refine h.trans ?_
  have := points t
  unfold V
  after_reads_at

theorem pb_block (t : Fin cfg0.N) (r : Fin 512) (s : Fin 256) :
    iblk m c 5 t (ix2 r s) = @HAdd.hAdd EReal EReal EReal _ ((m (c.tc.loc main_arg4)) (ix2 ⟨t.val / 4 * 512 + r.val, by have := points t; omega⟩ ⟨(4 + t.val % 4) * 256 + s.val, by have := points t; omega⟩)) ((m (c.tc.loc main_arg5)) (ix2 0 ⟨(4 + t.val % 4) * 256 + s.val, by have := points t; omega⟩)) := by
  have h : iblk m c 5 t (ix2 r s) = V m c main_v7 (ix2 ⟨t.val / 4 * 512 + r.val, by have := points t; omega⟩ ⟨(4 + t.val % 4) * 256 + s.val, by have := points t; omega⟩) := by
    show V m c main_v7 ((win0_5.rect t).emb (ix2 r s)) = _
    congr 1
    funext a
    apply Fin.ext
    refine (Pipeline.Window.rect_emb_val win0_5 t (ix2 r s) a).trans ?_
    rw [at5]
    fin_cases a
    · rfl
    · rfl
  refine h.trans ?_
  have := points t
  unfold V
  after_reads_at

/-- The reference's array, as a function of the arguments. -/
abbrev G6 : S2048x1024.Idx → EReal := val_main_v8 (F := Ideal) (m (c.tc.loc main_arg0)) (m (c.tc.loc main_arg2))

theorem value6 (t : Fin cfg0.N) (r : Fin 512) (s : Fin 256) :
    out0_6 (iblk m c 0 t) (iblk m c 1 t) (iblk m c 2 t) (iblk m c 3 t) (iblk m c 4 t) (iblk m c 5 t) (ix2 r s) = G6 m c (ix2 ⟨t.val / 4 * 512 + r.val, by have := points t; omega⟩ ⟨t.val % 4 * 256 + s.val, by have := points t; omega⟩) := by
  unfold out0_6
  rw [View.canon_cons_unit_lit _ _ _ (by decide)]
  pointwise [k0_pay1, k0_pay2, k0_pay3, k0_pay4, k0_pay5, k0_pay6, ya_block, yb_block, wa_block, wb_block, pa_block, pb_block, val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15]
  try simp only [zero_sub]
  try rfl

theorem result6 (t : Fin cfg0.N) (j : S512x256.Idx) :
    out0_6 (iblk m c 0 t) (iblk m c 1 t) (iblk m c 2 t) (iblk m c 3 t) (iblk m c 4 t) (iblk m c 5 t) j = G6 m c ((win0_6.rect t).emb j) := by
  idx_vars j
  rw [value6]
  congr 1
  funext a
  apply Fin.ext
  refine Eq.symm ((Pipeline.Window.rect_emb_val win0_6 t (ix2 j0 j1) a).trans ?_)
  rw [at6]
  fin_cases a
  · rfl
  · rfl

theorem inside6 (t : Fin cfg0.N) (i : S2048x1024.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v8_0).slice (win0_6.rect t)).set ↔ _
  rw [View.set_slice_whole, Rect.mem_set_unit]
  exact Iff.rfl

theorem covered6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hb : (i 0).val / 512 * 4 + (i 1).val / 256 < 16 := by omega
  refine ⟨⟨(i 0).val / 512 * 4 + (i 1).val / 256, by rw [show cfg0.N = 16 from N_0]; exact hb⟩, flush0_6 _, (inside6 _ _).mpr ?_⟩
  rw [at6]
  intro a
  fin_cases a
  · show ((i 0).val / 512 * 4 + (i 1).val / 256) / 4 * 512 ≤ (i 0).val ∧ (i 0).val < ((i 0).val / 512 * 4 + (i 1).val / 256) / 4 * 512 + 512; omega
  · show ((i 0).val / 512 * 4 + (i 1).val / 256) % 4 * 256 ≤ (i 1).val ∧ (i 1).val < ((i 0).val / 512 * 4 + (i 1).val / 256) % 4 * 256 + 256; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

/-- The reference's array, as a function of the arguments. -/
abbrev G7 : S2048x1024.Idx → EReal := val_main_v9 (F := Ideal) (m (c.tc.loc main_arg1)) (m (c.tc.loc main_arg3))

theorem value7 (t : Fin cfg0.N) (r : Fin 512) (s : Fin 256) :
    out0_7 (iblk m c 0 t) (iblk m c 1 t) (iblk m c 2 t) (iblk m c 3 t) (iblk m c 4 t) (iblk m c 5 t) (ix2 r s) = G7 m c (ix2 ⟨t.val / 4 * 512 + r.val, by have := points t; omega⟩ ⟨t.val % 4 * 256 + s.val, by have := points t; omega⟩) := by
  unfold out0_7
  rw [View.canon_cons_unit_lit _ _ _ (by decide)]
  pointwise [k0_pay1, k0_pay2, k0_pay3, k0_pay4, k0_pay5, k0_pay6, ya_block, yb_block, wa_block, wb_block, pa_block, pb_block, val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15]
  try simp only [zero_sub]
  try rfl

theorem result7 (t : Fin cfg0.N) (j : S512x256.Idx) :
    out0_7 (iblk m c 0 t) (iblk m c 1 t) (iblk m c 2 t) (iblk m c 3 t) (iblk m c 4 t) (iblk m c 5 t) j = G7 m c ((win0_7.rect t).emb j) := by
  idx_vars j
  rw [value7]
  congr 1
  funext a
  apply Fin.ext
  refine Eq.symm ((Pipeline.Window.rect_emb_val win0_7 t (ix2 j0 j1) a).trans ?_)
  rw [at7]
  fin_cases a
  · rfl
  · rfl

theorem inside7 (t : Fin cfg0.N) (i : S2048x1024.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v8_1).slice (win0_7.rect t)).set ↔ _
  rw [View.set_slice_whole, Rect.mem_set_unit]
  exact Iff.rfl

theorem covered7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  have hb : (i 0).val / 512 * 4 + (i 1).val / 256 < 16 := by omega
  refine ⟨⟨(i 0).val / 512 * 4 + (i 1).val / 256, by rw [show cfg0.N = 16 from N_0]; exact hb⟩, flush0_7 _, (inside7 _ _).mpr ?_⟩
  rw [at7]
  intro a
  fin_cases a
  · show ((i 0).val / 512 * 4 + (i 1).val / 256) / 4 * 512 ≤ (i 0).val ∧ (i 0).val < ((i 0).val / 512 * 4 + (i 1).val / 256) / 4 * 512 + 512; omega
  · show ((i 0).val / 512 * 4 + (i 1).val / 256) % 4 * 256 ≤ (i 1).val ∧ (i 1).val < ((i 0).val / 512 * 4 + (i 1).val / 256) % 4 * 256 + 256; omega

theorem final7 : (dats m 0 c).arrAt 7 cfg0.N = G7 m c := by
  refine Pipeline.Dat.arrAt_eq_of_cover (dats m 0 c) 7 (G7 m c) (fun t _ => ?_) (covered7)
  rw [Value.flushed7]
  funext j
  exact result7 m c t j

/-- The reference's array, as a function of the arguments. -/
abbrev G8 : S2048x1024.Idx → EReal := val_main_v15 (F := Ideal) (m (c.tc.loc main_arg0)) (m (c.tc.loc main_arg1)) (m (c.tc.loc main_arg2)) (m (c.tc.loc main_arg3)) (m (c.tc.loc main_arg4)) (m (c.tc.loc main_arg5))

theorem value8 (t : Fin cfg0.N) (r : Fin 512) (s : Fin 256) :
    out0_8 (iblk m c 0 t) (iblk m c 1 t) (iblk m c 2 t) (iblk m c 3 t) (iblk m c 4 t) (iblk m c 5 t) (ix2 r s) = G8 m c (ix2 ⟨t.val / 4 * 512 + r.val, by have := points t; omega⟩ ⟨t.val % 4 * 256 + s.val, by have := points t; omega⟩) := by
  unfold out0_8
  rw [View.canon_cons_unit_lit _ _ _ (by decide)]
  pointwise [k0_pay1, k0_pay2, k0_pay3, k0_pay4, k0_pay5, k0_pay6, ya_block, yb_block, wa_block, wb_block, pa_block, pb_block, val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15]
  try simp only [zero_sub]
  have e : (⟨(4 + t.val % 4) * 256 + s.val, by have := points t; omega⟩ : Fin 2048) = ⟨1024 + (t.val % 4 * 256 + s.val), by have := points t; omega⟩ := Fin.ext (by show (4 + t.val % 4) * 256 + s.val = 1024 + (t.val % 4 * 256 + s.val); omega)
  rw [e]

theorem result8 (t : Fin cfg0.N) (j : S512x256.Idx) :
    out0_8 (iblk m c 0 t) (iblk m c 1 t) (iblk m c 2 t) (iblk m c 3 t) (iblk m c 4 t) (iblk m c 5 t) j = G8 m c ((win0_8.rect t).emb j) := by
  idx_vars j
  rw [value8]
  congr 1
  funext a
  apply Fin.ext
  refine Eq.symm ((Pipeline.Window.rect_emb_val win0_8 t (ix2 j0 j1) a).trans ?_)
  rw [at8]
  fin_cases a
  · rfl
  · rfl

theorem inside8 (t : Fin cfg0.N) (i : S2048x1024.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v8_2).slice (win0_8.rect t)).set ↔ _
  rw [View.set_slice_whole, Rect.mem_set_unit]
  exact Iff.rfl

theorem covered8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hb : (i 0).val / 512 * 4 + (i 1).val / 256 < 16 := by omega
  refine ⟨⟨(i 0).val / 512 * 4 + (i 1).val / 256, by rw [show cfg0.N = 16 from N_0]; exact hb⟩, flush0_8 _, (inside8 _ _).mpr ?_⟩
  rw [at8]
  intro a
  fin_cases a
  · show ((i 0).val / 512 * 4 + (i 1).val / 256) / 4 * 512 ≤ (i 0).val ∧ (i 0).val < ((i 0).val / 512 * 4 + (i 1).val / 256) / 4 * 512 + 512; omega
  · show ((i 0).val / 512 * 4 + (i 1).val / 256) % 4 * 256 ≤ (i 1).val ∧ (i 1).val < ((i 0).val / 512 * 4 + (i 1).val / 256) % 4 * 256 + 256; omega

theorem final8 : (dats m 0 c).arrAt 8 cfg0.N = G8 m c := by
  refine Pipeline.Dat.arrAt_eq_of_cover (dats m 0 c) 8 (G8 m c) (fun t _ => ?_) (covered8)
  rw [Value.flushed8]
  funext j
  exact result8 m c t j

end Cert.Proof.Mix

end
-- ==== Proof.UpBwd.lean ====
/- The gradient at a mixer's output, through its projection up: the values of the kernel's array. -/
module

public import proofs.«01_k».proof.Proof.Gen.Kernel20Ideal.Value
public import proofs.«01_k».proof.Proof.Gen.Reference20Ideal.Read
public import proofs.«01_k».proof.Proof.Basis

@[expose] public section

set_option maxRecDepth 16384

noncomputable section

namespace Cert.Proof.UpBwd

open Cert.Kernel20Ideal Cert.Kernel20Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![t.val, 0] := by decide +kernel
theorem at1 : ∀ t : Fin grid0.N, win0_1.index t = ![0, 0, 0] := by decide +kernel
theorem at2 : ∀ t : Fin grid0.N, win0_2.index t = ![t.val, 0] := by decide +kernel

theorem d_block (t : Fin cfg0.N) (r : Fin 512) (s : Fin 1024) :
    iblk m c 0 t (ix2 r s) = (m (c.tc.loc main_arg2)) (ix2 ⟨t.val * 512 + r.val, by have := points t; omega⟩ s) := by
  have h : iblk m c 0 t (ix2 r s) = V m c main_v4 (ix2 ⟨t.val * 512 + r.val, by have := points t; omega⟩ s) := by
    show V m c main_v4 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem w_block (t : Fin cfg0.N) (r : Fin 4) (s : Fin 512) (u : Fin 256) :
    iblk m c 1 t (ix3 r s u) = (m (c.tc.loc main_arg0)) (ix2 s ⟨r.val * 256 + u.val, by have := points t; omega⟩) := by
  have h : iblk m c 1 t (ix3 r s u) = V m c main_v3 (ix3 r ⟨0 * 512 + s.val, by have := points t; omega⟩ u) := by
    show V m c main_v3 ((win0_1.rect t).emb (ix3 r s u)) = _
    congr 1
    funext a
    apply Fin.ext
    refine (Pipeline.Window.rect_emb_val win0_1 t (ix3 r s u) a).trans ?_
    rw [at1]
    fin_cases a
    · exact Nat.zero_add _
    · rfl
    · exact Nat.zero_add _
  refine h.trans ?_
  have := points t
  unfold V
  after_reads_at
  after_reads_at

/-- The reference's array, as a function of the arguments. -/
abbrev G2 : S2048x512.Idx → EReal := Cert.Reference20Ideal.Read.val_main_v3 (F := Ideal) (m (c.tc.loc main_arg0)) (m (c.tc.loc main_arg2))

theorem value2 (t : Fin cfg0.N) (r : Fin 512) (s : Fin 512) :
    out0_2 (iblk m c 0 t) (iblk m c 1 t) (ix2 r s) = G2 m c (ix2 ⟨t.val * 512 + r.val, by have := points t; omega⟩ s) := by
  unfold out0_2
  rw [View.canon_cons_unit_lit _ _ _ (by decide)]
  pointwise [k0_pay1, d_block, w_block, Cert.Reference20Ideal.Read.val_main_cst, Cert.Reference20Ideal.Read.val_main_v0, Cert.Reference20Ideal.Read.val_main_v1, Cert.Reference20Ideal.Read.val_main_v2, Cert.Reference20Ideal.Read.val_main_v3]
  rw [Fin.sum_univ_tiles 4 256 rfl, Fin.sum_univ_four]
  simp only [Fin.val_zero, Nat.zero_mul, Nat.zero_add]
  rfl

theorem result2 (t : Fin cfg0.N) (j : S512x512.Idx) :
    out0_2 (iblk m c 0 t) (iblk m c 1 t) j = G2 m c ((win0_2.rect t).emb j) := by
  idx_vars j
  rw [value2]
  congr 1
  funext a
  apply Fin.ext
  refine Eq.symm ((Pipeline.Window.rect_emb_val win0_2 t (ix2 j0 j1) a).trans ?_)
  rw [at2]
  fin_cases a
  · rfl
  · exact Nat.zero_add _

theorem inside2 (t : Fin cfg0.N) (i : S2048x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v5).slice (win0_2.rect t)).set ↔ _
  rw [View.set_slice_whole, Rect.mem_set_unit]
  exact Iff.rfl

theorem covered2 (i : S2048x512.Idx) : ∃ t : Fin cfg0.N, (cfg0.win 2).flush t = true ∧ i ∈ ((cfg0.win 2).blk t).view.set := by
  have h0 : (i 0).val < 2048 := (i 0).isLt
  have h1 : (i 1).val < 512 := (i 1).isLt
  have hb : (i 0).val / 512 < 4 := by omega
  refine ⟨⟨(i 0).val / 512, by rw [show cfg0.N = 4 from N_0]; exact hb⟩, flush0_2 _, (inside2 _ _).mpr ?_⟩
  rw [at2]
  intro a
  fin_cases a
  · show ((i 0).val / 512) * 512 ≤ (i 0).val ∧ (i 0).val < ((i 0).val / 512) * 512 + 512; omega
  · show 0 * 512 ≤ (i 1).val ∧ (i 1).val < 0 * 512 + 512; omega

theorem final2 : (dats m 0 c).arrAt 2 cfg0.N = G2 m c := by
  refine Pipeline.Dat.arrAt_eq_of_cover (dats m 0 c) 2 (G2 m c) (fun t _ => ?_) (covered2)
  rw [Value.flushed2]
  funext j
  exact result2 m c t j

end Cert.Proof.UpBwd

end
-- ==== Proof.Norm.lean ====
/- The norm in front of a half: the values of the kernel's arrays. -/
module

public import proofs.«01_k».proof.Proof.Gen.Kernel23Ideal.Value
public import proofs.«01_k».proof.Proof.Gen.Reference23Ideal.Read
public import proofs.«01_k».proof.Proof.Basis

@[expose] public section

set_option maxRecDepth 16384

noncomputable section

namespace Cert.Proof.Norm

open Cert.Kernel23Ideal Cert.Kernel23Ideal.Gen Idealize.ShloMosaic Idealize.ShloMosaic.TcCoe Idealize.SL.Sem Cert.Reference23Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0] := by decide +kernel
theorem at3 : ∀ t : Fin grid0.N, win0_3.index t = ![t.val, 0] := by decide +kernel

theorem x_block (t : Fin cfg0.N) (r : Fin 256) (s : Fin 1024) :
    iblk m c 0 t (ix2 r s) = (m (c.tc.loc main_arg0)) (ix2 ⟨t.val * 256 + r.val, by have := points t; omega⟩ s) := by
  have h : iblk m c 0 t (ix2 r s) = V m c main_arg0 (ix2 ⟨t.val * 256 + r.val, by have := points t; omega⟩ s) := by
    show V m c main_arg0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg0]

theorem g_block (t : Fin cfg0.N) (r : Fin 1) (s : Fin 1024) :
    iblk m c 1 t (ix2 r s) = (m (c.tc.loc main_arg1)) (ix2 r s) := by
  have h : iblk m c 1 t (ix2 r s) = V m c main_arg1 (ix2 r s) := by
    show V m c main_arg1 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  rw [V_main_arg1]

/-- The reference's array, as a function of the arguments. -/
abbrev G2 : S2048x1024.Idx → EReal := val_main_v12 (F := Ideal) (m (c.tc.loc main_arg0)) (m (c.tc.loc main_arg1))

theorem value2 (t : Fin cfg0.N) (r : Fin 256) (s : Fin 1024) :
    out0_2 (iblk m c 0 t) (iblk m c 1 t) (ix2 r s) = G2 m c (ix2 ⟨t.val * 256 + r.val, by have := points t; omega⟩ s) := by
  unfold out0_2
  rw [View.canon_cons_unit_lit _ _ _ (by decide)]
  pointwise [k0_pay1, k0_pay2, x_block, g_block, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_cst_2, val_main_v14, val_main_v15, val_main_cst_3, val_main_v16, val_main_v17, val_main_cst_4, val_main_v18, val_main_v19, val_main_v20]
  try rfl

theorem result2 (t : Fin cfg0.N) (j : S256x1024.Idx) :
    out0_2 (iblk m c 0 t) (iblk m c 1 t) j = G2 m c ((win0_2.rect t).emb j) := by
  idx_vars j
  rw [value2]
  congr 1
  funext a
  apply Fin.ext
  refine Eq.symm ((Pipeline.Window.rect_emb_val win0_2 t (ix2 j0 j1) a).trans ?_)
  rw [at2]
  fin_cases a
  · rfl
  · exact Nat.zero_add _

theorem inside2 (t : Fin cfg0.N) (i : S2048x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0_0).slice (win0_2.rect t)).set ↔ _
  rw [View.set_slice_whole, Rect.mem_set_unit]
  exact Iff.rfl

theorem covered2 (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  have hb : (i 0).val / 256 < 8 := by omega
  refine ⟨⟨(i 0).val / 256, by rw [show cfg0.N = 8 from N_0]; exact hb⟩, flush0_2 _, (inside2 _ _).mpr ?_⟩
  rw [at2]
  intro a
  fin_cases a
  · show ((i 0).val / 256) * 256 ≤ (i 0).val ∧ (i 0).val < ((i 0).val / 256) * 256 + 256; omega
  · show 0 * 1024 ≤ (i 1).val ∧ (i 1).val < 0 * 1024 + 1024; omega

theorem final2 : (dats m 0 c).arrAt 2 cfg0.N = G2 m c := by
  refine Pipeline.Dat.arrAt_eq_of_cover (dats m 0 c) 2 (G2 m c) (fun t _ => ?_) (covered2)
  rw [Value.flushed2]
  funext j
  exact result2 m c t j

/-- The reference's array, as a function of the arguments. -/
abbrev G3 : S2048x1.Idx → EReal := val_main_v20 (F := Ideal) (m (c.tc.loc main_arg0))

theorem value3 (t : Fin cfg0.N) (r : Fin 256) (s : Fin 1) :
    out0_3 (iblk m c 0 t) (iblk m c 1 t) (ix2 r s) = G3 m c (ix2 ⟨t.val * 256 + r.val, by have := points t; omega⟩ s) := by
  unfold out0_3
  rw [View.canon_cons_unit_lit _ _ _ (by decide)]
  pointwise [k0_pay1, k0_pay2, x_block, g_block, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_cst_2, val_main_v14, val_main_v15, val_main_cst_3, val_main_v16, val_main_v17, val_main_cst_4, val_main_v18, val_main_v19, val_main_v20]
  try rfl

theorem result3 (t : Fin cfg0.N) (j : S256x1.Idx) :
    out0_3 (iblk m c 0 t) (iblk m c 1 t) j = G3 m c ((win0_3.rect t).emb j) := by
  idx_vars j
  rw [value3]
  congr 1
  funext a
  apply Fin.ext
  refine Eq.symm ((Pipeline.Window.rect_emb_val win0_3 t (ix2 j0 j1) a).trans ?_)
  rw [at3]
  fin_cases a
  · rfl
  · exact Nat.zero_add _

theorem inside3 (t : Fin cfg0.N) (i : S2048x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_1).slice (win0_3.rect t)).set ↔ _
  rw [View.set_slice_whole, Rect.mem_set_unit]
  exact Iff.rfl

theorem covered3 (i : S2048x1.Idx) : ∃ t : Fin cfg0.N, (cfg0.win 3).flush t = true ∧ i ∈ ((cfg0.win 3).blk t).view.set := by
  have h0 : (i 0).val < 2048 := (i 0).isLt
  have h1 : (i 1).val < 1 := (i 1).isLt
  have hb : (i 0).val / 256 < 8 := by omega
  refine ⟨⟨(i 0).val / 256, by rw [show cfg0.N = 8 from N_0]; exact hb⟩, flush0_3 _, (inside3 _ _).mpr ?_⟩
  rw [at3]
  intro a
  fin_cases a
  · show ((i 0).val / 256) * 256 ≤ (i 0).val ∧ (i 0).val < ((i 0).val / 256) * 256 + 256; omega
  · show 0 * 1 ≤ (i 1).val ∧ (i 1).val < 0 * 1 + 1; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.Norm

end
-- ==== Proof.Claims1.lean ====
/- The value claims of the products. -/
module

public import proofs.«01_k».proof.Defs
public import proofs.«01_k».proof.Proof.Down
public import proofs.«01_k».proof.Proof.Gen.Reference6Ideal.Run
public import proofs.«01_k».proof.Proof.Up
public import proofs.«01_k».proof.Proof.Gen.Reference5Ideal.Run
public import proofs.«01_k».proof.Proof.QkvGrad
public import proofs.«01_k».proof.Proof.Gen.Reference8Ideal.Run
public import proofs.«01_k».proof.Proof.GateGrad
public import proofs.«01_k».proof.Proof.Gen.Reference9Ideal.Run
public import proofs.«01_k».proof.Proof.Gates
public import proofs.«01_k».proof.Proof.Gen.Reference11Ideal.Run
public import proofs.«01_k».proof.Proof.MixOut
public import proofs.«01_k».proof.Proof.Gen.Reference17Ideal.Run
public import proofs.«01_k».proof.Proof.Mix
public import proofs.«01_k».proof.Proof.Gen.Reference18Ideal.Run
public import proofs.«01_k».proof.Proof.UpBwd
public import proofs.«01_k».proof.Proof.Gen.Reference20Ideal.Run
public import proofs.«01_k».proof.Proof.Norm
public import proofs.«01_k».proof.Proof.Gen.Reference23Ideal.Run

@[expose] public section

set_option maxRecDepth 16384

noncomputable section

namespace Cert.Proof

open Idealize.ShloMosaic Idealize.ShloMosaic.TcCoe Idealize.SL.Sem

theorem down_value : Cert.algebraic_Kernel6Ideal_Reference6Ideal := by
  intro m g m' g' hpre hargs
  refine ⟨fun c => Down.G3 m c,
    (θ_run _ _ _).mono (fun r h c => ?_) (Cert.Kernel6Ideal.Value.run_blocks m g),
    (θ_run _ _ _).mono (fun r h c => ?_) (Cert.Reference6Ideal.Value.run m' g')⟩
  · obtain ⟨h0, ha⟩ := h c
    exact ⟨h0.trans (Down.final3 m c), ha⟩
  · obtain ⟨h0, ha⟩ := h c
    obtain ⟨e0, e1, e2, e3, e4⟩ := hargs c
    refine ⟨h0.trans ?_, ha⟩
    · rw [e0, e3, e4]; rfl

theorem up_value : Cert.algebraic_Kernel5Ideal_Reference5Ideal := by
  intro m g m' g' hpre hargs
  refine ⟨fun c => Up.G3 m c, fun c => Up.G4 m c, fun c => Up.G5 m c,
    (θ_run _ _ _).mono (fun r h c => ?_) (Cert.Kernel5Ideal.Value.run_blocks m g),
    (θ_run _ _ _).mono (fun r h c => ?_) (Cert.Reference5Ideal.Value.run m' g')⟩
  · obtain ⟨h0, h1, h2, ha⟩ := h c
    exact ⟨h0.trans (Up.final3 m c), h1.trans (Up.final4 m c), h2.trans (Up.final5 m c), ha⟩
  · obtain ⟨h0, h1, h2, ha⟩ := h c
    obtain ⟨e0, e1, e2, e3⟩ := hargs c
    refine ⟨h0.trans ?_, h1.trans ?_, h2.trans ?_, ha⟩
    · rw [e0, e1]; rfl
    · rw [e0, e2]; rfl
    · rw [e0, e1, e2]; rfl

theorem wqkv_value : Cert.algebraic_Kernel8Ideal_Reference8Ideal := by
  intro m g m' g' hpre hargs
  refine ⟨fun c => QkvGrad.G2 m c,
    (θ_run _ _ _).mono (fun r h c => ?_) (Cert.Kernel8Ideal.Value.run_blocks m g),
    (θ_run _ _ _).mono (fun r h c => ?_) (Cert.Reference8Ideal.Value.run m' g')⟩
  · obtain ⟨h0, ha⟩ := h c
    exact ⟨h0.trans (QkvGrad.final2 m c), ha⟩
  · obtain ⟨h0, ha⟩ := h c
    obtain ⟨e0, e1⟩ := hargs c
    refine ⟨h0.trans ?_, ha⟩
    · rw [e0, e1]; rfl

theorem wgate_value : Cert.algebraic_Kernel9Ideal_Reference9Ideal := by
  intro m g m' g' hpre hargs
  refine ⟨fun c => GateGrad.G2 m c,
    (θ_run _ _ _).mono (fun r h c => ?_) (Cert.Kernel9Ideal.Value.run_blocks m g),
    (θ_run _ _ _).mono (fun r h c => ?_) (Cert.Reference9Ideal.Value.run m' g')⟩
  · obtain ⟨h0, ha⟩ := h c
    exact ⟨h0.trans (GateGrad.final2 m c), ha⟩
  · obtain ⟨h0, ha⟩ := h c
    obtain ⟨e0, e1⟩ := hargs c
    refine ⟨h0.trans ?_, ha⟩
    · rw [e0, e1]; rfl

theorem pgate_value : Cert.algebraic_Kernel11Ideal_Reference11Ideal := by
  intro m g m' g' hpre hargs
  refine ⟨fun c => Gates.G3 m c,
    (θ_run _ _ _).mono (fun r h c => ?_) (Cert.Kernel11Ideal.Value.run_blocks m g),
    (θ_run _ _ _).mono (fun r h c => ?_) (Cert.Reference11Ideal.Value.run m' g')⟩
  · obtain ⟨h0, ha⟩ := h c
    exact ⟨h0.trans (Gates.final3 m c), ha⟩
  · obtain ⟨h0, ha⟩ := h c
    obtain ⟨e0, e1, e2⟩ := hargs c
    refine ⟨h0.trans ?_, ha⟩
    · rw [e0, e1, e2]; rfl

theorem mixout_value : Cert.algebraic_Kernel17Ideal_Reference17Ideal := by
  intro m g m' g' hpre hargs
  refine ⟨fun c => MixOut.G3 m c,
    (θ_run _ _ _).mono (fun r h c => ?_) (Cert.Kernel17Ideal.Value.run_blocks m g),
    (θ_run _ _ _).mono (fun r h c => ?_) (Cert.Reference17Ideal.Value.run m' g')⟩
  · obtain ⟨h0, ha⟩ := h c
    exact ⟨h0.trans (MixOut.final3 m c), ha⟩
  · obtain ⟨h0, ha⟩ := h c
    obtain ⟨e0, e1, e2⟩ := hargs c
    refine ⟨h0.trans ?_, ha⟩
    · rw [e0, e1, e2]; rfl

theorem mixfwd_value : Cert.algebraic_Kernel18Ideal_Reference18Ideal := by
  intro m g m' g' hpre hargs
  refine ⟨fun c => Mix.G6 m c, fun c => Mix.G7 m c, fun c => Mix.G8 m c,
    (θ_run _ _ _).mono (fun r h c => ?_) (Cert.Kernel18Ideal.Value.run_blocks m g),
    (θ_run _ _ _).mono (fun r h c => ?_) (Cert.Reference18Ideal.Value.run m' g')⟩
  · obtain ⟨h0, h1, h2, ha⟩ := h c
    exact ⟨h0.trans (Mix.final6 m c), h1.trans (Mix.final7 m c), h2.trans (Mix.final8 m c), ha⟩
  · obtain ⟨h0, h1, h2, ha⟩ := h c
    obtain ⟨e0, e1, e2, e3, e4, e5⟩ := hargs c
    refine ⟨h0.trans ?_, h1.trans ?_, h2.trans ?_, ha⟩
    · rw [e0, e2]; rfl
    · rw [e1, e3]; rfl
    · rw [e0, e1, e2, e3, e4, e5]; rfl

theorem upbwd_value : Cert.algebraic_Kernel20Ideal_Reference20Ideal := by
  intro m g m' g' hpre hargs
  refine ⟨fun c => UpBwd.G2 m c,
    (θ_run _ _ _).mono (fun r h c => ?_) (Cert.Kernel20Ideal.Value.run_blocks m g),
    (θ_run _ _ _).mono (fun r h c => ?_) (Cert.Reference20Ideal.Value.run m' g')⟩
  · obtain ⟨h0, ha⟩ := h c
    exact ⟨h0.trans (UpBwd.final2 m c), ha⟩
  · obtain ⟨h0, ha⟩ := h c
    obtain ⟨e0, e1, e2⟩ := hargs c
    refine ⟨h0.trans ?_, ha⟩
    · rw [e0, e2]; rfl

theorem rms_value : Cert.algebraic_Kernel23Ideal_Reference23Ideal := by
  intro m g m' g' hpre hargs
  refine ⟨fun c => Norm.G2 m c, fun c => Norm.G3 m c,
    (θ_run _ _ _).mono (fun r h c => ?_) (Cert.Kernel23Ideal.Value.run_blocks m g),
    (θ_run _ _ _).mono (fun r h c => ?_) (Cert.Reference23Ideal.Value.run m' g')⟩
  · obtain ⟨h0, h1, ha⟩ := h c
    exact ⟨h0.trans (Norm.final2 m c), h1.trans (Norm.final3 m c), ha⟩
  · obtain ⟨h0, h1, ha⟩ := h c
    obtain ⟨e0, e1⟩ := hargs c
    refine ⟨h0.trans ?_, h1.trans ?_, ha⟩
    · rw [e0, e1]; rfl
    · rw [e0]; rfl

end Cert.Proof

end
-- ==== Proof.OptFfn.lean ====
/- The optimiser on a device's part of a feed-forward half's weights: the values of the kernel's arrays. -/
module

public import proofs.«01_k».proof.Proof.Gen.Kernel12Ideal.Value
public import proofs.«01_k».proof.Proof.Gen.Reference12Ideal.Read
public import proofs.«01_k».proof.Proof.Basis

@[expose] public section

set_option maxRecDepth 16384

noncomputable section

namespace Cert.Proof.OptFfn

open Cert.Kernel12Ideal Cert.Kernel12Ideal.Gen Idealize.ShloMosaic Idealize.ShloMosaic.TcCoe Idealize.SL.Sem Cert.Reference12Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel
theorem at7 : ∀ t : Fin grid0.N, win0_7.index t = ![t.val, 0] := by decide +kernel
theorem at8 : ∀ t : Fin grid0.N, win0_8.index t = ![t.val, 0] := by decide +kernel
theorem at9 : ∀ t : Fin grid0.N, win0_9.index t = ![0, t.val, 0] := by decide +kernel
theorem at10 : ∀ t : Fin grid0.N, win0_10.index t = ![t.val, 0] := by decide +kernel
theorem at11 : ∀ t : Fin grid0.N, win0_11.index t = ![t.val, 0] := by decide +kernel
theorem at12 : ∀ t : Fin grid0.N, win0_12.index t = ![t.val, 0] := by decide +kernel
theorem at13 : ∀ t : Fin grid0.N, win0_13.index t = ![t.val, 0] := by decide +kernel
theorem at14 : ∀ t : Fin grid0.N, win0_14.index t = ![t.val, 0] := by decide +kernel
theorem at15 : ∀ t : Fin grid0.N, win0_15.index t = ![t.val, 0] := by decide +kernel
theorem at16 : ∀ t : Fin grid0.N, win0_16.index t = ![t.val, 0] := by decide +kernel
theorem at17 : ∀ t : Fin grid0.N, win0_17.index t = ![t.val, 0] := by decide +kernel
theorem at18 : ∀ t : Fin grid0.N, win0_18.index t = ![t.val, 0] := by decide +kernel

theorem gate_w (t : Fin cfg0.N) (r : Fin 88) (s : Fin 1024) :
    iblk m c 0 t (ix2 r s) = (m (c.tc.loc main_arg0)) (ix2 s ⟨t.val * 88 + r.val, by have := points t; omega⟩) := by
  have h : iblk m c 0 t (ix2 r s) = V m c main_v0 (ix2 ⟨t.val * 88 + r.val, by have := points t; omega⟩ s) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem up_w (t : Fin cfg0.N) (r : Fin 88) (s : Fin 1024) :
    iblk m c 1 t (ix2 r s) = (m (c.tc.loc main_arg1)) (ix2 s ⟨t.val * 88 + r.val, by have := points t; omega⟩) := by
  have h : iblk m c 1 t (ix2 r s) = V m c main_v1 (ix2 ⟨t.val * 88 + r.val, by have := points t; omega⟩ s) := by
    show V m c main_v1 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  have := points t
  unfold V
  after_reads_at

theorem down_w (t : Fin cfg0.N) (r : Fin 88) (s : Fin 1024) :
    iblk m c 2 t (ix2 r s) = (m (c.tc.loc main_arg2)) (ix2 ⟨t.val * 88 + r.val, by have := points t; omega⟩ s) := by
  have h : iblk m c 2 t (ix2 r s) = V m c main_arg2 (ix2 ⟨t.val * 88 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

theorem gate_m (t : Fin cfg0.N) (r : Fin 88) (s : Fin 1024) :
    iblk m c 3 t (ix2 r s) = (m (c.tc.loc main_arg6)) (ix2 s ⟨t.val * 88 + r.val, by have := points t; omega⟩) := by
  have h : iblk m c 3 t (ix2 r s) = V m c main_v8 (ix2 ⟨t.val * 88 + r.val, by have := points t; omega⟩ s) := by
    show V m c main_v8 ((win0_3.rect t).emb (ix2 r s)) = _
    congr 1
    funext a
    apply Fin.ext
    refine (Pipeline.Window.rect_emb_val win0_3 t (ix2 r s) a).trans ?_
    rw [at3]
    fin_cases a
    · rfl
    · exact Nat.zero_add _
  refine h.trans ?_
  have := points t
  unfold V
  after_reads_at

theorem up_m (t : Fin cfg0.N) (r : Fin 88) (s : Fin 1024) :
    iblk m c 4 t (ix2 r s) = (m (c.tc.loc main_arg7)) (ix2 s ⟨t.val * 88 + r.val, by have := points t; omega⟩) := by
  have h : iblk m c 4 t (ix2 r s) = V m c main_v9 (ix2 ⟨t.val * 88 + r.val, by have := points t; omega⟩ s) := by
    show V m c main_v9 ((win0_4.rect t).emb (ix2 r s)) = _
    congr 1
    funext a
    apply Fin.ext
    refine (Pipeline.Window.rect_emb_val win0_4 t (ix2 r s) a).trans ?_
    rw [at4]
    fin_cases a
    · rfl
    · exact Nat.zero_add _
  refine h.trans ?_
  have := points t
  unfold V
  after_reads_at

theorem down_m (t : Fin cfg0.N) (r : Fin 88) (s : Fin 1024) :
    iblk m c 5 t (ix2 r s) = (m (c.tc.loc main_arg8)) (ix2 ⟨t.val * 88 + r.val, by have := points t; omega⟩ s) := by
  have h : iblk m c 5 t (ix2 r s) = V m c main_arg8 (ix2 ⟨t.val * 88 + r.val, by have := points t; omega⟩ s) := by
    show V m c main_arg8 ((win0_5.rect t).emb (ix2 r s)) = _
    congr 1
    funext a
    apply Fin.ext
    refine (Pipeline.Window.rect_emb_val win0_5 t (ix2 r s) a).trans ?_
    rw [at5]
    fin_cases a
    · rfl
    · exact Nat.zero_add _
  refine h.trans ?_
  rw [V_main_arg8]

theorem gate_v (t : Fin cfg0.N) (r : Fin 88) (s : Fin 1024) :
    iblk m c 6 t (ix2 r s) = (m (c.tc.loc main_arg9)) (ix2 s ⟨t.val * 88 + r.val, by have := points t; omega⟩) := by
  have h : iblk m c 6 t (ix2 r s) = V m c main_v10 (ix2 ⟨t.val * 88 + r.val, by have := points t; omega⟩ s) := by
    show V m c main_v10 ((win0_6.rect t).emb (ix2 r s)) = _
    congr 1
    funext a
    apply Fin.ext
    refine (Pipeline.Window.rect_emb_val win0_6 t (ix2 r s) a).trans ?_
    rw [at6]
    fin_cases a
    · rfl
    · exact Nat.zero_add _
  refine h.trans ?_
  have := points t
  unfold V
  after_reads_at

theorem up_v (t : Fin cfg0.N) (r : Fin 88) (s : Fin 1024) :
    iblk m c 7 t (ix2 r s) = (m (c.tc.loc main_arg10)) (ix2 s ⟨t.val * 88 + r.val, by have := points t; omega⟩) := by
  have h : iblk m c 7 t (ix2 r s) = V m c main_v11 (ix2 ⟨t.val * 88 + r.val, by have := points t; omega⟩ s) := by
    show V m c main_v11 ((win0_7.rect t).emb (ix2 r s)) = _
    congr 1
    funext a
    apply Fin.ext
    refine (Pipeline.Window.rect_emb_val win0_7 t (ix2 r s) a).trans ?_
    rw [at7]
    fin_cases a
    · rfl
    · exact Nat.zero_add _
  refine h.trans ?_
  have := points t
  unfold V
  after_reads_at

theorem down_v (t : Fin cfg0.N) (r : Fin 88) (s : Fin 1024) :
    iblk m c 8 t (ix2 r s) = (m (c.tc.loc main_arg11)) (ix2 ⟨t.val * 88 + r.val, by have := points t; omega⟩ s) := by
  have h : iblk m c 8 t (ix2 r s) = V m c main_arg11 (ix2 ⟨t.val * 88 + r.val, by have := points t; omega⟩ s) := by
    show V m c main_arg11 ((win0_8.rect t).emb (ix2 r s)) = _
    congr 1
    funext a
    apply Fin.ext
    refine (Pipeline.Window.rect_emb_val win0_8 t (ix2 r s) a).trans ?_
    rw [at8]
    fin_cases a
    · rfl
    · exact Nat.zero_add _
  refine h.trans ?_
  rw [V_main_arg11]

theorem g_block (t : Fin cfg0.N) (r : Fin 3) (s : Fin 88) (u : Fin 1024) :
    iblk m c 9 t (ix3 r s u) = if h : r.val < 1 then (m (c.tc.loc main_arg3)) (ix2 u ⟨t.val * 88 + s.val, by have := points t; omega⟩) else if h : r.val - 1 < 1 then (m (c.tc.loc main_arg4)) (ix2 u ⟨t.val * 88 + s.val, by have := points t; omega⟩) else (m (c.tc.loc main_arg5)) (ix2 ⟨t.val * 88 + s.val, by have := points t; omega⟩ u) := by
  have h : iblk m c 9 t (ix3 r s u) = V m c main_v7 (ix3 r ⟨t.val * 88 + s.val, by have := points t; omega⟩ u) := by
    show V m c main_v7 ((win0_9.rect t).emb (ix3 r s u)) = _
    congr 1
    funext a
    apply Fin.ext
    refine (Pipeline.Window.rect_emb_val win0_9 t (ix3 r s u) a).trans ?_
    rw [at9]
    fin_cases a
    · exact Nat.zero_add _
    · rfl
    · exact Nat.zero_add _
  refine h.trans ?_
  have := points t
  unfold V
  after_reads_at
  after_reads_at

/-- The reference's array, as a function of the arguments. -/
abbrev G10 : S704x1024.Idx → EReal := val_main_v72 (F := Ideal) (m (c.tc.loc main_arg0)) (m (c.tc.loc main_arg3)) (m (c.tc.loc main_arg6)) (m (c.tc.loc main_arg9))

theorem value10 (t : Fin cfg0.N) (r : Fin 88) (s : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r s) = G10 m c (ix2 ⟨t.val * 88 + r.val, by have := points t; omega⟩ s) := by
  unfold out0_10
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v72]
  try rfl

theorem result10 (t : Fin cfg0.N) (j : S88x1024.Idx) :
    out0_10 (iblk m c 0 t) (iblk m c 1 t) (iblk m c 2 t) (iblk m c 3 t) (iblk m c 4 t) (iblk m c 5 t) (iblk m c 6 t) (iblk m c 7 t) (iblk m c 8 t) (iblk m c 9 t) j = G10 m c ((win0_10.rect t).emb j) := by
  idx_vars j
  rw [value10]
  congr 1
  funext a
  apply Fin.ext
  refine Eq.symm ((Pipeline.Window.rect_emb_val win0_10 t (ix2 j0 j1) a).trans ?_)
  rw [at10]
  fin_cases a
  · rfl
  · exact Nat.zero_add _

theorem inside10 (t : Fin cfg0.N) (i : S704x1024.Idx) :
    i ∈ ((cfg0.win 10).blk t).view.set ↔ ∀ a : Fin 2, win0_10.index t a * S88x1024.size a ≤ (i a).val ∧ (i a).val < win0_10.index t a * S88x1024.size a + S88x1024.size a := by
  show i ∈ ((View.whole main_v12_0).slice (win0_10.rect t)).set ↔ _
  rw [View.set_slice_whole, Rect.mem_set_unit]
  exact Iff.rfl

theorem covered10 (i : S704x1024.Idx) : ∃ t : Fin cfg0.N, (cfg0.win 10).flush t = true ∧ i ∈ ((cfg0.win 10).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_10 _, (inside10 _ _).mpr ?_⟩
  rw [at10]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final10 : (dats m 0 c).arrAt 10 cfg0.N = G10 m c := by
  refine Pipeline.Dat.arrAt_eq_of_cover (dats m 0 c) 10 (G10 m c) (fun t _ => ?_) (covered10)
  rw [Value.flushed10]
  funext j
  exact result10 m c t j

/-- The reference's array, as a function of the arguments. -/
abbrev G11 : S704x1024.Idx → EReal := val_main_v73 (F := Ideal) (m (c.tc.loc main_arg1)) (m (c.tc.loc main_arg4)) (m (c.tc.loc main_arg7)) (m (c.tc.loc main_arg10))

theorem value11 (t : Fin cfg0.N) (r : Fin 88) (s : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r s) = G11 m c (ix2 ⟨t.val * 88 + r.val, by have := points t; omega⟩ s) := by
  unfold out0_11
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_8, val_main_v24, val_main_v25, val_main_cst_9, val_main_v26, val_main_v27, val_main_v28, val_main_cst_10, val_main_v29, val_main_v30, val_main_v31, val_main_cst_11, val_main_v32, val_main_v33, val_main_v34, val_main_cst_12, val_main_v35, val_main_v36, val_main_cst_13, val_main_v37, val_main_v38, val_main_v39, val_main_cst_14, val_main_v40, val_main_v41, val_main_v42, val_main_cst_15, val_main_v43, val_main_v44, val_main_v45, val_main_cst_16, val_main_v46, val_main_v47, val_main_v73]
  try rfl

theorem result11 (t : Fin cfg0.N) (j : S88x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) j = G11 m c ((win0_11.rect t).emb j) := by
  idx_vars j
  rw [value11]
  congr 1
  funext a
  apply Fin.ext
  refine Eq.symm ((Pipeline.Window.rect_emb_val win0_11 t (ix2 j0 j1) a).trans ?_)
  rw [at11]
  fin_cases a
  · rfl
  · exact Nat.zero_add _

theorem inside11 (t : Fin cfg0.N) (i : S704x1024.Idx) :
    i ∈ ((cfg0.win 11).blk t).view.set ↔ ∀ a : Fin 2, win0_11.index t a * S88x1024.size a ≤ (i a).val ∧ (i a).val < win0_11.index t a * S88x1024.size a + S88x1024.size a := by
  show i ∈ ((View.whole main_v12_1).slice (win0_11.rect t)).set ↔ _
  rw [View.set_slice_whole, Rect.mem_set_unit]
  exact Iff.rfl

theorem covered11 (i : S704x1024.Idx) : ∃ t : Fin cfg0.N, (cfg0.win 11).flush t = true ∧ i ∈ ((cfg0.win 11).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_11 _, (inside11 _ _).mpr ?_⟩
  rw [at11]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final11 : (dats m 0 c).arrAt 11 cfg0.N = G11 m c := by
  refine Pipeline.Dat.arrAt_eq_of_cover (dats m 0 c) 11 (G11 m c) (fun t _ => ?_) (covered11)
  rw [Value.flushed11]
  funext j
  exact result11 m c t j

/-- The reference's array, as a function of the arguments. -/
abbrev G12 : S704x1024.Idx → EReal := val_main_v71 (F := Ideal) (m (c.tc.loc main_arg2)) (m (c.tc.loc main_arg5)) (m (c.tc.loc main_arg8)) (m (c.tc.loc main_arg11))

theorem value12 (t : Fin cfg0.N) (r : Fin 88) (s : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r s) = G12 m c (ix2 ⟨t.val * 88 + r.val, by have := points t; omega⟩ s) := by
  unfold out0_12
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_17, val_main_v48, val_main_v49, val_main_cst_18, val_main_v50, val_main_v51, val_main_v52, val_main_cst_19, val_main_v53, val_main_v54, val_main_v55, val_main_cst_20, val_main_v56, val_main_v57, val_main_v58, val_main_cst_21, val_main_v59, val_main_v60, val_main_cst_22, val_main_v61, val_main_v62, val_main_v63, val_main_cst_23, val_main_v64, val_main_v65, val_main_v66, val_main_cst_24, val_main_v67, val_main_v68, val_main_v69, val_main_cst_25, val_main_v70, val_main_v71]
  try rfl

theorem result12 (t : Fin cfg0.N) (j : S88x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) j = G12 m c ((win0_12.rect t).emb j) := by
  idx_vars j
  rw [value12]
  congr 1
  funext a
  apply Fin.ext
  refine Eq.symm ((Pipeline.Window.rect_emb_val win0_12 t (ix2 j0 j1) a).trans ?_)
  rw [at12]
  fin_cases a
  · rfl
  · exact Nat.zero_add _

theorem inside12 (t : Fin cfg0.N) (i : S704x1024.Idx) :
    i ∈ ((cfg0.win 12).blk t).view.set ↔ ∀ a : Fin 2, win0_12.index t a * S88x1024.size a ≤ (i a).val ∧ (i a).val < win0_12.index t a * S88x1024.size a + S88x1024.size a := by
  show i ∈ ((View.whole main_v12_2).slice (win0_12.rect t)).set ↔ _
  rw [View.set_slice_whole, Rect.mem_set_unit]
  exact Iff.rfl

theorem covered12 (i : S704x1024.Idx) : ∃ t : Fin cfg0.N, (cfg0.win 12).flush t = true ∧ i ∈ ((cfg0.win 12).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_12 _, (inside12 _ _).mpr ?_⟩
  rw [at12]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final12 : (dats m 0 c).arrAt 12 cfg0.N = G12 m c := by
  refine Pipeline.Dat.arrAt_eq_of_cover (dats m 0 c) 12 (G12 m c) (fun t _ => ?_) (covered12)
  rw [Value.flushed12]
  funext j
  exact result12 m c t j

/-- The reference's array, as a function of the arguments. -/
abbrev G13 : S704x1024.Idx → EReal := val_main_v74 (F := Ideal) (m (c.tc.loc main_arg3)) (m (c.tc.loc main_arg6))

theorem value13 (t : Fin cfg0.N) (r : Fin 88) (s : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (ix2 r s) = G13 m c (ix2 ⟨t.val * 88 + r.val, by have := points t; omega⟩ s) := by
  unfold out0_13
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst, val_main_v0, val_main_v1, val_main_cst_0, val_main_v2, val_main_v3, val_main_v4, val_main_v74]
  try rfl

theorem result13 (t : Fin cfg0.N) (j : S88x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) j = G13 m c ((win0_13.rect t).emb j) := by
  idx_vars j
  rw [value13]
  congr 1
  funext a
  apply Fin.ext
  refine Eq.symm ((Pipeline.Window.rect_emb_val win0_13 t (ix2 j0 j1) a).trans ?_)
  rw [at13]
  fin_cases a
  · rfl
  · exact Nat.zero_add _

theorem inside13 (t : Fin cfg0.N) (i : S704x1024.Idx) :
    i ∈ ((cfg0.win 13).blk t).view.set ↔ ∀ a : Fin 2, win0_13.index t a * S88x1024.size a ≤ (i a).val ∧ (i a).val < win0_13.index t a * S88x1024.size a + S88x1024.size a := by
  show i ∈ ((View.whole main_v12_3).slice (win0_13.rect t)).set ↔ _
  rw [View.set_slice_whole, Rect.mem_set_unit]
  exact Iff.rfl

theorem covered13 (i : S704x1024.Idx) : ∃ t : Fin cfg0.N, (cfg0.win 13).flush t = true ∧ i ∈ ((cfg0.win 13).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_13 _, (inside13 _ _).mpr ?_⟩
  rw [at13]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final13 : (dats m 0 c).arrAt 13 cfg0.N = G13 m c := by
  refine Pipeline.Dat.arrAt_eq_of_cover (dats m 0 c) 13 (G13 m c) (fun t _ => ?_) (covered13)
  rw [Value.flushed13]
  funext j
  exact result13 m c t j

/-- The reference's array, as a function of the arguments. -/
abbrev G14 : S704x1024.Idx → EReal := val_main_v75 (F := Ideal) (m (c.tc.loc main_arg4)) (m (c.tc.loc main_arg7))

theorem value14 (t : Fin cfg0.N) (r : Fin 88) (s : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (ix2 r s) = G14 m c (ix2 ⟨t.val * 88 + r.val, by have := points t; omega⟩ s) := by
  unfold out0_14
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_8, val_main_v24, val_main_v25, val_main_cst_9, val_main_v26, val_main_v27, val_main_v28, val_main_v75]
  try rfl

theorem result14 (t : Fin cfg0.N) (j : S88x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) j = G14 m c ((win0_14.rect t).emb j) := by
  idx_vars j
  rw [value14]
  congr 1
  funext a
  apply Fin.ext
  refine Eq.symm ((Pipeline.Window.rect_emb_val win0_14 t (ix2 j0 j1) a).trans ?_)
  rw [at14]
  fin_cases a
  · rfl
  · exact Nat.zero_add _

theorem inside14 (t : Fin cfg0.N) (i : S704x1024.Idx) :
    i ∈ ((cfg0.win 14).blk t).view.set ↔ ∀ a : Fin 2, win0_14.index t a * S88x1024.size a ≤ (i a).val ∧ (i a).val < win0_14.index t a * S88x1024.size a + S88x1024.size a := by
  show i ∈ ((View.whole main_v12_4).slice (win0_14.rect t)).set ↔ _
  rw [View.set_slice_whole, Rect.mem_set_unit]
  exact Iff.rfl

theorem covered14 (i : S704x1024.Idx) : ∃ t : Fin cfg0.N, (cfg0.win 14).flush t = true ∧ i ∈ ((cfg0.win 14).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_14 _, (inside14 _ _).mpr ?_⟩
  rw [at14]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final14 : (dats m 0 c).arrAt 14 cfg0.N = G14 m c := by
  refine Pipeline.Dat.arrAt_eq_of_cover (dats m 0 c) 14 (G14 m c) (fun t _ => ?_) (covered14)
  rw [Value.flushed14]
  funext j
  exact result14 m c t j

/-- The reference's array, as a function of the arguments. -/
abbrev G15 : S704x1024.Idx → EReal := val_main_v52 (F := Ideal) (m (c.tc.loc main_arg5)) (m (c.tc.loc main_arg8))

theorem value15 (t : Fin cfg0.N) (r : Fin 88) (s : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (ix2 r s) = G15 m c (ix2 ⟨t.val * 88 + r.val, by have := points t; omega⟩ s) := by
  unfold out0_15
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_17, val_main_v48, val_main_v49, val_main_cst_18, val_main_v50, val_main_v51, val_main_v52]
  try rfl

theorem result15 (t : Fin cfg0.N) (j : S88x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t) j = G15 m c ((win0_15.rect t).emb j) := by
  idx_vars j
  rw [value15]
  congr 1
  funext a
  apply Fin.ext
  refine Eq.symm ((Pipeline.Window.rect_emb_val win0_15 t (ix2 j0 j1) a).trans ?_)
  rw [at15]
  fin_cases a
  · rfl
  · exact Nat.zero_add _

theorem inside15 (t : Fin cfg0.N) (i : S704x1024.Idx) :
    i ∈ ((cfg0.win 15).blk t).view.set ↔ ∀ a : Fin 2, win0_15.index t a * S88x1024.size a ≤ (i a).val ∧ (i a).val < win0_15.index t a * S88x1024.size a + S88x1024.size a := by
  show i ∈ ((View.whole main_v12_5).slice (win0_15.rect t)).set ↔ _
  rw [View.set_slice_whole, Rect.mem_set_unit]
  exact Iff.rfl

theorem covered15 (i : S704x1024.Idx) : ∃ t : Fin cfg0.N, (cfg0.win 15).flush t = true ∧ i ∈ ((cfg0.win 15).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_15 _, (inside15 _ _).mpr ?_⟩
  rw [at15]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final15 : (dats m 0 c).arrAt 15 cfg0.N = G15 m c := by
  refine Pipeline.Dat.arrAt_eq_of_cover (dats m 0 c) 15 (G15 m c) (fun t _ => ?_) (covered15)
  rw [Value.flushed15]
  funext j
  exact result15 m c t j

/-- The reference's array, as a function of the arguments. -/
abbrev G16 : S704x1024.Idx → EReal := val_main_v76 (F := Ideal) (m (c.tc.loc main_arg3)) (m (c.tc.loc main_arg9))

theorem value16 (t : Fin cfg0.N) (r : Fin 88) (s : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (ix2 r s) = G16 m c (ix2 ⟨t.val * 88 + r.val, by have := points t; omega⟩ s) := by
  unfold out0_16
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_1, val_main_v5, val_main_v6, val_main_v7, val_main_cst_2, val_main_v8, val_main_v9, val_main_v10, val_main_v76]
  try rfl

theorem result16 (t : Fin cfg0.N) (j : S88x1024.Idx) :
    out0_16 (iblk m c 0 t) (iblk m c 1 t) (iblk m c 2 t) (iblk m c 3 t) (iblk m c 4 t) (iblk m c 5 t) (iblk m c 6 t) (iblk m c 7 t) (iblk m c 8 t) (iblk m c 9 t) j = G16 m c ((win0_16.rect t).emb j) := by
  idx_vars j
  rw [value16]
  congr 1
  funext a
  apply Fin.ext
  refine Eq.symm ((Pipeline.Window.rect_emb_val win0_16 t (ix2 j0 j1) a).trans ?_)
  rw [at16]
  fin_cases a
  · rfl
  · exact Nat.zero_add _

theorem inside16 (t : Fin cfg0.N) (i : S704x1024.Idx) :
    i ∈ ((cfg0.win 16).blk t).view.set ↔ ∀ a : Fin 2, win0_16.index t a * S88x1024.size a ≤ (i a).val ∧ (i a).val < win0_16.index t a * S88x1024.size a + S88x1024.size a := by
  show i ∈ ((View.whole main_v12_6).slice (win0_16.rect t)).set ↔ _
  rw [View.set_slice_whole, Rect.mem_set_unit]
  exact Iff.rfl

theorem covered16 (i : S704x1024.Idx) : ∃ t : Fin cfg0.N, (cfg0.win 16).flush t = true ∧ i ∈ ((cfg0.win 16).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_16 _, (inside16 _ _).mpr ?_⟩
  rw [at16]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final16 : (dats m 0 c).arrAt 16 cfg0.N = G16 m c := by
  refine Pipeline.Dat.arrAt_eq_of_cover (dats m 0 c) 16 (G16 m c) (fun t _ => ?_) (covered16)
  rw [Value.flushed16]
  funext j
  exact result16 m c t j

/-- The reference's array, as a function of the arguments. -/
abbrev G17 : S704x1024.Idx → EReal := val_main_v77 (F := Ideal) (m (c.tc.loc main_arg4)) (m (c.tc.loc main_arg10))

theorem value17 (t : Fin cfg0.N) (r : Fin 88) (s : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (ix2 r s) = G17 m c (ix2 ⟨t.val * 88 + r.val, by have := points t; omega⟩ s) := by
  unfold out0_17
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_10, val_main_v29, val_main_v30, val_main_v31, val_main_cst_11, val_main_v32, val_main_v33, val_main_v34, val_main_v77]
  try rfl

theorem result17 (t : Fin cfg0.N) (j : S88x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) j = G17 m c ((win0_17.rect t).emb j) := by
  idx_vars j
  rw [value17]
  congr 1
  funext a
  apply Fin.ext
  refine Eq.symm ((Pipeline.Window.rect_emb_val win0_17 t (ix2 j0 j1) a).trans ?_)
  rw [at17]
  fin_cases a
  · rfl
  · exact Nat.zero_add _

theorem inside17 (t : Fin cfg0.N) (i : S704x1024.Idx) :
    i ∈ ((cfg0.win 17).blk t).view.set ↔ ∀ a : Fin 2, win0_17.index t a * S88x1024.size a ≤ (i a).val ∧ (i a).val < win0_17.index t a * S88x1024.size a + S88x1024.size a := by
  show i ∈ ((View.whole main_v12_7).slice (win0_17.rect t)).set ↔ _
  rw [View.set_slice_whole, Rect.mem_set_unit]
  exact Iff.rfl

theorem covered17 (i : S704x1024.Idx) : ∃ t : Fin cfg0.N, (cfg0.win 17).flush t = true ∧ i ∈ ((cfg0.win 17).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_17 _, (inside17 _ _).mpr ?_⟩
  rw [at17]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final17 : (dats m 0 c).arrAt 17 cfg0.N = G17 m c := by
  refine Pipeline.Dat.arrAt_eq_of_cover (dats m 0 c) 17 (G17 m c) (fun t _ => ?_) (covered17)
  rw [Value.flushed17]
  funext j
  exact result17 m c t j

/-- The reference's array, as a function of the arguments. -/
abbrev G18 : S704x1024.Idx → EReal := val_main_v58 (F := Ideal) (m (c.tc.loc main_arg5)) (m (c.tc.loc main_arg11))

theorem value18 (t : Fin cfg0.N) (r : Fin 88) (s : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (ix2 r s) = G18 m c (ix2 ⟨t.val * 88 + r.val, by have := points t; omega⟩ s) := by
  unfold out0_18
  rw [View.canon_cons_unit_lit _ _ _ (by decide)]
  pointwise [k0_pay1, k0_pay2, k0_pay3, k0_pay4, k0_pay5, k0_pay6, k0_pay7, k0_pay8, k0_pay9, k0_pay10, k0_pay11, k0_pay12, gate_w, up_w, down_w, gate_m, up_m, down_m, gate_v, up_v, down_v, g_block, val_main_cst_19, val_main_v53, val_main_v54, val_main_v55, val_main_cst_20, val_main_v56, val_main_v57, val_main_v58]
  try rfl

theorem result18 (t : Fin cfg0.N) (j : S88x1024.Idx) :
    out0_18 (iblk m c 0 t) (iblk m c 1 t) (iblk m c 2 t) (iblk m c 3 t) (iblk m c 4 t) (iblk m c 5 t) (iblk m c 6 t) (iblk m c 7 t) (iblk m c 8 t) (iblk m c 9 t) j = G18 m c ((win0_18.rect t).emb j) := by
  idx_vars j
  rw [value18]
  congr 1
  funext a
  apply Fin.ext
  refine Eq.symm ((Pipeline.Window.rect_emb_val win0_18 t (ix2 j0 j1) a).trans ?_)
  rw [at18]
  fin_cases a
  · rfl
  · exact Nat.zero_add _

theorem inside18 (t : Fin cfg0.N) (i : S704x1024.Idx) :
    i ∈ ((cfg0.win 18).blk t).view.set ↔ ∀ a : Fin 2, win0_18.index t a * S88x1024.size a ≤ (i a).val ∧ (i a).val < win0_18.index t a * S88x1024.size a + S88x1024.size a := by
  show i ∈ ((View.whole main_v12_8).slice (win0_18.rect t)).set ↔ _
  rw [View.set_slice_whole, Rect.mem_set_unit]
  exact Iff.rfl

theorem covered18 (i : S704x1024.Idx) : ∃ t : Fin cfg0.N, (cfg0.win 18).flush t = true ∧ i ∈ ((cfg0.win 18).blk t).view.set := by
  have h0 : (i 0).val < 704 := (i 0).isLt
  have h1 : (i 1).val < 1024 := (i 1).isLt
  have hb : (i 0).val / 88 < 8 := by omega
  refine ⟨⟨(i 0).val / 88, by rw [show cfg0.N = 8 from N_0]; exact hb⟩, flush0_18 _, (inside18 _ _).mpr ?_⟩
  rw [at18]
  intro a
  fin_cases a
  · show ((i 0).val / 88) * 88 ≤ (i 0).val ∧ (i 0).val < ((i 0).val / 88) * 88 + 88; omega
  · show 0 * 1024 ≤ (i 1).val ∧ (i 1).val < 0 * 1024 + 1024; omega

theorem final18 : (dats m 0 c).arrAt 18 cfg0.N = G18 m c := by
  refine Pipeline.Dat.arrAt_eq_of_cover (dats m 0 c) 18 (G18 m c) (fun t _ => ?_) (covered18)
  rw [Value.flushed18]
  funext j
  exact result18 m c t j

end Cert.Proof.OptFfn

end
-- ==== Proof.OptIn.lean ====
/- The optimiser on a device's part of the combined projection: the values of the kernel's arrays. -/
module

public import proofs.«01_k».proof.Proof.Gen.Kernel13Ideal.Value
public import proofs.«01_k».proof.Proof.Gen.Reference13Ideal.Read
public import proofs.«01_k».proof.Proof.Basis

@[expose] public section

set_option maxRecDepth 16384

noncomputable section

namespace Cert.Proof.OptIn

open Cert.Kernel13Ideal Cert.Kernel13Ideal.Gen Idealize.ShloMosaic Idealize.ShloMosaic.TcCoe Idealize.SL.Sem Cert.Reference13Ideal.Read

variable (m : (ℓ : Loc nD τ sig) → Buf (Elt Ideal) ℓ) (c : Dev nD)

theorem points (t : Fin cfg0.N) : t.val < 7 := t.isLt.trans_eq N_0

/-! The block that each window has at point `t` of the grid. -/

theorem at0 : ∀ t : Fin grid0.N, win0_0.index t = ![t.val, 0, 0] := by decide +kernel
theorem at1 : ∀ t : Fin grid0.N, win0_1.index t = ![t.val, 0, 0] := by decide +kernel
theorem at2 : ∀ t : Fin grid0.N, win0_2.index t = ![t.val, 0, 0] := by decide +kernel
theorem at3 : ∀ t : Fin grid0.N, win0_3.index t = ![t.val, 0, 0] := by decide +kernel
theorem at4 : ∀ t : Fin grid0.N, win0_4.index t = ![t.val, 0, 0] := by decide +kernel
theorem at5 : ∀ t : Fin grid0.N, win0_5.index t = ![t.val, 0, 0] := by decide +kernel
theorem at6 : ∀ t : Fin grid0.N, win0_6.index t = ![t.val, 0, 0] := by decide +kernel

theorem w_block (t : Fin cfg0.N) (r : Fin 110) (s : Fin 1) (u : Fin 1024) :
    iblk m c 0 t (ix3 r s u) = (m (c.tc.loc main_arg0)) (ix2 u ⟨t.val * 110 + r.val, by have := points t; omega⟩) := by
  have h : iblk m c 0 t (ix3 r s u) = V m c main_v1 (ix3 ⟨t.val * 110 + r.val, by have := points t; omega⟩ s u) := by
    show V m c main_v1 ((win0_0.rect t).emb (ix3 r s u)) = _
    congr 1
    funext a
    apply Fin.ext
    refine (Pipeline.Window.rect_emb_val win0_0 t (ix3 r s u) a).trans ?_
    rw [at0]
    fin_cases a
    · rfl
    · exact Nat.zero_add _
    · exact Nat.zero_add _
  refine h.trans ?_
  have := points t
  unfold V
  after_reads_at

theorem g_block (t : Fin cfg0.N) (r : Fin 110) (s : Fin 1) (u : Fin 1024) :
    iblk m c 1 t (ix3 r s u) = (m (c.tc.loc main_arg1)) (ix2 u ⟨t.val * 110 + r.val, by have := points t; omega⟩) := by
  have h : iblk m c 1 t (ix3 r s u) = V m c main_v3 (ix3 ⟨t.val * 110 + r.val, by have := points t; omega⟩ s u) := by
    show V m c main_v3 ((win0_1.rect t).emb (ix3 r s u)) = _
    congr 1
    funext a
    apply Fin.ext
    refine (Pipeline.Window.rect_emb_val win0_1 t (ix3 r s u) a).trans ?_
    rw [at1]
    fin_cases a
    · rfl
    · exact Nat.zero_add _
    · exact Nat.zero_add _
  refine h.trans ?_
  have := points t
  unfold V
  after_reads_at

theorem m_block (t : Fin cfg0.N) (r : Fin 110) (s : Fin 1) (u : Fin 1024) :
    iblk m c 2 t (ix3 r s u) = (m (c.tc.loc main_arg2)) (ix2 u ⟨t.val * 110 + r.val, by have := points t; omega⟩) := by
  have h : iblk m c 2 t (ix3 r s u) = V m c main_v5 (ix3 ⟨t.val * 110 + r.val, by have := points t; omega⟩ s u) := by
    show V m c main_v5 ((win0_2.rect t).emb (ix3 r s u)) = _
    congr 1
    funext a
    apply Fin.ext
    refine (Pipeline.Window.rect_emb_val win0_2 t (ix3 r s u) a).trans ?_
    rw [at2]
    fin_cases a
    · rfl
    · exact Nat.zero_add _
    · exact Nat.zero_add _
  refine h.trans ?_
  have := points t
  unfold V
  after_reads_at

theorem v_block (t : Fin cfg0.N) (r : Fin 110) (s : Fin 1) (u : Fin 1024) :
    iblk m c 3 t (ix3 r s u) = (m (c.tc.loc main_arg3)) (ix2 u ⟨t.val * 110 + r.val, by have := points t; omega⟩) := by
  have h : iblk m c 3 t (ix3 r s u) = V m c main_v7 (ix3 ⟨t.val * 110 + r.val, by have := points t; omega⟩ s u) := by
    show V m c main_v7 ((win0_3.rect t).emb (ix3 r s u)) = _
    congr 1
    funext a
    apply Fin.ext
    refine (Pipeline.Window.rect_emb_val win0_3 t (ix3 r s u) a).trans ?_
    rw [at3]
    fin_cases a
    · rfl
    · exact Nat.zero_add _
    · exact Nat.zero_add _
  refine h.trans ?_
  have := points t
  unfold V
  after_reads_at

/-- The reference's array, as a function of the arguments. -/
abbrev G4 : S770x1x1024.Idx → EReal := val_main_v25 (F := Ideal) (m (c.tc.loc main_arg0)) (m (c.tc.loc main_arg1)) (m (c.tc.loc main_arg2)) (m (c.tc.loc main_arg3))

theorem value4 (t : Fin cfg0.N) (r : Fin 110) (s : Fin 1) (u : Fin 1024) :
    out0_4 (iblk m c 0 t) (iblk m c 1 t) (iblk m c 2 t) (iblk m c 3 t) (ix3 r s u) = G4 m c (ix3 ⟨t.val * 110 + r.val, by have := points t; omega⟩ s u) := by
  unfold out0_4
  rw [View.canon_cons_unit_lit _ _ _ (by decide)]
  pointwise [k0_pay1, k0_pay2, k0_pay3, k0_pay4, w_block, g_block, m_block, v_block, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25]
  try rfl

theorem result4 (t : Fin cfg0.N) (j : S110x1x1024.Idx) :
    out0_4 (iblk m c 0 t) (iblk m c 1 t) (iblk m c 2 t) (iblk m c 3 t) j = G4 m c ((win0_4.rect t).emb j) := by
  idx_vars j
  rw [value4]
  congr 1
  funext a
  apply Fin.ext
  refine Eq.symm ((Pipeline.Window.rect_emb_val win0_4 t (ix3 j0 j1 j2) a).trans ?_)
  rw [at4]
  fin_cases a
  · rfl
  · exact Nat.zero_add _
  · exact Nat.zero_add _

theorem inside4 (t : Fin cfg0.N) (i : S770x1x1024.Idx) :
    i ∈ ((cfg0.win 4).blk t).view.set ↔ ∀ a : Fin 3, win0_4.index t a * S110x1x1024.size a ≤ (i a).val ∧ (i a).val < win0_4.index t a * S110x1x1024.size a + S110x1x1024.size a := by
  show i ∈ ((View.whole main_v8_0).slice (win0_4.rect t)).set ↔ _
  rw [View.set_slice_whole, Rect.mem_set_unit]
  exact Iff.rfl

theorem covered4 (i : S770x1x1024.Idx) : ∃ t : Fin cfg0.N, (cfg0.win 4).flush t = true ∧ i ∈ ((cfg0.win 4).blk t).view.set := by
  have h0 : (i 0).val < 770 := (i 0).isLt
  have h1 : (i 1).val < 1 := (i 1).isLt
  have h2 : (i 2).val < 1024 := (i 2).isLt
  have hb : (i 0).val / 110 < 7 := by omega
  refine ⟨⟨(i 0).val / 110, by rw [show cfg0.N = 7 from N_0]; exact hb⟩, flush0_4 _, (inside4 _ _).mpr ?_⟩
  rw [at4]
  intro a
  fin_cases a
  · show ((i 0).val / 110) * 110 ≤ (i 0).val ∧ (i 0).val < ((i 0).val / 110) * 110 + 110; omega
  · show 0 * 1 ≤ (i 1).val ∧ (i 1).val < 0 * 1 + 1; omega
  · show 0 * 1024 ≤ (i 2).val ∧ (i 2).val < 0 * 1024 + 1024; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

/-- The reference's array, as a function of the arguments. -/
abbrev G5 : S770x1x1024.Idx → EReal := val_main_v27 (F := Ideal) (m (c.tc.loc main_arg1)) (m (c.tc.loc main_arg2))

theorem value5 (t : Fin cfg0.N) (r : Fin 110) (s : Fin 1) (u : Fin 1024) :
    out0_5 (iblk m c 0 t) (iblk m c 1 t) (iblk m c 2 t) (iblk m c 3 t) (ix3 r s u) = G5 m c (ix3 ⟨t.val * 110 + r.val, by have := points t; omega⟩ s u) := by
  unfold out0_5
  rw [View.canon_cons_unit_lit _ _ _ (by decide)]
  pointwise [k0_pay1, k0_pay2, k0_pay3, k0_pay4, w_block, g_block, m_block, v_block, val_main_cst, val_main_v0, val_main_v1, val_main_cst_0, val_main_v2, val_main_v3, val_main_v4, val_main_v26, val_main_v27]
  try rfl

theorem result5 (t : Fin cfg0.N) (j : S110x1x1024.Idx) :
    out0_5 (iblk m c 0 t) (iblk m c 1 t) (iblk m c 2 t) (iblk m c 3 t) j = G5 m c ((win0_5.rect t).emb j) := by
  idx_vars j
  rw [value5]
  congr 1
  funext a
  apply Fin.ext
  refine Eq.symm ((Pipeline.Window.rect_emb_val win0_5 t (ix3 j0 j1 j2) a).trans ?_)
  rw [at5]
  fin_cases a
  · rfl
  · exact Nat.zero_add _
  · exact Nat.zero_add _

theorem inside5 (t : Fin cfg0.N) (i : S770x1x1024.Idx) :
    i ∈ ((cfg0.win 5).blk t).view.set ↔ ∀ a : Fin 3, win0_5.index t a * S110x1x1024.size a ≤ (i a).val ∧ (i a).val < win0_5.index t a * S110x1x1024.size a + S110x1x1024.size a := by
  show i ∈ ((View.whole main_v8_1).slice (win0_5.rect t)).set ↔ _
  rw [View.set_slice_whole, Rect.mem_set_unit]
  exact Iff.rfl

theorem covered5 (i : S770x1x1024.Idx) : ∃ t : Fin cfg0.N, (cfg0.win 5).flush t = true ∧ i ∈ ((cfg0.win 5).blk t).view.set := by
  have h0 : (i 0).val < 770 := (i 0).isLt
  have h1 : (i 1).val < 1 := (i 1).isLt
  have h2 : (i 2).val < 1024 := (i 2).isLt
  have hb : (i 0).val / 110 < 7 := by omega
  refine ⟨⟨(i 0).val / 110, by rw [show cfg0.N = 7 from N_0]; exact hb⟩, flush0_5 _, (inside5 _ _).mpr ?_⟩
  rw [at5]
  intro a
  fin_cases a
  · show ((i 0).val / 110) * 110 ≤ (i 0).val ∧ (i 0).val < ((i 0).val / 110) * 110 + 110; omega
  · show 0 * 1 ≤ (i 1).val ∧ (i 1).val < 0 * 1 + 1; omega
  · show 0 * 1024 ≤ (i 2).val ∧ (i 2).val < 0 * 1024 + 1024; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

/-- The reference's array, as a function of the arguments. -/
abbrev G6 : S770x1x1024.Idx → EReal := val_main_v29 (F := Ideal) (m (c.tc.loc main_arg1)) (m (c.tc.loc main_arg3))

theorem value6 (t : Fin cfg0.N) (r : Fin 110) (s : Fin 1) (u : Fin 1024) :
    out0_6 (iblk m c 0 t) (iblk m c 1 t) (iblk m c 2 t) (iblk m c 3 t) (ix3 r s u) = G6 m c (ix3 ⟨t.val * 110 + r.val, by have := points t; omega⟩ s u) := by
  unfold out0_6
  rw [View.canon_cons_unit_lit _ _ _ (by decide)]
  pointwise [k0_pay1, k0_pay2, k0_pay3, k0_pay4, w_block, g_block, m_block, v_block, val_main_cst_1, val_main_v5, val_main_v6, val_main_v7, val_main_cst_2, val_main_v8, val_main_v9, val_main_v10, val_main_v28, val_main_v29]
  try rfl

theorem result6 (t : Fin cfg0.N) (j : S110x1x1024.Idx) :
    out0_6 (iblk m c 0 t) (iblk m c 1 t) (iblk m c 2 t) (iblk m c 3 t) j = G6 m c ((win0_6.rect t).emb j) := by
  idx_vars j
  rw [value6]
  congr 1
  funext a
  apply Fin.ext
  refine Eq.symm ((Pipeline.Window.rect_emb_val win0_6 t (ix3 j0 j1 j2) a).trans ?_)
  rw [at6]
  fin_cases a
  · rfl
  · exact Nat.zero_add _
  · exact Nat.zero_add _

theorem inside6 (t : Fin cfg0.N) (i : S770x1x1024.Idx) :
    i ∈ ((cfg0.win 6).blk t).view.set ↔ ∀ a : Fin 3, win0_6.index t a * S110x1x1024.size a ≤ (i a).val ∧ (i a).val < win0_6.index t a * S110x1x1024.size a + S110x1x1024.size a := by
  show i ∈ ((View.whole main_v8_2).slice (win0_6.rect t)).set ↔ _
  rw [View.set_slice_whole, Rect.mem_set_unit]
  exact Iff.rfl

theorem covered6 (i : S770x1x1024.Idx) : ∃ t : Fin cfg0.N, (cfg0.win 6).flush t = true ∧ i ∈ ((cfg0.win 6).blk t).view.set := by
  have h0 : (i 0).val < 770 := (i 0).isLt
  have h1 : (i 1).val < 1 := (i 1).isLt
  have h2 : (i 2).val < 1024 := (i 2).isLt
  have hb : (i 0).val / 110 < 7 := by omega
  refine ⟨⟨(i 0).val / 110, by rw [show cfg0.N = 7 from N_0]; exact hb⟩, flush0_6 _, (inside6 _ _).mpr ?_⟩
  rw [at6]
  intro a
  fin_cases a
  · show ((i 0).val / 110) * 110 ≤ (i 0).val ∧ (i 0).val < ((i 0).val / 110) * 110 + 110; omega
  · show 0 * 1 ≤ (i 1).val ∧ (i 1).val < 0 * 1 + 1; omega
  · show 0 * 1024 ≤ (i 2).val ∧ (i 2).val < 0 * 1024 + 1024; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

end Cert.Proof.OptIn

end
-- ==== Proof.OptGate.lean ====
/- The optimiser on a device's part of the gates' weights: the values of the kernel's arrays. -/
module

public import proofs.«01_k».proof.Proof.Gen.Kernel14Ideal.Value
public import proofs.«01_k».proof.Proof.Gen.Reference14Ideal.Read
public import proofs.«01_k».proof.Proof.Basis

@[expose] public section

set_option maxRecDepth 16384

noncomputable section

namespace Cert.Proof.OptGate

open Cert.Kernel14Ideal Cert.Kernel14Ideal.Gen Idealize.ShloMosaic Idealize.ShloMosaic.TcCoe Idealize.SL.Sem Cert.Reference14Ideal.Read

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel

theorem w_block (t : Fin cfg0.N) (r : Fin 256) (s : Fin 512) :
    iblk m c 0 t (ix2 r s) = (m (c.tc.loc main_arg0)) (ix2 ⟨t.val * 256 + r.val, by have := points t; omega⟩ s) := by
  have h : iblk m c 0 t (ix2 r s) = V m c main_arg0 (ix2 ⟨t.val * 256 + r.val, by have := points t; omega⟩ s) := by
    show V m c main_arg0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg0]

theorem g_block (t : Fin cfg0.N) (r : Fin 256) (s : Fin 512) :
    iblk m c 1 t (ix2 r s) = (m (c.tc.loc main_arg1)) (ix2 ⟨t.val * 256 + r.val, by have := points t; omega⟩ s) := by
  have h : iblk m c 1 t (ix2 r s) = V m c main_arg1 (ix2 ⟨t.val * 256 + r.val, by have := points t; omega⟩ s) := by
    show V m c main_arg1 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  rw [V_main_arg1]

theorem m_block (t : Fin cfg0.N) (r : Fin 256) (s : Fin 512) :
    iblk m c 2 t (ix2 r s) = (m (c.tc.loc main_arg2)) (ix2 ⟨t.val * 256 + r.val, by have := points t; omega⟩ s) := by
  have h : iblk m c 2 t (ix2 r s) = V m c main_arg2 (ix2 ⟨t.val * 256 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

theorem v_block (t : Fin cfg0.N) (r : Fin 256) (s : Fin 512) :
    iblk m c 3 t (ix2 r s) = (m (c.tc.loc main_arg3)) (ix2 ⟨t.val * 256 + r.val, by have := points t; omega⟩ s) := by
  have h : iblk m c 3 t (ix2 r s) = V m c main_arg3 (ix2 ⟨t.val * 256 + r.val, by have := points t; omega⟩ s) := by
    show V m c main_arg3 ((win0_3.rect t).emb (ix2 r s)) = _
    congr 1
    funext a
    apply Fin.ext
    refine (Pipeline.Window.rect_emb_val win0_3 t (ix2 r s) a).trans ?_
    rw [at3]
    fin_cases a
    · rfl
    · exact Nat.zero_add _
  refine h.trans ?_
  rw [V_main_arg3]

/-- The reference's array, as a function of the arguments. -/
abbrev G4 : S1024x512.Idx → EReal := val_main_v23 (F := Ideal) (m (c.tc.loc main_arg0)) (m (c.tc.loc main_arg1)) (m (c.tc.loc main_arg2)) (m (c.tc.loc main_arg3))

theorem value4 (t : Fin cfg0.N) (r : Fin 256) (s : Fin 512) :
    out0_4 (iblk m c 0 t) (iblk m c 1 t) (iblk m c 2 t) (iblk m c 3 t) (ix2 r s) = G4 m c (ix2 ⟨t.val * 256 + r.val, by have := points t; omega⟩ s) := by
  unfold out0_4
  rw [View.canon_cons_unit_lit _ _ _ (by decide)]
  pointwise [k0_pay1, k0_pay2, k0_pay3, w_block, g_block, m_block, v_block, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try rfl

theorem result4 (t : Fin cfg0.N) (j : S256x512.Idx) :
    out0_4 (iblk m c 0 t) (iblk m c 1 t) (iblk m c 2 t) (iblk m c 3 t) j = G4 m c ((win0_4.rect t).emb j) := by
  idx_vars j
  rw [value4]
  congr 1
  funext a
  apply Fin.ext
  refine Eq.symm ((Pipeline.Window.rect_emb_val win0_4 t (ix2 j0 j1) a).trans ?_)
  rw [at4]
  fin_cases a
  · rfl
  · exact Nat.zero_add _

theorem inside4 (t : Fin cfg0.N) (i : S1024x512.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v0_0).slice (win0_4.rect t)).set ↔ _
  rw [View.set_slice_whole, Rect.mem_set_unit]
  exact Iff.rfl

theorem covered4 (i : S1024x512.Idx) : ∃ t : Fin cfg0.N, (cfg0.win 4).flush t = true ∧ i ∈ ((cfg0.win 4).blk t).view.set := by
  have h0 : (i 0).val < 1024 := (i 0).isLt
  have h1 : (i 1).val < 512 := (i 1).isLt
  have hb : (i 0).val / 256 < 4 := by omega
  refine ⟨⟨(i 0).val / 256, by rw [show cfg0.N = 4 from N_0]; exact hb⟩, flush0_4 _, (inside4 _ _).mpr ?_⟩
  rw [at4]
  intro a
  fin_cases a
  · show ((i 0).val / 256) * 256 ≤ (i 0).val ∧ (i 0).val < ((i 0).val / 256) * 256 + 256; omega
  · show 0 * 512 ≤ (i 1).val ∧ (i 1).val < 0 * 512 + 512; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

/-- The reference's array, as a function of the arguments. -/
abbrev G5 : S1024x512.Idx → EReal := val_main_v4 (F := Ideal) (m (c.tc.loc main_arg1)) (m (c.tc.loc main_arg2))

theorem value5 (t : Fin cfg0.N) (r : Fin 256) (s : Fin 512) :
    out0_5 (iblk m c 0 t) (iblk m c 1 t) (iblk m c 2 t) (iblk m c 3 t) (ix2 r s) = G5 m c (ix2 ⟨t.val * 256 + r.val, by have := points t; omega⟩ s) := by
  unfold out0_5
  rw [View.canon_cons_unit_lit _ _ _ (by decide)]
  pointwise [k0_pay1, k0_pay2, k0_pay3, w_block, g_block, m_block, v_block, val_main_cst, val_main_v0, val_main_v1, val_main_cst_0, val_main_v2, val_main_v3, val_main_v4]
  try rfl

theorem result5 (t : Fin cfg0.N) (j : S256x512.Idx) :
    out0_5 (iblk m c 0 t) (iblk m c 1 t) (iblk m c 2 t) (iblk m c 3 t) j = G5 m c ((win0_5.rect t).emb j) := by
  idx_vars j
  rw [value5]
  congr 1
  funext a
  apply Fin.ext
  refine Eq.symm ((Pipeline.Window.rect_emb_val win0_5 t (ix2 j0 j1) a).trans ?_)
  rw [at5]
  fin_cases a
  · rfl
  · exact Nat.zero_add _

theorem inside5 (t : Fin cfg0.N) (i : S1024x512.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v0_1).slice (win0_5.rect t)).set ↔ _
  rw [View.set_slice_whole, Rect.mem_set_unit]
  exact Iff.rfl

theorem covered5 (i : S1024x512.Idx) : ∃ t : Fin cfg0.N, (cfg0.win 5).flush t = true ∧ i ∈ ((cfg0.win 5).blk t).view.set := by
  have h0 : (i 0).val < 1024 := (i 0).isLt
  have h1 : (i 1).val < 512 := (i 1).isLt
  have hb : (i 0).val / 256 < 4 := by omega
  refine ⟨⟨(i 0).val / 256, by rw [show cfg0.N = 4 from N_0]; exact hb⟩, flush0_5 _, (inside5 _ _).mpr ?_⟩
  rw [at5]
  intro a
  fin_cases a
  · show ((i 0).val / 256) * 256 ≤ (i 0).val ∧ (i 0).val < ((i 0).val / 256) * 256 + 256; omega
  · show 0 * 512 ≤ (i 1).val ∧ (i 1).val < 0 * 512 + 512; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

/-- The reference's array, as a function of the arguments. -/
abbrev G6 : S1024x512.Idx → EReal := val_main_v10 (F := Ideal) (m (c.tc.loc main_arg1)) (m (c.tc.loc main_arg3))

theorem value6 (t : Fin cfg0.N) (r : Fin 256) (s : Fin 512) :
    out0_6 (iblk m c 0 t) (iblk m c 1 t) (iblk m c 2 t) (iblk m c 3 t) (ix2 r s) = G6 m c (ix2 ⟨t.val * 256 + r.val, by have := points t; omega⟩ s) := by
  unfold out0_6
  rw [View.canon_cons_unit_lit _ _ _ (by decide)]
  pointwise [k0_pay1, k0_pay2, k0_pay3, w_block, g_block, m_block, v_block, val_main_cst_1, val_main_v5, val_main_v6, val_main_v7, val_main_cst_2, val_main_v8, val_main_v9, val_main_v10]
  try rfl

theorem result6 (t : Fin cfg0.N) (j : S256x512.Idx) :
    out0_6 (iblk m c 0 t) (iblk m c 1 t) (iblk m c 2 t) (iblk m c 3 t) j = G6 m c ((win0_6.rect t).emb j) := by
  idx_vars j
  rw [value6]
  congr 1
  funext a
  apply Fin.ext
  refine Eq.symm ((Pipeline.Window.rect_emb_val win0_6 t (ix2 j0 j1) a).trans ?_)
  rw [at6]
  fin_cases a
  · rfl
  · exact Nat.zero_add _

theorem inside6 (t : Fin cfg0.N) (i : S1024x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v0_2).slice (win0_6.rect t)).set ↔ _
  rw [View.set_slice_whole, Rect.mem_set_unit]
  exact Iff.rfl

theorem covered6 (i : S1024x512.Idx) : ∃ t : Fin cfg0.N, (cfg0.win 6).flush t = true ∧ i ∈ ((cfg0.win 6).blk t).view.set := by
  have h0 : (i 0).val < 1024 := (i 0).isLt
  have h1 : (i 1).val < 512 := (i 1).isLt
  have hb : (i 0).val / 256 < 4 := by omega
  refine ⟨⟨(i 0).val / 256, by rw [show cfg0.N = 4 from N_0]; exact hb⟩, flush0_6 _, (inside6 _ _).mpr ?_⟩
  rw [at6]
  intro a
  fin_cases a
  · show ((i 0).val / 256) * 256 ≤ (i 0).val ∧ (i 0).val < ((i 0).val / 256) * 256 + 256; omega
  · show 0 * 512 ≤ (i 1).val ∧ (i 1).val < 0 * 512 + 512; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

end Cert.Proof.OptGate

end
-- ==== Proof.OptUp.lean ====
/- The optimiser on a device's part of an up projection: the values of the kernel's arrays. -/
module

public import proofs.«01_k».proof.Proof.Gen.Kernel15Ideal.Value
public import proofs.«01_k».proof.Proof.Gen.Reference15Ideal.Read
public import proofs.«01_k».proof.Proof.Basis

@[expose] public section

set_option maxRecDepth 16384

noncomputable section

namespace Cert.Proof.OptUp

open Cert.Kernel15Ideal Cert.Kernel15Ideal.Gen Idealize.ShloMosaic Idealize.ShloMosaic.TcCoe Idealize.SL.Sem Cert.Reference15Ideal.Read

variable (m : (ℓ : Loc nD τ sig) → Buf (Elt Ideal) ℓ) (c : Dev nD)

theorem points (t : Fin cfg0.N) : t.val < 2 := t.isLt.trans_eq N_0

/-! The block that each window has at point `t` of the grid. -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel

theorem w_block (t : Fin cfg0.N) (r : Fin 256) (s : Fin 256) :
    iblk m c 0 t (ix2 r s) = (m (c.tc.loc main_arg0)) (ix2 ⟨t.val * 256 + r.val, by have := points t; omega⟩ s) := by
  have h : iblk m c 0 t (ix2 r s) = V m c main_arg0 (ix2 ⟨t.val * 256 + r.val, by have := points t; omega⟩ s) := by
    show V m c main_arg0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg0]

theorem g_block (t : Fin cfg0.N) (r : Fin 256) (s : Fin 256) :
    iblk m c 1 t (ix2 r s) = (m (c.tc.loc main_arg1)) (ix2 ⟨t.val * 256 + r.val, by have := points t; omega⟩ s) := by
  have h : iblk m c 1 t (ix2 r s) = V m c main_arg1 (ix2 ⟨t.val * 256 + r.val, by have := points t; omega⟩ s) := by
    show V m c main_arg1 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  rw [V_main_arg1]

theorem m_block (t : Fin cfg0.N) (r : Fin 256) (s : Fin 256) :
    iblk m c 2 t (ix2 r s) = (m (c.tc.loc main_arg2)) (ix2 ⟨t.val * 256 + r.val, by have := points t; omega⟩ s) := by
  have h : iblk m c 2 t (ix2 r s) = V m c main_arg2 (ix2 ⟨t.val * 256 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

theorem v_block (t : Fin cfg0.N) (r : Fin 256) (s : Fin 256) :
    iblk m c 3 t (ix2 r s) = (m (c.tc.loc main_arg3)) (ix2 ⟨t.val * 256 + r.val, by have := points t; omega⟩ s) := by
  have h : iblk m c 3 t (ix2 r s) = V m c main_arg3 (ix2 ⟨t.val * 256 + r.val, by have := points t; omega⟩ s) := by
    show V m c main_arg3 ((win0_3.rect t).emb (ix2 r s)) = _
    congr 1
    funext a
    apply Fin.ext
    refine (Pipeline.Window.rect_emb_val win0_3 t (ix2 r s) a).trans ?_
    rw [at3]
    fin_cases a
    · rfl
    · exact Nat.zero_add _
  refine h.trans ?_
  rw [V_main_arg3]

/-- The reference's array, as a function of the arguments. -/
abbrev G4 : S512x256.Idx → EReal := val_main_v23 (F := Ideal) (m (c.tc.loc main_arg0)) (m (c.tc.loc main_arg1)) (m (c.tc.loc main_arg2)) (m (c.tc.loc main_arg3))

theorem value4 (t : Fin cfg0.N) (r : Fin 256) (s : Fin 256) :
    out0_4 (iblk m c 0 t) (iblk m c 1 t) (iblk m c 2 t) (iblk m c 3 t) (ix2 r s) = G4 m c (ix2 ⟨t.val * 256 + r.val, by have := points t; omega⟩ s) := by
  unfold out0_4
  rw [View.canon_cons_unit_lit _ _ _ (by decide)]
  pointwise [k0_pay1, k0_pay2, k0_pay3, w_block, g_block, m_block, v_block, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try rfl

theorem result4 (t : Fin cfg0.N) (j : S256x256.Idx) :
    out0_4 (iblk m c 0 t) (iblk m c 1 t) (iblk m c 2 t) (iblk m c 3 t) j = G4 m c ((win0_4.rect t).emb j) := by
  idx_vars j
  rw [value4]
  congr 1
  funext a
  apply Fin.ext
  refine Eq.symm ((Pipeline.Window.rect_emb_val win0_4 t (ix2 j0 j1) a).trans ?_)
  rw [at4]
  fin_cases a
  · rfl
  · exact Nat.zero_add _

theorem inside4 (t : Fin cfg0.N) (i : S512x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v0_0).slice (win0_4.rect t)).set ↔ _
  rw [View.set_slice_whole, Rect.mem_set_unit]
  exact Iff.rfl

theorem covered4 (i : S512x256.Idx) : ∃ t : Fin cfg0.N, (cfg0.win 4).flush t = true ∧ i ∈ ((cfg0.win 4).blk t).view.set := by
  have h0 : (i 0).val < 512 := (i 0).isLt
  have h1 : (i 1).val < 256 := (i 1).isLt
  have hb : (i 0).val / 256 < 2 := by omega
  refine ⟨⟨(i 0).val / 256, by rw [show cfg0.N = 2 from N_0]; exact hb⟩, flush0_4 _, (inside4 _ _).mpr ?_⟩
  rw [at4]
  intro a
  fin_cases a
  · show ((i 0).val / 256) * 256 ≤ (i 0).val ∧ (i 0).val < ((i 0).val / 256) * 256 + 256; omega
  · show 0 * 256 ≤ (i 1).val ∧ (i 1).val < 0 * 256 + 256; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

/-- The reference's array, as a function of the arguments. -/
abbrev G5 : S512x256.Idx → EReal := val_main_v4 (F := Ideal) (m (c.tc.loc main_arg1)) (m (c.tc.loc main_arg2))

theorem value5 (t : Fin cfg0.N) (r : Fin 256) (s : Fin 256) :
    out0_5 (iblk m c 0 t) (iblk m c 1 t) (iblk m c 2 t) (iblk m c 3 t) (ix2 r s) = G5 m c (ix2 ⟨t.val * 256 + r.val, by have := points t; omega⟩ s) := by
  unfold out0_5
  rw [View.canon_cons_unit_lit _ _ _ (by decide)]
  pointwise [k0_pay1, k0_pay2, k0_pay3, w_block, g_block, m_block, v_block, val_main_cst, val_main_v0, val_main_v1, val_main_cst_0, val_main_v2, val_main_v3, val_main_v4]
  try rfl

theorem result5 (t : Fin cfg0.N) (j : S256x256.Idx) :
    out0_5 (iblk m c 0 t) (iblk m c 1 t) (iblk m c 2 t) (iblk m c 3 t) j = G5 m c ((win0_5.rect t).emb j) := by
  idx_vars j
  rw [value5]
  congr 1
  funext a
  apply Fin.ext
  refine Eq.symm ((Pipeline.Window.rect_emb_val win0_5 t (ix2 j0 j1) a).trans ?_)
  rw [at5]
  fin_cases a
  · rfl
  · exact Nat.zero_add _

theorem inside5 (t : Fin cfg0.N) (i : S512x256.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v0_1).slice (win0_5.rect t)).set ↔ _
  rw [View.set_slice_whole, Rect.mem_set_unit]
  exact Iff.rfl

theorem covered5 (i : S512x256.Idx) : ∃ t : Fin cfg0.N, (cfg0.win 5).flush t = true ∧ i ∈ ((cfg0.win 5).blk t).view.set := by
  have h0 : (i 0).val < 512 := (i 0).isLt
  have h1 : (i 1).val < 256 := (i 1).isLt
  have hb : (i 0).val / 256 < 2 := by omega
  refine ⟨⟨(i 0).val / 256, by rw [show cfg0.N = 2 from N_0]; exact hb⟩, flush0_5 _, (inside5 _ _).mpr ?_⟩
  rw [at5]
  intro a
  fin_cases a
  · show ((i 0).val / 256) * 256 ≤ (i 0).val ∧ (i 0).val < ((i 0).val / 256) * 256 + 256; omega
  · show 0 * 256 ≤ (i 1).val ∧ (i 1).val < 0 * 256 + 256; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

/-- The reference's array, as a function of the arguments. -/
abbrev G6 : S512x256.Idx → EReal := val_main_v10 (F := Ideal) (m (c.tc.loc main_arg1)) (m (c.tc.loc main_arg3))

theorem value6 (t : Fin cfg0.N) (r : Fin 256) (s : Fin 256) :
    out0_6 (iblk m c 0 t) (iblk m c 1 t) (iblk m c 2 t) (iblk m c 3 t) (ix2 r s) = G6 m c (ix2 ⟨t.val * 256 + r.val, by have := points t; omega⟩ s) := by
  unfold out0_6
  rw [View.canon_cons_unit_lit _ _ _ (by decide)]
  pointwise [k0_pay1, k0_pay2, k0_pay3, w_block, g_block, m_block, v_block, val_main_cst_1, val_main_v5, val_main_v6, val_main_v7, val_main_cst_2, val_main_v8, val_main_v9, val_main_v10]
  try rfl

theorem result6 (t : Fin cfg0.N) (j : S256x256.Idx) :
    out0_6 (iblk m c 0 t) (iblk m c 1 t) (iblk m c 2 t) (iblk m c 3 t) j = G6 m c ((win0_6.rect t).emb j) := by
  idx_vars j
  rw [value6]
  congr 1
  funext a
  apply Fin.ext
  refine Eq.symm ((Pipeline.Window.rect_emb_val win0_6 t (ix2 j0 j1) a).trans ?_)
  rw [at6]
  fin_cases a
  · rfl
  · exact Nat.zero_add _

theorem inside6 (t : Fin cfg0.N) (i : S512x256.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v0_2).slice (win0_6.rect t)).set ↔ _
  rw [View.set_slice_whole, Rect.mem_set_unit]
  exact Iff.rfl

theorem covered6 (i : S512x256.Idx) : ∃ t : Fin cfg0.N, (cfg0.win 6).flush t = true ∧ i ∈ ((cfg0.win 6).blk t).view.set := by
  have h0 : (i 0).val < 512 := (i 0).isLt
  have h1 : (i 1).val < 256 := (i 1).isLt
  have hb : (i 0).val / 256 < 2 := by omega
  refine ⟨⟨(i 0).val / 256, by rw [show cfg0.N = 2 from N_0]; exact hb⟩, flush0_6 _, (inside6 _ _).mpr ?_⟩
  rw [at6]
  intro a
  fin_cases a
  · show ((i 0).val / 256) * 256 ≤ (i 0).val ∧ (i 0).val < ((i 0).val / 256) * 256 + 256; omega
  · show 0 * 256 ≤ (i 1).val ∧ (i 1).val < 0 * 256 + 256; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

end Cert.Proof.OptUp

end
-- ==== Proof.OptOut.lean ====
/- The optimiser on a device's part of the output weights: the values of the kernel's arrays. -/
module

public import proofs.«01_k».proof.Proof.Gen.Kernel16Ideal.Value
public import proofs.«01_k».proof.Proof.Gen.Reference16Ideal.Read
public import proofs.«01_k».proof.Proof.Basis

@[expose] public section

set_option maxRecDepth 16384

noncomputable section

namespace Cert.Proof.OptOut

open Cert.Kernel16Ideal Cert.Kernel16Ideal.Gen Idealize.ShloMosaic Idealize.ShloMosaic.TcCoe Idealize.SL.Sem Cert.Reference16Ideal.Read

variable (m : (ℓ : Loc nD τ sig) → Buf (Elt Ideal) ℓ) (c : Dev nD)

theorem points (t : Fin cfg0.N) : t.val < 1 := t.isLt.trans_eq N_0

/-! The block that each window has at point `t` of the grid. -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel

theorem w_block (t : Fin cfg0.N) (r : Fin 256) (s : Fin 1024) :
    iblk m c 0 t (ix2 r s) = (m (c.tc.loc main_arg0)) (ix2 ⟨t.val * 256 + r.val, by have := points t; omega⟩ s) := by
  have h : iblk m c 0 t (ix2 r s) = V m c main_arg0 (ix2 ⟨t.val * 256 + r.val, by have := points t; omega⟩ s) := by
    show V m c main_arg0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg0]

theorem g_block (t : Fin cfg0.N) (r : Fin 256) (s : Fin 1024) :
    iblk m c 1 t (ix2 r s) = (m (c.tc.loc main_arg1)) (ix2 ⟨t.val * 256 + r.val, by have := points t; omega⟩ s) := by
  have h : iblk m c 1 t (ix2 r s) = V m c main_arg1 (ix2 ⟨t.val * 256 + r.val, by have := points t; omega⟩ s) := by
    show V m c main_arg1 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  rw [V_main_arg1]

theorem m_block (t : Fin cfg0.N) (r : Fin 256) (s : Fin 1024) :
    iblk m c 2 t (ix2 r s) = (m (c.tc.loc main_arg2)) (ix2 ⟨t.val * 256 + r.val, by have := points t; omega⟩ s) := by
  have h : iblk m c 2 t (ix2 r s) = V m c main_arg2 (ix2 ⟨t.val * 256 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

theorem v_block (t : Fin cfg0.N) (r : Fin 256) (s : Fin 1024) :
    iblk m c 3 t (ix2 r s) = (m (c.tc.loc main_arg3)) (ix2 ⟨t.val * 256 + r.val, by have := points t; omega⟩ s) := by
  have h : iblk m c 3 t (ix2 r s) = V m c main_arg3 (ix2 ⟨t.val * 256 + r.val, by have := points t; omega⟩ s) := by
    show V m c main_arg3 ((win0_3.rect t).emb (ix2 r s)) = _
    congr 1
    funext a
    apply Fin.ext
    refine (Pipeline.Window.rect_emb_val win0_3 t (ix2 r s) a).trans ?_
    rw [at3]
    fin_cases a
    · rfl
    · exact Nat.zero_add _
  refine h.trans ?_
  rw [V_main_arg3]

/-- The reference's array, as a function of the arguments. -/
abbrev G4 : S256x1024.Idx → EReal := val_main_v23 (F := Ideal) (m (c.tc.loc main_arg0)) (m (c.tc.loc main_arg1)) (m (c.tc.loc main_arg2)) (m (c.tc.loc main_arg3))

theorem value4 (t : Fin cfg0.N) (r : Fin 256) (s : Fin 1024) :
    out0_4 (iblk m c 0 t) (iblk m c 1 t) (iblk m c 2 t) (iblk m c 3 t) (ix2 r s) = G4 m c (ix2 ⟨t.val * 256 + r.val, by have := points t; omega⟩ s) := by
  unfold out0_4
  rw [View.canon_cons_unit_lit _ _ _ (by decide)]
  pointwise [k0_pay1, k0_pay2, k0_pay3, w_block, g_block, m_block, v_block, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try rfl

theorem result4 (t : Fin cfg0.N) (j : S256x1024.Idx) :
    out0_4 (iblk m c 0 t) (iblk m c 1 t) (iblk m c 2 t) (iblk m c 3 t) j = G4 m c ((win0_4.rect t).emb j) := by
  idx_vars j
  rw [value4]
  congr 1
  funext a
  apply Fin.ext
  refine Eq.symm ((Pipeline.Window.rect_emb_val win0_4 t (ix2 j0 j1) a).trans ?_)
  rw [at4]
  fin_cases a
  · rfl
  · exact Nat.zero_add _

theorem inside4 (t : Fin cfg0.N) (i : S256x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0_0).slice (win0_4.rect t)).set ↔ _
  rw [View.set_slice_whole, Rect.mem_set_unit]
  exact Iff.rfl

theorem covered4 (i : S256x1024.Idx) : ∃ t : Fin cfg0.N, (cfg0.win 4).flush t = true ∧ i ∈ ((cfg0.win 4).blk t).view.set := by
  have h0 : (i 0).val < 256 := (i 0).isLt
  have h1 : (i 1).val < 1024 := (i 1).isLt
  have hb : 0 < 1 := by omega
  refine ⟨⟨0, by rw [show cfg0.N = 1 from N_0]; exact hb⟩, flush0_4 _, (inside4 _ _).mpr ?_⟩
  rw [at4]
  intro a
  fin_cases a
  · show (0) * 256 ≤ (i 0).val ∧ (i 0).val < (0) * 256 + 256; omega
  · show 0 * 1024 ≤ (i 1).val ∧ (i 1).val < 0 * 1024 + 1024; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

/-- The reference's array, as a function of the arguments. -/
abbrev G5 : S256x1024.Idx → EReal := val_main_v4 (F := Ideal) (m (c.tc.loc main_arg1)) (m (c.tc.loc main_arg2))

theorem value5 (t : Fin cfg0.N) (r : Fin 256) (s : Fin 1024) :
    out0_5 (iblk m c 0 t) (iblk m c 1 t) (iblk m c 2 t) (iblk m c 3 t) (ix2 r s) = G5 m c (ix2 ⟨t.val * 256 + r.val, by have := points t; omega⟩ s) := by
  unfold out0_5
  rw [View.canon_cons_unit_lit _ _ _ (by decide)]
  pointwise [k0_pay1, k0_pay2, k0_pay3, w_block, g_block, m_block, v_block, val_main_cst, val_main_v0, val_main_v1, val_main_cst_0, val_main_v2, val_main_v3, val_main_v4]
  try rfl

theorem result5 (t : Fin cfg0.N) (j : S256x1024.Idx) :
    out0_5 (iblk m c 0 t) (iblk m c 1 t) (iblk m c 2 t) (iblk m c 3 t) j = G5 m c ((win0_5.rect t).emb j) := by
  idx_vars j
  rw [value5]
  congr 1
  funext a
  apply Fin.ext
  refine Eq.symm ((Pipeline.Window.rect_emb_val win0_5 t (ix2 j0 j1) a).trans ?_)
  rw [at5]
  fin_cases a
  · rfl
  · exact Nat.zero_add _

theorem inside5 (t : Fin cfg0.N) (i : S256x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v0_1).slice (win0_5.rect t)).set ↔ _
  rw [View.set_slice_whole, Rect.mem_set_unit]
  exact Iff.rfl

theorem covered5 (i : S256x1024.Idx) : ∃ t : Fin cfg0.N, (cfg0.win 5).flush t = true ∧ i ∈ ((cfg0.win 5).blk t).view.set := by
  have h0 : (i 0).val < 256 := (i 0).isLt
  have h1 : (i 1).val < 1024 := (i 1).isLt
  have hb : 0 < 1 := by omega
  refine ⟨⟨0, by rw [show cfg0.N = 1 from N_0]; exact hb⟩, flush0_5 _, (inside5 _ _).mpr ?_⟩
  rw [at5]
  intro a
  fin_cases a
  · show (0) * 256 ≤ (i 0).val ∧ (i 0).val < (0) * 256 + 256; omega
  · show 0 * 1024 ≤ (i 1).val ∧ (i 1).val < 0 * 1024 + 1024; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

/-- The reference's array, as a function of the arguments. -/
abbrev G6 : S256x1024.Idx → EReal := val_main_v10 (F := Ideal) (m (c.tc.loc main_arg1)) (m (c.tc.loc main_arg3))

theorem value6 (t : Fin cfg0.N) (r : Fin 256) (s : Fin 1024) :
    out0_6 (iblk m c 0 t) (iblk m c 1 t) (iblk m c 2 t) (iblk m c 3 t) (ix2 r s) = G6 m c (ix2 ⟨t.val * 256 + r.val, by have := points t; omega⟩ s) := by
  unfold out0_6
  rw [View.canon_cons_unit_lit _ _ _ (by decide)]
  pointwise [k0_pay1, k0_pay2, k0_pay3, w_block, g_block, m_block, v_block, val_main_cst_1, val_main_v5, val_main_v6, val_main_v7, val_main_cst_2, val_main_v8, val_main_v9, val_main_v10]
  try rfl

theorem result6 (t : Fin cfg0.N) (j : S256x1024.Idx) :
    out0_6 (iblk m c 0 t) (iblk m c 1 t) (iblk m c 2 t) (iblk m c 3 t) j = G6 m c ((win0_6.rect t).emb j) := by
  idx_vars j
  rw [value6]
  congr 1
  funext a
  apply Fin.ext
  refine Eq.symm ((Pipeline.Window.rect_emb_val win0_6 t (ix2 j0 j1) a).trans ?_)
  rw [at6]
  fin_cases a
  · rfl
  · exact Nat.zero_add _

theorem inside6 (t : Fin cfg0.N) (i : S256x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0_2).slice (win0_6.rect t)).set ↔ _
  rw [View.set_slice_whole, Rect.mem_set_unit]
  exact Iff.rfl

theorem covered6 (i : S256x1024.Idx) : ∃ t : Fin cfg0.N, (cfg0.win 6).flush t = true ∧ i ∈ ((cfg0.win 6).blk t).view.set := by
  have h0 : (i 0).val < 256 := (i 0).isLt
  have h1 : (i 1).val < 1024 := (i 1).isLt
  have hb : 0 < 1 := by omega
  refine ⟨⟨0, by rw [show cfg0.N = 1 from N_0]; exact hb⟩, flush0_6 _, (inside6 _ _).mpr ?_⟩
  rw [at6]
  intro a
  fin_cases a
  · show (0) * 256 ≤ (i 0).val ∧ (i 0).val < (0) * 256 + 256; omega
  · show 0 * 1024 ≤ (i 1).val ∧ (i 1).val < 0 * 1024 + 1024; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

end Cert.Proof.OptOut

end
-- ==== Proof.Claims2.lean ====
/- The value claims of the optimiser. -/
module

public import proofs.«01_k».proof.Defs
public import proofs.«01_k».proof.Proof.OptFfn
public import proofs.«01_k».proof.Proof.Gen.Reference12Ideal.Run
public import proofs.«01_k».proof.Proof.OptIn
public import proofs.«01_k».proof.Proof.Gen.Reference13Ideal.Run
public import proofs.«01_k».proof.Proof.OptGate
public import proofs.«01_k».proof.Proof.Gen.Reference14Ideal.Run
public import proofs.«01_k».proof.Proof.OptUp
public import proofs.«01_k».proof.Proof.Gen.Reference15Ideal.Run
public import proofs.«01_k».proof.Proof.OptOut
public import proofs.«01_k».proof.Proof.Gen.Reference16Ideal.Run

@[expose] public section

set_option maxRecDepth 16384

noncomputable section

namespace Cert.Proof

open Idealize.ShloMosaic Idealize.ShloMosaic.TcCoe Idealize.SL.Sem

theorem affn_value : Cert.algebraic_Kernel12Ideal_Reference12Ideal := by
  intro m g m' g' hpre hargs
  refine ⟨fun c => OptFfn.G10 m c, fun c => OptFfn.G11 m c, fun c => OptFfn.G12 m c, fun c => OptFfn.G13 m c, fun c => OptFfn.G14 m c, fun c => OptFfn.G15 m c, fun c => OptFfn.G16 m c, fun c => OptFfn.G17 m c, fun c => OptFfn.G18 m c,
    (θ_run _ _ _).mono (fun r h c => ?_) (Cert.Kernel12Ideal.Value.run_blocks m g),
    (θ_run _ _ _).mono (fun r h c => ?_) (Cert.Reference12Ideal.Value.run m' g')⟩
  · obtain ⟨h0, h1, h2, h3, h4, h5, h6, h7, h8, ha⟩ := h c
    exact ⟨h0.trans (OptFfn.final10 m c), h1.trans (OptFfn.final11 m c), h2.trans (OptFfn.final12 m c), h3.trans (OptFfn.final13 m c), h4.trans (OptFfn.final14 m c), h5.trans (OptFfn.final15 m c), h6.trans (OptFfn.final16 m c), h7.trans (OptFfn.final17 m c), h8.trans (OptFfn.final18 m c), ha⟩
  · obtain ⟨h0, h1, h2, h3, h4, h5, h6, h7, h8, ha⟩ := h c
    obtain ⟨e0, e1, e2, e3, e4, e5, e6, e7, e8, e9, e10, e11⟩ := hargs c
    refine ⟨h0.trans ?_, h1.trans ?_, h2.trans ?_, h3.trans ?_, h4.trans ?_, h5.trans ?_, h6.trans ?_, h7.trans ?_, h8.trans ?_, ha⟩
    · rw [e0, e3, e6, e9]; rfl
    · rw [e1, e4, e7, e10]; rfl
    · rw [e2, e5, e8, e11]; rfl
    · rw [e3, e6]; rfl
    · rw [e4, e7]; rfl
    · rw [e5, e8]; rfl
    · rw [e3, e9]; rfl
    · rw [e4, e10]; rfl
    · rw [e5, e11]; rfl

theorem ain_value : Cert.algebraic_Kernel13Ideal_Reference13Ideal := by
  intro m g m' g' hpre hargs
  refine ⟨fun c => OptIn.G4 m c, fun c => OptIn.G5 m c, fun c => OptIn.G6 m c,
    (θ_run _ _ _).mono (fun r h c => ?_) (Cert.Kernel13Ideal.Value.run_blocks m g),
    (θ_run _ _ _).mono (fun r h c => ?_) (Cert.Reference13Ideal.Value.run m' g')⟩
  · obtain ⟨h0, h1, h2, ha⟩ := h c
    exact ⟨h0.trans (OptIn.final4 m c), h1.trans (OptIn.final5 m c), h2.trans (OptIn.final6 m c), ha⟩
  · obtain ⟨h0, h1, h2, ha⟩ := h c
    obtain ⟨e0, e1, e2, e3⟩ := hargs c
    refine ⟨h0.trans ?_, h1.trans ?_, h2.trans ?_, ha⟩
    · rw [e0, e1, e2, e3]; rfl
    · rw [e1, e2]; rfl
    · rw [e1, e3]; rfl

theorem agate_value : Cert.algebraic_Kernel14Ideal_Reference14Ideal := by
  intro m g m' g' hpre hargs
  refine ⟨fun c => OptGate.G4 m c, fun c => OptGate.G5 m c, fun c => OptGate.G6 m c,
    (θ_run _ _ _).mono (fun r h c => ?_) (Cert.Kernel14Ideal.Value.run_blocks m g),
    (θ_run _ _ _).mono (fun r h c => ?_) (Cert.Reference14Ideal.Value.run m' g')⟩
  · obtain ⟨h0, h1, h2, ha⟩ := h c
    exact ⟨h0.trans (OptGate.final4 m c), h1.trans (OptGate.final5 m c), h2.trans (OptGate.final6 m c), ha⟩
  · obtain ⟨h0, h1, h2, ha⟩ := h c
    obtain ⟨e0, e1, e2, e3⟩ := hargs c
    refine ⟨h0.trans ?_, h1.trans ?_, h2.trans ?_, ha⟩
    · rw [e0, e1, e2, e3]; rfl
    · rw [e1, e2]; rfl
    · rw [e1, e3]; rfl

theorem aup_value : Cert.algebraic_Kernel15Ideal_Reference15Ideal := by
  intro m g m' g' hpre hargs
  refine ⟨fun c => OptUp.G4 m c, fun c => OptUp.G5 m c, fun c => OptUp.G6 m c,
    (θ_run _ _ _).mono (fun r h c => ?_) (Cert.Kernel15Ideal.Value.run_blocks m g),
    (θ_run _ _ _).mono (fun r h c => ?_) (Cert.Reference15Ideal.Value.run m' g')⟩
  · obtain ⟨h0, h1, h2, ha⟩ := h c
    exact ⟨h0.trans (OptUp.final4 m c), h1.trans (OptUp.final5 m c), h2.trans (OptUp.final6 m c), ha⟩
  · obtain ⟨h0, h1, h2, ha⟩ := h c
    obtain ⟨e0, e1, e2, e3⟩ := hargs c
    refine ⟨h0.trans ?_, h1.trans ?_, h2.trans ?_, ha⟩
    · rw [e0, e1, e2, e3]; rfl
    · rw [e1, e2]; rfl
    · rw [e1, e3]; rfl

theorem aout_value : Cert.algebraic_Kernel16Ideal_Reference16Ideal := by
  intro m g m' g' hpre hargs
  refine ⟨fun c => OptOut.G4 m c, fun c => OptOut.G5 m c, fun c => OptOut.G6 m c,
    (θ_run _ _ _).mono (fun r h c => ?_) (Cert.Kernel16Ideal.Value.run_blocks m g),
    (θ_run _ _ _).mono (fun r h c => ?_) (Cert.Reference16Ideal.Value.run m' g')⟩
  · obtain ⟨h0, h1, h2, ha⟩ := h c
    exact ⟨h0.trans (OptOut.final4 m c), h1.trans (OptOut.final5 m c), h2.trans (OptOut.final6 m c), ha⟩
  · obtain ⟨h0, h1, h2, ha⟩ := h c
    obtain ⟨e0, e1, e2, e3⟩ := hargs c
    refine ⟨h0.trans ?_, h1.trans ?_, h2.trans ?_, ha⟩
    · rw [e0, e1, e2, e3]; rfl
    · rw [e1, e2]; rfl
    · rw [e1, e3]; rfl

end Cert.Proof

end
-- ==== Proof.Reals.lean ====
/- Facts on extended reals that are real numbers: what a precondition says that the comparison of every `|x|` with
   infinity states, and the closure of the real numbers under the operations of the kernels. -/
module

public import proofs.«01_k».proof.Proof.Basis
public import Mathlib.Algebra.BigOperators.Group.Finset.Basic

@[expose] public section

noncomputable section

namespace Cert.Proof

open Idealize.ShloMosaic

/-- An extended real that is a real number. -/
def IsReal (x : EReal) : Prop := ∃ r : ℝ, x = (r : EReal)

theorem top_bits : Ideal.ofBits .f32 0x7F800000#32 = ⊤ := by simp [Ideal.ofBits, Ideal.ieee]

theorem isReal_of_lt (x : EReal) (h : Ideal.cmp .olt (max x (-x)) (Ideal.ofBits .f32 0x7F800000#32) = 1#1) : IsReal x := by
  rw [top_bits] at h
  induction x with
  | bot => simp [Ideal.cmp] at h
  | top => simp [Ideal.cmp] at h
  | coe r => exact ⟨r, rfl⟩

theorem half_bits : Ideal.ofBits .f32 0x3F000000#32 = ((1 / 2 : ℝ) : EReal) := by
  simp [Ideal.ofBits, Ideal.ieee]
  norm_cast
  norm_num

theorem IsReal.half : IsReal (Ideal.ofBits .f32 0x3F000000#32) := ⟨1 / 2, half_bits⟩

theorem IsReal.one : IsReal 1 := ⟨1, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, rfl⟩

theorem IsReal.mul {x y : EReal} (hx : IsReal x) (hy : IsReal y) : IsReal (x * y) := by
  obtain ⟨a, rfl⟩ := hx
  obtain ⟨b, rfl⟩ := hy
  exact ⟨a * b, rfl⟩

theorem IsReal.neg {x : EReal} (hx : IsReal x) : IsReal (-x) := by
  obtain ⟨a, rfl⟩ := hx
  exact ⟨-a, rfl⟩

theorem IsReal.sub {x y : EReal} (hx : IsReal x) (hy : IsReal y) : IsReal (x - y) := by
  obtain ⟨a, rfl⟩ := hx
  obtain ⟨b, rfl⟩ := hy
  exact ⟨a - b, rfl⟩

theorem IsReal.sum {ι : Type} [Fintype ι] (f : ι → EReal) (h : ∀ i, IsReal (f i)) : IsReal (∑ i, f i) := by
  exact Finset.sum_induction f IsReal (fun _ _ => IsReal.add) IsReal.zero (fun i _ => h i)

theorem IsReal.sigmoid {x : EReal} (hx : IsReal x) : IsReal (Ideal.div 1 (1 + Ideal.exp (-x))) := by
  obtain ⟨a, rfl⟩ := hx
  exact ⟨_, Ideal.logistic_coe a⟩

/-- The derivative of `x · σ(x)`, written as one product and as the sum that the product rule gives. -/
theorem gate_grad {d a s : EReal} (hd : IsReal d) (ha : IsReal a) (hs : IsReal s) :
    d * (s * (1 + a * (1 - s))) = d * s + a * d * (s * (1 - s)) := by
  obtain ⟨d, rfl⟩ := hd
  obtain ⟨a, rfl⟩ := ha
  obtain ⟨s, rfl⟩ := hs
  norm_cast
  ring

end Cert.Proof

end
-- ==== Proof.Act.lean ====
/- The gradient of the gated activation: the values of the kernel's arrays. -/
module

public import proofs.«01_k».proof.Proof.Gen.KernelIdeal.Value
public import proofs.«01_k».proof.Proof.Gen.ReferenceIdeal.Read
public import proofs.«01_k».proof.Proof.Basis
public import proofs.«01_k».proof.Defs
public import proofs.«01_k».proof.Proof.Gen.Pre_act_finite
public import proofs.«01_k».proof.Proof.Reals

@[expose] public section

set_option maxRecDepth 16384

noncomputable section

namespace Cert.Proof.Act

open Cert.KernelIdeal Cert.KernelIdeal.Gen Idealize.ShloMosaic Idealize.ShloMosaic.TcCoe Idealize.SL.Sem Cert.ReferenceIdeal.Read

variable (m : (ℓ : Loc nD τ sig) → Buf (Elt Ideal) ℓ) (c : Dev nD)

theorem points (t : Fin cfg0.N) : t.val < 16 := t.isLt.trans_eq N_0

/-! The block that each window has at point `t` of the grid. -/

theorem at0 : ∀ t : Fin grid0.N, win0_0.index t = ![t.val % 4, 0] := by decide +kernel
theorem at1 : ∀ t : Fin grid0.N, win0_1.index t = ![t.val / 4, 2, 0, 0] := by decide +kernel
theorem at2 : ∀ t : Fin grid0.N, win0_2.index t = ![t.val / 4, t.val % 4, 0] := by decide +kernel
theorem at3 : ∀ t : Fin grid0.N, win0_3.index t = ![t.val / 4, t.val % 4, 0] := by decide +kernel
theorem at4 : ∀ t : Fin grid0.N, win0_4.index t = ![t.val / 4, t.val % 4, 0] := by decide +kernel
theorem at5 : ∀ t : Fin grid0.N, win0_5.index t = ![t.val / 4, t.val % 4, 0] := by decide +kernel

theorem dx_block (t : Fin cfg0.N) (r : Fin 512) (s : Fin 1024) :
    iblk m c 0 t (ix2 r s) = (m (c.tc.loc main_arg5)) (ix2 ⟨t.val % 4 * 512 + r.val, by have := points t; omega⟩ s) := by
  have h : iblk m c 0 t (ix2 r s) = V m c main_arg5 (ix2 ⟨t.val % 4 * 512 + r.val, by have := points t; omega⟩ s) := by
    show V m c main_arg5 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg5]

theorem w_block (t : Fin cfg0.N) (r : Fin 1) (s : Fin 1) (u : Fin 704) (v : Fin 1024) :
    iblk m c 1 t (ix4 r s u v) = (m (c.tc.loc main_arg4)) (ix2 ⟨t.val / 4 * 704 + u.val, by have := points t; omega⟩ v) := by
  have h : iblk m c 1 t (ix4 r s u v) = V m c main_v9 (ix4 ⟨t.val / 4, by have := points t; omega⟩ 2 u v) := by
    show V m c main_v9 ((win0_1.rect t).emb (ix4 r s u v)) = _
    congr 1
    funext a
    apply Fin.ext
    refine (Pipeline.Window.rect_emb_val win0_1 t (ix4 r s u v) a).trans ?_
    rw [at1]
    fin_cases a
    · show t.val / 4 * 1 + r.val = t.val / 4; omega
    · show 2 * 1 + s.val = 2; omega
    · exact Nat.zero_add _
    · exact Nat.zero_add _
  refine h.trans ?_
  have := points t
  unfold V
  after_reads_at
  after_reads_at

theorem a_block (t : Fin cfg0.N) (r : Fin 1) (s : Fin 512) (u : Fin 704) :
    iblk m c 2 t (ix3 r s u) = (m (c.tc.loc main_arg0)) (ix2 ⟨t.val % 4 * 512 + s.val, by have := points t; omega⟩ ⟨t.val / 4 * 704 + u.val, by have := points t; omega⟩) := by
  have h : iblk m c 2 t (ix3 r s u) = V m c main_v12 (ix3 ⟨t.val / 4, by have := points t; omega⟩ ⟨t.val % 4 * 512 + s.val, by have := points t; omega⟩ u) := by
    show V m c main_v12 ((win0_2.rect t).emb (ix3 r s u)) = _
    congr 1
    funext a
    apply Fin.ext
    refine (Pipeline.Window.rect_emb_val win0_2 t (ix3 r s u) a).trans ?_
    rw [at2]
    fin_cases a
    · show t.val / 4 * 1 + r.val = t.val / 4; omega
    · rfl
    · exact Nat.zero_add _
  refine h.trans ?_
  have := points t
  unfold V
  after_reads_at

theorem b_block (t : Fin cfg0.N) (r : Fin 1) (s : Fin 512) (u : Fin 704) :
    iblk m c 3 t (ix3 r s u) = (m (c.tc.loc main_arg1)) (ix2 ⟨t.val % 4 * 512 + s.val, by have := points t; omega⟩ ⟨t.val / 4 * 704 + u.val, by have := points t; omega⟩) := by
  have h : iblk m c 3 t (ix3 r s u) = V m c main_v15 (ix3 ⟨t.val / 4, by have := points t; omega⟩ ⟨t.val % 4 * 512 + s.val, by have := points t; omega⟩ u) := by
    show V m c main_v15 ((win0_3.rect t).emb (ix3 r s u)) = _
    congr 1
    funext a
    apply Fin.ext
    refine (Pipeline.Window.rect_emb_val win0_3 t (ix3 r s u) a).trans ?_
    rw [at3]
    fin_cases a
    · show t.val / 4 * 1 + r.val = t.val / 4; omega
    · rfl
    · exact Nat.zero_add _
  refine h.trans ?_
  have := points t
  unfold V
  after_reads_at

/-- The arguments that the precondition names hold real numbers. -/
def Finite : Prop :=
  (∀ i, IsReal ((m (c.tc.loc main_arg0)) i)) ∧ (∀ i, IsReal ((m (c.tc.loc main_arg1)) i)) ∧ (∀ i, IsReal ((m (c.tc.loc main_arg4)) i)) ∧ (∀ i, IsReal ((m (c.tc.loc main_arg5)) i))

theorem finite (h : Cert.Pre_KernelIdeal_act_finite m) (c : Dev nD) : Finite m c := by
  obtain ⟨h0, h1, h4, h5⟩ := h c
  exact ⟨fun i => isReal_of_lt _ (congrFun h0 i), fun i => isReal_of_lt _ (congrFun h1 i), fun i => isReal_of_lt _ (congrFun h4 i), fun i => isReal_of_lt _ (congrFun h5 i)⟩

/-- The reference's array, as a function of the arguments. -/
abbrev G4 : S4x2048x704.Idx → EReal := val_main_v13 (F := Ideal) (m (c.tc.loc main_arg0)) (m (c.tc.loc main_arg1)) (m (c.tc.loc main_arg4)) (m (c.tc.loc main_arg5))

theorem value4 (hf : Finite m c) (t : Fin cfg0.N) (r : Fin 1) (s : Fin 512) (u : Fin 704) :
    out0_4 (iblk m c 0 t) (iblk m c 1 t) (iblk m c 2 t) (iblk m c 3 t) (ix3 r s u) = G4 m c (ix3 ⟨t.val / 4, by have := points t; omega⟩ ⟨t.val % 4 * 512 + s.val, by have := points t; omega⟩ u) := by
  unfold out0_4
  rw [View.canon_cons_unit_lit _ _ _ (by decide)]
  pointwise [k0_pay1, k0_pay2, k0_pay3, k0_pay4, k0_pay5, k0_pay6, dx_block, w_block, a_block, b_block, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_cst, val_main_v3, val_main_v4, val_main_cst_0, val_main_v5, val_main_v6, val_main_v7, val_main_v8, val_main_v9, val_main_call1_v0, val_main_call1_v1, val_main_call1_v2, val_main_v10, val_main_v11, val_main_v12, val_main_v13, val_main_v14, val_main_v15, val_main_v16]
  simp only [zero_sub]
  obtain ⟨ha, hb, hw, hd⟩ := hf
  exact gate_grad ((IsReal.sum _ fun x => (IsReal.half.mul (hd _)).mul (hw _)).mul (hb _)) (ha _) (ha _).sigmoid

theorem result4 (hf : Finite m c) (t : Fin cfg0.N) (j : S1x512x704.Idx) :
    out0_4 (iblk m c 0 t) (iblk m c 1 t) (iblk m c 2 t) (iblk m c 3 t) j = G4 m c ((win0_4.rect t).emb j) := by
  idx_vars j
  rw [value4 m c hf]
  congr 1
  funext a
  apply Fin.ext
  refine Eq.symm ((Pipeline.Window.rect_emb_val win0_4 t (ix3 j0 j1 j2) a).trans ?_)
  rw [at4]
  fin_cases a
  · show t.val / 4 * 1 + j0.val = t.val / 4; omega
  · rfl
  · exact Nat.zero_add _

theorem inside4 (t : Fin cfg0.N) (i : S4x2048x704.Idx) :
    i ∈ ((cfg0.win 4).blk t).view.set ↔ ∀ a : Fin 3, win0_4.index t a * S1x512x704.size a ≤ (i a).val ∧ (i a).val < win0_4.index t a * S1x512x704.size a + S1x512x704.size a := by
  show i ∈ ((View.whole main_v16_0).slice (win0_4.rect t)).set ↔ _
  rw [View.set_slice_whole, Rect.mem_set_unit]
  exact Iff.rfl

theorem covered4 (i : S4x2048x704.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 704 := (i 2).isLt
  have hb : (i 0).val * 4 + (i 1).val / 512 < 16 := by omega
  refine ⟨⟨(i 0).val * 4 + (i 1).val / 512, by rw [show cfg0.N = 16 from N_0]; exact hb⟩, flush0_4 _, (inside4 _ _).mpr ?_⟩
  rw [at4]
  intro a
  fin_cases a
  · show ((i 0).val * 4 + (i 1).val / 512) / 4 * 1 ≤ (i 0).val ∧ (i 0).val < ((i 0).val * 4 + (i 1).val / 512) / 4 * 1 + 1; omega
  · show ((i 0).val * 4 + (i 1).val / 512) % 4 * 512 ≤ (i 1).val ∧ (i 1).val < ((i 0).val * 4 + (i 1).val / 512) % 4 * 512 + 512; omega
  · show 0 * 704 ≤ (i 2).val ∧ (i 2).val < 0 * 704 + 704; omega

theorem final4 (hf : Finite m c) : (dats m 0 c).arrAt 4 cfg0.N = G4 m c := by
  refine Pipeline.Dat.arrAt_eq_of_cover (dats m 0 c) 4 (G4 m c) (fun t _ => ?_) (covered4)
  rw [Value.flushed4]
  funext j
  exact result4 m c hf t j

/-- The reference's array, as a function of the arguments. -/
abbrev G5 : S4x2048x704.Idx → EReal := val_main_v16 (F := Ideal) (m (c.tc.loc main_arg0)) (m (c.tc.loc main_arg4)) (m (c.tc.loc main_arg5))

theorem value5 (t : Fin cfg0.N) (r : Fin 1) (s : Fin 512) (u : Fin 704) :
    out0_5 (iblk m c 0 t) (iblk m c 1 t) (iblk m c 2 t) (iblk m c 3 t) (ix3 r s u) = G5 m c (ix3 ⟨t.val / 4, by have := points t; omega⟩ ⟨t.val % 4 * 512 + s.val, by have := points t; omega⟩ u) := by
  unfold out0_5
  rw [View.canon_cons_unit_lit _ _ _ (by decide)]
  pointwise [k0_pay1, k0_pay2, k0_pay3, k0_pay4, k0_pay5, k0_pay6, dx_block, w_block, a_block, b_block, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_cst, val_main_v3, val_main_v4, val_main_cst_0, val_main_v5, val_main_v6, val_main_v7, val_main_v8, val_main_v9, val_main_call1_v0, val_main_call1_v1, val_main_call1_v2, val_main_v10, val_main_v11, val_main_v12, val_main_v13, val_main_v14, val_main_v15, val_main_v16]
  simp only [zero_sub]
  exact mul_comm _ _

theorem result5 (t : Fin cfg0.N) (j : S1x512x704.Idx) :
    out0_5 (iblk m c 0 t) (iblk m c 1 t) (iblk m c 2 t) (iblk m c 3 t) j = G5 m c ((win0_5.rect t).emb j) := by
  idx_vars j
  rw [value5]
  congr 1
  funext a
  apply Fin.ext
  refine Eq.symm ((Pipeline.Window.rect_emb_val win0_5 t (ix3 j0 j1 j2) a).trans ?_)
  rw [at5]
  fin_cases a
  · show t.val / 4 * 1 + j0.val = t.val / 4; omega
  · rfl
  · exact Nat.zero_add _

theorem inside5 (t : Fin cfg0.N) (i : S4x2048x704.Idx) :
    i ∈ ((cfg0.win 5).blk t).view.set ↔ ∀ a : Fin 3, win0_5.index t a * S1x512x704.size a ≤ (i a).val ∧ (i a).val < win0_5.index t a * S1x512x704.size a + S1x512x704.size a := by
  show i ∈ ((View.whole main_v16_1).slice (win0_5.rect t)).set ↔ _
  rw [View.set_slice_whole, Rect.mem_set_unit]
  exact Iff.rfl

theorem covered5 (i : S4x2048x704.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 704 := (i 2).isLt
  have hb : (i 0).val * 4 + (i 1).val / 512 < 16 := by omega
  refine ⟨⟨(i 0).val * 4 + (i 1).val / 512, by rw [show cfg0.N = 16 from N_0]; exact hb⟩, flush0_5 _, (inside5 _ _).mpr ?_⟩
  rw [at5]
  intro a
  fin_cases a
  · show ((i 0).val * 4 + (i 1).val / 512) / 4 * 1 ≤ (i 0).val ∧ (i 0).val < ((i 0).val * 4 + (i 1).val / 512) / 4 * 1 + 1; omega
  · show ((i 0).val * 4 + (i 1).val / 512) % 4 * 512 ≤ (i 1).val ∧ (i 1).val < ((i 0).val * 4 + (i 1).val / 512) % 4 * 512 + 512; omega
  · show 0 * 704 ≤ (i 2).val ∧ (i 2).val < 0 * 704 + 704; omega

theorem final5 : (dats m 0 c).arrAt 5 cfg0.N = G5 m c := by
  refine Pipeline.Dat.arrAt_eq_of_cover (dats m 0 c) 5 (G5 m c) (fun t _ => ?_) (covered5)
  rw [Value.flushed5]
  funext j
  exact result5 m c t j

end Cert.Proof.Act

end
-- ==== Proof.Pieces.lean ====
/- Three stores, each of one row of an array of three rows: what the array holds at an index. -/
module

public import proofs.«01_k».proof.Proof.Basis

@[expose] public section

noncomputable section

namespace Cert.Proof

open Idealize.ShloMosaic

section
variable {Val : EltTy → Type} [∀ e, Nonempty (Val e)] {e : EltTy} {k n p : Nat}

/-- A store of row `g` is read in that row. -/
theorem row_here (g : Fin k) {off : Fin 3 → Nat} (ho : off = ![g.val, 0, 0]) (inb : ∀ a, off a + (![1, n, p] : Fin 3 → Nat) a ≤ (⟨3, ![k, n, p]⟩ : Shape).size a)
    (w : (⟨3, ![1, n, p]⟩ : Shape).Idx → Val e) (L : List (View.Piece Val (⟨3, ![k, n, p]⟩ : Shape) e)) (r : Fin n) (s : Fin p) :
    View.canon (⟨Rect.unit (s := (⟨3, ![k, n, p]⟩ : Shape)) off ![1, n, p] inb, w⟩ :: L) (ix3 g r s) = w (ix3 0 r s) := by
  subst ho
  have h : (ix3 g r s : (⟨3, ![k, n, p]⟩ : Shape).Idx) = (Rect.unit (s := (⟨3, ![k, n, p]⟩ : Shape)) ![g.val, 0, 0] ![1, n, p] inb).emb (ix3 0 r s) := by
    funext a
    apply Fin.ext
    fin_cases a
    · show g.val = g.val + 1 * 0; omega
    · show r.val = 0 + 1 * r.val; omega
    · show s.val = 0 + 1 * s.val; omega
  rw [h]
  exact View.canon_cons_emb (Rect.unit (s := (⟨3, ![k, n, p]⟩ : Shape)) ![g.val, 0, 0] ![1, n, p] inb) w L (ix3 0 r s)

/-- A store of another row is not. -/
theorem row_other (g g' : Fin k) (hg : g ≠ g') {off : Fin 3 → Nat} (ho : off = ![g'.val, 0, 0]) (inb : ∀ a, off a + (![1, n, p] : Fin 3 → Nat) a ≤ (⟨3, ![k, n, p]⟩ : Shape).size a)
    (w : (⟨3, ![1, n, p]⟩ : Shape).Idx → Val e) (L : List (View.Piece Val (⟨3, ![k, n, p]⟩ : Shape) e)) (r : Fin n) (s : Fin p) :
    View.canon (⟨Rect.unit (s := (⟨3, ![k, n, p]⟩ : Shape)) off ![1, n, p] inb, w⟩ :: L) (ix3 g r s) = View.canon L (ix3 g r s) := by
  subst ho
  refine View.canon_cons_of_not_mem _ L fun hm => hg (Fin.ext ?_)
  rw [Rect.mem_set_unit] at hm
  have h := hm 0
  have h1 : g'.val ≤ g.val := h.1
  have h2 : g.val < g'.val + 1 := h.2
  omega

/-- A load of row `g` of contents `X` reads them in that row. -/
theorem row_load (g : Fin k) {off : Fin 3 → Nat} (ho : off = ![g.val, 0, 0]) (inb : ∀ a, off a + (![1, n, p] : Fin 3 → Nat) a ≤ (⟨3, ![k, n, p]⟩ : Shape).size a)
    (X : (⟨3, ![k, n, p]⟩ : Shape).Idx → Val e) (q : Fin 1) (r : Fin n) (s : Fin p) :
    View.ld X (Rect.unit (s := (⟨3, ![k, n, p]⟩ : Shape)) off ![1, n, p] inb) (ix3 q r s) = X (ix3 g r s) := by
  subst ho
  refine View.ld_unit_apply_of X _ _ inb (ix3 q r s) (ix3 g r s) fun a => ?_
  have := q.isLt
  fin_cases a
  · show g.val = g.val + q.val; omega
  · show r.val = 0 + r.val; omega
  · show s.val = 0 + s.val; omega

/-- A load of the whole array reads what the stores left. -/
theorem whole_read {sig : RefSig} {κ : Kind} {sp : Space} (v : View sig κ sp (⟨3, ![k, n, p]⟩ : Shape) e) (L : List (View.Piece Val (⟨3, ![k, n, p]⟩ : Shape) e))
    (inb : ∀ a, (![0, 0, 0] : Fin 3 → Nat) a + (![k, n, p] : Fin 3 → Nat) a ≤ (⟨3, ![k, n, p]⟩ : Shape).size a) :
    v.readCov L (Rect.unit (s := (⟨3, ![k, n, p]⟩ : Shape)) ![0, 0, 0] ![k, n, p] inb).toLoadRect = View.canon L := by
  rw [View.readCov_eq_canon']
  funext j
  congr 1
  funext a
  apply Fin.ext
  fin_cases a
  · show 0 + 1 * (j 0).val = (j 0).val; omega
  · show 0 + 1 * (j 1).val = (j 1).val; omega
  · show 0 + 1 * (j 2).val = (j 2).val; omega

end

end Cert.Proof

end
-- ==== Proof.WGrad.lean ====
/- The gradients of a feed-forward half's three weights: the values of the kernel's array. -/
module

public import proofs.«01_k».proof.Proof.Gen.Kernel2Ideal.Value
public import proofs.«01_k».proof.Proof.Gen.Reference2Ideal.Read
public import proofs.«01_k».proof.Proof.Basis
public import proofs.«01_k».proof.Proof.Pieces

@[expose] public section

set_option maxRecDepth 16384

noncomputable section

namespace Cert.Proof.WGrad

open Cert.Kernel2Ideal Cert.Kernel2Ideal.Gen Idealize.ShloMosaic Idealize.ShloMosaic.TcCoe Idealize.SL.Sem Cert.Reference2Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val % 2, 0] := by decide +kernel
theorem at1 : ∀ t : Fin grid0.N, win0_1.index t = ![t.val / 2, t.val % 2, 0] := by decide +kernel
theorem at2 : ∀ t : Fin grid0.N, win0_2.index t = ![t.val / 2, t.val % 2, 0] := by decide +kernel
theorem at3 : ∀ t : Fin grid0.N, win0_3.index t = ![t.val / 2, t.val % 2, 0] := by decide +kernel
theorem at4 : ∀ t : Fin grid0.N, win0_4.index t = ![t.val % 2, 0] := by decide +kernel
theorem at5 : ∀ t : Fin grid0.N, win0_5.index t = ![t.val / 2, 0, 0, 0] := by decide +kernel

theorem h_block (t : Fin cfg0.N) (r : Fin 1024) (s : Fin 1024) :
    iblk m c 0 t (ix2 r s) = (m (c.tc.loc main_arg0)) (ix2 ⟨t.val % 2 * 1024 + r.val, by have := points t; omega⟩ s) := by
  have h : iblk m c 0 t (ix2 r s) = V m c main_v0 (ix2 ⟨t.val % 2 * 1024 + r.val, by have := points t; omega⟩ s) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem da_block (t : Fin cfg0.N) (r : Fin 1) (s : Fin 1024) (u : Fin 704) :
    iblk m c 1 t (ix3 r s u) = (m (c.tc.loc main_arg1)) (ix2 ⟨t.val % 2 * 1024 + s.val, by have := points t; omega⟩ ⟨t.val / 2 * 704 + u.val, by have := points t; omega⟩) := by
  have h : iblk m c 1 t (ix3 r s u) = V m c main_v3 (ix3 ⟨t.val / 2, by have := points t; omega⟩ ⟨t.val % 2 * 1024 + s.val, by have := points t; omega⟩ u) := by
    show V m c main_v3 ((win0_1.rect t).emb (ix3 r s u)) = _
    congr 1
    funext a
    apply Fin.ext
    refine (Pipeline.Window.rect_emb_val win0_1 t (ix3 r s u) a).trans ?_
    rw [at1]
    fin_cases a
    · show t.val / 2 * 1 + r.val = t.val / 2; omega
    · rfl
    · exact Nat.zero_add _
  refine h.trans ?_
  have := points t
  unfold V
  after_reads_at

theorem db_block (t : Fin cfg0.N) (r : Fin 1) (s : Fin 1024) (u : Fin 704) :
    iblk m c 2 t (ix3 r s u) = (m (c.tc.loc main_arg2)) (ix2 ⟨t.val % 2 * 1024 + s.val, by have := points t; omega⟩ ⟨t.val / 2 * 704 + u.val, by have := points t; omega⟩) := by
  have h : iblk m c 2 t (ix3 r s u) = V m c main_v6 (ix3 ⟨t.val / 2, by have := points t; omega⟩ ⟨t.val % 2 * 1024 + s.val, by have := points t; omega⟩ u) := by
    show V m c main_v6 ((win0_2.rect t).emb (ix3 r s u)) = _
    congr 1
    funext a
    apply Fin.ext
    refine (Pipeline.Window.rect_emb_val win0_2 t (ix3 r s u) a).trans ?_
    rw [at2]
    fin_cases a
    · show t.val / 2 * 1 + r.val = t.val / 2; omega
    · rfl
    · exact Nat.zero_add _
  refine h.trans ?_
  have := points t
  unfold V
  after_reads_at

theorem s_block (t : Fin cfg0.N) (r : Fin 1) (s : Fin 1024) (u : Fin 704) :
    iblk m c 3 t (ix3 r s u) = (m (c.tc.loc main_arg3)) (ix2 ⟨t.val % 2 * 1024 + s.val, by have := points t; omega⟩ ⟨t.val / 2 * 704 + u.val, by have := points t; omega⟩) := by
  have h : iblk m c 3 t (ix3 r s u) = V m c main_v9 (ix3 ⟨t.val / 2, by have := points t; omega⟩ ⟨t.val % 2 * 1024 + s.val, by have := points t; omega⟩ u) := by
    show V m c main_v9 ((win0_3.rect t).emb (ix3 r s u)) = _
    congr 1
    funext a
    apply Fin.ext
    refine (Pipeline.Window.rect_emb_val win0_3 t (ix3 r s u) a).trans ?_
    rw [at3]
    fin_cases a
    · show t.val / 2 * 1 + r.val = t.val / 2; omega
    · rfl
    · exact Nat.zero_add _
  refine h.trans ?_
  have := points t
  unfold V
  after_reads_at

theorem dx_block (t : Fin cfg0.N) (r : Fin 1024) (s : Fin 1024) :
    iblk m c 4 t (ix2 r s) = (m (c.tc.loc main_arg4)) (ix2 ⟨t.val % 2 * 1024 + r.val, by have := points t; omega⟩ s) := by
  have h : iblk m c 4 t (ix2 r s) = V m c main_arg4 (ix2 ⟨t.val % 2 * 1024 + r.val, by have := points t; omega⟩ s) := by
    show V m c main_arg4 ((win0_4.rect t).emb (ix2 r s)) = _
    congr 1
    funext a
    apply Fin.ext
    refine (Pipeline.Window.rect_emb_val win0_4 t (ix2 r s) a).trans ?_
    rw [at4]
    fin_cases a
    · rfl
    · exact Nat.zero_add _
  refine h.trans ?_
  rw [V_main_arg4]

/-- What one block of tokens adds to row `r` of the three gradients. -/
def part (t : Fin cfg0.N) (r : Fin 3) (s : Fin 704) (u : Fin 1024) : EReal :=
  match r with
  | 0 => ∑ x : Fin 1024, @HMul.hMul EReal EReal EReal _ ((m (c.tc.loc main_arg1)) (ix2 ⟨t.val % 2 * 1024 + x.val, by have := points t; omega⟩ ⟨t.val / 2 * 704 + s.val, by have := points t; omega⟩)) ((m (c.tc.loc main_arg0)) (ix2 ⟨t.val % 2 * 1024 + x.val, by have := points t; omega⟩ u))
  | 1 => ∑ x : Fin 1024, @HMul.hMul EReal EReal EReal _ ((m (c.tc.loc main_arg2)) (ix2 ⟨t.val % 2 * 1024 + x.val, by have := points t; omega⟩ ⟨t.val / 2 * 704 + s.val, by have := points t; omega⟩)) ((m (c.tc.loc main_arg0)) (ix2 ⟨t.val % 2 * 1024 + x.val, by have := points t; omega⟩ u))
  | 2 => ∑ x : Fin 1024, @HMul.hMul EReal EReal EReal _ ((m (c.tc.loc main_arg3)) (ix2 ⟨t.val % 2 * 1024 + x.val, by have := points t; omega⟩ ⟨t.val / 2 * 704 + s.val, by have := points t; omega⟩)) (@HMul.hMul EReal EReal EReal _ (Ideal.ofBits .f32 0x3F000000#32) ((m (c.tc.loc main_arg4)) (ix2 ⟨t.val % 2 * 1024 + x.val, by have := points t; omega⟩ u)))

theorem first (t : Fin cfg0.N) (h0 : t.val % 2 = 0) (r : Fin 3) (s : Fin 704) (u : Fin 1024) :
    (outsAt0 m c t.val t.isLt).2 (ix3 r s u) = part m c t r s u := by
  rw [outsAt0_A m c t h0 (by omega)]
  dsimp only
  frame_open
  simp (disch := decide) only [↓ View.readCov_skip, ↓ View.readCov_cons_toLoadRect, ↓ View.readCov_fill]
  frame_out
  obtain rfl | rfl | rfl : r = 0 ∨ r = 1 ∨ r = 2 := by omega
  · refine (row_other (Val := Elt Ideal) (e := .f32) (k := 3) (n := 704) (p := 1024) 0 2 (by decide) rfl inb_S3x704x1024_S1x704x1024_2_0_0 _ _ s u).trans ?_
    refine (row_other (Val := Elt Ideal) (e := .f32) (k := 3) (n := 704) (p := 1024) 0 1 (by decide) rfl inb_S3x704x1024_S1x704x1024_1_0_0 _ _ s u).trans ?_
    refine (row_here (Val := Elt Ideal) (e := .f32) (k := 3) (n := 704) (p := 1024) 0 rfl inb_S3x704x1024_S1x704x1024_0_0_0 _ _ s u).trans ?_
    pointwise [k0_pay1, k0_pay2, k0_pay3, k0_pay4, k0_pay5, k0_pay6, k0_pay7, h_block, da_block, db_block, s_block, dx_block, part]
    try simp only [zero_add]
    try rfl
  · refine (row_other (Val := Elt Ideal) (e := .f32) (k := 3) (n := 704) (p := 1024) 1 2 (by decide) rfl inb_S3x704x1024_S1x704x1024_2_0_0 _ _ s u).trans ?_
    refine (row_here (Val := Elt Ideal) (e := .f32) (k := 3) (n := 704) (p := 1024) 1 rfl inb_S3x704x1024_S1x704x1024_1_0_0 _ _ s u).trans ?_
    pointwise [k0_pay1, k0_pay2, k0_pay3, k0_pay4, k0_pay5, k0_pay6, k0_pay7, h_block, da_block, db_block, s_block, dx_block, part]
    try simp only [zero_add]
    try rfl
  · refine (row_here (Val := Elt Ideal) (e := .f32) (k := 3) (n := 704) (p := 1024) 2 rfl inb_S3x704x1024_S1x704x1024_2_0_0 _ _ s u).trans ?_
    pointwise [k0_pay1, k0_pay2, k0_pay3, k0_pay4, k0_pay5, k0_pay6, k0_pay7, h_block, da_block, db_block, s_block, dx_block, part]
    try simp only [zero_add]
    try rfl

theorem cast_row (v : Vec Ideal S3x704x1024 .f32) (q : Fin 1) (r : Fin 3) (s : Fin 704) (u : Fin 1024) :
    k0_pay2 v (ix4 q r s u) = v (ix3 r s u) := by
  pointwise [k0_pay2]

theorem last (t : Fin cfg0.N) (h1 : t.val % 2 = 1) (q : Fin 1) (r : Fin 3) (s : Fin 704) (u : Fin 1024) :
    (outsAt0 m c t.val t.isLt).1 (ix4 q r s u) = @HAdd.hAdd EReal EReal EReal _ ((outsAt0 m c (t.val - 1) (by have := t.isLt; omega)).2 (ix3 r s u)) (part m c t r s u) := by
  rw [outsAt0_B m c t (by omega) h1]
  dsimp only
  generalize (outsAt0 m c (t.val - 1) _).2 = acc
  frame_open
  simp (disch := decide) only [↓ View.readCov_skip, ↓ View.readCov_cons_toLoadRect, ↓ View.readCov_fill]
  frame_out
  simp only [read_unread_whole]
  rw [whole_read]
  refine (cast_row _ q r s u).trans ?_
  obtain rfl | rfl | rfl : r = 0 ∨ r = 1 ∨ r = 2 := by omega
  · refine (row_other (Val := Elt Ideal) (e := .f32) (k := 3) (n := 704) (p := 1024) 0 2 (by decide) rfl inb_S3x704x1024_S1x704x1024_2_0_0 _ _ s u).trans ?_
    refine (row_other (Val := Elt Ideal) (e := .f32) (k := 3) (n := 704) (p := 1024) 0 1 (by decide) rfl inb_S3x704x1024_S1x704x1024_1_0_0 _ _ s u).trans ?_
    refine (row_here (Val := Elt Ideal) (e := .f32) (k := 3) (n := 704) (p := 1024) 0 rfl inb_S3x704x1024_S1x704x1024_0_0_0 _ _ s u).trans ?_
    pointwise [k0_pay1, k0_pay2, k0_pay3, k0_pay4, k0_pay5, k0_pay6, k0_pay7, h_block, da_block, db_block, s_block, dx_block, part]
  · refine (row_other (Val := Elt Ideal) (e := .f32) (k := 3) (n := 704) (p := 1024) 1 2 (by decide) rfl inb_S3x704x1024_S1x704x1024_2_0_0 _ _ s u).trans ?_
    refine (row_here (Val := Elt Ideal) (e := .f32) (k := 3) (n := 704) (p := 1024) 1 rfl inb_S3x704x1024_S1x704x1024_1_0_0 _ _ s u).trans ?_
    pointwise [k0_pay1, k0_pay2, k0_pay3, k0_pay4, k0_pay5, k0_pay6, k0_pay7, h_block, da_block, db_block, s_block, dx_block, part]
  · refine (row_here (Val := Elt Ideal) (e := .f32) (k := 3) (n := 704) (p := 1024) 2 rfl inb_S3x704x1024_S1x704x1024_2_0_0 _ _ s u).trans ?_
    pointwise [k0_pay1, k0_pay2, k0_pay3, k0_pay4, k0_pay5, k0_pay6, k0_pay7, h_block, da_block, db_block, s_block, dx_block, part]

theorem row0 (t : Fin cfg0.N) (ht : t.val % 2 = 1) (u : Fin 704) (v : Fin 1024) :
    @HAdd.hAdd EReal EReal EReal _ (part m c ⟨t.val - 1, by have := t.isLt; omega⟩ 0 u v) (part m c t 0 u v) = val_main_v25 (F := Ideal) (m (c.tc.loc main_arg0)) (m (c.tc.loc main_arg1)) (m (c.tc.loc main_arg2)) (m (c.tc.loc main_arg3)) (m (c.tc.loc main_arg4)) (ix4 ⟨t.val / 2, by have := points t; omega⟩ 0 u v) := by
  have e0 : (t.val - 1) % 2 = 0 := by omega
  have e1 : (t.val - 1) / 2 = t.val / 2 := by omega
  simp only [part]
  pointwise [val_main_cst, val_main_v0, val_main_cst_0, val_main_v1, val_main_cst_1, val_main_v2, val_main_v3, val_main_v4, val_main_v5, val_main_cst_2, val_main_v6, val_main_v7, val_main_cst_3, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rw [Fin.sum_univ_tiles 2 1024 rfl, Fin.sum_univ_two]
  simp only [e0, e1, ht, Fin.val_zero, Fin.val_one, Nat.zero_mul, Nat.one_mul, Nat.zero_add]

theorem row1 (t : Fin cfg0.N) (ht : t.val % 2 = 1) (u : Fin 704) (v : Fin 1024) :
    @HAdd.hAdd EReal EReal EReal _ (part m c ⟨t.val - 1, by have := t.isLt; omega⟩ 1 u v) (part m c t 1 u v) = val_main_v25 (F := Ideal) (m (c.tc.loc main_arg0)) (m (c.tc.loc main_arg1)) (m (c.tc.loc main_arg2)) (m (c.tc.loc main_arg3)) (m (c.tc.loc main_arg4)) (ix4 ⟨t.val / 2, by have := points t; omega⟩ 1 u v) := by
  have e0 : (t.val - 1) % 2 = 0 := by omega
  have e1 : (t.val - 1) / 2 = t.val / 2 := by omega
  simp only [part]
  pointwise [val_main_cst, val_main_v0, val_main_cst_0, val_main_v1, val_main_cst_1, val_main_v2, val_main_v3, val_main_v4, val_main_v5, val_main_cst_2, val_main_v6, val_main_v7, val_main_cst_3, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rw [Fin.sum_univ_tiles 2 1024 rfl, Fin.sum_univ_two]
  simp only [e0, e1, ht, Fin.val_zero, Fin.val_one, Nat.zero_mul, Nat.one_mul, Nat.zero_add]

theorem row2 (t : Fin cfg0.N) (ht : t.val % 2 = 1) (u : Fin 704) (v : Fin 1024) :
    @HAdd.hAdd EReal EReal EReal _ (part m c ⟨t.val - 1, by have := t.isLt; omega⟩ 2 u v) (part m c t 2 u v) = val_main_v25 (F := Ideal) (m (c.tc.loc main_arg0)) (m (c.tc.loc main_arg1)) (m (c.tc.loc main_arg2)) (m (c.tc.loc main_arg3)) (m (c.tc.loc main_arg4)) (ix4 ⟨t.val / 2, by have := points t; omega⟩ 2 u v) := by
  have e0 : (t.val - 1) % 2 = 0 := by omega
  have e1 : (t.val - 1) / 2 = t.val / 2 := by omega
  simp only [part]
  pointwise [val_main_cst, val_main_v0, val_main_cst_0, val_main_v1, val_main_cst_1, val_main_v2, val_main_v3, val_main_v4, val_main_v5, val_main_cst_2, val_main_v6, val_main_v7, val_main_cst_3, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  rw [Fin.sum_univ_tiles 2 1024 rfl, Fin.sum_univ_two]
  simp only [e0, e1, ht, Fin.val_zero, Fin.val_one, Nat.zero_mul, Nat.one_mul, Nat.zero_add]
  exact congrArg₂ (fun y z : EReal => y + z) (Finset.sum_congr rfl fun x _ => mul_comm (G := EReal) _ _) (Finset.sum_congr rfl fun x _ => mul_comm (G := EReal) _ _)

/-- The reference's array, as a function of the arguments. -/
abbrev G5 : S4x3x704x1024.Idx → EReal := val_main_v25 (F := Ideal) (m (c.tc.loc main_arg0)) (m (c.tc.loc main_arg1)) (m (c.tc.loc main_arg2)) (m (c.tc.loc main_arg3)) (m (c.tc.loc main_arg4))

theorem value5 (t : Fin cfg0.N) (ht : t.val % 2 = 1) (r : Fin 1) (s : Fin 3) (u : Fin 704) (v : Fin 1024) :
    (outsAt0 m c t.val t.isLt).1 (ix4 r s u v) = G5 m c (ix4 ⟨t.val / 2, by have := points t; omega⟩ s u v) := by
  have f := first m c ⟨t.val - 1, by have := t.isLt; omega⟩ (by show (t.val - 1) % 2 = 0; omega) s u v
  rw [last m c t ht r s u v]
  refine (congrArg (fun y => @HAdd.hAdd EReal EReal EReal _ y (part m c t s u v)) f).trans ?_
  obtain rfl | rfl | rfl : s = 0 ∨ s = 1 ∨ s = 2 := by omega
  · exact row0 m c t ht u v
  · exact row1 m c t ht u v
  · exact row2 m c t ht u v

theorem result5 (t : Fin cfg0.N) (ht : t.val % 2 = 1) (j : S1x3x704x1024.Idx) :
    (outsAt0 m c t.val t.isLt).1 j = G5 m c ((win0_5.rect t).emb j) := by
  idx_vars j
  rw [value5 m c t ht]
  congr 1
  funext a
  apply Fin.ext
  refine Eq.symm ((Pipeline.Window.rect_emb_val win0_5 t (ix4 j0 j1 j2 j3) a).trans ?_)
  rw [at5]
  fin_cases a
  · show t.val / 2 * 1 + j0.val = t.val / 2; omega
  · exact Nat.zero_add _
  · exact Nat.zero_add _
  · exact Nat.zero_add _

theorem inside5 (t : Fin cfg0.N) (i : S4x3x704x1024.Idx) :
    i ∈ ((cfg0.win 5).blk t).view.set ↔ ∀ a : Fin 4, win0_5.index t a * S1x3x704x1024.size a ≤ (i a).val ∧ (i a).val < win0_5.index t a * S1x3x704x1024.size a + S1x3x704x1024.size a := by
  show i ∈ ((View.whole main_v10).slice (win0_5.rect t)).set ↔ _
  rw [View.set_slice_whole, Rect.mem_set_unit]
  exact Iff.rfl

theorem covered5 (i : S4x3x704x1024.Idx) : ∃ t : Fin cfg0.N, (cfg0.win 5).flush t = true ∧ i ∈ ((cfg0.win 5).blk t).view.set := by
  have h0 : (i 0).val < 4 := (i 0).isLt
  have h1 : (i 1).val < 3 := (i 1).isLt
  have h2 : (i 2).val < 704 := (i 2).isLt
  have h3 : (i 3).val < 1024 := (i 3).isLt
  have hb : (i 0).val * 2 + 1 < 8 := by omega
  refine ⟨⟨(i 0).val * 2 + 1, by rw [show cfg0.N = 8 from N_0]; exact hb⟩, (flush0_5 _).mpr (by show ((i 0).val * 2 + 1)  % 2 = 1; omega), (inside5 _ _).mpr ?_⟩
  rw [at5]
  intro a
  fin_cases a
  · show ((i 0).val * 2 + 1) / 2 * 1 ≤ (i 0).val ∧ (i 0).val < ((i 0).val * 2 + 1) / 2 * 1 + 1; omega
  · show 0 * 3 ≤ (i 1).val ∧ (i 1).val < 0 * 3 + 3; omega
  · show 0 * 704 ≤ (i 2).val ∧ (i 2).val < 0 * 704 + 704; omega
  · show 0 * 1024 ≤ (i 3).val ∧ (i 3).val < 0 * 1024 + 1024; omega

theorem final5 : (dats m 0 c).arrAt 5 cfg0.N = G5 m c := by
  refine Pipeline.Dat.arrAt_eq_of_cover (dats m 0 c) 5 (G5 m c) (fun t hfl => ?_) (covered5)
  rw [Value.flushed5]
  funext j
  exact result5 m c t ((flush0_5 t).mp hfl) j

end Cert.Proof.WGrad

end
-- ==== Proof.Claims3.lean ====
/- The claims of values of the gradients of a feed-forward half. -/
module

public import proofs.«01_k».proof.Defs
public import proofs.«01_k».proof.Proof.Act
public import proofs.«01_k».proof.Proof.Gen.ReferenceIdeal.Run
public import proofs.«01_k».proof.Proof.Gen.Pre_act_finite
public import proofs.«01_k».proof.Proof.WGrad
public import proofs.«01_k».proof.Proof.Gen.Reference2Ideal.Run

@[expose] public section

set_option maxRecDepth 16384

noncomputable section

namespace Cert.Proof

open Idealize.ShloMosaic Idealize.ShloMosaic.TcCoe Idealize.SL.Sem

theorem act_value : Cert.algebraic_KernelIdeal_ReferenceIdeal_pre_act_finite := by
  intro m g m' g' hpre hargs
  have hf := Act.finite m hpre
  refine ⟨fun c => Act.G4 m c, fun c => Act.G5 m c,
    (θ_run _ _ _).mono (fun r h c => ?_) (Cert.KernelIdeal.Value.run_blocks m g),
    (θ_run _ _ _).mono (fun r h c => ?_) (Cert.ReferenceIdeal.Value.run m' g')⟩
  · obtain ⟨h0, h1, ha⟩ := h c
    exact ⟨h0.trans (Act.final4 m c (hf c)), h1.trans (Act.final5 m c), ha⟩
  · obtain ⟨h0, h1, ha⟩ := h c
    obtain ⟨e0, e1, e2, e3, e4, e5⟩ := hargs c
    refine ⟨h0.trans ?_, h1.trans ?_, ha⟩
    · rw [e0, e1, e4, e5]; rfl
    · rw [e0, e4, e5]; rfl

theorem wgrad_value : Cert.algebraic_Kernel2Ideal_Reference2Ideal := by
  intro m g m' g' hpre hargs
  refine ⟨fun c => WGrad.G5 m c,
    (θ_run _ _ _).mono (fun r h c => ?_) (Cert.Kernel2Ideal.Value.run_blocks m g),
    (θ_run _ _ _).mono (fun r h c => ?_) (Cert.Reference2Ideal.Value.run m' g')⟩
  · obtain ⟨h0, ha⟩ := h c
    exact ⟨h0.trans (WGrad.final5 m c), ha⟩
  · obtain ⟨h0, ha⟩ := h c
    obtain ⟨e0, e1, e2, e3, e4⟩ := hargs c
    refine ⟨h0.trans ?_, ha⟩
    · rw [e0, e1, e2, e3, e4]; rfl

end Cert.Proof

end
-- ==== Proof.NormGrad.lean ====
/- The derivative of a norm by the root mean square, as the kernels write it and as the chain rule gives it, and sums
   that a grid's points add up. -/
module

public import proofs.«01_k».proof.Proof.Reals

@[expose] public section

noncomputable section

namespace Cert.Proof

open Idealize.ShloMosaic

theorem width_bits : Ideal.ofBits .f32 0x44800000#32 = ((1024 : ℝ) : EReal) := by
  simp [Ideal.ofBits, Ideal.ieee]
  norm_cast
  norm_num

theorem minus_half_bits : Ideal.ofBits .f32 0xBF000000#32 = ((-(1 / 2) : ℝ) : EReal) := by
  simp [Ideal.ofBits, Ideal.ieee]
  norm_cast
  norm_num

/-- The small number that a norm adds under its root is positive. -/
theorem eps_bits : ∃ e : ℝ, 0 < e ∧ Ideal.ofBits .f32 0x358637BD#32 = (e : EReal) := by
  refine ⟨_, ?_, by simp [Ideal.ofBits, Ideal.ieee]; norm_cast⟩
  norm_num

/-- A sum of real numbers is the real sum. -/
theorem real_sum {ι : Type} [Fintype ι] (f : ι → ℝ) : ((∑ i, f i : ℝ) : EReal) = ∑ i, (f i : EReal) := by
  classical
  have h : ∀ s : Finset ι, ((∑ i ∈ s, f i : ℝ) : EReal) = ∑ i ∈ s, (f i : EReal) := fun s => by
    induction s using Finset.induction_on with
    | empty => simp
    | insert a s ha h => rw [Finset.sum_insert ha, Finset.sum_insert ha, EReal.coe_add, h]
  exact h _

/-- The mean of squares with a positive number added is a positive real number. -/
theorem mean_square_pos {n : ℕ} (x : Fin n → EReal) (hx : ∀ k, IsReal (x k)) :
    ∃ v : ℝ, 0 < v ∧ Ideal.div (∑ k, x k * x k) (Ideal.ofBits .f32 0x44800000#32) + Ideal.ofBits .f32 0x358637BD#32 = (v : EReal) := by
  obtain ⟨e, he, hb⟩ := eps_bits
  choose y hy using hx
  refine ⟨(∑ k, y k * y k) * (1 / 1024) + e, add_pos_of_nonneg_of_pos (mul_nonneg (Finset.sum_nonneg fun k _ => mul_self_nonneg _) (by norm_num)) he, ?_⟩
  rw [hb, width_bits, Ideal.div_coe (by norm_num), EReal.coe_add, EReal.coe_mul, real_sum]
  simp only [hy, EReal.coe_mul]

/-- The gradient at the input of a norm whose root's reciprocal is `r`: with one mean over the row, and as the sum of
    the derivatives through the factor and through the root. -/
theorem norm_grad (x d : Fin 1024 → EReal) (dx r y : EReal) (hx : ∀ k, IsReal (x k)) (hd : ∀ k, IsReal (d k)) (hdx : IsReal dx)
    (hy : ∃ v : ℝ, 0 < v ∧ y = (v : EReal)) (hr : r = Ideal.rsqrt y) (s : Fin 1024) :
    dx + r * (d s - x s * r * Ideal.div (∑ k, d k * (x k * r)) (Ideal.ofBits .f32 0x44800000#32)) =
      dx + d s * r + x s * Ideal.div ((∑ k, x k * d k) * (Ideal.ofBits .f32 0xBF000000#32 * Ideal.div r y)) (Ideal.ofBits .f32 0x44800000#32) +
        Ideal.div ((∑ k, x k * d k) * (Ideal.ofBits .f32 0xBF000000#32 * Ideal.div r y)) (Ideal.ofBits .f32 0x44800000#32) * x s := by
  obtain ⟨v, hv, rfl⟩ := hy
  obtain ⟨dx, rfl⟩ := hdx
  choose x' hx' using hx
  choose d' hd' using hd
  have hw : 0 < Real.sqrt v := Real.sqrt_pos.mpr hv
  have hvw : v = Real.sqrt v * Real.sqrt v := (Real.mul_self_sqrt hv.le).symm
  rw [Ideal.rsqrt_coe, if_neg hv.not_gt, if_neg hv.ne'] at hr
  generalize Real.sqrt v = w at hw hvw hr
  subst hvw
  have e1 : ∑ k, d k * (x k * r) = (((∑ k, x' k * d' k) * w⁻¹ : ℝ) : EReal) := by
    rw [Finset.sum_mul, real_sum]
    refine Finset.sum_congr rfl fun k _ => ?_
    rw [hx', hd', hr, ← EReal.coe_mul, ← EReal.coe_mul]
    congr 1
    ring
  have e2 : ∑ k, x k * d k = ((∑ k, x' k * d' k : ℝ) : EReal) := by
    rw [real_sum]
    refine Finset.sum_congr rfl fun k _ => ?_
    rw [hx', hd', ← EReal.coe_mul]
  rw [e1, e2, width_bits, minus_half_bits, hx', hd', hr]
  generalize ∑ k, x' k * d' k = S
  simp only [Ideal.div_coe (show (1024 : ℝ) ≠ 0 by norm_num), Ideal.div_coe hv.ne']
  simp only [← EReal.coe_mul, ← EReal.coe_add, ← EReal.coe_sub]
  congr 1
  field_simp
  ring

/-- What the points of a grid add up, `T` rows each, is the sum over all rows. -/
theorem sum_of_points {N : ℕ} (J T : ℕ) (hJ : J * T = N) (g : Fin N → EReal) :
    ∑ k ∈ Finset.range J, ∑ r : Fin T, (if h : k * T + r.val < N then g ⟨k * T + r.val, h⟩ else 0) = ∑ i, g i := by
  rw [Fin.sum_univ_tiles J T hJ, Finset.sum_range]
  refine Finset.sum_congr rfl fun k _ => Finset.sum_congr rfl fun r _ => dif_pos (hJ ▸ ?_)
  calc k.val * T + r.val < k.val * T + T := Nat.add_lt_add_left r.isLt _
    _ = (k.val + 1) * T := (Nat.succ_mul _ _).symm
    _ ≤ J * T := Nat.mul_le_mul_right T k.isLt

end Cert.Proof

end
-- ==== Proof.Dh.lean ====
/- The gradient at the input of a feed-forward half, through its norm: the values of the kernel's arrays. -/
module

public import proofs.«01_k».proof.Proof.Gen.Kernel3Ideal.Value
public import proofs.«01_k».proof.Proof.Gen.Reference3Ideal.Read
public import proofs.«01_k».proof.Proof.Basis
public import proofs.«01_k».proof.Proof.Pieces
public import proofs.«01_k».proof.Defs
public import proofs.«01_k».proof.Proof.Gen.Pre_dh_finite
public import proofs.«01_k».proof.Proof.NormGrad

@[expose] public section

set_option maxRecDepth 16384

noncomputable section

namespace Cert.Proof.Dh

open Cert.Kernel3Ideal Cert.Kernel3Ideal.Gen Idealize.ShloMosaic Idealize.ShloMosaic.TcCoe Idealize.SL.Sem Cert.Reference3Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![0, t.val, 0] := by decide +kernel
theorem at1 : ∀ t : Fin grid0.N, win0_1.index t = ![0, t.val, 0] := by decide +kernel
theorem at2 : ∀ t : Fin grid0.N, win0_2.index t = ![0, 0, 0, 0] := by decide +kernel
theorem at3 : ∀ t : Fin grid0.N, win0_3.index t = ![0, 1, 0, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![0, 0] := by decide +kernel
theorem at7 : ∀ t : Fin grid0.N, win0_7.index t = ![t.val, 0] := by decide +kernel
theorem at8 : ∀ t : Fin grid0.N, win0_8.index t = ![t.val, 0] := by decide +kernel
theorem at9 : ∀ t : Fin grid0.N, win0_9.index t = ![0, 0] := by decide +kernel

theorem da_block (t : Fin cfg0.N) (r : Fin 4) (s : Fin 256) (u : Fin 704) :
    iblk m c 0 t (ix3 r s u) = (m (c.tc.loc main_arg5)) (ix2 ⟨t.val * 256 + s.val, by have := points t; omega⟩ ⟨r.val * 704 + u.val, by omega⟩) := by
  have h : iblk m c 0 t (ix3 r s u) = V m c main_v20 (ix3 r ⟨t.val * 256 + s.val, by have := points t; omega⟩ u) := by
    show V m c main_v20 ((win0_0.rect t).emb (ix3 r s u)) = _
    congr 1
    funext a
    apply Fin.ext
    refine (Pipeline.Window.rect_emb_val win0_0 t (ix3 r s u) a).trans ?_
    rw [at0]
    fin_cases a
    · exact Nat.zero_add _
    · rfl
    · exact Nat.zero_add _
  refine h.trans ?_
  have := points t
  unfold V
  after_reads_at

theorem db_block (t : Fin cfg0.N) (r : Fin 4) (s : Fin 256) (u : Fin 704) :
    iblk m c 1 t (ix3 r s u) = (m (c.tc.loc main_arg6)) (ix2 ⟨t.val * 256 + s.val, by have := points t; omega⟩ ⟨r.val * 704 + u.val, by omega⟩) := by
  have h : iblk m c 1 t (ix3 r s u) = V m c main_v23 (ix3 r ⟨t.val * 256 + s.val, by have := points t; omega⟩ u) := by
    show V m c main_v23 ((win0_1.rect t).emb (ix3 r s u)) = _
    congr 1
    funext a
    apply Fin.ext
    refine (Pipeline.Window.rect_emb_val win0_1 t (ix3 r s u) a).trans ?_
    rw [at1]
    fin_cases a
    · exact Nat.zero_add _
    · rfl
    · exact Nat.zero_add _
  refine h.trans ?_
  have := points t
  unfold V
  after_reads_at

theorem gate_block (t : Fin cfg0.N) (r : Fin 4) (s : Fin 1) (u : Fin 704) (v : Fin 1024) :
    iblk m c 2 t (ix4 r s u v) = (m (c.tc.loc main_arg2)) (ix2 v ⟨r.val * 704 + u.val, by omega⟩) := by
  have h : iblk m c 2 t (ix4 r s u v) = V m c main_v17 (ix4 r 0 u v) := by
    show V m c main_v17 ((win0_2.rect t).emb (ix4 r s u v)) = _
    congr 1
    funext a
    apply Fin.ext
    refine (Pipeline.Window.rect_emb_val win0_2 t (ix4 r s u v) a).trans ?_
    rw [at2]
    fin_cases a
    · exact Nat.zero_add _
    · show 0 * 1 + s.val = 0; omega
    · exact Nat.zero_add _
    · exact Nat.zero_add _
  refine h.trans ?_
  have := points t
  unfold V
  after_reads_at
  after_reads_at

theorem up_block (t : Fin cfg0.N) (r : Fin 4) (s : Fin 1) (u : Fin 704) (v : Fin 1024) :
    iblk m c 3 t (ix4 r s u v) = (m (c.tc.loc main_arg3)) (ix2 v ⟨r.val * 704 + u.val, by omega⟩) := by
  have h : iblk m c 3 t (ix4 r s u v) = V m c main_v17 (ix4 r 1 u v) := by
    show V m c main_v17 ((win0_3.rect t).emb (ix4 r s u v)) = _
    congr 1
    funext a
    apply Fin.ext
    refine (Pipeline.Window.rect_emb_val win0_3 t (ix4 r s u v) a).trans ?_
    rw [at3]
    fin_cases a
    · exact Nat.zero_add _
    · show 1 * 1 + s.val = 1; omega
    · exact Nat.zero_add _
    · exact Nat.zero_add _
  refine h.trans ?_
  have := points t
  unfold V
  after_reads_at
  after_reads_at

theorem x_block (t : Fin cfg0.N) (r : Fin 256) (s : Fin 1024) :
    iblk m c 4 t (ix2 r s) = (m (c.tc.loc main_arg0)) (ix2 ⟨t.val * 256 + r.val, by have := points t; omega⟩ s) := by
  have h : iblk m c 4 t (ix2 r s) = V m c main_arg0 (ix2 ⟨t.val * 256 + r.val, by have := points t; omega⟩ s) := by
    show V m c main_arg0 ((win0_4.rect t).emb (ix2 r s)) = _
    congr 1
    funext a
    apply Fin.ext
    refine (Pipeline.Window.rect_emb_val win0_4 t (ix2 r s) a).trans ?_
    rw [at4]
    fin_cases a
    · rfl
    · exact Nat.zero_add _
  refine h.trans ?_
  rw [V_main_arg0]

theorem rstd_block (t : Fin cfg0.N) (r : Fin 256) (s : Fin 1) :
    iblk m c 5 t (ix2 r s) = val_main_v7 (F := Ideal) (m (c.tc.loc main_arg0)) (ix2 ⟨t.val * 256 + r.val, by have := points t; omega⟩ 0) := by
  have h : iblk m c 5 t (ix2 r s) = V m c main_v7 (ix2 ⟨t.val * 256 + r.val, by have := points t; omega⟩ s) := by
    show V m c main_v7 ((win0_5.rect t).emb (ix2 r s)) = _
    congr 1
    funext a
    apply Fin.ext
    refine (Pipeline.Window.rect_emb_val win0_5 t (ix2 r s) a).trans ?_
    rw [at5]
    fin_cases a
    · rfl
    · exact Nat.zero_add _
  refine h.trans ?_
  have := points t
  unfold V
  after_reads_at
  pointwise [val_main_v7, val_main_v6, val_main_v5, val_main_v4, val_main_v3, val_main_v2, val_main_v1, val_main_v0, val_main_cst, val_main_cst_0, val_main_cst_1]

theorem g_block (t : Fin cfg0.N) (r : Fin 1) (s : Fin 1024) :
    iblk m c 6 t (ix2 r s) = (m (c.tc.loc main_arg1)) (ix2 r s) := by
  have h : iblk m c 6 t (ix2 r s) = V m c main_arg1 (ix2 r s) := by
    show V m c main_arg1 ((win0_6.rect t).emb (ix2 r s)) = _
    congr 1
    funext a
    apply Fin.ext
    refine (Pipeline.Window.rect_emb_val win0_6 t (ix2 r s) a).trans ?_
    rw [at6]
    fin_cases a
    · exact Nat.zero_add _
    · exact Nat.zero_add _
  refine h.trans ?_
  rw [V_main_arg1]

theorem dx_block (t : Fin cfg0.N) (r : Fin 256) (s : Fin 1024) :
    iblk m c 7 t (ix2 r s) = (m (c.tc.loc main_arg7)) (ix2 ⟨t.val * 256 + r.val, by have := points t; omega⟩ s) := by
  have h : iblk m c 7 t (ix2 r s) = V m c main_arg7 (ix2 ⟨t.val * 256 + r.val, by have := points t; omega⟩ s) := by
    show V m c main_arg7 ((win0_7.rect t).emb (ix2 r s)) = _
    congr 1
    funext a
    apply Fin.ext
    refine (Pipeline.Window.rect_emb_val win0_7 t (ix2 r s) a).trans ?_
    rw [at7]
    fin_cases a
    · rfl
    · exact Nat.zero_add _
  refine h.trans ?_
  rw [V_main_arg7]

/-- The arguments that the precondition names hold real numbers. -/
def Finite : Prop :=
  (∀ i, IsReal ((m (c.tc.loc main_arg0)) i)) ∧ (∀ i, IsReal ((m (c.tc.loc main_arg1)) i)) ∧ (∀ i, IsReal ((m (c.tc.loc main_arg2)) i)) ∧ (∀ i, IsReal ((m (c.tc.loc main_arg3)) i)) ∧ (∀ i, IsReal ((m (c.tc.loc main_arg5)) i)) ∧ (∀ i, IsReal ((m (c.tc.loc main_arg6)) i)) ∧ (∀ i, IsReal ((m (c.tc.loc main_arg7)) i))

theorem finite (h : Cert.Pre_Kernel3Ideal_dh_finite m) (c : Dev nD) : Finite m c := by
  obtain ⟨h0, h1, h2, h3, h5, h6, h7⟩ := h c
  exact ⟨fun i => isReal_of_lt _ (congrFun h0 i), fun i => isReal_of_lt _ (congrFun h1 i), fun i => isReal_of_lt _ (congrFun h2 i), fun i => isReal_of_lt _ (congrFun h3 i), fun i => isReal_of_lt _ (congrFun h5 i), fun i => isReal_of_lt _ (congrFun h6 i), fun i => isReal_of_lt _ (congrFun h7 i)⟩

/-- The gradient at the norm's output that a point of the grid forms from the four chips' columns. -/
def dhk (t : Fin cfg0.N) : FVec Ideal S256x1024 .f32 :=
  k0_pay6 (k0_pay5 (View.ld (iblk m c 0 t) (Rect.unit ![0, 0, 0] ![1, 256, 704] inb_S4x256x704_S1x256x704_0_0_0)) (View.ld (iblk m c 2 t) (Rect.unit ![0, 0, 0, 0] ![1, 1, 704, 1024] inb_S4x1x704x1024_S1x1x704x1024_0_0_0_0)) (View.ld (iblk m c 1 t) (Rect.unit ![0, 0, 0] ![1, 256, 704] inb_S4x256x704_S1x256x704_0_0_0)) (View.ld (iblk m c 3 t) (Rect.unit ![0, 0, 0, 0] ![1, 1, 704, 1024] inb_S4x1x704x1024_S1x1x704x1024_0_0_0_0)) (View.ld (iblk m c 0 t) (Rect.unit ![1, 0, 0] ![1, 256, 704] inb_S4x256x704_S1x256x704_1_0_0)) (View.ld (iblk m c 2 t) (Rect.unit ![1, 0, 0, 0] ![1, 1, 704, 1024] inb_S4x1x704x1024_S1x1x704x1024_1_0_0_0)) (View.ld (iblk m c 1 t) (Rect.unit ![1, 0, 0] ![1, 256, 704] inb_S4x256x704_S1x256x704_1_0_0)) (View.ld (iblk m c 3 t) (Rect.unit ![1, 0, 0, 0] ![1, 1, 704, 1024] inb_S4x1x704x1024_S1x1x704x1024_1_0_0_0))) (View.ld (iblk m c 0 t) (Rect.unit ![2, 0, 0] ![1, 256, 704] inb_S4x256x704_S1x256x704_2_0_0)) (View.ld (iblk m c 2 t) (Rect.unit ![2, 0, 0, 0] ![1, 1, 704, 1024] inb_S4x1x704x1024_S1x1x704x1024_2_0_0_0)) (View.ld (iblk m c 1 t) (Rect.unit ![2, 0, 0] ![1, 256, 704] inb_S4x256x704_S1x256x704_2_0_0)) (View.ld (iblk m c 3 t) (Rect.unit ![2, 0, 0, 0] ![1, 1, 704, 1024] inb_S4x1x704x1024_S1x1x704x1024_2_0_0_0)) (View.ld (iblk m c 0 t) (Rect.unit ![3, 0, 0] ![1, 256, 704] inb_S4x256x704_S1x256x704_3_0_0)) (View.ld (iblk m c 2 t) (Rect.unit ![3, 0, 0, 0] ![1, 1, 704, 1024] inb_S4x1x704x1024_S1x1x704x1024_3_0_0_0)) (View.ld (iblk m c 1 t) (Rect.unit ![3, 0, 0] ![1, 256, 704] inb_S4x256x704_S1x256x704_3_0_0)) (View.ld (iblk m c 3 t) (Rect.unit ![3, 0, 0, 0] ![1, 1, 704, 1024] inb_S4x1x704x1024_S1x1x704x1024_3_0_0_0))

theorem regroup (a0 a1 a2 a3 b0 b1 b2 b3 : EReal) :
    a0 + b0 + (a1 + b1) + (a2 + b2) + (a3 + b3) = b0 + b1 + b2 + b3 + (a0 + a1 + a2 + a3) := by
  abel

theorem dhk_at (t : Fin cfg0.N) (r : Fin 256) (s : Fin 1024) :
    dhk m c t (ix2 r s) = val_main_v19 (F := Ideal) (m (c.tc.loc main_arg2)) (m (c.tc.loc main_arg3)) (m (c.tc.loc main_arg5)) (m (c.tc.loc main_arg6)) (ix2 ⟨t.val * 256 + r.val, by have := points t; omega⟩ s) := by
  unfold dhk
  pointwise [k0_pay5, k0_pay6, da_block, db_block, gate_block, up_block, val_main_v19, val_main_v18, val_main_v17]
  rw [Fin.sum_univ_tiles 4 704 rfl, Fin.sum_univ_four, Fin.sum_univ_tiles 4 704 rfl, Fin.sum_univ_four]
  exact regroup _ _ _ _ _ _ _ _

/-- What every point leaves in its rows of the first array. -/
theorem rows (t : Fin cfg0.N) : (outsAt0 m c t.val t.isLt).1 = k0_pay2 (dhk m c t) (k0_pay7 (iblk m c 5 t)) (iblk m c 4 t) (k0_pay8 (iblk m c 5 t)) (iblk m c 6 t) (iblk m c 7 t) := by
  by_cases h : t.val % 8 = 0
  · rw [outsAt0_A m c t h (by have := points t; omega)]
    dsimp only
    frame_open
    simp (disch := decide) only [↓ View.readCov_skip, ↓ View.readCov_cons_toLoadRect, ↓ View.readCov_fill]
    frame_out
    rfl
  · rw [outsAt0_B m c t h (by omega)]
    dsimp only
    frame_open
    simp (disch := decide) only [↓ View.readCov_skip, ↓ View.readCov_cons_toLoadRect, ↓ View.readCov_fill]
    frame_out
    rfl

theorem sum_first (t : Fin cfg0.N) (h : t.val % 8 = 0) (j : S1x1024.Idx) : (outsAt0 m c t.val t.isLt).2 j = k0_pay3 (dhk m c t) (iblk m c 4 t) (k0_pay8 (iblk m c 5 t)) j := by
  rw [outsAt0_A m c t h (by have := points t; omega)]
  dsimp only
  frame_open
  simp (disch := decide) only [↓ View.readCov_skip, ↓ View.readCov_cons_toLoadRect, ↓ View.readCov_fill]
  frame_out
  rfl

theorem sum_next (t : Fin cfg0.N) (h : ¬t.val % 8 = 0) (j : S1x1024.Idx) : (outsAt0 m c t.val t.isLt).2 j = k0_pay4 (dhk m c t) (iblk m c 4 t) (k0_pay8 (iblk m c 5 t)) (outsAt0 m c (t.val - 1) (Nat.lt_of_le_of_lt (Nat.sub_le _ _) t.isLt)).2 j := by
  rw [outsAt0_B m c t h (by omega)]
  dsimp only
  frame_open
  simp (disch := decide) only [↓ View.readCov_skip, ↓ View.readCov_cons_toLoadRect, ↓ View.readCov_fill]
  frame_out
  rfl

theorem row_real (hf : Finite m c) (R : Fin 2048) (s : Fin 1024) : IsReal (val_main_v19 (F := Ideal) (m (c.tc.loc main_arg2)) (m (c.tc.loc main_arg3)) (m (c.tc.loc main_arg5)) (m (c.tc.loc main_arg6)) (ix2 R s)) := by
  obtain ⟨h0, h1, h2, h3, h5, h6, h7⟩ := hf
  pointwise [val_main_v19, val_main_v18, val_main_v17]
  exact (IsReal.sum _ fun k => (h6 _).mul (h3 _)).add (IsReal.sum _ fun k => (h5 _).mul (h2 _))

theorem root_arg (hf : Finite m c) (R : Fin 2048) : ∃ v : ℝ, 0 < v ∧ val_main_v6 (F := Ideal) (m (c.tc.loc main_arg0)) (ix2 R 0) = (v : EReal) := by
  pointwise [val_main_v6, val_main_v5, val_main_v4, val_main_v3, val_main_v2, val_main_v1, val_main_v0, val_main_cst, val_main_cst_0, val_main_cst_1]
  exact mean_square_pos _ fun k => hf.1 _

theorem root (R : Fin 2048) : val_main_v7 (F := Ideal) (m (c.tc.loc main_arg0)) (ix2 R 0) = Ideal.rsqrt (val_main_v6 (F := Ideal) (m (c.tc.loc main_arg0)) (ix2 R 0)) := rfl

/-- One row's part of the gradient at the norm's weight. -/
def part (R : Fin 2048) (s : Fin 1024) : EReal :=
  HMul.hMul (α := EReal) (β := EReal) (val_main_v19 (F := Ideal) (m (c.tc.loc main_arg2)) (m (c.tc.loc main_arg3)) (m (c.tc.loc main_arg5)) (m (c.tc.loc main_arg6)) (ix2 R s))
    (HMul.hMul (α := EReal) (β := EReal) ((m (c.tc.loc main_arg0)) (ix2 R s)) (val_main_v7 (F := Ideal) (m (c.tc.loc main_arg0)) (ix2 R 0)))

/-- What the `n`-th point of the grid adds to it. -/
def term (n : ℕ) (s : Fin 1024) : EReal := ∑ r : Fin 256, if h : n * 256 + r.val < 2048 then part m c ⟨n * 256 + r.val, h⟩ s else 0

theorem term_at (t : Fin cfg0.N) (s : Fin 1024) :
    term m c t.val s = ∑ r : Fin 256, part m c ⟨t.val * 256 + r.val, by have := points t; omega⟩ s :=
  Finset.sum_congr rfl fun r _ => dif_pos _

theorem first_at (t : Fin cfg0.N) (h : t.val % 8 = 0) (s : Fin 1024) : (outsAt0 m c t.val t.isLt).2 (ix2 0 s) = 0 + term m c t.val s := by
  rw [sum_first m c t h, term_at, zero_add]
  pointwise [k0_pay1, k0_pay3, k0_pay7, k0_pay8, dhk_at, x_block, rstd_block]
  rfl

theorem next_at (t : Fin cfg0.N) (h : ¬t.val % 8 = 0) (s : Fin 1024) :
    (outsAt0 m c t.val t.isLt).2 (ix2 0 s) = (outsAt0 m c (t.val - 1) (Nat.lt_of_le_of_lt (Nat.sub_le _ _) t.isLt)).2 (ix2 0 s) + term m c t.val s := by
  rw [sum_next m c t h, term_at]
  pointwise [k0_pay1, k0_pay3, k0_pay4, k0_pay7, k0_pay8, dhk_at, x_block, rstd_block]
  rfl

theorem reference_sum (s : Fin 1024) : val_main_v22 (F := Ideal) (m (c.tc.loc main_arg0)) (m (c.tc.loc main_arg2)) (m (c.tc.loc main_arg3)) (m (c.tc.loc main_arg5)) (m (c.tc.loc main_arg6)) (ix2 0 s) = ∑ R, part m c R s := by
  pointwise [val_main_cst, val_main_cst_0, val_main_cst_1, val_main_v8, val_main_cst_2, val_main_v9, val_main_v10, val_main_v11, val_main_v12, val_main_v13, val_main_v14, val_main_v15, val_main_v16, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]
  exact Finset.sum_congr rfl fun k _ => mul_comm (G := EReal) _ _

/-- The reference's array, as a function of the arguments. -/
abbrev G8 : S2048x1024.Idx → EReal := val_main_v39 (F := Ideal) (m (c.tc.loc main_arg0)) (m (c.tc.loc main_arg1)) (m (c.tc.loc main_arg2)) (m (c.tc.loc main_arg3)) (m (c.tc.loc main_arg5)) (m (c.tc.loc main_arg6)) (m (c.tc.loc main_arg7))

theorem value8 (hf : Finite m c) (t : Fin cfg0.N) (r : Fin 256) (s : Fin 1024) :
    (outsAt0 m c t.val t.isLt).1 (ix2 r s) = G8 m c (ix2 ⟨t.val * 256 + r.val, by have := points t; omega⟩ s) := by
  rw [rows]
  pointwise [k0_pay1, k0_pay2, k0_pay7, k0_pay8, dhk_at, x_block, rstd_block, g_block, dx_block, val_main_cst, val_main_cst_0, val_main_cst_1, val_main_v8, val_main_cst_2, val_main_v9, val_main_v10, val_main_v11, val_main_v12, val_main_v13, val_main_v14, val_main_v15, val_main_v16, val_main_v20, val_main_cst_3, val_main_v21, val_main_v22, val_main_v23, val_main_v24, val_main_v25, val_main_cst_4, val_main_v26, val_main_v27, val_main_v28, val_main_v29, val_main_v30, val_main_v31, val_main_cst_5, val_main_v32, val_main_v33, val_main_cst_6, val_main_v34, val_main_v35, val_main_v36, val_main_v37, val_main_v38, val_main_v39]
  simp only [Fin.sum_univ_one]
  exact norm_grad (fun k => (m (c.tc.loc main_arg0)) (ix2 ⟨t.val * 256 + r.val, by have := points t; omega⟩ k)) (fun k => val_main_v19 (F := Ideal) (m (c.tc.loc main_arg2)) (m (c.tc.loc main_arg3)) (m (c.tc.loc main_arg5)) (m (c.tc.loc main_arg6)) (ix2 ⟨t.val * 256 + r.val, by have := points t; omega⟩ k) * (m (c.tc.loc main_arg1)) (ix2 0 k)) _ _ _
    (fun k => hf.1 _) (fun k => (row_real m c hf _ k).mul (hf.2.1 _)) (hf.2.2.2.2.2.2 _) (root_arg m c hf _) (root m c _) s

theorem result8 (hf : Finite m c) (t : Fin cfg0.N) (j : S256x1024.Idx) :
    (outsAt0 m c t.val t.isLt).1 j = G8 m c ((win0_8.rect t).emb j) := by
  idx_vars j
  rw [value8 m c hf t]
  congr 1
  funext a
  apply Fin.ext
  refine Eq.symm ((Pipeline.Window.rect_emb_val win0_8 t (ix2 j0 j1) a).trans ?_)
  rw [at8]
  fin_cases a
  · rfl
  · exact Nat.zero_add _

theorem inside8 (t : Fin cfg0.N) (i : S2048x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v24_0).slice (win0_8.rect t)).set ↔ _
  rw [View.set_slice_whole, Rect.mem_set_unit]
  exact Iff.rfl

theorem covered8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hb : (i 0).val / 256 < 8 := by omega
  refine ⟨⟨(i 0).val / 256, by rw [show cfg0.N = 8 from N_0]; exact hb⟩, flush0_8 _, (inside8 _ _).mpr ?_⟩
  rw [at8]
  intro a
  fin_cases a
  · show ((i 0).val / 256) * 256 ≤ (i 0).val ∧ (i 0).val < ((i 0).val / 256) * 256 + 256; omega
  · show 0 * 1024 ≤ (i 1).val ∧ (i 1).val < 0 * 1024 + 1024; omega

theorem final8 (hf : Finite m c) : (dats m 0 c).arrAt 8 cfg0.N = G8 m c := by
  refine Pipeline.Dat.arrAt_eq_of_cover (dats m 0 c) 8 (G8 m c) (fun t _ => ?_) (covered8)
  rw [Value.flushed8]
  funext j
  exact result8 m c hf t j

/-- The reference's array, as a function of the arguments. -/
abbrev G9 : S1x1024.Idx → EReal := val_main_v22 (F := Ideal) (m (c.tc.loc main_arg0)) (m (c.tc.loc main_arg2)) (m (c.tc.loc main_arg3)) (m (c.tc.loc main_arg5)) (m (c.tc.loc main_arg6))

theorem value9 (t : Fin cfg0.N) (ht : t.val % 8 = 7) (r : Fin 1) (s : Fin 1024) :
    (outsAt0 m c t.val t.isLt).2 (ix2 r s) = G9 m c (ix2 r s) := by
  obtain rfl : r = 0 := Subsingleton.elim _ _
  refine (Pipeline.eq_sum_of_reset_step_apply_single (fun n h (u : Fin 1024) => (outsAt0 m c n h).2 (ix2 0 u)) 8 (fun _ => 0) (term m c)
    (fun t h u => first_at m c t h u) (fun t h u => next_at m c t h u) (le_of_eq N_0) t s).trans ?_
  have hn : t.val + 1 = 8 := by have := points t; omega
  rw [hn, zero_add]
  exact (sum_of_points 8 256 rfl fun R => part m c R s).trans (reference_sum m c s).symm

theorem result9 (t : Fin cfg0.N) (ht : t.val % 8 = 7) (j : S1x1024.Idx) :
    (outsAt0 m c t.val t.isLt).2 j = G9 m c ((win0_9.rect t).emb j) := by
  idx_vars j
  rw [value9 m c t ht]
  congr 1
  funext a
  apply Fin.ext
  refine Eq.symm ((Pipeline.Window.rect_emb_val win0_9 t (ix2 j0 j1) a).trans ?_)
  rw [at9]
  fin_cases a
  · exact Nat.zero_add _
  · exact Nat.zero_add _

theorem inside9 (t : Fin cfg0.N) (i : S1x1024.Idx) :
    i ∈ ((cfg0.win 9).blk t).view.set ↔ ∀ a : Fin 2, win0_9.index t a * S1x1024.size a ≤ (i a).val ∧ (i a).val < win0_9.index t a * S1x1024.size a + S1x1024.size a := by
  show i ∈ ((View.whole main_v24_1).slice (win0_9.rect t)).set ↔ _
  rw [View.set_slice_whole, Rect.mem_set_unit]
  exact Iff.rfl

theorem covered9 (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  have hb : 7 < 8 := by omega
  refine ⟨⟨7, by rw [show cfg0.N = 8 from N_0]; exact hb⟩, (flush0_9 _).mpr (by show (7)  % 8 = 7; omega), (inside9 _ _).mpr ?_⟩
  rw [at9]
  intro a
  fin_cases a
  · show 0 * 1 ≤ (i 0).val ∧ (i 0).val < 0 * 1 + 1; omega
  · show 0 * 1024 ≤ (i 1).val ∧ (i 1).val < 0 * 1024 + 1024; omega

theorem final9 : (dats m 0 c).arrAt 9 cfg0.N = G9 m c := by
  refine Pipeline.Dat.arrAt_eq_of_cover (dats m 0 c) 9 (G9 m c) (fun t hfl => ?_) (covered9)
  rw [Value.flushed9]
  funext j
  exact result9 m c t ((flush0_9 t).mp hfl) j

end Cert.Proof.Dh

end
-- ==== Proof.Claims4.lean ====
/- The value claim of the gradient at the input of a feed-forward half. -/
module

public import proofs.«01_k».proof.Defs
public import proofs.«01_k».proof.Proof.Dh
public import proofs.«01_k».proof.Proof.Gen.Reference3Ideal.Run
public import proofs.«01_k».proof.Proof.Gen.Pre_dh_finite

@[expose] public section

set_option maxRecDepth 16384

noncomputable section

namespace Cert.Proof

open Idealize.ShloMosaic Idealize.ShloMosaic.TcCoe Idealize.SL.Sem

theorem dh_value : Cert.algebraic_Kernel3Ideal_Reference3Ideal_pre_dh_finite := by
  intro m g m' g' hpre hargs
  have hf := Dh.finite m hpre
  refine ⟨fun c => Dh.G8 m c, fun c => Dh.G9 m c,
    (θ_run _ _ _).mono (fun r h c => ?_) (Cert.Kernel3Ideal.Value.run_blocks m g),
    (θ_run _ _ _).mono (fun r h c => ?_) (Cert.Reference3Ideal.Value.run m' g')⟩
  · obtain ⟨h0, h1, ha⟩ := h c
    exact ⟨h0.trans (Dh.final8 m c (hf c)), h1.trans (Dh.final9 m c), ha⟩
  · obtain ⟨h0, h1, ha⟩ := h c
    obtain ⟨e0, e1, e2, e3, e4, e5, e6, e7⟩ := hargs c
    refine ⟨h0.trans ?_, h1.trans ?_, ha⟩
    · rw [Cert.Reference3Ideal.Read.val_main_v39_eq, e0, e1, e2, e3, e5, e6, e7]
    · rw [e0, e2, e3, e5, e6]; rfl

end Cert.Proof

end
-- ==== Proof.SumFfn.lean ====
/- The sum of the four chips' parts of a feed-forward half's weight gradients: the values of the kernel's array. -/
module

public import proofs.«01_k».proof.Proof.Gen.Kernel24.Frame
public import proofs.«01_k».proof.Proof.Gen.Kernel24Ideal.Frame
public import proofs.«01_k».proof.Proof.Gen.Reference24Ideal
public import proofs.«01_k».proof.Proof.Basis

@[expose] public section

set_option maxRecDepth 16384

noncomputable section

namespace Cert.Proof.SumFfn

open Idealize.ShloMosaic Idealize.ShloMosaic.TcCoe Idealize.SL.Sem

section Table

open Cert.Kernel24 Cert.Kernel24.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference24Ideal Cert.Reference24Ideal.Gen Idealize.ShloMosaic.StableHlo

variable {F : FTy → Type} [FloatOps F]

/-- The reference's operations, in order. -/
abbrev ref_lines : List (HloOp Cert.Reference24Ideal.τ Cert.Reference24Ideal.sig (Elt F)) :=
  [ unary main_arg0 main_v0 ((extractStridedSlice S1x3x352x1024 ![0, 0, 0, 0] · slices_S4x3x352x1024_S1x3x352x1024_0_0_0_0) : (⟨S4x3x352x1024, .bf16⟩ : BufTy).Contents (Elt F) → (⟨S1x3x352x1024, .bf16⟩ : BufTy).Contents (Elt F)),
    reshape main_v0 main_v1 (rfl : (.bf16 : EltTy) = .bf16) shapeCasts_S1x3x352x1024_S3x352x1024,
    unary main_v1 main_v2 ((extf .f32 · bitsLt_bf16_f32) : (⟨S3x352x1024, .bf16⟩ : BufTy).Contents (Elt F) → (⟨S3x352x1024, .f32⟩ : BufTy).Contents (Elt F)),
    unary main_arg1 main_v3 ((extf .f32 · bitsLt_bf16_f32) : (⟨S3x3x352x1024, .bf16⟩ : BufTy).Contents (Elt F) → (⟨S3x3x352x1024, .f32⟩ : BufTy).Contents (Elt F)),
    nullary main_cst (constant S_ .f32 0x00000000#32),
    binary main_v3 main_cst main_v4 ((fun x v => Host.reduceAdd x v reducesTo_S3x3x352x1024_S3x352x1024_d0 h_S_) : (⟨S3x3x352x1024, .f32⟩ : BufTy).Contents (Elt F) → (⟨S_, .f32⟩ : BufTy).Contents (Elt F) → (⟨S3x352x1024, .f32⟩ : BufTy).Contents (Elt F)),
    binary main_v2 main_v4 main_v5 (addf : (⟨S3x352x1024, .f32⟩ : BufTy).Contents (Elt F) → (⟨S3x352x1024, .f32⟩ : BufTy).Contents (Elt F) → (⟨S3x352x1024, .f32⟩ : BufTy).Contents (Elt F)) ]

theorem ref_inside : (ref_lines : List (HloOp Cert.Reference24Ideal.τ Cert.Reference24Ideal.sig (Elt F))).Forall fun op => op.bufs ⊆ tcRefs Cert.Reference24Ideal.τ Cert.Reference24Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x3x352x1024 .bf16) (y : FVec F S3x3x352x1024 .bf16) : FVec F S3x352x1024 .f32 :=
  addf (extf .f32 (shapeCast S3x352x1024 (extractStridedSlice S1x3x352x1024 ![0, 0, 0, 0] x slices_S4x3x352x1024_S1x3x352x1024_0_0_0_0) shapeCasts_S1x3x352x1024_S3x352x1024) bitsLt_bf16_f32)
    (Host.reduceAdd (extf .f32 y bitsLt_bf16_f32) (constant S_ .f32 0x00000000#32) reducesTo_S3x3x352x1024_S3x352x1024_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel24Ideal Cert.Kernel24Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 3 := t.isLt

theorem at0 (t : Fin (pipe m).N) : ((pipe m).win 0).index t = ![0, t.val, 0, 0] := by
  show cc0_transform_0 _ _ (tbl m) (grid0.coords t) = _
  rw [table m]
  revert t
  show ∀ t : Fin grid0.N, cc0_transform_0 _ _ place (grid0.coords t) = ![0, t.val, 0, 0]
  decide

theorem at1 (t : Fin (pipe m).N) : ((pipe m).win 1).index t = ![0, t.val, 0, 0] := by
  show cc0_transform_1 (grid0.coords t) = _
  revert t
  show ∀ t : Fin grid0.N, cc0_transform_1 (grid0.coords t) = ![0, t.val, 0, 0]
  decide

theorem at2 (t : Fin (pipe m).N) : ((pipe m).win 2).index t = ![t.val, 0, 0] := by
  show cc0_transform_2 _ _ (tbl m) (grid0.coords t) = _
  rw [table m]
  revert t
  show ∀ t : Fin grid0.N, cc0_transform_2 _ _ place (grid0.coords t) = ![t.val, 0, 0]
  decide

/-- The kernel's array after the region. -/
abbrev whole : FVec Ideal S3x704x1024 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v2) = extractStridedSlice S3x352x1024 ![0, 0, 0] (whole m c) Facts₀.slices_S3x704x1024_S3x352x1024_0_0_0 := by
  refine ((h c).2 main_v2 (Pipeline.mem_restRefs_of main_v2 (by decide) (show ∀ w : Fin 3, Pipeline.arrRef spec0 w ≠ main_v2 by decide))).trans ?_
  have e : Pipeline.withArrays (Pipeline.pin pcfgs (fun _ => adm m (ok m)) 0).spec c (V0 m c) (fun w => (dats m (ok m) 0 c).arrAt w (pipe m).N) (Proc.devRef .tc main_v1) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 3
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 3 := ⟨t.val, by have h := points m t; omega⟩

abbrev row_of (t : Fin (pipe m).N) (r : Fin 352) : Fin 352 := ⟨0 * 352 + r.val, by have h := points m t; omega⟩

theorem parts_block (t : Fin (pipe m).N) (q q' : Fin 1) (r : Fin 352) (s : Fin 1024) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show t.val * 1 + q'.val = t.val; omega
    · rfl
    · exact Nat.zero_add _
  rw [h, V_main_arg0]

theorem landed_block (t : Fin (pipe m).N) (k : Fin 3) (q' : Fin 1) (r : Fin 352) (s : Fin 1024) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show t.val * 1 + q'.val = t.val; omega
    · rfl
    · exact Nat.zero_add _
  rw [h, V_main_arg1]

/-- The sum of the four chips' parts, at an entry of the device's half. -/
def total (a : Fin 3) (r : Fin 352) (s : Fin 1024) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x352x1024 .bf16) (harg3 : arg3.IsWhole)
    (arg4 : Memref sig .tc .vmem S3x1x352x1024 .bf16) (harg4 : arg4.IsWhole) (arg5 : Memref sig .tc .vmem S1x352x1024 .f32)
    (harg5 : arg5.IsWhole) (x0 : Vec Ideal S1x1x352x1024 .bf16) (x1 : Vec Ideal S3x1x352x1024 .bf16)
    (xt0 : TbBuf0 (F := Ideal) c tbM0_0) (q : Fin 1) (r : Fin 352) (s : Fin 1024) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 352) (s : Fin 1024) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S3x704x1024.Idx → EReal := fun i =>
  if h : (i 1).val < 352 then total m c (i 0) ⟨(i 1).val, h⟩ (i 2) else 0

theorem G_at (i : S3x704x1024.Idx) (a : Fin 3) (r : Fin 352) (s : Fin 1024) (h0 : (i 0).val = a.val) (h1 : (i 1).val = r.val)
    (h2 : (i 2).val = s.val) : G m c i = total m c a r s := by
  unfold G
  rw [dif_pos (by rw [h1]; exact r.isLt)]
  congr 1
  · exact Fin.ext h0
  · exact Fin.ext h1
  · exact Fin.ext h2

/-- Where an entry of the block at point `t` lies in the array. -/
def place_of (t : Fin (pipe m).N) (j : S1x352x1024.Idx) : S3x704x1024.Idx := (((pipe m).win 2).rect t).emb j

theorem place_val (t : Fin (pipe m).N) (j : S1x352x1024.Idx) (a : Fin 3) :
    (place_of m t j a).val = (![t.val, 0, 0] : Fin 3 → Nat) a * S1x352x1024.size a + (j a).val := by
  refine (Pipeline.Window.rect_emb_val ((pipe m).win 2) t j a).trans ?_
  rw [at2]
  rfl

theorem block_value (t : Fin (pipe m).N) (j : S1x352x1024.Idx) : outsAt0 m (ok m) c t j = G m c (place_of m t j) := by
  idx_vars j
  rw [value]
  refine (G_at m c _ (arr_of m t) (row_of m t j1) j2 ?_ ?_ ?_).symm
  · rw [place_val]
    show t.val * 1 + j0.val = t.val; omega
  · rw [place_val]
    rfl
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S3x704x1024.Idx) :
    i ∈ (((pipe m).win 2).blk t).view.set ↔ ∀ a : Fin 3, (![t.val, 0, 0] : Fin 3 → Nat) a * S1x352x1024.size a ≤ (i a).val ∧ (i a).val < (![t.val, 0, 0] : Fin 3 → Nat) a * S1x352x1024.size a + S1x352x1024.size a := by
  refine (iff_of_eq (congrArg (fun z : Finset S3x704x1024.Idx => i ∈ z) (View.set_slice_whole main_v1 (((pipe m).win 2).rect t)))).trans ?_
  refine Rect.mem_set_unit.trans ?_
  show (∀ a : Fin 3, ((pipe m).win 2).index t a * S1x352x1024.size a ≤ (i a).val ∧ (i a).val < ((pipe m).win 2).index t a * S1x352x1024.size a + S1x352x1024.size a) ↔ _
  rw [at2]

theorem final (a : Fin 3) (r : Fin 352) (s : Fin 1024) :
    whole m c (ix3 a ⟨r.val, by omega⟩ s) = total m c a r s := by
  have hp : a.val < (pipe m).N := by
    show a.val < grid0.N
    rw [N_0]; omega
  refine (Pipeline.Dat.arrAt_apply_of_mem (dats m (ok m) 0 c) 2 (G m c) (fun t _ => flushed m c t) (pipe m).N ⟨a.val, hp⟩ _ hp
    (flush m _) ((inside m _ _).mpr ?_)).trans (G_at m c _ a r s rfl rfl rfl)
  intro b
  fin_cases b
  · show a.val * 1 ≤ a.val ∧ a.val < a.val * 1 + 1; omega
  · show 0 * 352 ≤ r.val ∧ r.val < 0 * 352 + 352; omega
  · show 0 * 1024 ≤ s.val ∧ s.val < 0 * 1024 + 1024; omega

/-- The result: the rows of the device's half. -/
abbrev R : S3x352x1024.Idx → EReal := fun i => total m c (i 0) (i 1) (i 2)

theorem rows (X : FVec Ideal S3x704x1024 .f32) (a : Fin 3) (r : Fin 352) (s : Fin 1024) :
    extractStridedSlice S3x352x1024 ![0, 0, 0] X Facts₀.slices_S3x704x1024_S3x352x1024_0_0_0 (ix3 a r s) = X (ix3 a ⟨r.val, by omega⟩ s) := by
  pointwise []

theorem result : extractStridedSlice S3x352x1024 ![0, 0, 0] (whole m c) Facts₀.slices_S3x704x1024_S3x352x1024_0_0_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  unfold ref_term R total
  pointwise []
  exact congrArg (fun z : EReal => HAdd.hAdd (α := EReal) (β := EReal) _ z) (Fin.sum_univ_three _)

end Cert.Proof.SumFfn

end
-- ==== Proof.SumIn.lean ====
/- The sum of the four chips' parts of the gradient of w_in: the values of the kernel's array. -/
module

public import proofs.«01_k».proof.Proof.Gen.Kernel25.Frame
public import proofs.«01_k».proof.Proof.Gen.Kernel25Ideal.Frame
public import proofs.«01_k».proof.Proof.Gen.Reference25Ideal
public import proofs.«01_k».proof.Proof.Basis

@[expose] public section

set_option maxRecDepth 16384

noncomputable section

namespace Cert.Proof.SumIn

open Idealize.ShloMosaic Idealize.ShloMosaic.TcCoe Idealize.SL.Sem

section Table

open Cert.Kernel25 Cert.Kernel25.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference25Ideal Cert.Reference25Ideal.Gen Idealize.ShloMosaic.StableHlo

variable {F : FTy → Type} [FloatOps F]

/-- The reference's operations, in order. -/
abbrev ref_lines : List (HloOp Cert.Reference25Ideal.τ Cert.Reference25Ideal.sig (Elt F)) :=
  [ unary main_arg0 main_v0 ((extractStridedSlice S1x1x400x1024 ![0, 0, 0, 0] · slices_S4x1x400x1024_S1x1x400x1024_0_0_0_0) : (⟨S4x1x400x1024, .bf16⟩ : BufTy).Contents (Elt F) → (⟨S1x1x400x1024, .bf16⟩ : BufTy).Contents (Elt F)),
    reshape main_v0 main_v1 (rfl : (.bf16 : EltTy) = .bf16) shapeCasts_S1x1x400x1024_S1x400x1024,
    unary main_v1 main_v2 ((extf .f32 · bitsLt_bf16_f32) : (⟨S1x400x1024, .bf16⟩ : BufTy).Contents (Elt F) → (⟨S1x400x1024, .f32⟩ : BufTy).Contents (Elt F)),
    unary main_arg1 main_v3 ((extf .f32 · bitsLt_bf16_f32) : (⟨S3x1x400x1024, .bf16⟩ : BufTy).Contents (Elt F) → (⟨S3x1x400x1024, .f32⟩ : BufTy).Contents (Elt F)),
    nullary main_cst (constant S_ .f32 0x00000000#32),
    binary main_v3 main_cst main_v4 ((fun x v => Host.reduceAdd x v reducesTo_S3x1x400x1024_S1x400x1024_d0 h_S_) : (⟨S3x1x400x1024, .f32⟩ : BufTy).Contents (Elt F) → (⟨S_, .f32⟩ : BufTy).Contents (Elt F) → (⟨S1x400x1024, .f32⟩ : BufTy).Contents (Elt F)),
    binary main_v2 main_v4 main_v5 (addf : (⟨S1x400x1024, .f32⟩ : BufTy).Contents (Elt F) → (⟨S1x400x1024, .f32⟩ : BufTy).Contents (Elt F) → (⟨S1x400x1024, .f32⟩ : BufTy).Contents (Elt F)) ]

theorem ref_inside : (ref_lines : List (HloOp Cert.Reference25Ideal.τ Cert.Reference25Ideal.sig (Elt F))).Forall fun op => op.bufs ⊆ tcRefs Cert.Reference25Ideal.τ Cert.Reference25Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x1x400x1024 .bf16) (y : FVec F S3x1x400x1024 .bf16) : FVec F S1x400x1024 .f32 :=
  addf (extf .f32 (shapeCast S1x400x1024 (extractStridedSlice S1x1x400x1024 ![0, 0, 0, 0] x slices_S4x1x400x1024_S1x1x400x1024_0_0_0_0) shapeCasts_S1x1x400x1024_S1x400x1024) bitsLt_bf16_f32)
    (Host.reduceAdd (extf .f32 y bitsLt_bf16_f32) (constant S_ .f32 0x00000000#32) reducesTo_S3x1x400x1024_S1x400x1024_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel25Ideal Cert.Kernel25Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 1 := t.isLt

theorem at0 (t : Fin (pipe m).N) : ((pipe m).win 0).index t = ![0, t.val, 0, 0] := by
  show cc0_transform_0 _ _ (tbl m) (grid0.coords t) = _
  rw [table m]
  revert t
  show ∀ t : Fin grid0.N, cc0_transform_0 _ _ place (grid0.coords t) = ![0, t.val, 0, 0]
  decide

theorem at1 (t : Fin (pipe m).N) : ((pipe m).win 1).index t = ![0, t.val, 0, 0] := by
  show cc0_transform_1 (grid0.coords t) = _
  revert t
  show ∀ t : Fin grid0.N, cc0_transform_1 (grid0.coords t) = ![0, t.val, 0, 0]
  decide

theorem at2 (t : Fin (pipe m).N) : ((pipe m).win 2).index t = ![t.val, 0, 0] := by
  show cc0_transform_2 _ _ (tbl m) (grid0.coords t) = _
  rw [table m]
  revert t
  show ∀ t : Fin grid0.N, cc0_transform_2 _ _ place (grid0.coords t) = ![t.val, 0, 0]
  decide

/-- The kernel's array after the region. -/
abbrev whole : FVec Ideal S1x800x1024 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v2) = extractStridedSlice S1x400x1024 ![0, 0, 0] (whole m c) Facts₀.slices_S1x800x1024_S1x400x1024_0_0_0 := by
  refine ((h c).2 main_v2 (Pipeline.mem_restRefs_of main_v2 (by decide) (show ∀ w : Fin 3, Pipeline.arrRef spec0 w ≠ main_v2 by decide))).trans ?_
  have e : Pipeline.withArrays (Pipeline.pin pcfgs (fun _ => adm m (ok m)) 0).spec c (V0 m c) (fun w => (dats m (ok m) 0 c).arrAt w (pipe m).N) (Proc.devRef .tc main_v1) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 1
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 1 := ⟨t.val, by have h := points m t; omega⟩

abbrev row_of (t : Fin (pipe m).N) (r : Fin 400) : Fin 400 := ⟨0 * 400 + r.val, by have h := points m t; omega⟩

theorem parts_block (t : Fin (pipe m).N) (q q' : Fin 1) (r : Fin 400) (s : Fin 1024) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show t.val * 1 + q'.val = t.val; omega
    · rfl
    · exact Nat.zero_add _
  rw [h, V_main_arg0]

theorem landed_block (t : Fin (pipe m).N) (k : Fin 3) (q' : Fin 1) (r : Fin 400) (s : Fin 1024) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show t.val * 1 + q'.val = t.val; omega
    · rfl
    · exact Nat.zero_add _
  rw [h, V_main_arg1]

/-- The sum of the four chips' parts, at an entry of the device's half. -/
def total (a : Fin 1) (r : Fin 400) (s : Fin 1024) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x400x1024 .bf16) (harg3 : arg3.IsWhole)
    (arg4 : Memref sig .tc .vmem S3x1x400x1024 .bf16) (harg4 : arg4.IsWhole) (arg5 : Memref sig .tc .vmem S1x400x1024 .f32)
    (harg5 : arg5.IsWhole) (x0 : Vec Ideal S1x1x400x1024 .bf16) (x1 : Vec Ideal S3x1x400x1024 .bf16)
    (xt0 : TbBuf0 (F := Ideal) c tbM0_0) (q : Fin 1) (r : Fin 400) (s : Fin 1024) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 400) (s : Fin 1024) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S1x800x1024.Idx → EReal := fun i =>
  if h : (i 1).val < 400 then total m c (i 0) ⟨(i 1).val, h⟩ (i 2) else 0

theorem G_at (i : S1x800x1024.Idx) (a : Fin 1) (r : Fin 400) (s : Fin 1024) (h0 : (i 0).val = a.val) (h1 : (i 1).val = r.val)
    (h2 : (i 2).val = s.val) : G m c i = total m c a r s := by
  unfold G
  rw [dif_pos (by rw [h1]; exact r.isLt)]
  congr 1
  · exact Fin.ext h0
  · exact Fin.ext h1
  · exact Fin.ext h2

/-- Where an entry of the block at point `t` lies in the array. -/
def place_of (t : Fin (pipe m).N) (j : S1x400x1024.Idx) : S1x800x1024.Idx := (((pipe m).win 2).rect t).emb j

theorem place_val (t : Fin (pipe m).N) (j : S1x400x1024.Idx) (a : Fin 3) :
    (place_of m t j a).val = (![t.val, 0, 0] : Fin 3 → Nat) a * S1x400x1024.size a + (j a).val := by
  refine (Pipeline.Window.rect_emb_val ((pipe m).win 2) t j a).trans ?_
  rw [at2]
  rfl

theorem block_value (t : Fin (pipe m).N) (j : S1x400x1024.Idx) : outsAt0 m (ok m) c t j = G m c (place_of m t j) := by
  idx_vars j
  rw [value]
  refine (G_at m c _ (arr_of m t) (row_of m t j1) j2 ?_ ?_ ?_).symm
  · rw [place_val]
    show t.val * 1 + j0.val = t.val; omega
  · rw [place_val]
    rfl
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S1x800x1024.Idx) :
    i ∈ (((pipe m).win 2).blk t).view.set ↔ ∀ a : Fin 3, (![t.val, 0, 0] : Fin 3 → Nat) a * S1x400x1024.size a ≤ (i a).val ∧ (i a).val < (![t.val, 0, 0] : Fin 3 → Nat) a * S1x400x1024.size a + S1x400x1024.size a := by
  refine (iff_of_eq (congrArg (fun z : Finset S1x800x1024.Idx => i ∈ z) (View.set_slice_whole main_v1 (((pipe m).win 2).rect t)))).trans ?_
  refine Rect.mem_set_unit.trans ?_
  show (∀ a : Fin 3, ((pipe m).win 2).index t a * S1x400x1024.size a ≤ (i a).val ∧ (i a).val < ((pipe m).win 2).index t a * S1x400x1024.size a + S1x400x1024.size a) ↔ _
  rw [at2]

theorem final (a : Fin 1) (r : Fin 400) (s : Fin 1024) :
    whole m c (ix3 a ⟨r.val, by omega⟩ s) = total m c a r s := by
  have hp : a.val < (pipe m).N := by
    show a.val < grid0.N
    rw [N_0]; omega
  refine (Pipeline.Dat.arrAt_apply_of_mem (dats m (ok m) 0 c) 2 (G m c) (fun t _ => flushed m c t) (pipe m).N ⟨a.val, hp⟩ _ hp
    (flush m _) ((inside m _ _).mpr ?_)).trans (G_at m c _ a r s rfl rfl rfl)
  intro b
  fin_cases b
  · show a.val * 1 ≤ a.val ∧ a.val < a.val * 1 + 1; omega
  · show 0 * 400 ≤ r.val ∧ r.val < 0 * 400 + 400; omega
  · show 0 * 1024 ≤ s.val ∧ s.val < 0 * 1024 + 1024; omega

/-- The result: the rows of the device's half. -/
abbrev R : S1x400x1024.Idx → EReal := fun i => total m c (i 0) (i 1) (i 2)

theorem rows (X : FVec Ideal S1x800x1024 .f32) (a : Fin 1) (r : Fin 400) (s : Fin 1024) :
    extractStridedSlice S1x400x1024 ![0, 0, 0] X Facts₀.slices_S1x800x1024_S1x400x1024_0_0_0 (ix3 a r s) = X (ix3 a ⟨r.val, by omega⟩ s) := by
  obtain rfl : a = 0 := Subsingleton.elim _ _
  pointwise []

theorem result : extractStridedSlice S1x400x1024 ![0, 0, 0] (whole m c) Facts₀.slices_S1x800x1024_S1x400x1024_0_0_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  obtain rfl : i0 = 0 := Subsingleton.elim _ _
  unfold ref_term R total
  pointwise []
  exact congrArg (fun z : EReal => HAdd.hAdd (α := EReal) (β := EReal) _ z) (Fin.sum_univ_three _)

end Cert.Proof.SumIn

end
-- ==== Proof.SumGate.lean ====
/- The sum of the four chips' parts of the gradient of w_gate: the values of the kernel's array. -/
module

public import proofs.«01_k».proof.Proof.Gen.Kernel26.Frame
public import proofs.«01_k».proof.Proof.Gen.Kernel26Ideal.Frame
public import proofs.«01_k».proof.Proof.Gen.Reference26Ideal
public import proofs.«01_k».proof.Proof.Basis

@[expose] public section

set_option maxRecDepth 16384

noncomputable section

namespace Cert.Proof.SumGate

open Idealize.ShloMosaic Idealize.ShloMosaic.TcCoe Idealize.SL.Sem

section Table

open Cert.Kernel26 Cert.Kernel26.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference26Ideal Cert.Reference26Ideal.Gen Idealize.ShloMosaic.StableHlo

variable {F : FTy → Type} [FloatOps F]

/-- The reference's operations, in order. -/
abbrev ref_lines : List (HloOp Cert.Reference26Ideal.τ Cert.Reference26Ideal.sig (Elt F)) :=
  [ unary main_arg0 main_v0 ((extractStridedSlice S1x1x256x1024 ![0, 0, 0, 0] · slices_S4x1x256x1024_S1x1x256x1024_0_0_0_0) : (⟨S4x1x256x1024, .bf16⟩ : BufTy).Contents (Elt F) → (⟨S1x1x256x1024, .bf16⟩ : BufTy).Contents (Elt F)),
    reshape main_v0 main_v1 (rfl : (.bf16 : EltTy) = .bf16) shapeCasts_S1x1x256x1024_S1x256x1024,
    unary main_v1 main_v2 ((extf .f32 · bitsLt_bf16_f32) : (⟨S1x256x1024, .bf16⟩ : BufTy).Contents (Elt F) → (⟨S1x256x1024, .f32⟩ : BufTy).Contents (Elt F)),
    unary main_arg1 main_v3 ((extf .f32 · bitsLt_bf16_f32) : (⟨S3x1x256x1024, .bf16⟩ : BufTy).Contents (Elt F) → (⟨S3x1x256x1024, .f32⟩ : BufTy).Contents (Elt F)),
    nullary main_cst (constant S_ .f32 0x00000000#32),
    binary main_v3 main_cst main_v4 ((fun x v => Host.reduceAdd x v reducesTo_S3x1x256x1024_S1x256x1024_d0 h_S_) : (⟨S3x1x256x1024, .f32⟩ : BufTy).Contents (Elt F) → (⟨S_, .f32⟩ : BufTy).Contents (Elt F) → (⟨S1x256x1024, .f32⟩ : BufTy).Contents (Elt F)),
    binary main_v2 main_v4 main_v5 (addf : (⟨S1x256x1024, .f32⟩ : BufTy).Contents (Elt F) → (⟨S1x256x1024, .f32⟩ : BufTy).Contents (Elt F) → (⟨S1x256x1024, .f32⟩ : BufTy).Contents (Elt F)) ]

theorem ref_inside : (ref_lines : List (HloOp Cert.Reference26Ideal.τ Cert.Reference26Ideal.sig (Elt F))).Forall fun op => op.bufs ⊆ tcRefs Cert.Reference26Ideal.τ Cert.Reference26Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x1x256x1024 .bf16) (y : FVec F S3x1x256x1024 .bf16) : FVec F S1x256x1024 .f32 :=
  addf (extf .f32 (shapeCast S1x256x1024 (extractStridedSlice S1x1x256x1024 ![0, 0, 0, 0] x slices_S4x1x256x1024_S1x1x256x1024_0_0_0_0) shapeCasts_S1x1x256x1024_S1x256x1024) bitsLt_bf16_f32)
    (Host.reduceAdd (extf .f32 y bitsLt_bf16_f32) (constant S_ .f32 0x00000000#32) reducesTo_S3x1x256x1024_S1x256x1024_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel26Ideal Cert.Kernel26Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 1 := t.isLt

theorem at0 (t : Fin (pipe m).N) : ((pipe m).win 0).index t = ![0, t.val, 0, 0] := by
  show cc0_transform_0 _ _ (tbl m) (grid0.coords t) = _
  rw [table m]
  revert t
  show ∀ t : Fin grid0.N, cc0_transform_0 _ _ place (grid0.coords t) = ![0, t.val, 0, 0]
  decide

theorem at1 (t : Fin (pipe m).N) : ((pipe m).win 1).index t = ![0, t.val, 0, 0] := by
  show cc0_transform_1 (grid0.coords t) = _
  revert t
  show ∀ t : Fin grid0.N, cc0_transform_1 (grid0.coords t) = ![0, t.val, 0, 0]
  decide

theorem at2 (t : Fin (pipe m).N) : ((pipe m).win 2).index t = ![t.val, 0, 0] := by
  show cc0_transform_2 _ _ (tbl m) (grid0.coords t) = _
  rw [table m]
  revert t
  show ∀ t : Fin grid0.N, cc0_transform_2 _ _ place (grid0.coords t) = ![t.val, 0, 0]
  decide

/-- The kernel's array after the region. -/
abbrev whole : FVec Ideal S1x512x1024 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v2) = extractStridedSlice S1x256x1024 ![0, 0, 0] (whole m c) Facts₀.slices_S1x512x1024_S1x256x1024_0_0_0 := by
  refine ((h c).2 main_v2 (Pipeline.mem_restRefs_of main_v2 (by decide) (show ∀ w : Fin 3, Pipeline.arrRef spec0 w ≠ main_v2 by decide))).trans ?_
  have e : Pipeline.withArrays (Pipeline.pin pcfgs (fun _ => adm m (ok m)) 0).spec c (V0 m c) (fun w => (dats m (ok m) 0 c).arrAt w (pipe m).N) (Proc.devRef .tc main_v1) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 1
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 1 := ⟨t.val, by have h := points m t; omega⟩

abbrev row_of (t : Fin (pipe m).N) (r : Fin 256) : Fin 256 := ⟨0 * 256 + r.val, by have h := points m t; omega⟩

theorem parts_block (t : Fin (pipe m).N) (q q' : Fin 1) (r : Fin 256) (s : Fin 1024) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show t.val * 1 + q'.val = t.val; omega
    · rfl
    · exact Nat.zero_add _
  rw [h, V_main_arg0]

theorem landed_block (t : Fin (pipe m).N) (k : Fin 3) (q' : Fin 1) (r : Fin 256) (s : Fin 1024) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show t.val * 1 + q'.val = t.val; omega
    · rfl
    · exact Nat.zero_add _
  rw [h, V_main_arg1]

/-- The sum of the four chips' parts, at an entry of the device's half. -/
def total (a : Fin 1) (r : Fin 256) (s : Fin 1024) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x256x1024 .bf16) (harg3 : arg3.IsWhole)
    (arg4 : Memref sig .tc .vmem S3x1x256x1024 .bf16) (harg4 : arg4.IsWhole) (arg5 : Memref sig .tc .vmem S1x256x1024 .f32)
    (harg5 : arg5.IsWhole) (x0 : Vec Ideal S1x1x256x1024 .bf16) (x1 : Vec Ideal S3x1x256x1024 .bf16)
    (xt0 : TbBuf0 (F := Ideal) c tbM0_0) (q : Fin 1) (r : Fin 256) (s : Fin 1024) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 256) (s : Fin 1024) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S1x512x1024.Idx → EReal := fun i =>
  if h : (i 1).val < 256 then total m c (i 0) ⟨(i 1).val, h⟩ (i 2) else 0

theorem G_at (i : S1x512x1024.Idx) (a : Fin 1) (r : Fin 256) (s : Fin 1024) (h0 : (i 0).val = a.val) (h1 : (i 1).val = r.val)
    (h2 : (i 2).val = s.val) : G m c i = total m c a r s := by
  unfold G
  rw [dif_pos (by rw [h1]; exact r.isLt)]
  congr 1
  · exact Fin.ext h0
  · exact Fin.ext h1
  · exact Fin.ext h2

/-- Where an entry of the block at point `t` lies in the array. -/
def place_of (t : Fin (pipe m).N) (j : S1x256x1024.Idx) : S1x512x1024.Idx := (((pipe m).win 2).rect t).emb j

theorem place_val (t : Fin (pipe m).N) (j : S1x256x1024.Idx) (a : Fin 3) :
    (place_of m t j a).val = (![t.val, 0, 0] : Fin 3 → Nat) a * S1x256x1024.size a + (j a).val := by
  refine (Pipeline.Window.rect_emb_val ((pipe m).win 2) t j a).trans ?_
  rw [at2]
  rfl

theorem block_value (t : Fin (pipe m).N) (j : S1x256x1024.Idx) : outsAt0 m (ok m) c t j = G m c (place_of m t j) := by
  idx_vars j
  rw [value]
  refine (G_at m c _ (arr_of m t) (row_of m t j1) j2 ?_ ?_ ?_).symm
  · rw [place_val]
    show t.val * 1 + j0.val = t.val; omega
  · rw [place_val]
    rfl
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S1x512x1024.Idx) :
    i ∈ (((pipe m).win 2).blk t).view.set ↔ ∀ a : Fin 3, (![t.val, 0, 0] : Fin 3 → Nat) a * S1x256x1024.size a ≤ (i a).val ∧ (i a).val < (![t.val, 0, 0] : Fin 3 → Nat) a * S1x256x1024.size a + S1x256x1024.size a := by
  refine (iff_of_eq (congrArg (fun z : Finset S1x512x1024.Idx => i ∈ z) (View.set_slice_whole main_v1 (((pipe m).win 2).rect t)))).trans ?_
  refine Rect.mem_set_unit.trans ?_
  show (∀ a : Fin 3, ((pipe m).win 2).index t a * S1x256x1024.size a ≤ (i a).val ∧ (i a).val < ((pipe m).win 2).index t a * S1x256x1024.size a + S1x256x1024.size a) ↔ _
  rw [at2]

theorem final (a : Fin 1) (r : Fin 256) (s : Fin 1024) :
    whole m c (ix3 a ⟨r.val, by omega⟩ s) = total m c a r s := by
  have hp : a.val < (pipe m).N := by
    show a.val < grid0.N
    rw [N_0]; omega
  refine (Pipeline.Dat.arrAt_apply_of_mem (dats m (ok m) 0 c) 2 (G m c) (fun t _ => flushed m c t) (pipe m).N ⟨a.val, hp⟩ _ hp
    (flush m _) ((inside m _ _).mpr ?_)).trans (G_at m c _ a r s rfl rfl rfl)
  intro b
  fin_cases b
  · show a.val * 1 ≤ a.val ∧ a.val < a.val * 1 + 1; omega
  · show 0 * 256 ≤ r.val ∧ r.val < 0 * 256 + 256; omega
  · show 0 * 1024 ≤ s.val ∧ s.val < 0 * 1024 + 1024; omega

/-- The result: the rows of the device's half. -/
abbrev R : S1x256x1024.Idx → EReal := fun i => total m c (i 0) (i 1) (i 2)

theorem rows (X : FVec Ideal S1x512x1024 .f32) (a : Fin 1) (r : Fin 256) (s : Fin 1024) :
    extractStridedSlice S1x256x1024 ![0, 0, 0] X Facts₀.slices_S1x512x1024_S1x256x1024_0_0_0 (ix3 a r s) = X (ix3 a ⟨r.val, by omega⟩ s) := by
  obtain rfl : a = 0 := Subsingleton.elim _ _
  pointwise []

theorem result : extractStridedSlice S1x256x1024 ![0, 0, 0] (whole m c) Facts₀.slices_S1x512x1024_S1x256x1024_0_0_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  obtain rfl : i0 = 0 := Subsingleton.elim _ _
  unfold ref_term R total
  pointwise []
  exact congrArg (fun z : EReal => HAdd.hAdd (α := EReal) (β := EReal) _ z) (Fin.sum_univ_three _)

end Cert.Proof.SumGate

end
-- ==== Proof.SumUp.lean ====
/- The sum of the four chips' parts of the gradients of w_up_a and w_up_b: the values of the kernel's array. -/
module

public import proofs.«01_k».proof.Proof.Gen.Kernel27.Frame
public import proofs.«01_k».proof.Proof.Gen.Kernel27Ideal.Frame
public import proofs.«01_k».proof.Proof.Gen.Reference27Ideal
public import proofs.«01_k».proof.Proof.Basis

@[expose] public section

set_option maxRecDepth 16384

noncomputable section

namespace Cert.Proof.SumUp

open Idealize.ShloMosaic Idealize.ShloMosaic.TcCoe Idealize.SL.Sem

section Table

open Cert.Kernel27 Cert.Kernel27.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference27Ideal Cert.Reference27Ideal.Gen Idealize.ShloMosaic.StableHlo

variable {F : FTy → Type} [FloatOps F]

/-- The reference's operations, in order. -/
abbrev ref_lines : List (HloOp Cert.Reference27Ideal.τ Cert.Reference27Ideal.sig (Elt F)) :=
  [ unary main_arg0 main_v0 ((extractStridedSlice S1x1x512x256 ![0, 0, 0, 0] · slices_S4x1x512x256_S1x1x512x256_0_0_0_0) : (⟨S4x1x512x256, .bf16⟩ : BufTy).Contents (Elt F) → (⟨S1x1x512x256, .bf16⟩ : BufTy).Contents (Elt F)),
    reshape main_v0 main_v1 (rfl : (.bf16 : EltTy) = .bf16) shapeCasts_S1x1x512x256_S1x512x256,
    unary main_v1 main_v2 ((extf .f32 · bitsLt_bf16_f32) : (⟨S1x512x256, .bf16⟩ : BufTy).Contents (Elt F) → (⟨S1x512x256, .f32⟩ : BufTy).Contents (Elt F)),
    unary main_arg1 main_v3 ((extf .f32 · bitsLt_bf16_f32) : (⟨S3x1x512x256, .bf16⟩ : BufTy).Contents (Elt F) → (⟨S3x1x512x256, .f32⟩ : BufTy).Contents (Elt F)),
    nullary main_cst (constant S_ .f32 0x00000000#32),
    binary main_v3 main_cst main_v4 ((fun x v => Host.reduceAdd x v reducesTo_S3x1x512x256_S1x512x256_d0 h_S_) : (⟨S3x1x512x256, .f32⟩ : BufTy).Contents (Elt F) → (⟨S_, .f32⟩ : BufTy).Contents (Elt F) → (⟨S1x512x256, .f32⟩ : BufTy).Contents (Elt F)),
    binary main_v2 main_v4 main_v5 (addf : (⟨S1x512x256, .f32⟩ : BufTy).Contents (Elt F) → (⟨S1x512x256, .f32⟩ : BufTy).Contents (Elt F) → (⟨S1x512x256, .f32⟩ : BufTy).Contents (Elt F)) ]

theorem ref_inside : (ref_lines : List (HloOp Cert.Reference27Ideal.τ Cert.Reference27Ideal.sig (Elt F))).Forall fun op => op.bufs ⊆ tcRefs Cert.Reference27Ideal.τ Cert.Reference27Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x1x512x256 .bf16) (y : FVec F S3x1x512x256 .bf16) : FVec F S1x512x256 .f32 :=
  addf (extf .f32 (shapeCast S1x512x256 (extractStridedSlice S1x1x512x256 ![0, 0, 0, 0] x slices_S4x1x512x256_S1x1x512x256_0_0_0_0) shapeCasts_S1x1x512x256_S1x512x256) bitsLt_bf16_f32)
    (Host.reduceAdd (extf .f32 y bitsLt_bf16_f32) (constant S_ .f32 0x00000000#32) reducesTo_S3x1x512x256_S1x512x256_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel27Ideal Cert.Kernel27Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 2 := t.isLt

theorem at0 (t : Fin (pipe m).N) : ((pipe m).win 0).index t = ![0, 0, t.val, 0] := by
  show cc0_transform_0 _ _ (tbl m) (grid0.coords t) = _
  rw [table m]
  revert t
  show ∀ t : Fin grid0.N, cc0_transform_0 _ _ place (grid0.coords t) = ![0, 0, t.val, 0]
  decide

theorem at1 (t : Fin (pipe m).N) : ((pipe m).win 1).index t = ![0, 0, t.val, 0] := by
  show cc0_transform_1 (grid0.coords t) = _
  revert t
  show ∀ t : Fin grid0.N, cc0_transform_1 (grid0.coords t) = ![0, 0, t.val, 0]
  decide

theorem at2 (t : Fin (pipe m).N) : ((pipe m).win 2).index t = ![0, t.val, 0] := by
  show cc0_transform_2 _ _ (tbl m) (grid0.coords t) = _
  rw [table m]
  revert t
  show ∀ t : Fin grid0.N, cc0_transform_2 _ _ place (grid0.coords t) = ![0, t.val, 0]
  decide

/-- The kernel's array after the region. -/
abbrev whole : FVec Ideal S1x1024x256 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v2) = extractStridedSlice S1x512x256 ![0, 0, 0] (whole m c) Facts₀.slices_S1x1024x256_S1x512x256_0_0_0 := by
  refine ((h c).2 main_v2 (Pipeline.mem_restRefs_of main_v2 (by decide) (show ∀ w : Fin 3, Pipeline.arrRef spec0 w ≠ main_v2 by decide))).trans ?_
  have e : Pipeline.withArrays (Pipeline.pin pcfgs (fun _ => adm m (ok m)) 0).spec c (V0 m c) (fun w => (dats m (ok m) 0 c).arrAt w (pipe m).N) (Proc.devRef .tc main_v1) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 2
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 1 := ⟨0, by have h := points m t; omega⟩

abbrev row_of (t : Fin (pipe m).N) (r : Fin 256) : Fin 512 := ⟨t.val * 256 + r.val, by have h := points m t; omega⟩

theorem parts_block (t : Fin (pipe m).N) (q q' : Fin 1) (r : Fin 256) (s : Fin 256) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show 0 * 1 + q'.val = 0; omega
    · rfl
    · exact Nat.zero_add _
  rw [h, V_main_arg0]

theorem landed_block (t : Fin (pipe m).N) (k : Fin 3) (q' : Fin 1) (r : Fin 256) (s : Fin 256) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show 0 * 1 + q'.val = 0; omega
    · rfl
    · exact Nat.zero_add _
  rw [h, V_main_arg1]

/-- The sum of the four chips' parts, at an entry of the device's half. -/
def total (a : Fin 1) (r : Fin 512) (s : Fin 256) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x256x256 .bf16) (harg3 : arg3.IsWhole)
    (arg4 : Memref sig .tc .vmem S3x1x256x256 .bf16) (harg4 : arg4.IsWhole) (arg5 : Memref sig .tc .vmem S1x256x256 .f32)
    (harg5 : arg5.IsWhole) (x0 : Vec Ideal S1x1x256x256 .bf16) (x1 : Vec Ideal S3x1x256x256 .bf16)
    (xt0 : TbBuf0 (F := Ideal) c tbM0_0) (q : Fin 1) (r : Fin 256) (s : Fin 256) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 256) (s : Fin 256) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S1x1024x256.Idx → EReal := fun i =>
  if h : (i 1).val < 512 then total m c (i 0) ⟨(i 1).val, h⟩ (i 2) else 0

theorem G_at (i : S1x1024x256.Idx) (a : Fin 1) (r : Fin 512) (s : Fin 256) (h0 : (i 0).val = a.val) (h1 : (i 1).val = r.val)
    (h2 : (i 2).val = s.val) : G m c i = total m c a r s := by
  unfold G
  rw [dif_pos (by rw [h1]; exact r.isLt)]
  congr 1
  · exact Fin.ext h0
  · exact Fin.ext h1
  · exact Fin.ext h2

/-- Where an entry of the block at point `t` lies in the array. -/
def place_of (t : Fin (pipe m).N) (j : S1x256x256.Idx) : S1x1024x256.Idx := (((pipe m).win 2).rect t).emb j

theorem place_val (t : Fin (pipe m).N) (j : S1x256x256.Idx) (a : Fin 3) :
    (place_of m t j a).val = (![0, t.val, 0] : Fin 3 → Nat) a * S1x256x256.size a + (j a).val := by
  refine (Pipeline.Window.rect_emb_val ((pipe m).win 2) t j a).trans ?_
  rw [at2]
  rfl

theorem block_value (t : Fin (pipe m).N) (j : S1x256x256.Idx) : outsAt0 m (ok m) c t j = G m c (place_of m t j) := by
  idx_vars j
  rw [value]
  refine (G_at m c _ (arr_of m t) (row_of m t j1) j2 ?_ ?_ ?_).symm
  · rw [place_val]
    show 0 * 1 + j0.val = 0; omega
  · rw [place_val]
    rfl
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S1x1024x256.Idx) :
    i ∈ (((pipe m).win 2).blk t).view.set ↔ ∀ a : Fin 3, (![0, t.val, 0] : Fin 3 → Nat) a * S1x256x256.size a ≤ (i a).val ∧ (i a).val < (![0, t.val, 0] : Fin 3 → Nat) a * S1x256x256.size a + S1x256x256.size a := by
  refine (iff_of_eq (congrArg (fun z : Finset S1x1024x256.Idx => i ∈ z) (View.set_slice_whole main_v1 (((pipe m).win 2).rect t)))).trans ?_
  refine Rect.mem_set_unit.trans ?_
  show (∀ a : Fin 3, ((pipe m).win 2).index t a * S1x256x256.size a ≤ (i a).val ∧ (i a).val < ((pipe m).win 2).index t a * S1x256x256.size a + S1x256x256.size a) ↔ _
  rw [at2]

theorem final (a : Fin 1) (r : Fin 512) (s : Fin 256) :
    whole m c (ix3 a ⟨r.val, by omega⟩ s) = total m c a r s := by
  have hp : r.val / 256 < (pipe m).N := by
    show r.val / 256 < grid0.N
    rw [N_0]; omega
  refine (Pipeline.Dat.arrAt_apply_of_mem (dats m (ok m) 0 c) 2 (G m c) (fun t _ => flushed m c t) (pipe m).N ⟨r.val / 256, hp⟩ _ hp
    (flush m _) ((inside m _ _).mpr ?_)).trans (G_at m c _ a r s rfl rfl rfl)
  intro b
  fin_cases b
  · show 0 * 1 ≤ a.val ∧ a.val < 0 * 1 + 1; omega
  · show (r.val / 256) * 256 ≤ r.val ∧ r.val < (r.val / 256) * 256 + 256; omega
  · show 0 * 256 ≤ s.val ∧ s.val < 0 * 256 + 256; omega

/-- The result: the rows of the device's half. -/
abbrev R : S1x512x256.Idx → EReal := fun i => total m c (i 0) (i 1) (i 2)

theorem rows (X : FVec Ideal S1x1024x256 .f32) (a : Fin 1) (r : Fin 512) (s : Fin 256) :
    extractStridedSlice S1x512x256 ![0, 0, 0] X Facts₀.slices_S1x1024x256_S1x512x256_0_0_0 (ix3 a r s) = X (ix3 a ⟨r.val, by omega⟩ s) := by
  obtain rfl : a = 0 := Subsingleton.elim _ _
  pointwise []

theorem result : extractStridedSlice S1x512x256 ![0, 0, 0] (whole m c) Facts₀.slices_S1x1024x256_S1x512x256_0_0_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  obtain rfl : i0 = 0 := Subsingleton.elim _ _
  unfold ref_term R total
  pointwise []
  exact congrArg (fun z : EReal => HAdd.hAdd (α := EReal) (β := EReal) _ z) (Fin.sum_univ_three _)

end Cert.Proof.SumUp

end
-- ==== Proof.SumOut.lean ====
/- The sum of the four chips' parts of the gradient of w_out: the values of the kernel's array. -/
module

public import proofs.«01_k».proof.Proof.Gen.Kernel28.Frame
public import proofs.«01_k».proof.Proof.Gen.Kernel28Ideal.Frame
public import proofs.«01_k».proof.Proof.Gen.Reference28Ideal
public import proofs.«01_k».proof.Proof.Basis

@[expose] public section

set_option maxRecDepth 16384

noncomputable section

namespace Cert.Proof.SumOut

open Idealize.ShloMosaic Idealize.ShloMosaic.TcCoe Idealize.SL.Sem

section Table

open Cert.Kernel28 Cert.Kernel28.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference28Ideal Cert.Reference28Ideal.Gen Idealize.ShloMosaic.StableHlo

variable {F : FTy → Type} [FloatOps F]

/-- The reference's operations, in order. -/
abbrev ref_lines : List (HloOp Cert.Reference28Ideal.τ Cert.Reference28Ideal.sig (Elt F)) :=
  [ unary main_arg0 main_v0 ((extractStridedSlice S1x1x128x1024 ![0, 0, 0, 0] · slices_S4x1x128x1024_S1x1x128x1024_0_0_0_0) : (⟨S4x1x128x1024, .bf16⟩ : BufTy).Contents (Elt F) → (⟨S1x1x128x1024, .bf16⟩ : BufTy).Contents (Elt F)),
    reshape main_v0 main_v1 (rfl : (.bf16 : EltTy) = .bf16) shapeCasts_S1x1x128x1024_S1x128x1024,
    unary main_v1 main_v2 ((extf .f32 · bitsLt_bf16_f32) : (⟨S1x128x1024, .bf16⟩ : BufTy).Contents (Elt F) → (⟨S1x128x1024, .f32⟩ : BufTy).Contents (Elt F)),
    unary main_arg1 main_v3 ((extf .f32 · bitsLt_bf16_f32) : (⟨S3x1x128x1024, .bf16⟩ : BufTy).Contents (Elt F) → (⟨S3x1x128x1024, .f32⟩ : BufTy).Contents (Elt F)),
    nullary main_cst (constant S_ .f32 0x00000000#32),
    binary main_v3 main_cst main_v4 ((fun x v => Host.reduceAdd x v reducesTo_S3x1x128x1024_S1x128x1024_d0 h_S_) : (⟨S3x1x128x1024, .f32⟩ : BufTy).Contents (Elt F) → (⟨S_, .f32⟩ : BufTy).Contents (Elt F) → (⟨S1x128x1024, .f32⟩ : BufTy).Contents (Elt F)),
    binary main_v2 main_v4 main_v5 (addf : (⟨S1x128x1024, .f32⟩ : BufTy).Contents (Elt F) → (⟨S1x128x1024, .f32⟩ : BufTy).Contents (Elt F) → (⟨S1x128x1024, .f32⟩ : BufTy).Contents (Elt F)) ]

theorem ref_inside : (ref_lines : List (HloOp Cert.Reference28Ideal.τ Cert.Reference28Ideal.sig (Elt F))).Forall fun op => op.bufs ⊆ tcRefs Cert.Reference28Ideal.τ Cert.Reference28Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x1x128x1024 .bf16) (y : FVec F S3x1x128x1024 .bf16) : FVec F S1x128x1024 .f32 :=
  addf (extf .f32 (shapeCast S1x128x1024 (extractStridedSlice S1x1x128x1024 ![0, 0, 0, 0] x slices_S4x1x128x1024_S1x1x128x1024_0_0_0_0) shapeCasts_S1x1x128x1024_S1x128x1024) bitsLt_bf16_f32)
    (Host.reduceAdd (extf .f32 y bitsLt_bf16_f32) (constant S_ .f32 0x00000000#32) reducesTo_S3x1x128x1024_S1x128x1024_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel28Ideal Cert.Kernel28Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 1 := t.isLt

theorem at0 (t : Fin (pipe m).N) : ((pipe m).win 0).index t = ![0, t.val, 0, 0] := by
  show cc0_transform_0 _ _ (tbl m) (grid0.coords t) = _
  rw [table m]
  revert t
  show ∀ t : Fin grid0.N, cc0_transform_0 _ _ place (grid0.coords t) = ![0, t.val, 0, 0]
  decide

theorem at1 (t : Fin (pipe m).N) : ((pipe m).win 1).index t = ![0, t.val, 0, 0] := by
  show cc0_transform_1 (grid0.coords t) = _
  revert t
  show ∀ t : Fin grid0.N, cc0_transform_1 (grid0.coords t) = ![0, t.val, 0, 0]
  decide

theorem at2 (t : Fin (pipe m).N) : ((pipe m).win 2).index t = ![t.val, 0, 0] := by
  show cc0_transform_2 _ _ (tbl m) (grid0.coords t) = _
  rw [table m]
  revert t
  show ∀ t : Fin grid0.N, cc0_transform_2 _ _ place (grid0.coords t) = ![t.val, 0, 0]
  decide

/-- The kernel's array after the region. -/
abbrev whole : FVec Ideal S1x256x1024 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v2) = extractStridedSlice S1x128x1024 ![0, 0, 0] (whole m c) Facts₀.slices_S1x256x1024_S1x128x1024_0_0_0 := by
  refine ((h c).2 main_v2 (Pipeline.mem_restRefs_of main_v2 (by decide) (show ∀ w : Fin 3, Pipeline.arrRef spec0 w ≠ main_v2 by decide))).trans ?_
  have e : Pipeline.withArrays (Pipeline.pin pcfgs (fun _ => adm m (ok m)) 0).spec c (V0 m c) (fun w => (dats m (ok m) 0 c).arrAt w (pipe m).N) (Proc.devRef .tc main_v1) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 1
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 1 := ⟨t.val, by have h := points m t; omega⟩

abbrev row_of (t : Fin (pipe m).N) (r : Fin 128) : Fin 128 := ⟨0 * 128 + r.val, by have h := points m t; omega⟩

theorem parts_block (t : Fin (pipe m).N) (q q' : Fin 1) (r : Fin 128) (s : Fin 1024) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show t.val * 1 + q'.val = t.val; omega
    · rfl
    · exact Nat.zero_add _
  rw [h, V_main_arg0]

theorem landed_block (t : Fin (pipe m).N) (k : Fin 3) (q' : Fin 1) (r : Fin 128) (s : Fin 1024) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show t.val * 1 + q'.val = t.val; omega
    · rfl
    · exact Nat.zero_add _
  rw [h, V_main_arg1]

/-- The sum of the four chips' parts, at an entry of the device's half. -/
def total (a : Fin 1) (r : Fin 128) (s : Fin 1024) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x128x1024 .bf16) (harg3 : arg3.IsWhole)
    (arg4 : Memref sig .tc .vmem S3x1x128x1024 .bf16) (harg4 : arg4.IsWhole) (arg5 : Memref sig .tc .vmem S1x128x1024 .f32)
    (harg5 : arg5.IsWhole) (x0 : Vec Ideal S1x1x128x1024 .bf16) (x1 : Vec Ideal S3x1x128x1024 .bf16)
    (xt0 : TbBuf0 (F := Ideal) c tbM0_0) (q : Fin 1) (r : Fin 128) (s : Fin 1024) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 128) (s : Fin 1024) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S1x256x1024.Idx → EReal := fun i =>
  if h : (i 1).val < 128 then total m c (i 0) ⟨(i 1).val, h⟩ (i 2) else 0

theorem G_at (i : S1x256x1024.Idx) (a : Fin 1) (r : Fin 128) (s : Fin 1024) (h0 : (i 0).val = a.val) (h1 : (i 1).val = r.val)
    (h2 : (i 2).val = s.val) : G m c i = total m c a r s := by
  unfold G
  rw [dif_pos (by rw [h1]; exact r.isLt)]
  congr 1
  · exact Fin.ext h0
  · exact Fin.ext h1
  · exact Fin.ext h2

/-- Where an entry of the block at point `t` lies in the array. -/
def place_of (t : Fin (pipe m).N) (j : S1x128x1024.Idx) : S1x256x1024.Idx := (((pipe m).win 2).rect t).emb j

theorem place_val (t : Fin (pipe m).N) (j : S1x128x1024.Idx) (a : Fin 3) :
    (place_of m t j a).val = (![t.val, 0, 0] : Fin 3 → Nat) a * S1x128x1024.size a + (j a).val := by
  refine (Pipeline.Window.rect_emb_val ((pipe m).win 2) t j a).trans ?_
  rw [at2]
  rfl

theorem block_value (t : Fin (pipe m).N) (j : S1x128x1024.Idx) : outsAt0 m (ok m) c t j = G m c (place_of m t j) := by
  idx_vars j
  rw [value]
  refine (G_at m c _ (arr_of m t) (row_of m t j1) j2 ?_ ?_ ?_).symm
  · rw [place_val]
    show t.val * 1 + j0.val = t.val; omega
  · rw [place_val]
    rfl
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S1x256x1024.Idx) :
    i ∈ (((pipe m).win 2).blk t).view.set ↔ ∀ a : Fin 3, (![t.val, 0, 0] : Fin 3 → Nat) a * S1x128x1024.size a ≤ (i a).val ∧ (i a).val < (![t.val, 0, 0] : Fin 3 → Nat) a * S1x128x1024.size a + S1x128x1024.size a := by
  refine (iff_of_eq (congrArg (fun z : Finset S1x256x1024.Idx => i ∈ z) (View.set_slice_whole main_v1 (((pipe m).win 2).rect t)))).trans ?_
  refine Rect.mem_set_unit.trans ?_
  show (∀ a : Fin 3, ((pipe m).win 2).index t a * S1x128x1024.size a ≤ (i a).val ∧ (i a).val < ((pipe m).win 2).index t a * S1x128x1024.size a + S1x128x1024.size a) ↔ _
  rw [at2]

theorem final (a : Fin 1) (r : Fin 128) (s : Fin 1024) :
    whole m c (ix3 a ⟨r.val, by omega⟩ s) = total m c a r s := by
  have hp : a.val < (pipe m).N := by
    show a.val < grid0.N
    rw [N_0]; omega
  refine (Pipeline.Dat.arrAt_apply_of_mem (dats m (ok m) 0 c) 2 (G m c) (fun t _ => flushed m c t) (pipe m).N ⟨a.val, hp⟩ _ hp
    (flush m _) ((inside m _ _).mpr ?_)).trans (G_at m c _ a r s rfl rfl rfl)
  intro b
  fin_cases b
  · show a.val * 1 ≤ a.val ∧ a.val < a.val * 1 + 1; omega
  · show 0 * 128 ≤ r.val ∧ r.val < 0 * 128 + 128; omega
  · show 0 * 1024 ≤ s.val ∧ s.val < 0 * 1024 + 1024; omega

/-- The result: the rows of the device's half. -/
abbrev R : S1x128x1024.Idx → EReal := fun i => total m c (i 0) (i 1) (i 2)

theorem rows (X : FVec Ideal S1x256x1024 .f32) (a : Fin 1) (r : Fin 128) (s : Fin 1024) :
    extractStridedSlice S1x128x1024 ![0, 0, 0] X Facts₀.slices_S1x256x1024_S1x128x1024_0_0_0 (ix3 a r s) = X (ix3 a ⟨r.val, by omega⟩ s) := by
  obtain rfl : a = 0 := Subsingleton.elim _ _
  pointwise []

theorem result : extractStridedSlice S1x128x1024 ![0, 0, 0] (whole m c) Facts₀.slices_S1x256x1024_S1x128x1024_0_0_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  obtain rfl : i0 = 0 := Subsingleton.elim _ _
  unfold ref_term R total
  pointwise []
  exact congrArg (fun z : EReal => HAdd.hAdd (α := EReal) (β := EReal) _ z) (Fin.sum_univ_three _)

end Cert.Proof.SumOut

end
-- ==== Proof.Claims5.lean ====
/- The value claims of the sums of the chips' parts, and the runs of their references. -/
module

public import proofs.«01_k».proof.Defs
public import proofs.«01_k».proof.Proof.SumFfn
public import proofs.«01_k».proof.Proof.SumIn
public import proofs.«01_k».proof.Proof.SumGate
public import proofs.«01_k».proof.Proof.SumUp
public import proofs.«01_k».proof.Proof.SumOut
public import proofs.«01_k».proof.Proof.Basis

@[expose] public section

set_option maxRecDepth 16384

noncomputable section

namespace Cert.Proof

open Idealize.ShloMosaic Idealize.ShloMosaic.TcCoe Idealize.SL.Sem

theorem sumffn_value : Cert.algebraic_Kernel24Ideal_Reference24Ideal := by
  intro m g m' g' hpre hargs
  refine ⟨fun c => SumFfn.R m c,
    (θ_run _ _ _).mono (fun r h c => ⟨(SumFfn.after_run m c r h.1).trans (SumFfn.result m c), h.2 c⟩)
      (θ_run_and (Cert.Kernel24Ideal.Gen.run_main m g (SumFfn.ok m)) (Cert.Kernel24Ideal.Gen.unchanged m g (SumFfn.ok m))),
    (θ_run _ _ _).mono (fun r h c => ?_) (SumFfn.ref_run (F := Ideal) m' g')⟩
  obtain ⟨h0, ha⟩ := h c
  obtain ⟨e0, e1⟩ := hargs c
  refine ⟨h0.trans ?_, ha⟩
  rw [e0, e1]
  exact SumFfn.ref_value m c

theorem sumin_value : Cert.algebraic_Kernel25Ideal_Reference25Ideal := by
  intro m g m' g' hpre hargs
  refine ⟨fun c => SumIn.R m c,
    (θ_run _ _ _).mono (fun r h c => ⟨(SumIn.after_run m c r h.1).trans (SumIn.result m c), h.2 c⟩)
      (θ_run_and (Cert.Kernel25Ideal.Gen.run_main m g (SumIn.ok m)) (Cert.Kernel25Ideal.Gen.unchanged m g (SumIn.ok m))),
    (θ_run _ _ _).mono (fun r h c => ?_) (SumIn.ref_run (F := Ideal) m' g')⟩
  obtain ⟨h0, ha⟩ := h c
  obtain ⟨e0, e1⟩ := hargs c
  refine ⟨h0.trans ?_, ha⟩
  rw [e0, e1]
  exact SumIn.ref_value m c

theorem sumgate_value : Cert.algebraic_Kernel26Ideal_Reference26Ideal := by
  intro m g m' g' hpre hargs
  refine ⟨fun c => SumGate.R m c,
    (θ_run _ _ _).mono (fun r h c => ⟨(SumGate.after_run m c r h.1).trans (SumGate.result m c), h.2 c⟩)
      (θ_run_and (Cert.Kernel26Ideal.Gen.run_main m g (SumGate.ok m)) (Cert.Kernel26Ideal.Gen.unchanged m g (SumGate.ok m))),
    (θ_run _ _ _).mono (fun r h c => ?_) (SumGate.ref_run (F := Ideal) m' g')⟩
  obtain ⟨h0, ha⟩ := h c
  obtain ⟨e0, e1⟩ := hargs c
  refine ⟨h0.trans ?_, ha⟩
  rw [e0, e1]
  exact SumGate.ref_value m c

theorem sumup_value : Cert.algebraic_Kernel27Ideal_Reference27Ideal := by
  intro m g m' g' hpre hargs
  refine ⟨fun c => SumUp.R m c,
    (θ_run _ _ _).mono (fun r h c => ⟨(SumUp.after_run m c r h.1).trans (SumUp.result m c), h.2 c⟩)
      (θ_run_and (Cert.Kernel27Ideal.Gen.run_main m g (SumUp.ok m)) (Cert.Kernel27Ideal.Gen.unchanged m g (SumUp.ok m))),
    (θ_run _ _ _).mono (fun r h c => ?_) (SumUp.ref_run (F := Ideal) m' g')⟩
  obtain ⟨h0, ha⟩ := h c
  obtain ⟨e0, e1⟩ := hargs c
  refine ⟨h0.trans ?_, ha⟩
  rw [e0, e1]
  exact SumUp.ref_value m c

theorem sumout_value : Cert.algebraic_Kernel28Ideal_Reference28Ideal := by
  intro m g m' g' hpre hargs
  refine ⟨fun c => SumOut.R m c,
    (θ_run _ _ _).mono (fun r h c => ⟨(SumOut.after_run m c r h.1).trans (SumOut.result m c), h.2 c⟩)
      (θ_run_and (Cert.Kernel28Ideal.Gen.run_main m g (SumOut.ok m)) (Cert.Kernel28Ideal.Gen.unchanged m g (SumOut.ok m))),
    (θ_run _ _ _).mono (fun r h c => ?_) (SumOut.ref_run (F := Ideal) m' g')⟩
  obtain ⟨h0, ha⟩ := h c
  obtain ⟨e0, e1⟩ := hargs c
  refine ⟨h0.trans ?_, ha⟩
  rw [e0, e1]
  exact SumOut.ref_value m c

end Cert.Proof

end
-- ==== Proof.MixBwd.lean ====
/- The gradients at the gated mix of the two mixers: the values of the kernel's arrays. -/
module

public import proofs.«01_k».proof.Proof.Gen.Kernel4Ideal.Value
public import proofs.«01_k».proof.Proof.Gen.Reference4Ideal.Read
public import proofs.«01_k».proof.Proof.Basis
public import proofs.«01_k».proof.Proof.Pieces
public import proofs.«01_k».proof.Proof.NormGrad

@[expose] public section

set_option maxRecDepth 16384

noncomputable section

namespace Cert.Proof.MixBwd

open Cert.Kernel4Ideal Cert.Kernel4Ideal.Gen Idealize.ShloMosaic Idealize.ShloMosaic.TcCoe Idealize.SL.Sem Cert.Reference4Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val % 4, 0] := by decide +kernel
theorem at1 : ∀ t : Fin grid0.N, win0_1.index t = ![t.val / 4, 0] := by decide +kernel
theorem at2 : ∀ t : Fin grid0.N, win0_2.index t = ![t.val % 4, t.val / 4] := by decide +kernel
theorem at3 : ∀ t : Fin grid0.N, win0_3.index t = ![t.val % 4, 2 + t.val / 4] := by decide +kernel
theorem at4 : ∀ t : Fin grid0.N, win0_4.index t = ![t.val % 4, t.val / 4] := by decide +kernel
theorem at5 : ∀ t : Fin grid0.N, win0_5.index t = ![t.val % 4, t.val / 4] := by decide +kernel
theorem at6 : ∀ t : Fin grid0.N, win0_6.index t = ![t.val % 4, t.val / 4] := by decide +kernel
theorem at7 : ∀ t : Fin grid0.N, win0_7.index t = ![t.val % 4, t.val / 4] := by decide +kernel
theorem at8 : ∀ t : Fin grid0.N, win0_8.index t = ![t.val % 4, t.val / 4] := by decide +kernel
theorem at9 : ∀ t : Fin grid0.N, win0_9.index t = ![t.val % 4, t.val / 4] := by decide +kernel
theorem at10 : ∀ t : Fin grid0.N, win0_10.index t = ![0, t.val / 4] := by decide +kernel
theorem at11 : ∀ t : Fin grid0.N, win0_11.index t = ![0, t.val / 4] := by decide +kernel

theorem dx_block (t : Fin cfg0.N) (r : Fin 512) (s : Fin 1024) :
    iblk m c 0 t (ix2 r s) = (m (c.tc.loc main_arg5)) (ix2 ⟨t.val % 4 * 512 + r.val, by have := points t; omega⟩ s) := by
  have h : iblk m c 0 t (ix2 r s) = V m c main_arg5 (ix2 ⟨t.val % 4 * 512 + r.val, by have := points t; omega⟩ s) := by
    show V m c main_arg5 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg5]

theorem w_block (t : Fin cfg0.N) (r : Fin 512) (s : Fin 1024) :
    iblk m c 1 t (ix2 r s) = (m (c.tc.loc main_arg4)) (ix2 ⟨t.val / 4 * 512 + r.val, by have := points t; omega⟩ s) := by
  have h : iblk m c 1 t (ix2 r s) = V m c main_v0 (ix2 ⟨t.val / 4 * 512 + r.val, by have := points t; omega⟩ s) := by
    show V m c main_v0 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  have := points t
  unfold V
  after_reads_at

theorem pa_block (t : Fin cfg0.N) (r : Fin 512) (s : Fin 512) :
    iblk m c 2 t (ix2 r s) = HAdd.hAdd (α := EReal) (β := EReal) ((m (c.tc.loc main_arg0)) (ix2 ⟨t.val % 4 * 512 + r.val, by have := points t; omega⟩ ⟨t.val / 4 * 512 + s.val, by have := points t; omega⟩)) ((m (c.tc.loc main_arg1)) (ix2 0 ⟨t.val / 4 * 512 + s.val, by have := points t; omega⟩)) := by
  have h : iblk m c 2 t (ix2 r s) = V m c main_v2 (ix2 ⟨t.val % 4 * 512 + r.val, by have := points t; omega⟩ ⟨t.val / 4 * 512 + s.val, by have := points t; omega⟩) := by
    show V m c main_v2 ((win0_2.rect t).emb (ix2 r s)) = _
    congr 1
    funext a
    apply Fin.ext
    refine (Pipeline.Window.rect_emb_val win0_2 t (ix2 r s) a).trans ?_
    rw [at2]
    fin_cases a
    · rfl
    · rfl
  refine h.trans ?_
  have := points t
  unfold V
  after_reads_at

theorem pb_block (t : Fin cfg0.N) (r : Fin 512) (s : Fin 512) :
    iblk m c 3 t (ix2 r s) = HAdd.hAdd (α := EReal) (β := EReal) ((m (c.tc.loc main_arg0)) (ix2 ⟨t.val % 4 * 512 + r.val, by have := points t; omega⟩ ⟨(2 + t.val / 4) * 512 + s.val, by have := points t; omega⟩)) ((m (c.tc.loc main_arg1)) (ix2 0 ⟨(2 + t.val / 4) * 512 + s.val, by have := points t; omega⟩)) := by
  have h : iblk m c 3 t (ix2 r s) = V m c main_v2 (ix2 ⟨t.val % 4 * 512 + r.val, by have := points t; omega⟩ ⟨(2 + t.val / 4) * 512 + s.val, by have := points t; omega⟩) := by
    show V m c main_v2 ((win0_3.rect t).emb (ix2 r s)) = _
    congr 1
    funext a
    apply Fin.ext
    refine (Pipeline.Window.rect_emb_val win0_3 t (ix2 r s) a).trans ?_
    rw [at3]
    fin_cases a
    · rfl
    · rfl
  refine h.trans ?_
  have := points t
  unfold V
  after_reads_at

theorem ya_block (t : Fin cfg0.N) (r : Fin 512) (s : Fin 512) :
    iblk m c 4 t (ix2 r s) = (m (c.tc.loc main_arg2)) (ix2 ⟨t.val % 4 * 512 + r.val, by have := points t; omega⟩ ⟨t.val / 4 * 512 + s.val, by have := points t; omega⟩) := by
  have h : iblk m c 4 t (ix2 r s) = V m c main_arg2 (ix2 ⟨t.val % 4 * 512 + r.val, by have := points t; omega⟩ ⟨t.val / 4 * 512 + s.val, by have := points t; omega⟩) := by
    show V m c main_arg2 ((win0_4.rect t).emb (ix2 r s)) = _
    congr 1
    funext a
    apply Fin.ext
    refine (Pipeline.Window.rect_emb_val win0_4 t (ix2 r s) a).trans ?_
    rw [at4]
    fin_cases a
    · rfl
    · rfl
  refine h.trans ?_
  rw [V_main_arg2]

theorem yb_block (t : Fin cfg0.N) (r : Fin 512) (s : Fin 512) :
    iblk m c 5 t (ix2 r s) = (m (c.tc.loc main_arg3)) (ix2 ⟨t.val % 4 * 512 + r.val, by have := points t; omega⟩ ⟨t.val / 4 * 512 + s.val, by have := points t; omega⟩) := by
  have h : iblk m c 5 t (ix2 r s) = V m c main_arg3 (ix2 ⟨t.val % 4 * 512 + r.val, by have := points t; omega⟩ ⟨t.val / 4 * 512 + s.val, by have := points t; omega⟩) := by
    show V m c main_arg3 ((win0_5.rect t).emb (ix2 r s)) = _
    congr 1
    funext a
    apply Fin.ext
    refine (Pipeline.Window.rect_emb_val win0_5 t (ix2 r s) a).trans ?_
    rw [at5]
    fin_cases a
    · rfl
    · rfl
  refine h.trans ?_
  rw [V_main_arg3]

theorem left6 (t : Fin cfg0.N) : (outsAt0 m c t.val t.isLt).1 = k0_pay12 (iblk m c 0 t) (iblk m c 1 t) (iblk m c 2 t) := by
  by_cases h : t.val % 4 = 0
  · rw [outsAt0_A m c t h (by omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem left7 (t : Fin cfg0.N) : (outsAt0 m c t.val t.isLt).2.1 = k0_pay13 (iblk m c 0 t) (iblk m c 1 t) (iblk m c 3 t) := by
  by_cases h : t.val % 4 = 0
  · rw [outsAt0_A m c t h (by omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem left8 (t : Fin cfg0.N) : (outsAt0 m c t.val t.isLt).2.2.1 = k0_pay3 (k0_pay14 (iblk m c 0 t) (iblk m c 1 t) (iblk m c 2 t) (iblk m c 4 t)) (k0_pay15 (iblk m c 2 t)) := by
  by_cases h : t.val % 4 = 0
  · rw [outsAt0_A m c t h (by omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem left9 (t : Fin cfg0.N) : (outsAt0 m c t.val t.isLt).2.2.2.1 = k0_pay4 (k0_pay9 (iblk m c 0 t) (iblk m c 1 t)) (k0_pay11 (iblk m c 3 t)) (iblk m c 5 t) := by
  by_cases h : t.val % 4 = 0
  · rw [outsAt0_A m c t h (by omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem sum_first10 (t : Fin cfg0.N) (h : t.val % 4 = 0) (j : S1x512.Idx) : (outsAt0 m c t.val t.isLt).2.2.2.2.1 j = k0_pay5 (k0_pay14 (iblk m c 0 t) (iblk m c 1 t) (iblk m c 2 t) (iblk m c 4 t)) (k0_pay15 (iblk m c 2 t)) j := by
  rw [outsAt0_A m c t h (by omega)]
  dsimp only
  frame_open
  simp (disch := decide) only [↓ View.readCov_skip, ↓ View.readCov_cons_toLoadRect, ↓ View.readCov_fill]
  frame_out
  try rfl

theorem sum_next10 (t : Fin cfg0.N) (h : ¬t.val % 4 = 0) (j : S1x512.Idx) : (outsAt0 m c t.val t.isLt).2.2.2.2.1 j = k0_pay7 (k0_pay14 (iblk m c 0 t) (iblk m c 1 t) (iblk m c 2 t) (iblk m c 4 t)) (k0_pay15 (iblk m c 2 t)) (outsAt0 m c (t.val - 1) (Nat.lt_of_le_of_lt (Nat.sub_le _ _) t.isLt)).2.2.2.2.1 j := by
  rw [outsAt0_B m c t h (by omega)]
  dsimp only
  frame_open
  simp (disch := decide) only [↓ View.readCov_skip, ↓ View.readCov_cons_toLoadRect, ↓ View.readCov_fill]
  frame_out
  try rfl

theorem sum_first11 (t : Fin cfg0.N) (h : t.val % 4 = 0) (j : S1x512.Idx) : (outsAt0 m c t.val t.isLt).2.2.2.2.2 j = k0_pay6 (k0_pay9 (iblk m c 0 t) (iblk m c 1 t)) (k0_pay11 (iblk m c 3 t)) (iblk m c 5 t) j := by
  rw [outsAt0_A m c t h (by omega)]
  dsimp only
  frame_open
  simp (disch := decide) only [↓ View.readCov_skip, ↓ View.readCov_cons_toLoadRect, ↓ View.readCov_fill]
  frame_out
  try rfl

theorem sum_next11 (t : Fin cfg0.N) (h : ¬t.val % 4 = 0) (j : S1x512.Idx) : (outsAt0 m c t.val t.isLt).2.2.2.2.2 j = k0_pay8 (k0_pay9 (iblk m c 0 t) (iblk m c 1 t)) (k0_pay11 (iblk m c 3 t)) (iblk m c 5 t) (outsAt0 m c (t.val - 1) (Nat.lt_of_le_of_lt (Nat.sub_le _ _) t.isLt)).2.2.2.2.2 j := by
  rw [outsAt0_B m c t h (by omega)]
  dsimp only
  frame_open
  simp (disch := decide) only [↓ View.readCov_skip, ↓ View.readCov_cons_toLoadRect, ↓ View.readCov_fill]
  frame_out
  try rfl

/-- One row's part of the gradient at the gates of the first mixer. -/
def partA (a : Fin 2048) (b : Fin 1024) : EReal := val_main_v30 (F := Ideal) (m (c.tc.loc main_arg0)) (m (c.tc.loc main_arg1)) (m (c.tc.loc main_arg2)) (m (c.tc.loc main_arg3)) (m (c.tc.loc main_arg4)) (m (c.tc.loc main_arg5)) (ix2 a b)

/-- One row's part of the gradient at the gates of the second mixer. -/
def partB (a : Fin 2048) (b : Fin 1024) : EReal := val_main_v32 (F := Ideal) (m (c.tc.loc main_arg0)) (m (c.tc.loc main_arg1)) (m (c.tc.loc main_arg2)) (m (c.tc.loc main_arg3)) (m (c.tc.loc main_arg4)) (m (c.tc.loc main_arg5)) (ix2 a b)

theorem gradA_at (t : Fin cfg0.N) (r s : Fin 512) : k0_pay1 (k0_pay14 (iblk m c 0 t) (iblk m c 1 t) (iblk m c 2 t) (iblk m c 4 t)) (k0_pay15 (iblk m c 2 t)) (ix2 r s) = partA m c ⟨t.val % 4 * 512 + r.val, by have := points t; omega⟩ ⟨t.val / 4 * 512 + s.val, by have := points t; omega⟩ := by
  unfold partA
  pointwise [k0_pay1, k0_pay2, k0_pay9, k0_pay10, k0_pay11, k0_pay14, k0_pay15, dx_block, w_block, pa_block, pb_block, ya_block, yb_block, val_main_v30, val_main_v25, val_main_v24, val_main_v23, val_main_cst_3, val_main_v22, val_main_v20, val_main_cst_2, val_main_v17, val_main_v10, val_main_v9, val_main_v8, val_main_cst_1, val_main_v7, val_main_v6, val_main_cst_0, val_main_v5, val_main_v4, val_main_cst, val_main_v3, val_main_v2, val_main_v1, val_main_v0, val_main_v32, val_main_v19]
  simp only [zero_sub]
  rw [dif_neg, dif_pos, zero_add]
  · exact mul_assoc (G := EReal) _ _ _
  · have := points t
    omega
  · have := points t
    omega

theorem gradB_at (t : Fin cfg0.N) (r s : Fin 512) : k0_pay2 (k0_pay9 (iblk m c 0 t) (iblk m c 1 t)) (k0_pay11 (iblk m c 3 t)) (iblk m c 5 t) (ix2 r s) = partB m c ⟨t.val % 4 * 512 + r.val, by have := points t; omega⟩ ⟨t.val / 4 * 512 + s.val, by have := points t; omega⟩ := by
  unfold partB
  pointwise [k0_pay1, k0_pay2, k0_pay9, k0_pay10, k0_pay11, k0_pay14, k0_pay15, dx_block, w_block, pa_block, pb_block, ya_block, yb_block, val_main_v30, val_main_v25, val_main_v24, val_main_v23, val_main_cst_3, val_main_v22, val_main_v20, val_main_cst_2, val_main_v17, val_main_v10, val_main_v9, val_main_v8, val_main_cst_1, val_main_v7, val_main_v6, val_main_cst_0, val_main_v5, val_main_v4, val_main_cst, val_main_v3, val_main_v2, val_main_v1, val_main_v0, val_main_v32, val_main_v19]
  simp only [zero_sub]
  rw [dif_pos, dif_neg, add_zero]
  · have e : (⟨(2 + t.val / 4) * 512 + s.val, by have := points t; omega⟩ : Fin 2048) = ⟨1024 + (t.val / 4 * 512 + s.val), by have := points t; omega⟩ := Fin.ext (by show (2 + t.val / 4) * 512 + s.val = 1024 + (t.val / 4 * 512 + s.val); omega)
    rw [e]
    exact mul_assoc (G := EReal) _ _ _
  · exact fun h => h.2
  · have := points t
    omega

/-- The reference's array, as a function of the arguments. -/
abbrev G6 : S2048x1024.Idx → EReal := val_main_v28 (F := Ideal) (m (c.tc.loc main_arg0)) (m (c.tc.loc main_arg1)) (m (c.tc.loc main_arg4)) (m (c.tc.loc main_arg5))

theorem value6 (t : Fin cfg0.N) (r : Fin 512) (s : Fin 512) :
    (outsAt0 m c t.val t.isLt).1 (ix2 r s) = G6 m c (ix2 ⟨t.val % 4 * 512 + r.val, by have := points t; omega⟩ ⟨t.val / 4 * 512 + s.val, by have := points t; omega⟩) := by
  rw [left6]
  pointwise [k0_pay3, k0_pay4, k0_pay12, k0_pay13, k0_pay9, k0_pay10, k0_pay11, dx_block, w_block, pa_block, pb_block, ya_block, yb_block, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_cst_2, val_main_v20, val_main_v21, val_main_v22, val_main_cst_3, val_main_v23, val_main_v24, val_main_v25, val_main_cst_4, val_main_v26, val_main_v27, val_main_v28, val_main_v29, val_main_v30, val_main_v31, val_main_v32, val_main_v33, val_main_v34, val_main_v35]
  simp only [zero_sub]
  exact mul_comm (G := EReal) _ _

theorem result6 (t : Fin cfg0.N) (j : S512x512.Idx) :
    (outsAt0 m c t.val t.isLt).1 j = G6 m c ((win0_6.rect t).emb j) := by
  idx_vars j
  rw [value6 m c t]
  congr 1
  funext a
  apply Fin.ext
  refine Eq.symm ((Pipeline.Window.rect_emb_val win0_6 t (ix2 j0 j1) a).trans ?_)
  rw [at6]
  fin_cases a
  · rfl
  · rfl

theorem inside6 (t : Fin cfg0.N) (i : S2048x1024.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v3_0).slice (win0_6.rect t)).set ↔ _
  rw [View.set_slice_whole, Rect.mem_set_unit]
  exact Iff.rfl

theorem covered6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hb : (i 1).val / 512 * 4 + (i 0).val / 512 < 8 := by omega
  refine ⟨⟨(i 1).val / 512 * 4 + (i 0).val / 512, by rw [show cfg0.N = 8 from N_0]; exact hb⟩, flush0_6 _, (inside6 _ _).mpr ?_⟩
  rw [at6]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final6 : (dats m 0 c).arrAt 6 cfg0.N = G6 m c := by
  refine Pipeline.Dat.arrAt_eq_of_cover (dats m 0 c) 6 (G6 m c) (fun t _ => ?_) (covered6)
  rw [Value.flushed6]
  funext j
  exact result6 m c t j

/-- The reference's array, as a function of the arguments. -/
abbrev G7 : S2048x1024.Idx → EReal := val_main_v29 (F := Ideal) (m (c.tc.loc main_arg0)) (m (c.tc.loc main_arg1)) (m (c.tc.loc main_arg4)) (m (c.tc.loc main_arg5))

theorem value7 (t : Fin cfg0.N) (r : Fin 512) (s : Fin 512) :
    (outsAt0 m c t.val t.isLt).2.1 (ix2 r s) = G7 m c (ix2 ⟨t.val % 4 * 512 + r.val, by have := points t; omega⟩ ⟨t.val / 4 * 512 + s.val, by have := points t; omega⟩) := by
  rw [left7]
  pointwise [k0_pay3, k0_pay4, k0_pay12, k0_pay13, k0_pay9, k0_pay10, k0_pay11, dx_block, w_block, pa_block, pb_block, ya_block, yb_block, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_cst_2, val_main_v20, val_main_v21, val_main_v22, val_main_cst_3, val_main_v23, val_main_v24, val_main_v25, val_main_cst_4, val_main_v26, val_main_v27, val_main_v28, val_main_v29, val_main_v30, val_main_v31, val_main_v32, val_main_v33, val_main_v34, val_main_v35]
  simp only [zero_sub]
  have e : (⟨(2 + t.val / 4) * 512 + s.val, by have := points t; omega⟩ : Fin 2048) = ⟨1024 + (t.val / 4 * 512 + s.val), by have := points t; omega⟩ := Fin.ext (by show (2 + t.val / 4) * 512 + s.val = 1024 + (t.val / 4 * 512 + s.val); omega)
  rw [e]
  exact mul_comm (G := EReal) _ _

theorem result7 (t : Fin cfg0.N) (j : S512x512.Idx) :
    (outsAt0 m c t.val t.isLt).2.1 j = G7 m c ((win0_7.rect t).emb j) := by
  idx_vars j
  rw [value7 m c t]
  congr 1
  funext a
  apply Fin.ext
  refine Eq.symm ((Pipeline.Window.rect_emb_val win0_7 t (ix2 j0 j1) a).trans ?_)
  rw [at7]
  fin_cases a
  · rfl
  · rfl

theorem inside7 (t : Fin cfg0.N) (i : S2048x1024.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v3_1).slice (win0_7.rect t)).set ↔ _
  rw [View.set_slice_whole, Rect.mem_set_unit]
  exact Iff.rfl

theorem covered7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  have hb : (i 1).val / 512 * 4 + (i 0).val / 512 < 8 := by omega
  refine ⟨⟨(i 1).val / 512 * 4 + (i 0).val / 512, by rw [show cfg0.N = 8 from N_0]; exact hb⟩, flush0_7 _, (inside7 _ _).mpr ?_⟩
  rw [at7]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final7 : (dats m 0 c).arrAt 7 cfg0.N = G7 m c := by
  refine Pipeline.Dat.arrAt_eq_of_cover (dats m 0 c) 7 (G7 m c) (fun t _ => ?_) (covered7)
  rw [Value.flushed7]
  funext j
  exact result7 m c t j

/-- The reference's array, as a function of the arguments. -/
abbrev G8 : S2048x1024.Idx → EReal := val_main_v31 (F := Ideal) (m (c.tc.loc main_arg0)) (m (c.tc.loc main_arg1)) (m (c.tc.loc main_arg2)) (m (c.tc.loc main_arg3)) (m (c.tc.loc main_arg4)) (m (c.tc.loc main_arg5))

theorem value8 (t : Fin cfg0.N) (r : Fin 512) (s : Fin 512) :
    (outsAt0 m c t.val t.isLt).2.2.1 (ix2 r s) = G8 m c (ix2 ⟨t.val % 4 * 512 + r.val, by have := points t; omega⟩ ⟨t.val / 4 * 512 + s.val, by have := points t; omega⟩) := by
  rw [left8]
  pointwise [k0_pay3, k0_pay4, k0_pay12, k0_pay13, gradA_at, gradB_at, dx_block, w_block, pa_block, pb_block, ya_block, yb_block, val_main_v31, val_main_v33]
  rfl

theorem result8 (t : Fin cfg0.N) (j : S512x512.Idx) :
    (outsAt0 m c t.val t.isLt).2.2.1 j = G8 m c ((win0_8.rect t).emb j) := by
  idx_vars j
  rw [value8 m c t]
  congr 1
  funext a
  apply Fin.ext
  refine Eq.symm ((Pipeline.Window.rect_emb_val win0_8 t (ix2 j0 j1) a).trans ?_)
  rw [at8]
  fin_cases a
  · rfl
  · rfl

theorem inside8 (t : Fin cfg0.N) (i : S2048x1024.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v3_2).slice (win0_8.rect t)).set ↔ _
  rw [View.set_slice_whole, Rect.mem_set_unit]
  exact Iff.rfl

theorem covered8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hb : (i 1).val / 512 * 4 + (i 0).val / 512 < 8 := by omega
  refine ⟨⟨(i 1).val / 512 * 4 + (i 0).val / 512, by rw [show cfg0.N = 8 from N_0]; exact hb⟩, flush0_8 _, (inside8 _ _).mpr ?_⟩
  rw [at8]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final8 : (dats m 0 c).arrAt 8 cfg0.N = G8 m c := by
  refine Pipeline.Dat.arrAt_eq_of_cover (dats m 0 c) 8 (G8 m c) (fun t _ => ?_) (covered8)
  rw [Value.flushed8]
  funext j
  exact result8 m c t j

/-- The reference's array, as a function of the arguments. -/
abbrev G9 : S2048x1024.Idx → EReal := val_main_v33 (F := Ideal) (m (c.tc.loc main_arg0)) (m (c.tc.loc main_arg1)) (m (c.tc.loc main_arg2)) (m (c.tc.loc main_arg3)) (m (c.tc.loc main_arg4)) (m (c.tc.loc main_arg5))

theorem value9 (t : Fin cfg0.N) (r : Fin 512) (s : Fin 512) :
    (outsAt0 m c t.val t.isLt).2.2.2.1 (ix2 r s) = G9 m c (ix2 ⟨t.val % 4 * 512 + r.val, by have := points t; omega⟩ ⟨t.val / 4 * 512 + s.val, by have := points t; omega⟩) := by
  rw [left9]
  pointwise [k0_pay3, k0_pay4, k0_pay12, k0_pay13, gradA_at, gradB_at, dx_block, w_block, pa_block, pb_block, ya_block, yb_block, val_main_v31, val_main_v33]
  rfl

theorem result9 (t : Fin cfg0.N) (j : S512x512.Idx) :
    (outsAt0 m c t.val t.isLt).2.2.2.1 j = G9 m c ((win0_9.rect t).emb j) := by
  idx_vars j
  rw [value9 m c t]
  congr 1
  funext a
  apply Fin.ext
  refine Eq.symm ((Pipeline.Window.rect_emb_val win0_9 t (ix2 j0 j1) a).trans ?_)
  rw [at9]
  fin_cases a
  · rfl
  · rfl

theorem inside9 (t : Fin cfg0.N) (i : S2048x1024.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v3_3).slice (win0_9.rect t)).set ↔ _
  rw [View.set_slice_whole, Rect.mem_set_unit]
  exact Iff.rfl

theorem covered9 (i : S2048x1024.Idx) : ∃ t : Fin cfg0.N, (cfg0.win 9).flush t = true ∧ i ∈ ((cfg0.win 9).blk t).view.set := by
  have h0 : (i 0).val < 2048 := (i 0).isLt
  have h1 : (i 1).val < 1024 := (i 1).isLt
  have hb : (i 1).val / 512 * 4 + (i 0).val / 512 < 8 := by omega
  refine ⟨⟨(i 1).val / 512 * 4 + (i 0).val / 512, by rw [show cfg0.N = 8 from N_0]; exact hb⟩, flush0_9 _, (inside9 _ _).mpr ?_⟩
  rw [at9]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final9 : (dats m 0 c).arrAt 9 cfg0.N = G9 m c := by
  refine Pipeline.Dat.arrAt_eq_of_cover (dats m 0 c) 9 (G9 m c) (fun t _ => ?_) (covered9)
  rw [Value.flushed9]
  funext j
  exact result9 m c t j

/-- One row's part, in a column of the `a`-th block of columns. -/
def columnA (a : ℕ) (s : Fin 512) (b : Fin 2048) : EReal := if h : a * 512 + s.val < 1024 then partA m c b ⟨a * 512 + s.val, h⟩ else 0

/-- What the `b`-th point of the `a`-th block of columns adds to the sum of the parts. -/
def termA (a b : ℕ) (s : Fin 512) : EReal := ∑ r : Fin 512, if h : b * 512 + r.val < 2048 then columnA m c a s ⟨b * 512 + r.val, h⟩ else 0

theorem termA_at (t : Fin cfg0.N) (s : Fin 512) :
    termA m c (t.val / 4) (t.val % 4) s = ∑ r : Fin 512, partA m c ⟨t.val % 4 * 512 + r.val, by have := points t; omega⟩ ⟨t.val / 4 * 512 + s.val, by have := points t; omega⟩ :=
  Finset.sum_congr rfl fun r _ => (dif_pos (by have := points t; omega)).trans (dif_pos (by have := points t; omega))

theorem firstA (t : Fin cfg0.N) (h : t.val % 4 = 0) (s : Fin 512) : (outsAt0 m c t.val t.isLt).2.2.2.2.1 (ix2 0 s) = 0 + termA m c (t.val / 4) (t.val % 4) s := by
  rw [sum_first10 m c t h, termA_at, zero_add]
  pointwise [k0_pay5, k0_pay6, gradA_at, gradB_at]

theorem nextA (t : Fin cfg0.N) (h : ¬t.val % 4 = 0) (s : Fin 512) :
    (outsAt0 m c t.val t.isLt).2.2.2.2.1 (ix2 0 s) = (outsAt0 m c (t.val - 1) (Nat.lt_of_le_of_lt (Nat.sub_le _ _) t.isLt)).2.2.2.2.1 (ix2 0 s) + termA m c (t.val / 4) (t.val % 4) s := by
  rw [sum_next10 m c t h, termA_at]
  pointwise [k0_pay5, k0_pay6, k0_pay7, k0_pay8, gradA_at, gradB_at]

theorem reference_sumA (s : Fin 1024) : val_main_v34 (F := Ideal) (m (c.tc.loc main_arg0)) (m (c.tc.loc main_arg1)) (m (c.tc.loc main_arg2)) (m (c.tc.loc main_arg3)) (m (c.tc.loc main_arg4)) (m (c.tc.loc main_arg5)) (ix2 0 s) = ∑ a, partA m c a s := by
  unfold partA
  pointwise [val_main_v34, val_main_v35, val_main_v27, val_main_v26, val_main_cst_4, val_main_v30, val_main_v32]

/-- The reference's array, as a function of the arguments. -/
abbrev G10 : S1x1024.Idx → EReal := val_main_v34 (F := Ideal) (m (c.tc.loc main_arg0)) (m (c.tc.loc main_arg1)) (m (c.tc.loc main_arg2)) (m (c.tc.loc main_arg3)) (m (c.tc.loc main_arg4)) (m (c.tc.loc main_arg5))

theorem value10 (t : Fin cfg0.N) (ht : t.val % 4 = 3) (r : Fin 1) (s : Fin 512) :
    (outsAt0 m c t.val t.isLt).2.2.2.2.1 (ix2 r s) = G10 m c (ix2 r ⟨t.val / 4 * 512 + s.val, by have := points t; omega⟩) := by
  obtain rfl : r = 0 := Subsingleton.elim _ _
  refine (Pipeline.eq_sum_of_reset_step_apply_divmod (fun n h (u : Fin 512) => (outsAt0 m c n h).2.2.2.2.1 (ix2 0 u)) 4 (fun _ => 0) (termA m c)
    (fun t h u => firstA m c t h u) (fun t h u => nextA m c t h u) t s).trans ?_
  rw [ht, zero_add]
  refine (sum_of_points 4 512 rfl (columnA m c (t.val / 4) s)).trans (Eq.trans ?_ (reference_sumA m c ⟨t.val / 4 * 512 + s.val, by have := points t; omega⟩).symm)
  exact Finset.sum_congr rfl fun r _ => dif_pos _

theorem result10 (t : Fin cfg0.N) (ht : t.val % 4 = 3) (j : S1x512.Idx) :
    (outsAt0 m c t.val t.isLt).2.2.2.2.1 j = G10 m c ((win0_10.rect t).emb j) := by
  idx_vars j
  rw [value10 m c t ht]
  congr 1
  funext a
  apply Fin.ext
  refine Eq.symm ((Pipeline.Window.rect_emb_val win0_10 t (ix2 j0 j1) a).trans ?_)
  rw [at10]
  fin_cases a
  · exact Nat.zero_add _
  · rfl

theorem inside10 (t : Fin cfg0.N) (i : S1x1024.Idx) :
    i ∈ ((cfg0.win 10).blk t).view.set ↔ ∀ a : Fin 2, win0_10.index t a * S1x512.size a ≤ (i a).val ∧ (i a).val < win0_10.index t a * S1x512.size a + S1x512.size a := by
  show i ∈ ((View.whole main_v3_4).slice (win0_10.rect t)).set ↔ _
  rw [View.set_slice_whole, Rect.mem_set_unit]
  exact Iff.rfl

theorem covered10 (i : S1x1024.Idx) : ∃ t : Fin cfg0.N, (cfg0.win 10).flush t = true ∧ i ∈ ((cfg0.win 10).blk t).view.set := by
  have h0 : (i 0).val < 1 := (i 0).isLt
  have h1 : (i 1).val < 1024 := (i 1).isLt
  have hb : (i 1).val / 512 * 4 + 3 < 8 := by omega
  refine ⟨⟨(i 1).val / 512 * 4 + 3, by rw [show cfg0.N = 8 from N_0]; exact hb⟩, (flush0_10 _).mpr (by show ((i 1).val / 512 * 4 + 3)  % 4 = 3; omega), (inside10 _ _).mpr ?_⟩
  rw [at10]
  intro a
  fin_cases a
  · show 0 * 1 ≤ (i 0).val ∧ (i 0).val < 0 * 1 + 1; omega
  · show ((i 1).val / 512 * 4 + 3) / 4 * 512 ≤ (i 1).val ∧ (i 1).val < ((i 1).val / 512 * 4 + 3) / 4 * 512 + 512; omega

theorem final10 : (dats m 0 c).arrAt 10 cfg0.N = G10 m c := by
  refine Pipeline.Dat.arrAt_eq_of_cover (dats m 0 c) 10 (G10 m c) (fun t hfl => ?_) (covered10)
  rw [Value.flushed10]
  funext j
  exact result10 m c t ((flush0_10 t).mp hfl) j

/-- One row's part, in a column of the `a`-th block of columns. -/
def columnB (a : ℕ) (s : Fin 512) (b : Fin 2048) : EReal := if h : a * 512 + s.val < 1024 then partB m c b ⟨a * 512 + s.val, h⟩ else 0

/-- What the `b`-th point of the `a`-th block of columns adds to the sum of the parts. -/
def termB (a b : ℕ) (s : Fin 512) : EReal := ∑ r : Fin 512, if h : b * 512 + r.val < 2048 then columnB m c a s ⟨b * 512 + r.val, h⟩ else 0

theorem termB_at (t : Fin cfg0.N) (s : Fin 512) :
    termB m c (t.val / 4) (t.val % 4) s = ∑ r : Fin 512, partB m c ⟨t.val % 4 * 512 + r.val, by have := points t; omega⟩ ⟨t.val / 4 * 512 + s.val, by have := points t; omega⟩ :=
  Finset.sum_congr rfl fun r _ => (dif_pos (by have := points t; omega)).trans (dif_pos (by have := points t; omega))

theorem firstB (t : Fin cfg0.N) (h : t.val % 4 = 0) (s : Fin 512) : (outsAt0 m c t.val t.isLt).2.2.2.2.2 (ix2 0 s) = 0 + termB m c (t.val / 4) (t.val % 4) s := by
  rw [sum_first11 m c t h, termB_at, zero_add]
  pointwise [k0_pay5, k0_pay6, gradA_at, gradB_at]

theorem nextB (t : Fin cfg0.N) (h : ¬t.val % 4 = 0) (s : Fin 512) :
    (outsAt0 m c t.val t.isLt).2.2.2.2.2 (ix2 0 s) = (outsAt0 m c (t.val - 1) (Nat.lt_of_le_of_lt (Nat.sub_le _ _) t.isLt)).2.2.2.2.2 (ix2 0 s) + termB m c (t.val / 4) (t.val % 4) s := by
  rw [sum_next11 m c t h, termB_at]
  pointwise [k0_pay5, k0_pay6, k0_pay7, k0_pay8, gradA_at, gradB_at]

theorem reference_sumB (s : Fin 1024) : val_main_v35 (F := Ideal) (m (c.tc.loc main_arg0)) (m (c.tc.loc main_arg1)) (m (c.tc.loc main_arg2)) (m (c.tc.loc main_arg3)) (m (c.tc.loc main_arg4)) (m (c.tc.loc main_arg5)) (ix2 0 s) = ∑ a, partB m c a s := by
  unfold partB
  pointwise [val_main_v34, val_main_v35, val_main_v27, val_main_v26, val_main_cst_4, val_main_v30, val_main_v32]

/-- The reference's array, as a function of the arguments. -/
abbrev G11 : S1x1024.Idx → EReal := val_main_v35 (F := Ideal) (m (c.tc.loc main_arg0)) (m (c.tc.loc main_arg1)) (m (c.tc.loc main_arg2)) (m (c.tc.loc main_arg3)) (m (c.tc.loc main_arg4)) (m (c.tc.loc main_arg5))

theorem value11 (t : Fin cfg0.N) (ht : t.val % 4 = 3) (r : Fin 1) (s : Fin 512) :
    (outsAt0 m c t.val t.isLt).2.2.2.2.2 (ix2 r s) = G11 m c (ix2 r ⟨t.val / 4 * 512 + s.val, by have := points t; omega⟩) := by
  obtain rfl : r = 0 := Subsingleton.elim _ _
  refine (Pipeline.eq_sum_of_reset_step_apply_divmod (fun n h (u : Fin 512) => (outsAt0 m c n h).2.2.2.2.2 (ix2 0 u)) 4 (fun _ => 0) (termB m c)
    (fun t h u => firstB m c t h u) (fun t h u => nextB m c t h u) t s).trans ?_
  rw [ht, zero_add]
  refine (sum_of_points 4 512 rfl (columnB m c (t.val / 4) s)).trans (Eq.trans ?_ (reference_sumB m c ⟨t.val / 4 * 512 + s.val, by have := points t; omega⟩).symm)
  exact Finset.sum_congr rfl fun r _ => dif_pos _

theorem result11 (t : Fin cfg0.N) (ht : t.val % 4 = 3) (j : S1x512.Idx) :
    (outsAt0 m c t.val t.isLt).2.2.2.2.2 j = G11 m c ((win0_11.rect t).emb j) := by
  idx_vars j
  rw [value11 m c t ht]
  congr 1
  funext a
  apply Fin.ext
  refine Eq.symm ((Pipeline.Window.rect_emb_val win0_11 t (ix2 j0 j1) a).trans ?_)
  rw [at11]
  fin_cases a
  · exact Nat.zero_add _
  · rfl

theorem inside11 (t : Fin cfg0.N) (i : S1x1024.Idx) :
    i ∈ ((cfg0.win 11).blk t).view.set ↔ ∀ a : Fin 2, win0_11.index t a * S1x512.size a ≤ (i a).val ∧ (i a).val < win0_11.index t a * S1x512.size a + S1x512.size a := by
  show i ∈ ((View.whole main_v3_5).slice (win0_11.rect t)).set ↔ _
  rw [View.set_slice_whole, Rect.mem_set_unit]
  exact Iff.rfl

theorem covered11 (i : S1x1024.Idx) : ∃ t : Fin cfg0.N, (cfg0.win 11).flush t = true ∧ i ∈ ((cfg0.win 11).blk t).view.set := by
  have h0 : (i 0).val < 1 := (i 0).isLt
  have h1 : (i 1).val < 1024 := (i 1).isLt
  have hb : (i 1).val / 512 * 4 + 3 < 8 := by omega
  refine ⟨⟨(i 1).val / 512 * 4 + 3, by rw [show cfg0.N = 8 from N_0]; exact hb⟩, (flush0_11 _).mpr (by show ((i 1).val / 512 * 4 + 3)  % 4 = 3; omega), (inside11 _ _).mpr ?_⟩
  rw [at11]
  intro a
  fin_cases a
  · show 0 * 1 ≤ (i 0).val ∧ (i 0).val < 0 * 1 + 1; omega
  · show ((i 1).val / 512 * 4 + 3) / 4 * 512 ≤ (i 1).val ∧ (i 1).val < ((i 1).val / 512 * 4 + 3) / 4 * 512 + 512; omega

theorem final11 : (dats m 0 c).arrAt 11 cfg0.N = G11 m c := by
  refine Pipeline.Dat.arrAt_eq_of_cover (dats m 0 c) 11 (G11 m c) (fun t hfl => ?_) (covered11)
  rw [Value.flushed11]
  funext j
  exact result11 m c t ((flush0_11 t).mp hfl) j

end Cert.Proof.MixBwd

end
-- ==== Proof.WOut.lean ====
/- The weight gradient of the output projection: the values of the kernel's array. -/
module

public import proofs.«01_k».proof.Proof.Gen.Kernel19Ideal.Value
public import proofs.«01_k».proof.Proof.Gen.Reference19Ideal.Read
public import proofs.«01_k».proof.Proof.Basis
public import proofs.«01_k».proof.Proof.Pieces

@[expose] public section

set_option maxRecDepth 16384

noncomputable section

namespace Cert.Proof.WOut

open Cert.Kernel19Ideal Cert.Kernel19Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![t.val % 2, t.val / 2] := by decide +kernel
theorem at1 : ∀ t : Fin grid0.N, win0_1.index t = ![t.val % 2, 0] := by decide +kernel
theorem at2 : ∀ t : Fin grid0.N, win0_2.index t = ![t.val / 2, 0] := by decide +kernel

theorem a_block (t : Fin cfg0.N) (r : Fin 1024) (s : Fin 512) :
    iblk m c 0 t (ix2 r s) = (m (c.tc.loc main_arg0)) (ix2 ⟨t.val % 2 * 1024 + r.val, by have := points t; omega⟩ ⟨t.val / 2 * 512 + s.val, by have := points t; omega⟩) := by
  have h : iblk m c 0 t (ix2 r s) = V m c main_v0 (ix2 ⟨t.val % 2 * 1024 + r.val, by have := points t; omega⟩ ⟨t.val / 2 * 512 + s.val, by have := points t; omega⟩) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · rfl
  refine h.trans ?_
  have := points t
  unfold V
  after_reads_at

theorem d_block (t : Fin cfg0.N) (r : Fin 1024) (s : Fin 1024) :
    iblk m c 1 t (ix2 r s) = (m (c.tc.loc main_arg1)) (ix2 ⟨t.val % 2 * 1024 + r.val, by have := points t; omega⟩ s) := by
  have h : iblk m c 1 t (ix2 r s) = V m c main_arg1 (ix2 ⟨t.val % 2 * 1024 + r.val, by have := points t; omega⟩ s) := by
    show V m c main_arg1 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  rw [V_main_arg1]

/-- What one block of tokens adds to the gradient. -/
def part (t : Fin cfg0.N) (r : Fin 512) (s : Fin 1024) : EReal :=
  ∑ x : Fin 1024, HMul.hMul (α := EReal) (β := EReal) ((m (c.tc.loc main_arg0)) (ix2 ⟨t.val % 2 * 1024 + x.val, by have := points t; omega⟩ ⟨t.val / 2 * 512 + r.val, by have := points t; omega⟩)) ((m (c.tc.loc main_arg1)) (ix2 ⟨t.val % 2 * 1024 + x.val, by have := points t; omega⟩ s))

theorem first (t : Fin cfg0.N) (h0 : t.val % 2 = 0) (r : Fin 512) (s : Fin 1024) :
    (outsAt0 m c t.val t.isLt).2 (ix2 r s) = part m c t r s := by
  rw [outsAt0_A m c t h0 (by omega) (by omega)]
  dsimp only
  frame_open
  simp (disch := decide) only [↓ View.readCov_skip, ↓ View.readCov_cons_toLoadRect, ↓ View.readCov_fill]
  frame_out
  pointwise [k0_pay1, k0_pay2, k0_pay3, k0_pay4, a_block, d_block, part]

theorem last (t : Fin cfg0.N) (h1 : t.val % 2 = 1) (r : Fin 512) (s : Fin 1024) :
    (outsAt0 m c t.val t.isLt).1 (ix2 r s) = HAdd.hAdd (α := EReal) (β := EReal) ((outsAt0 m c (t.val - 1) (by have := t.isLt; omega)).2 (ix2 r s)) (part m c t r s) := by
  rw [outsAt0_B m c t (by omega) h1 h1]
  dsimp only
  generalize (outsAt0 m c (t.val - 1) _).2 = acc
  frame_open
  simp (disch := decide) only [↓ View.readCov_skip, ↓ View.readCov_cons_toLoadRect, ↓ View.readCov_fill]
  frame_out
  simp only [read_unread_whole]
  pointwise [k0_pay1, k0_pay2, k0_pay3, k0_pay4, a_block, d_block, part]

theorem both (t : Fin cfg0.N) (ht : t.val % 2 = 1) (r : Fin 512) (s : Fin 1024) :
    HAdd.hAdd (α := EReal) (β := EReal) (part m c ⟨t.val - 1, by have := t.isLt; omega⟩ r s) (part m c t r s) = Cert.Reference19Ideal.Read.val_main_v4 (F := Ideal) (m (c.tc.loc main_arg0)) (m (c.tc.loc main_arg1)) (ix2 ⟨t.val / 2 * 512 + r.val, by have := points t; omega⟩ s) := by
  have e0 : (t.val - 1) % 2 = 0 := by omega
  have e1 : (t.val - 1) / 2 = t.val / 2 := by omega
  simp only [part]
  pointwise [Cert.Reference19Ideal.Read.val_main_cst, Cert.Reference19Ideal.Read.val_main_v0, Cert.Reference19Ideal.Read.val_main_v1, Cert.Reference19Ideal.Read.val_main_v2, Cert.Reference19Ideal.Read.val_main_v3, Cert.Reference19Ideal.Read.val_main_v4]
  rw [Fin.sum_univ_tiles 2 1024 rfl, Fin.sum_univ_two]
  simp only [e0, e1, ht, Fin.val_zero, Fin.val_one, Nat.zero_mul, Nat.one_mul, Nat.zero_add]
  exact congrArg₂ (fun y z : EReal => y + z) (Finset.sum_congr rfl fun x _ => mul_comm (G := EReal) _ _) (Finset.sum_congr rfl fun x _ => mul_comm (G := EReal) _ _)

/-- The reference's array, as a function of the arguments. -/
abbrev G2 : S1024x1024.Idx → EReal := Cert.Reference19Ideal.Read.val_main_v4 (F := Ideal) (m (c.tc.loc main_arg0)) (m (c.tc.loc main_arg1))

theorem value2 (t : Fin cfg0.N) (ht : t.val % 2 = 1) (r : Fin 512) (s : Fin 1024) :
    (outsAt0 m c t.val t.isLt).1 (ix2 r s) = G2 m c (ix2 ⟨t.val / 2 * 512 + r.val, by have := points t; omega⟩ s) := by
  have f := first m c ⟨t.val - 1, by have := t.isLt; omega⟩ (by show (t.val - 1) % 2 = 0; omega) r s
  rw [last m c t ht r s]
  exact (congrArg (fun y => HAdd.hAdd (α := EReal) (β := EReal) y (part m c t r s)) f).trans (both m c t ht r s)

theorem result2 (t : Fin cfg0.N) (ht : t.val % 2 = 1) (j : S512x1024.Idx) :
    (outsAt0 m c t.val t.isLt).1 j = G2 m c ((win0_2.rect t).emb j) := by
  idx_vars j
  rw [value2 m c t ht]
  congr 1
  funext a
  apply Fin.ext
  refine Eq.symm ((Pipeline.Window.rect_emb_val win0_2 t (ix2 j0 j1) a).trans ?_)
  rw [at2]
  fin_cases a
  · rfl
  · exact Nat.zero_add _

theorem inside2 (t : Fin cfg0.N) (i : S1024x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

theorem covered2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hb : (i 0).val / 512 * 2 + 1 < 4 := by omega
  refine ⟨⟨(i 0).val / 512 * 2 + 1, by rw [show cfg0.N = 4 from N_0]; exact hb⟩, (flush0_2 _).mpr (by show ((i 0).val / 512 * 2 + 1)  % 2 = 1; omega), (inside2 _ _).mpr ?_⟩
  rw [at2]
  intro a
  fin_cases a
  · show ((i 0).val / 512 * 2 + 1) / 2 * 512 ≤ (i 0).val ∧ (i 0).val < ((i 0).val / 512 * 2 + 1) / 2 * 512 + 512; omega
  · show 0 * 1024 ≤ (i 1).val ∧ (i 1).val < 0 * 1024 + 1024; omega

theorem final2 : (dats m 0 c).arrAt 2 cfg0.N = G2 m c := by
  refine Pipeline.Dat.arrAt_eq_of_cover (dats m 0 c) 2 (G2 m c) (fun t hfl => ?_) (covered2)
  rw [Value.flushed2]
  funext j
  exact result2 m c t ((flush0_2 t).mp hfl) j

end Cert.Proof.WOut

end
-- ==== Proof.UpWGrad.lean ====
/- The weight gradients of the two projections up: the values of the kernel's array. -/
module

public import proofs.«01_k».proof.Proof.Gen.Kernel21Ideal.Value
public import proofs.«01_k».proof.Proof.Gen.Reference21Ideal.Read
public import proofs.«01_k».proof.Proof.Basis
public import proofs.«01_k».proof.Proof.Pieces

@[expose] public section

set_option maxRecDepth 16384

noncomputable section

namespace Cert.Proof.UpWGrad

open Cert.Kernel21Ideal Cert.Kernel21Ideal.Gen Idealize.ShloMosaic Idealize.ShloMosaic.TcCoe Idealize.SL.Sem Cert.Reference21Ideal.Read

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, t.val] := by decide +kernel
theorem at3 : ∀ t : Fin grid0.N, win0_3.index t = ![0, t.val] := by decide +kernel
theorem at4 : ∀ t : Fin grid0.N, win0_4.index t = ![t.val, 0, 0] := by decide +kernel

theorem ya_block (t : Fin cfg0.N) (r : Fin 2048) (s : Fin 512) :
    iblk m c 0 t (ix2 r s) = (m (c.tc.loc main_arg0)) (ix2 r s) := by
  have h : iblk m c 0 t (ix2 r s) = V m c main_v0 (ix2 r s) := by
    show V m c main_v0 ((win0_0.rect t).emb (ix2 r s)) = _
    congr 1
    funext a
    apply Fin.ext
    refine (Pipeline.Window.rect_emb_val win0_0 t (ix2 r s) a).trans ?_
    rw [at0]
    fin_cases a
    · exact Nat.zero_add _
    · exact Nat.zero_add _
  refine h.trans ?_
  have := points t
  unfold V
  after_reads_at

theorem yb_block (t : Fin cfg0.N) (r : Fin 2048) (s : Fin 512) :
    iblk m c 1 t (ix2 r s) = (m (c.tc.loc main_arg1)) (ix2 r s) := by
  have h : iblk m c 1 t (ix2 r s) = V m c main_v1 (ix2 r s) := by
    show V m c main_v1 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  have := points t
  unfold V
  after_reads_at

theorem da_block (t : Fin cfg0.N) (r : Fin 2048) (s : Fin 256) :
    iblk m c 2 t (ix2 r s) = (m (c.tc.loc main_arg2)) (ix2 r ⟨t.val * 256 + s.val, by have := points t; omega⟩) := by
  have h : iblk m c 2 t (ix2 r s) = V m c main_v2 (ix2 r ⟨t.val * 256 + s.val, by have := points t; omega⟩) := by
    show V m c main_v2 ((win0_2.rect t).emb (ix2 r s)) = _
    congr 1
    funext a
    apply Fin.ext
    refine (Pipeline.Window.rect_emb_val win0_2 t (ix2 r s) a).trans ?_
    rw [at2]
    fin_cases a
    · exact Nat.zero_add _
    · rfl
  refine h.trans ?_
  have := points t
  unfold V
  after_reads_at

theorem db_block (t : Fin cfg0.N) (r : Fin 2048) (s : Fin 256) :
    iblk m c 3 t (ix2 r s) = (m (c.tc.loc main_arg3)) (ix2 r ⟨t.val * 256 + s.val, by have := points t; omega⟩) := by
  have h : iblk m c 3 t (ix2 r s) = V m c main_v3 (ix2 r ⟨t.val * 256 + s.val, by have := points t; omega⟩) := by
    show V m c main_v3 ((win0_3.rect t).emb (ix2 r s)) = _
    congr 1
    funext a
    apply Fin.ext
    refine (Pipeline.Window.rect_emb_val win0_3 t (ix2 r s) a).trans ?_
    rw [at3]
    fin_cases a
    · exact Nat.zero_add _
    · rfl
  refine h.trans ?_
  have := points t
  unfold V
  after_reads_at

section

variable {Val : EltTy → Type} [∀ e, Nonempty (Val e)] {e : EltTy} {K n p : Nat}

/-- A store of the rows from `o` on is read in those rows. -/
theorem band_here (o : Nat) {off : Fin 3 → Nat} (ho : off = ![0, o, 0]) (inb : ∀ a, off a + (![1, n, p] : Fin 3 → Nat) a ≤ (⟨3, ![1, K, p]⟩ : Shape).size a)
    (w : (⟨3, ![1, n, p]⟩ : Shape).Idx → Val e) (L : List (View.Piece Val (⟨3, ![1, K, p]⟩ : Shape) e)) (q : Fin 1) (k : Fin K) (r : Fin n) (s : Fin p) (hk : k.val = o + r.val) :
    View.canon (⟨Rect.unit (s := (⟨3, ![1, K, p]⟩ : Shape)) off ![1, n, p] inb, w⟩ :: L) (ix3 q k s) = w (ix3 0 r s) := by
  subst ho
  have h : (ix3 q k s : (⟨3, ![1, K, p]⟩ : Shape).Idx) = (Rect.unit (s := (⟨3, ![1, K, p]⟩ : Shape)) ![0, o, 0] ![1, n, p] inb).emb (ix3 0 r s) := by
    funext a
    apply Fin.ext
    fin_cases a
    · show q.val = 0 + 1 * 0; omega
    · show k.val = o + 1 * r.val; omega
    · show s.val = 0 + 1 * s.val; omega
  rw [h]
  exact View.canon_cons_emb (Rect.unit (s := (⟨3, ![1, K, p]⟩ : Shape)) ![0, o, 0] ![1, n, p] inb) w L (ix3 0 r s)

/-- A store of the rows from `o` on is not read in the rows before them. -/
theorem band_other (o : Nat) {off : Fin 3 → Nat} (ho : off = ![0, o, 0]) (inb : ∀ a, off a + (![1, n, p] : Fin 3 → Nat) a ≤ (⟨3, ![1, K, p]⟩ : Shape).size a)
    (w : (⟨3, ![1, n, p]⟩ : Shape).Idx → Val e) (L : List (View.Piece Val (⟨3, ![1, K, p]⟩ : Shape) e)) (q : Fin 1) (k : Fin K) (s : Fin p) (hk : k.val < o) :
    View.canon (⟨Rect.unit (s := (⟨3, ![1, K, p]⟩ : Shape)) off ![1, n, p] inb, w⟩ :: L) (ix3 q k s) = View.canon L (ix3 q k s) := by
  subst ho
  refine View.canon_cons_of_not_mem _ L fun hm => ?_
  rw [Rect.mem_set_unit] at hm
  have h1 : o ≤ k.val := (hm 1).1
  omega

end

theorem low (t : Fin cfg0.N) (q : Fin 1) (r : Fin 512) (s : Fin 256) :
    out0_4 (iblk m c 0 t) (iblk m c 1 t) (iblk m c 2 t) (iblk m c 3 t) (ix3 q ⟨r.val, by omega⟩ s) = val_main_v10 (F := Ideal) (m (c.tc.loc main_arg0)) (m (c.tc.loc main_arg1)) (m (c.tc.loc main_arg2)) (m (c.tc.loc main_arg3)) (ix3 ⟨t.val, by have := points t; omega⟩ ⟨r.val, by omega⟩ s) := by
  unfold out0_4
  refine (band_other (Val := Elt Ideal) (e := .bf16) (K := 1024) (n := 512) (p := 256) 512 rfl inb_S1x1024x256_S1x512x256_0_512_0 _ _ q _ s r.isLt).trans ?_
  refine (band_here (Val := Elt Ideal) (e := .bf16) (K := 1024) (n := 512) (p := 256) 0 rfl inb_S1x1024x256_S1x512x256_0_0_0 _ _ q _ r s (by exact (Nat.zero_add _).symm)).trans ?_
  pointwise [k0_pay1, ya_block, da_block, val_main_cst, val_main_v0, val_main_v1, val_main_v2, val_main_v3, val_main_v4, val_main_v5, val_main_v6, val_main_v7, val_main_v8, val_main_v9, val_main_v10]
  exact Finset.sum_congr rfl fun k _ => mul_comm (G := EReal) _ _

theorem high (t : Fin cfg0.N) (q : Fin 1) (r : Fin 512) (s : Fin 256) :
    out0_4 (iblk m c 0 t) (iblk m c 1 t) (iblk m c 2 t) (iblk m c 3 t) (ix3 q ⟨512 + r.val, by omega⟩ s) = val_main_v10 (F := Ideal) (m (c.tc.loc main_arg0)) (m (c.tc.loc main_arg1)) (m (c.tc.loc main_arg2)) (m (c.tc.loc main_arg3)) (ix3 ⟨t.val, by have := points t; omega⟩ ⟨512 + r.val, by omega⟩ s) := by
  unfold out0_4
  refine (band_here (Val := Elt Ideal) (e := .bf16) (K := 1024) (n := 512) (p := 256) 512 rfl inb_S1x1024x256_S1x512x256_0_512_0 _ _ q _ r s (by rfl)).trans ?_
  pointwise [k0_pay2, yb_block, db_block, val_main_cst, val_main_v0, val_main_v1, val_main_v2, val_main_v3, val_main_v4, val_main_v5, val_main_v6, val_main_v7, val_main_v8, val_main_v9, val_main_v10]
  exact Finset.sum_congr rfl fun k _ => mul_comm (G := EReal) _ _

/-- The reference's array, as a function of the arguments. -/
abbrev G4 : S4x1024x256.Idx → EReal := val_main_v10 (F := Ideal) (m (c.tc.loc main_arg0)) (m (c.tc.loc main_arg1)) (m (c.tc.loc main_arg2)) (m (c.tc.loc main_arg3))

theorem value4 (t : Fin cfg0.N) (r : Fin 1) (s : Fin 1024) (u : Fin 256) :
    out0_4 (iblk m c 0 t) (iblk m c 1 t) (iblk m c 2 t) (iblk m c 3 t) (ix3 r s u) = G4 m c (ix3 ⟨t.val, by have := points t; omega⟩ s u) := by
  by_cases h : s.val < 512
  · exact low m c t r ⟨s.val, h⟩ u
  · have e : s = ⟨512 + (s.val - 512), by omega⟩ := Fin.ext (by show s.val = 512 + (s.val - 512); omega)
    rw [e]
    exact high m c t r ⟨s.val - 512, by omega⟩ u

theorem result4 (t : Fin cfg0.N) (j : S1x1024x256.Idx) :
    out0_4 (iblk m c 0 t) (iblk m c 1 t) (iblk m c 2 t) (iblk m c 3 t) j = G4 m c ((win0_4.rect t).emb j) := by
  idx_vars j
  rw [value4]
  congr 1
  funext a
  apply Fin.ext
  refine Eq.symm ((Pipeline.Window.rect_emb_val win0_4 t (ix3 j0 j1 j2) a).trans ?_)
  rw [at4]
  fin_cases a
  · show t.val * 1 + j0.val = t.val; omega
  · exact Nat.zero_add _
  · exact Nat.zero_add _

theorem inside4 (t : Fin cfg0.N) (i : S4x1024x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v4).slice (win0_4.rect t)).set ↔ _
  rw [View.set_slice_whole, Rect.mem_set_unit]
  exact Iff.rfl

theorem covered4 (i : S4x1024x256.Idx) : ∃ t : Fin cfg0.N, (cfg0.win 4).flush t = true ∧ i ∈ ((cfg0.win 4).blk t).view.set := by
  have h0 : (i 0).val < 4 := (i 0).isLt
  have h1 : (i 1).val < 1024 := (i 1).isLt
  have h2 : (i 2).val < 256 := (i 2).isLt
  have hb : (i 0).val < 4 := by omega
  refine ⟨⟨(i 0).val, by rw [show cfg0.N = 4 from N_0]; exact hb⟩, flush0_4 _, (inside4 _ _).mpr ?_⟩
  rw [at4]
  intro a
  fin_cases a
  · show ((i 0).val) * 1 ≤ (i 0).val ∧ (i 0).val < ((i 0).val) * 1 + 1; omega
  · show 0 * 1024 ≤ (i 1).val ∧ (i 1).val < 0 * 1024 + 1024; omega
  · show 0 * 256 ≤ (i 2).val ∧ (i 2).val < 0 * 256 + 256; omega

theorem final4 : (dats m 0 c).arrAt 4 cfg0.N = G4 m c := by
  refine Pipeline.Dat.arrAt_eq_of_cover (dats m 0 c) 4 (G4 m c) (fun t _ => ?_) (covered4)
  rw [Value.flushed4]
  funext j
  exact result4 m c t j

end Cert.Proof.UpWGrad

end
-- ==== Proof.Pqkv.lean ====
/- The projection to queries, keys and values: the values of the kernel's array. -/
module

public import proofs.«01_k».proof.Proof.Gen.Kernel10Ideal.Value
public import proofs.«01_k».proof.Proof.Gen.Reference10Ideal.Read
public import proofs.«01_k».proof.Proof.Basis
public import proofs.«01_k».proof.Proof.Pieces

@[expose] public section

set_option maxRecDepth 16384

noncomputable section

namespace Cert.Proof.Pqkv

open Cert.Kernel10Ideal Cert.Kernel10Ideal.Gen Idealize.ShloMosaic Idealize.ShloMosaic.TcCoe Idealize.SL.Sem

variable (m : (ℓ : Loc nD τ sig) → Buf (Elt Ideal) ℓ) (c : Dev nD)

theorem points (t : Fin cfg0.N) : t.val < 24 := t.isLt.trans_eq N_0

/-! The block that each window has at point `t` of the grid. -/

theorem at0 : ∀ t : Fin grid0.N, win0_0.index t = ![t.val % 4, 0] := by decide +kernel
theorem at1 : ∀ t : Fin grid0.N, win0_1.index t = ![t.val / 4, 0] := by decide +kernel
theorem at2 : ∀ t : Fin grid0.N, win0_2.index t = ![0, t.val / 4] := by decide +kernel
theorem at3 : ∀ t : Fin grid0.N, win0_3.index t = ![t.val % 4, t.val / 4] := by decide +kernel

theorem coord0 : ∀ t : Fin grid0.N, ((grid0.coords t) 0).val = t.val / 4 := by decide +kernel

/-- The factor of a block of columns: its scale for the first and the fourth, one for the others. -/
theorem factor (y : EReal) (j : ℕ) (h : j < 6) :
    Scalar.select (Scalar.ori (Scalar.cmpi CmpIPredicate.eq (BitVec.ofNat 32 j) 0#32) (Scalar.cmpi CmpIPredicate.eq (BitVec.ofNat 32 j) 3#32)) y 1 =
      if j = 0 ∨ j = 3 then y else 1 := by
  interval_cases j <;> rfl

theorem x_block (t : Fin cfg0.N) (r : Fin 512) (s : Fin 1024) :
    iblk m c 0 t (ix2 r s) = (m (c.tc.loc main_arg0)) (ix2 ⟨t.val % 4 * 512 + r.val, by have := points t; omega⟩ s) := by
  have h : iblk m c 0 t (ix2 r s) = V m c main_v2 (ix2 ⟨t.val % 4 * 512 + r.val, by have := points t; omega⟩ s) := by
    show V m c main_v2 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem w_block (t : Fin cfg0.N) (r : Fin 512) (s : Fin 1024) :
    X0_1 m c t (ix2 r s) = (m (c.tc.loc main_arg1)) (ix2 s ⟨t.val / 4 * 512 + r.val, by have := points t; omega⟩) := by
  have h : X0_1 m c t (ix2 r s) = V m c main_v1 (ix2 ⟨t.val / 4 * 512 + r.val, by have := points t; omega⟩ s) := by
    unfold X0_1 Pipeline.Window.fill
    refine (dif_pos (moved0_1 t _)).trans ?_
    show V m c main_v1 ((win0_1.rect t).emb _) = _
    congr 1
    funext a
    apply Fin.ext
    refine (Pipeline.Window.rect_emb_val win0_1 t _ a).trans ?_
    rw [at1]
    fin_cases a
    · rfl
    · exact Nat.zero_add _
  refine h.trans ?_
  have := points t
  unfold V
  after_reads_at

theorem zero_block (t : Fin cfg0.N) (r : Fin 1) (s : Fin 512) :
    iblk m c 2 t (ix2 r s) = (0 : EReal) := by
  have h : iblk m c 2 t (ix2 r s) = V m c main_v3 (ix2 r ⟨t.val / 4 * 512 + s.val, by have := points t; omega⟩) := by
    show V m c main_v3 ((win0_2.rect t).emb (ix2 r s)) = _
    congr 1
    funext a
    apply Fin.ext
    refine (Pipeline.Window.rect_emb_val win0_2 t (ix2 r s) a).trans ?_
    rw [at2]
    fin_cases a
    · exact Nat.zero_add _
    · rfl
  refine h.trans ?_
  have := points t
  unfold V
  after_reads_at

/-- The reference's array, as a function of the arguments. -/
abbrev G3 : S2048x3072.Idx → EReal := Cert.Reference10Ideal.Read.val_main_v17 (F := Ideal) (m (c.tc.loc main_arg0)) (m (c.tc.loc main_arg1))

theorem value3 (t : Fin cfg0.N) (r : Fin 512) (s : Fin 512) :
    (outsAt0 m c t) (ix2 r s) = G3 m c (ix2 ⟨t.val % 4 * 512 + r.val, by have := points t; omega⟩ ⟨t.val / 4 * 512 + s.val, by have := points t; omega⟩) := by
  unfold outsAt0
  frame_open
  try simp (disch := decide) only [↓ View.readCov_skip, ↓ View.readCov_cons_toLoadRect, ↓ View.readCov_fill]
  frame_out
  pointwise [k0_pay1, x_block, w_block, zero_block, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0, Cert.Reference10Ideal.Read.val_main_cst, Cert.Reference10Ideal.Read.val_main_cst_0]
  have hp := points t
  have hs := s.isLt
  have hr := r.isLt
  rw [coord0, factor _ _ (by omega)]
  obtain h | h | h | h | h | h : t.val / 4 = 0 ∨ t.val / 4 = 1 ∨ t.val / 4 = 2 ∨ t.val / 4 = 3 ∨ t.val / 4 = 4 ∨ t.val / 4 = 5 := by omega
  · rw [if_pos (by omega), dif_pos]
    · omega
  · rw [if_neg (by omega), mul_one, dif_neg, dif_pos]
    · refine Finset.sum_congr rfl fun x _ => ?_
      exact congrArg (fun q : Fin 3080 => HMul.hMul (α := EReal) (β := EReal) ((m (c.tc.loc main_arg0)) (ix2 ⟨t.val % 4 * 512 + r.val, by omega⟩ x)) ((m (c.tc.loc main_arg1)) (ix2 x q))) (Fin.ext (by dsimp only; omega))
    · omega
    · omega
  · rw [if_neg (by omega), mul_one, dif_neg, dif_neg, dif_pos]
    · refine Finset.sum_congr rfl fun x _ => ?_
      exact congrArg (fun q : Fin 3080 => HMul.hMul (α := EReal) (β := EReal) ((m (c.tc.loc main_arg0)) (ix2 ⟨t.val % 4 * 512 + r.val, by omega⟩ x)) ((m (c.tc.loc main_arg1)) (ix2 x q))) (Fin.ext (by dsimp only; omega))
    · omega
    · omega
    · omega
  · rw [if_pos (by omega), dif_neg, dif_neg, dif_neg, dif_pos]
    · refine congrArg (fun q : EReal => q * Ideal.ofBits .f32 0x3E000000#32) ?_
      refine Finset.sum_congr rfl fun x _ => ?_
      exact congrArg (fun q : Fin 3080 => HMul.hMul (α := EReal) (β := EReal) ((m (c.tc.loc main_arg0)) (ix2 ⟨t.val % 4 * 512 + r.val, by omega⟩ x)) ((m (c.tc.loc main_arg1)) (ix2 x q))) (Fin.ext (by dsimp only; omega))
    · omega
    · omega
    · omega
    · omega
  · rw [if_neg (by omega), mul_one, dif_neg, dif_neg, dif_neg, dif_neg, dif_pos]
    · refine Finset.sum_congr rfl fun x _ => ?_
      exact congrArg (fun q : Fin 3080 => HMul.hMul (α := EReal) (β := EReal) ((m (c.tc.loc main_arg0)) (ix2 ⟨t.val % 4 * 512 + r.val, by omega⟩ x)) ((m (c.tc.loc main_arg1)) (ix2 x q))) (Fin.ext (by dsimp only; omega))
    · omega
    · omega
    · omega
    · omega
    · omega
  · rw [if_neg (by omega), mul_one, dif_neg, dif_neg, dif_neg, dif_neg, dif_neg]
    · refine Finset.sum_congr rfl fun x _ => ?_
      exact congrArg (fun q : Fin 3080 => HMul.hMul (α := EReal) (β := EReal) ((m (c.tc.loc main_arg0)) (ix2 ⟨t.val % 4 * 512 + r.val, by omega⟩ x)) ((m (c.tc.loc main_arg1)) (ix2 x q))) (Fin.ext (by dsimp only; omega))
    · omega
    · omega
    · omega
    · omega
    · omega

theorem result3 (t : Fin cfg0.N) (j : S512x512.Idx) :
    (outsAt0 m c t) j = G3 m c ((win0_3.rect t).emb j) := by
  idx_vars j
  rw [value3 m c t]
  congr 1
  funext a
  apply Fin.ext
  refine Eq.symm ((Pipeline.Window.rect_emb_val win0_3 t (ix2 j0 j1) a).trans ?_)
  rw [at3]
  fin_cases a
  · rfl
  · rfl

theorem inside3 (t : Fin cfg0.N) (i : S2048x3072.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v4).slice (win0_3.rect t)).set ↔ _
  rw [View.set_slice_whole, Rect.mem_set_unit]
  exact Iff.rfl

theorem covered3 (i : S2048x3072.Idx) : ∃ t : Fin cfg0.N, (cfg0.win 3).flush t = true ∧ i ∈ ((cfg0.win 3).blk t).view.set := by
  have h0 : (i 0).val < 2048 := (i 0).isLt
  have h1 : (i 1).val < 3072 := (i 1).isLt
  have hb : (i 1).val / 512 * 4 + (i 0).val / 512 < 24 := by omega
  refine ⟨⟨(i 1).val / 512 * 4 + (i 0).val / 512, by rw [show cfg0.N = 24 from N_0]; exact hb⟩, flush0_3 _, (inside3 _ _).mpr ?_⟩
  rw [at3]
  intro a
  fin_cases a
  · show ((i 1).val / 512 * 4 + (i 0).val / 512) % 4 * 512 ≤ (i 0).val ∧ (i 0).val < ((i 1).val / 512 * 4 + (i 0).val / 512) % 4 * 512 + 512; omega
  · show ((i 1).val / 512 * 4 + (i 0).val / 512) / 4 * 512 ≤ (i 1).val ∧ (i 1).val < ((i 1).val / 512 * 4 + (i 0).val / 512) / 4 * 512 + 512; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.Pqkv

end
-- ==== Proof.Claims6.lean ====
/- The claims about the gated mix, the weight gradients beside it and the projection to queries, keys and values. -/
module

public import proofs.«01_k».proof.Defs
public import proofs.«01_k».proof.Proof.MixBwd
public import proofs.«01_k».proof.Proof.Gen.Reference4Ideal.Run
public import proofs.«01_k».proof.Proof.WOut
public import proofs.«01_k».proof.Proof.Gen.Reference19Ideal.Run
public import proofs.«01_k».proof.Proof.UpWGrad
public import proofs.«01_k».proof.Proof.Gen.Reference21Ideal.Run
public import proofs.«01_k».proof.Proof.Pqkv
public import proofs.«01_k».proof.Proof.Gen.Reference10Ideal.Run

@[expose] public section

set_option maxRecDepth 16384

noncomputable section

namespace Cert.Proof

open Idealize.ShloMosaic Idealize.ShloMosaic.TcCoe Idealize.SL.Sem

theorem mix_value : Cert.algebraic_Kernel4Ideal_Reference4Ideal := by
  intro m g m' g' hpre hargs
  refine ⟨fun c => MixBwd.G6 m c, fun c => MixBwd.G7 m c, fun c => MixBwd.G8 m c, fun c => MixBwd.G9 m c, fun c => MixBwd.G10 m c, fun c => MixBwd.G11 m c,
    (θ_run _ _ _).mono (fun r h c => ?_) (Cert.Kernel4Ideal.Value.run_blocks m g),
    (θ_run _ _ _).mono (fun r h c => ?_) (Cert.Reference4Ideal.Value.run m' g')⟩
  · obtain ⟨h0, h1, h2, h3, h4, h5, ha⟩ := h c
    exact ⟨h0.trans (MixBwd.final6 m c), h1.trans (MixBwd.final7 m c), h2.trans (MixBwd.final8 m c), h3.trans (MixBwd.final9 m c), h4.trans (MixBwd.final10 m c), h5.trans (MixBwd.final11 m c), ha⟩
  · obtain ⟨h0, h1, h2, h3, h4, h5, ha⟩ := h c
    obtain ⟨e0, e1, e2, e3, e4, e5⟩ := hargs c
    refine ⟨h0.trans ?_, h1.trans ?_, h2.trans ?_, h3.trans ?_, h4.trans ?_, h5.trans ?_, ha⟩
    · rw [e0, e1, e4, e5]; rfl
    · rw [e0, e1, e4, e5]; rfl
    · rw [e0, e1, e2, e3, e4, e5]; rfl
    · rw [e0, e1, e2, e3, e4, e5]; rfl
    · rw [e0, e1, e2, e3, e4, e5]; rfl
    · rw [e0, e1, e2, e3, e4, e5]; rfl

theorem wout_value : Cert.algebraic_Kernel19Ideal_Reference19Ideal := by
  intro m g m' g' hpre hargs
  refine ⟨fun c => WOut.G2 m c,
    (θ_run _ _ _).mono (fun r h c => ?_) (Cert.Kernel19Ideal.Value.run_blocks m g),
    (θ_run _ _ _).mono (fun r h c => ?_) (Cert.Reference19Ideal.Value.run m' g')⟩
  · obtain ⟨h0, ha⟩ := h c
    exact ⟨h0.trans (WOut.final2 m c), ha⟩
  · obtain ⟨h0, ha⟩ := h c
    obtain ⟨e0, e1⟩ := hargs c
    refine ⟨h0.trans ?_, ha⟩
    · rw [e0, e1]; rfl

theorem upwgrad_value : Cert.algebraic_Kernel21Ideal_Reference21Ideal := by
  intro m g m' g' hpre hargs
  refine ⟨fun c => UpWGrad.G4 m c,
    (θ_run _ _ _).mono (fun r h c => ?_) (Cert.Kernel21Ideal.Value.run_blocks m g),
    (θ_run _ _ _).mono (fun r h c => ?_) (Cert.Reference21Ideal.Value.run m' g')⟩
  · obtain ⟨h0, ha⟩ := h c
    exact ⟨h0.trans (UpWGrad.final4 m c), ha⟩
  · obtain ⟨h0, ha⟩ := h c
    obtain ⟨e0, e1, e2, e3⟩ := hargs c
    refine ⟨h0.trans ?_, ha⟩
    · rw [e0, e1, e2, e3]; rfl

theorem pqkv_value : Cert.algebraic_Kernel10Ideal_Reference10Ideal := by
  intro m g m' g' hpre hargs
  refine ⟨fun c => Pqkv.G3 m c,
    (θ_run _ _ _).mono (fun r h c => ?_) (Cert.Kernel10Ideal.Value.run_blocks m g),
    (θ_run _ _ _).mono (fun r h c => ?_) (Cert.Reference10Ideal.Value.run m' g')⟩
  · obtain ⟨h0, ha⟩ := h c
    exact ⟨h0.trans (Pqkv.final3 m c), ha⟩
  · obtain ⟨h0, ha⟩ := h c
    obtain ⟨e0, e1⟩ := hargs c
    refine ⟨h0.trans ?_, ha⟩
    · rw [e0, e1]; rfl

end Cert.Proof

end
-- ==== Proof.MixDh.lean ====
/- The gradient at the input of the mixer half, through its norm: the values of the kernel's arrays. -/
module

public import proofs.«01_k».proof.Proof.Gen.Kernel7Ideal.Value
public import proofs.«01_k».proof.Proof.Gen.Reference7Ideal.Read
public import proofs.«01_k».proof.Proof.Basis
public import proofs.«01_k».proof.Proof.Pieces
public import proofs.«01_k».proof.Defs
public import proofs.«01_k».proof.Proof.Gen.Pre_mixer_dh_finite
public import proofs.«01_k».proof.Proof.NormGrad

@[expose] public section

set_option maxRecDepth 16384

noncomputable section

namespace Cert.Proof.MixDh

open Cert.Kernel7Ideal Cert.Kernel7Ideal.Gen Idealize.ShloMosaic Idealize.ShloMosaic.TcCoe Idealize.SL.Sem Cert.Reference7Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![1, 0] := by decide +kernel
theorem at7 : ∀ t : Fin grid0.N, win0_7.index t = ![0, 0] := by decide +kernel
theorem at8 : ∀ t : Fin grid0.N, win0_8.index t = ![t.val, 0] := by decide +kernel
theorem at9 : ∀ t : Fin grid0.N, win0_9.index t = ![t.val, 0] := by decide +kernel
theorem at10 : ∀ t : Fin grid0.N, win0_10.index t = ![0, 0] := by decide +kernel
theorem at11 : ∀ t : Fin grid0.N, win0_11.index t = ![t.val, 0] := by decide +kernel
theorem at12 : ∀ t : Fin grid0.N, win0_12.index t = ![t.val, 0] := by decide +kernel
theorem at13 : ∀ t : Fin grid0.N, win0_13.index t = ![0, 0] := by decide +kernel

theorem qkv_block (t : Fin cfg0.N) (r : Fin 256) (s : Fin 3072) :
    iblk m c 0 t (ix2 r s) = (m (c.tc.loc main_arg4)) (ix2 ⟨t.val * 256 + r.val, by have := points t; omega⟩ s) := by
  have h : iblk m c 0 t (ix2 r s) = V m c main_v20 (ix2 ⟨t.val * 256 + r.val, by have := points t; omega⟩ s) := by
    show V m c main_v20 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem pa_block (t : Fin cfg0.N) (r : Fin 256) (s : Fin 1024) :
    iblk m c 1 t (ix2 r s) = (m (c.tc.loc main_arg6)) (ix2 ⟨t.val * 256 + r.val, by have := points t; omega⟩ ⟨s.val, by omega⟩) := by
  have h : iblk m c 1 t (ix2 r s) = V m c main_v17 (ix2 ⟨t.val * 256 + r.val, by have := points t; omega⟩ s) := by
    show V m c main_v17 ((win0_1.rect t).emb (ix2 r s)) = _
    congr 1
    funext a
    apply Fin.ext
    refine (Pipeline.Window.rect_emb_val win0_1 t (ix2 r s) a).trans ?_
    rw [at1]
    fin_cases a
    · rfl
    · exact Nat.zero_add _
  refine h.trans ?_
  have := points t
  unfold V
  after_reads_at

theorem pb_block (t : Fin cfg0.N) (r : Fin 256) (s : Fin 1024) :
    iblk m c 2 t (ix2 r s) = (m (c.tc.loc main_arg6)) (ix2 ⟨t.val * 256 + r.val, by have := points t; omega⟩ ⟨1024 + s.val, by omega⟩) := by
  have h : iblk m c 2 t (ix2 r s) = V m c main_v19 (ix2 ⟨t.val * 256 + r.val, by have := points t; omega⟩ s) := by
    show V m c main_v19 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  have := points t
  unfold V
  after_reads_at

theorem f_block (t : Fin cfg0.N) (r : Fin 256) (s : Fin 128) :
    iblk m c 3 t (ix2 r s) = (if h : s.val < 8 then ((m (c.tc.loc main_arg5)) (ix2 ⟨t.val * 256 + r.val, by have := points t; omega⟩ ⟨s.val, h⟩) : EReal) else (0 : EReal) : EReal) := by
  have h : iblk m c 3 t (ix2 r s) = V m c main_v15 (ix2 ⟨t.val * 256 + r.val, by have := points t; omega⟩ s) := by
    show V m c main_v15 ((win0_3.rect t).emb (ix2 r s)) = _
    congr 1
    funext a
    apply Fin.ext
    refine (Pipeline.Window.rect_emb_val win0_3 t (ix2 r s) a).trans ?_
    rw [at3]
    fin_cases a
    · rfl
    · exact Nat.zero_add _
  refine h.trans ?_
  have := points t
  unfold V
  after_reads_at
  have z : ∀ {w : FTy}, (FloatOps.sitofp w (0#32 : BitVec 32) : Ideal w) = (0 : EReal) := by
    intro w
    show (((0#32 : BitVec 32).toInt : ℝ) : EReal) = 0
    simp
  simp only [z]
  by_cases h8 : s.val < 8
  · rw [dif_pos ⟨by omega, h8⟩, dif_pos h8]
  · rw [dif_neg (fun q => h8 q.2), dif_neg h8]

theorem in_block (t : Fin cfg0.N) (r : Fin 3072) (s : Fin 1024) :
    X0_4 m c t (ix2 r s) = (m (c.tc.loc main_arg2)) (ix2 s ⟨r.val, by omega⟩) := by
  have h : X0_4 m c t (ix2 r s) = V m c main_v9 (ix2 ⟨r.val, by omega⟩ s) := by
    unfold X0_4 Pipeline.Window.fill
    refine (dif_pos (moved0_4 t _)).trans ?_
    show V m c main_v9 ((win0_4.rect t).emb _) = _
    congr 1
    funext a
    apply Fin.ext
    refine (Pipeline.Window.rect_emb_val win0_4 t _ a).trans ?_
    rw [at4]
    fin_cases a
    · exact Nat.zero_add _
    · exact Nat.zero_add _
  refine h.trans ?_
  have := points t
  unfold V
  after_reads_at

theorem gate_block (t : Fin cfg0.N) (r : Fin 1024) (s : Fin 1024) :
    iblk m c 5 t (ix2 r s) = (m (c.tc.loc main_arg3)) (ix2 s ⟨r.val, by omega⟩) := by
  have h : iblk m c 5 t (ix2 r s) = V m c main_v11 (ix2 ⟨r.val, by omega⟩ s) := by
    show V m c main_v11 ((win0_5.rect t).emb (ix2 r s)) = _
    congr 1
    funext a
    apply Fin.ext
    refine (Pipeline.Window.rect_emb_val win0_5 t (ix2 r s) a).trans ?_
    rw [at5]
    fin_cases a
    · exact Nat.zero_add _
    · exact Nat.zero_add _
  refine h.trans ?_
  have := points t
  unfold V
  after_reads_at

theorem gate_block2 (t : Fin cfg0.N) (r : Fin 1024) (s : Fin 1024) :
    iblk m c 6 t (ix2 r s) = (m (c.tc.loc main_arg3)) (ix2 s ⟨1 * 1024 + r.val, by omega⟩) := by
  have h : iblk m c 6 t (ix2 r s) = V m c main_v11 (ix2 ⟨1 * 1024 + r.val, by have := points t; omega⟩ s) := by
    show V m c main_v11 ((win0_6.rect t).emb (ix2 r s)) = _
    congr 1
    funext a
    apply Fin.ext
    refine (Pipeline.Window.rect_emb_val win0_6 t (ix2 r s) a).trans ?_
    rw [at6]
    fin_cases a
    · rfl
    · exact Nat.zero_add _
  refine h.trans ?_
  have := points t
  unfold V
  after_reads_at

theorem forget_block (t : Fin cfg0.N) (r : Fin 128) (s : Fin 1024) :
    iblk m c 7 t (ix2 r s) = (if h : r.val < 8 then ((m (c.tc.loc main_arg2)) (ix2 s ⟨3072 + r.val, by omega⟩) : EReal) else (0 : EReal) : EReal) := by
  have h : iblk m c 7 t (ix2 r s) = V m c main_v13 (ix2 r s) := by
    show V m c main_v13 ((win0_7.rect t).emb (ix2 r s)) = _
    congr 1
    funext a
    apply Fin.ext
    refine (Pipeline.Window.rect_emb_val win0_7 t (ix2 r s) a).trans ?_
    rw [at7]
    fin_cases a
    · exact Nat.zero_add _
    · exact Nat.zero_add _
  refine h.trans ?_
  have := points t
  unfold V
  after_reads_at
  have z : ∀ {w : FTy}, (FloatOps.sitofp w (0#32 : BitVec 32) : Ideal w) = (0 : EReal) := by
    intro w
    show (((0#32 : BitVec 32).toInt : ℝ) : EReal) = 0
    simp
  simp only [z]
  try rfl

theorem x_block (t : Fin cfg0.N) (r : Fin 256) (s : Fin 1024) :
    iblk m c 8 t (ix2 r s) = (m (c.tc.loc main_arg0)) (ix2 ⟨t.val * 256 + r.val, by have := points t; omega⟩ s) := by
  have h : iblk m c 8 t (ix2 r s) = V m c main_arg0 (ix2 ⟨t.val * 256 + r.val, by have := points t; omega⟩ s) := by
    show V m c main_arg0 ((win0_8.rect t).emb (ix2 r s)) = _
    congr 1
    funext a
    apply Fin.ext
    refine (Pipeline.Window.rect_emb_val win0_8 t (ix2 r s) a).trans ?_
    rw [at8]
    fin_cases a
    · rfl
    · exact Nat.zero_add _
  refine h.trans ?_
  rw [V_main_arg0]

theorem rstd_block (t : Fin cfg0.N) (r : Fin 256) (s : Fin 1) :
    iblk m c 9 t (ix2 r s) = val_main_v7 (F := Ideal) (m (c.tc.loc main_arg0)) (ix2 ⟨t.val * 256 + r.val, by have := points t; omega⟩ 0) := by
  have h : iblk m c 9 t (ix2 r s) = V m c main_v7 (ix2 ⟨t.val * 256 + r.val, by have := points t; omega⟩ s) := by
    show V m c main_v7 ((win0_9.rect t).emb (ix2 r s)) = _
    congr 1
    funext a
    apply Fin.ext
    refine (Pipeline.Window.rect_emb_val win0_9 t (ix2 r s) a).trans ?_
    rw [at9]
    fin_cases a
    · rfl
    · exact Nat.zero_add _
  refine h.trans ?_
  have := points t
  unfold V
  after_reads_at
  pointwise [val_main_v7, val_main_v6, val_main_v5, val_main_v4, val_main_v3, val_main_v2, val_main_v1, val_main_v0, val_main_cst, val_main_cst_0, val_main_cst_1]

theorem g_block (t : Fin cfg0.N) (r : Fin 1) (s : Fin 1024) :
    iblk m c 10 t (ix2 r s) = (m (c.tc.loc main_arg1)) (ix2 r s) := by
  have h : iblk m c 10 t (ix2 r s) = V m c main_arg1 (ix2 r s) := by
    show V m c main_arg1 ((win0_10.rect t).emb (ix2 r s)) = _
    congr 1
    funext a
    apply Fin.ext
    refine (Pipeline.Window.rect_emb_val win0_10 t (ix2 r s) a).trans ?_
    rw [at10]
    fin_cases a
    · exact Nat.zero_add _
    · exact Nat.zero_add _
  refine h.trans ?_
  rw [V_main_arg1]

theorem dx_block (t : Fin cfg0.N) (r : Fin 256) (s : Fin 1024) :
    iblk m c 11 t (ix2 r s) = (m (c.tc.loc main_arg7)) (ix2 ⟨t.val * 256 + r.val, by have := points t; omega⟩ s) := by
  have h : iblk m c 11 t (ix2 r s) = V m c main_arg7 (ix2 ⟨t.val * 256 + r.val, by have := points t; omega⟩ s) := by
    show V m c main_arg7 ((win0_11.rect t).emb (ix2 r s)) = _
    congr 1
    funext a
    apply Fin.ext
    refine (Pipeline.Window.rect_emb_val win0_11 t (ix2 r s) a).trans ?_
    rw [at11]
    fin_cases a
    · rfl
    · exact Nat.zero_add _
  refine h.trans ?_
  rw [V_main_arg7]

/-- The arguments that the precondition names hold real numbers. -/
def Finite : Prop :=
  (∀ i, IsReal ((m (c.tc.loc main_arg0)) i)) ∧ (∀ i, IsReal ((m (c.tc.loc main_arg1)) i)) ∧ (∀ i, IsReal ((m (c.tc.loc main_arg2)) i)) ∧ (∀ i, IsReal ((m (c.tc.loc main_arg3)) i)) ∧ (∀ i, IsReal ((m (c.tc.loc main_arg4)) i)) ∧ (∀ i, IsReal ((m (c.tc.loc main_arg5)) i)) ∧ (∀ i, IsReal ((m (c.tc.loc main_arg6)) i)) ∧ (∀ i, IsReal ((m (c.tc.loc main_arg7)) i))

theorem finite (h : Cert.Pre_Kernel7Ideal_mixer_dh_finite m) (c : Dev nD) : Finite m c := by
  obtain ⟨h0, h1, h2, h3, h4, h5, h6, h7⟩ := h c
  exact ⟨fun i => isReal_of_lt _ (congrFun h0 i), fun i => isReal_of_lt _ (congrFun h1 i), fun i => isReal_of_lt _ (congrFun h2 i), fun i => isReal_of_lt _ (congrFun h3 i), fun i => isReal_of_lt _ (congrFun h4 i), fun i => isReal_of_lt _ (congrFun h5 i), fun i => isReal_of_lt _ (congrFun h6 i), fun i => isReal_of_lt _ (congrFun h7 i)⟩

/-- The product with the projection's weight, in its two parts of columns. -/
theorem product (a : Fin 2048) (s : Fin 1024) :
    val_main_v23 (F := Ideal) (m (c.tc.loc main_arg2)) (m (c.tc.loc main_arg4)) (m (c.tc.loc main_arg5)) (ix2 a s) =
      HAdd.hAdd (α := EReal) (β := EReal) (∑ k : Fin 3072, HMul.hMul (α := EReal) (β := EReal) ((m (c.tc.loc main_arg4)) (ix2 a k)) ((m (c.tc.loc main_arg2)) (ix2 s ⟨k.val, by omega⟩)))
        (∑ k : Fin 8, HMul.hMul (α := EReal) (β := EReal) ((m (c.tc.loc main_arg5)) (ix2 a k)) ((m (c.tc.loc main_arg2)) (ix2 s ⟨3072 + k.val, by omega⟩))) := by
  pointwise [val_main_v23, val_main_v22, val_main_v21, val_main_v20, val_main_cst_3, val_main_cst_4]
  refine (Fin.sum_univ_add (M := EReal) (a := 3072) (b := 8) _).trans ?_
  refine congrArg₂ (fun p q : EReal => p + q) ?_ ?_
  · refine Finset.sum_congr rfl fun k _ => ?_
    rw [dif_neg, dif_pos, zero_add]
    · rfl
    · exact k.isLt
    · exact fun q => absurd k.isLt (Nat.not_lt.mpr q.1)
  · refine Finset.sum_congr rfl fun k _ => ?_
    have e : (Fin.natAdd 3072 k).val - 3072 = k.val := by show 3072 + k.val - 3072 = k.val; omega
    rw [dif_pos, dif_neg, add_zero]
    · refine congrArg₂ (fun p q : EReal => p * q) (congrArg (fun z => (m (c.tc.loc main_arg5)) (ix2 a z)) (Fin.ext e)) rfl
    · exact Nat.not_lt.mpr (Nat.le_add_right 3072 k.val)
    · exact ⟨Nat.le_add_right 3072 k.val, e.trans_lt k.isLt⟩

theorem halves (f : Fin 2048 → EReal) : ∑ k, f k = (∑ k : Fin 1024, f ⟨k.val, by omega⟩) + ∑ k : Fin 1024, f ⟨1024 + k.val, by omega⟩ :=
  Fin.sum_univ_add (M := EReal) (a := 1024) (b := 1024) f

/-- The gradient at the norm's output that a point of the grid forms. -/
def dhk (t : Fin cfg0.N) : FVec Ideal S256x1024 .f32 :=
  k0_pay4 (iblk m c 0 t) (X0_4 m c t) (iblk m c 1 t) (iblk m c 5 t) (iblk m c 2 t) (iblk m c 6 t) (iblk m c 3 t) (iblk m c 7 t)

theorem regroup (a b p q : EReal) : a + p + q + b = p + q + (a + b) := by
  abel

theorem forget_sum (f g : Fin 8 → EReal) (F G : Fin 128 → EReal) (hF : ∀ k, F k = if h : k.val < 8 then f ⟨k.val, h⟩ else 0) (hG : ∀ k, G k = if h : k.val < 8 then g ⟨k.val, h⟩ else 0) :
    ∑ k, F k * G k = ∑ k, f k * g k := by
  refine (Fin.sum_univ_add (M := EReal) (a := 8) (b := 120) _).trans ?_
  have z : ∑ k : Fin 120, F (Fin.natAdd 8 k) * G (Fin.natAdd 8 k) = 0 := by
    refine Finset.sum_eq_zero fun k _ => ?_
    rw [hF, dif_neg (by show ¬8 + k.val < 8; omega), zero_mul]
  refine (congrArg (fun q : EReal => _ + q) z).trans ((add_zero _).trans ?_)
  refine Finset.sum_congr rfl fun k _ => ?_
  rw [hF, hG, dif_pos (show (Fin.castAdd 120 k).val < 8 from k.isLt), dif_pos (show (Fin.castAdd 120 k).val < 8 from k.isLt)]
  rfl

theorem dhk_at (t : Fin cfg0.N) (r : Fin 256) (s : Fin 1024) :
    dhk m c t (ix2 r s) = val_main_v24 (F := Ideal) (m (c.tc.loc main_arg2)) (m (c.tc.loc main_arg3)) (m (c.tc.loc main_arg4)) (m (c.tc.loc main_arg5)) (m (c.tc.loc main_arg6)) (ix2 ⟨t.val * 256 + r.val, by have := points t; omega⟩ s) := by
  unfold dhk
  pointwise [k0_pay4, qkv_block, in_block, pa_block, pb_block, gate_block, gate_block2, val_main_v24, product, val_main_v19]
  rw [halves, forget_sum (fun k => (m (c.tc.loc main_arg5)) (ix2 ⟨t.val * 256 + r.val, by have := points t; omega⟩ k)) (fun k => (m (c.tc.loc main_arg2)) (ix2 s ⟨3072 + k.val, by omega⟩)) _ _ (fun k => f_block m c t r k) (fun k => forget_block m c t k s)]
  exact regroup _ _ _ _

/-- What every point leaves in its rows of the first array. -/
theorem rows (t : Fin cfg0.N) : (outsAt0 m c t.val t.isLt).1 = k0_pay1 (k0_pay5 (iblk m c 9 t)) (k0_pay6 (iblk m c 9 t) (iblk m c 8 t)) (k0_pay7 (iblk m c 0 t) (X0_4 m c t) (iblk m c 1 t) (iblk m c 5 t) (iblk m c 2 t) (iblk m c 6 t) (iblk m c 3 t) (iblk m c 7 t) (iblk m c 10 t)) (iblk m c 11 t) := by
  by_cases h : t.val % 8 = 0
  · rw [outsAt0_A m c t h (by have := points t; omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem sum_first (t : Fin cfg0.N) (h : t.val % 8 = 0) (j : S1x1024.Idx) : (outsAt0 m c t.val t.isLt).2 j = k0_pay2 (dhk m c t) (k0_pay6 (iblk m c 9 t) (iblk m c 8 t)) j := by
  rw [outsAt0_A m c t h (by have := points t; omega)]
  dsimp only
  frame_open
  simp (disch := decide) only [↓ View.readCov_skip, ↓ View.readCov_cons_toLoadRect, ↓ View.readCov_fill]
  frame_out
  try rfl

theorem sum_next (t : Fin cfg0.N) (h : ¬t.val % 8 = 0) (j : S1x1024.Idx) : (outsAt0 m c t.val t.isLt).2 j = k0_pay3 (dhk m c t) (k0_pay6 (iblk m c 9 t) (iblk m c 8 t)) (outsAt0 m c (t.val - 1) (Nat.lt_of_le_of_lt (Nat.sub_le _ _) t.isLt)).2 j := by
  rw [outsAt0_B m c t h (by omega)]
  dsimp only
  frame_open
  simp (disch := decide) only [↓ View.readCov_skip, ↓ View.readCov_cons_toLoadRect, ↓ View.readCov_fill]
  frame_out
  try rfl

theorem grad_at (t : Fin cfg0.N) (r : Fin 256) (s : Fin 1024) :
    k0_pay7 (iblk m c 0 t) (X0_4 m c t) (iblk m c 1 t) (iblk m c 5 t) (iblk m c 2 t) (iblk m c 6 t) (iblk m c 3 t) (iblk m c 7 t) (iblk m c 10 t) (ix2 r s) = HMul.hMul (α := EReal) (β := EReal) (val_main_v24 (F := Ideal) (m (c.tc.loc main_arg2)) (m (c.tc.loc main_arg3)) (m (c.tc.loc main_arg4)) (m (c.tc.loc main_arg5)) (m (c.tc.loc main_arg6)) (ix2 ⟨t.val * 256 + r.val, by have := points t; omega⟩ s)) ((m (c.tc.loc main_arg1)) (ix2 0 s)) := by
  rw [← dhk_at]
  pointwise [k0_pay7, g_block]
  rfl

theorem row_real (hf : Finite m c) (a : Fin 2048) (s : Fin 1024) : IsReal (val_main_v24 (F := Ideal) (m (c.tc.loc main_arg2)) (m (c.tc.loc main_arg3)) (m (c.tc.loc main_arg4)) (m (c.tc.loc main_arg5)) (m (c.tc.loc main_arg6)) (ix2 a s)) := by
  obtain ⟨h0, h1, h2, h3, h4, h5, h6, h7⟩ := hf
  pointwise [val_main_v24, product, val_main_v19]
  exact (IsReal.sum _ fun k => (h6 _).mul (h3 _)).add ((IsReal.sum _ fun k => (h4 _).mul (h2 _)).add (IsReal.sum _ fun k => (h5 _).mul (h2 _)))

theorem root_arg (hf : Finite m c) (a : Fin 2048) : ∃ v : ℝ, 0 < v ∧ val_main_v6 (F := Ideal) (m (c.tc.loc main_arg0)) (ix2 a 0) = (v : EReal) := by
  pointwise [val_main_v6, val_main_v5, val_main_v4, val_main_v3, val_main_v2, val_main_v1, val_main_v0, val_main_cst, val_main_cst_0, val_main_cst_1]
  exact mean_square_pos _ fun k => hf.1 _

theorem root (a : Fin 2048) : val_main_v7 (F := Ideal) (m (c.tc.loc main_arg0)) (ix2 a 0) = Ideal.rsqrt (val_main_v6 (F := Ideal) (m (c.tc.loc main_arg0)) (ix2 a 0)) := rfl

/-- One row's part of the gradient at the norm's weight. -/
def part (a : Fin 2048) (s : Fin 1024) : EReal :=
  HMul.hMul (α := EReal) (β := EReal) (val_main_v24 (F := Ideal) (m (c.tc.loc main_arg2)) (m (c.tc.loc main_arg3)) (m (c.tc.loc main_arg4)) (m (c.tc.loc main_arg5)) (m (c.tc.loc main_arg6)) (ix2 a s))
    (HMul.hMul (α := EReal) (β := EReal) ((m (c.tc.loc main_arg0)) (ix2 a s)) (val_main_v7 (F := Ideal) (m (c.tc.loc main_arg0)) (ix2 a 0)))

/-- What the `n`-th point of the grid adds to it. -/
def term (n : ℕ) (s : Fin 1024) : EReal := ∑ r : Fin 256, if h : n * 256 + r.val < 2048 then part m c ⟨n * 256 + r.val, h⟩ s else 0

theorem term_at (t : Fin cfg0.N) (s : Fin 1024) :
    term m c t.val s = ∑ r : Fin 256, part m c ⟨t.val * 256 + r.val, by have := points t; omega⟩ s :=
  Finset.sum_congr rfl fun r _ => dif_pos _

theorem first_at (t : Fin cfg0.N) (h : t.val % 8 = 0) (s : Fin 1024) : (outsAt0 m c t.val t.isLt).2 (ix2 0 s) = 0 + term m c t.val s := by
  rw [sum_first m c t h, term_at, zero_add]
  pointwise [k0_pay2, k0_pay5, k0_pay6, dhk_at, x_block, rstd_block]
  rfl

theorem next_at (t : Fin cfg0.N) (h : ¬t.val % 8 = 0) (s : Fin 1024) :
    (outsAt0 m c t.val t.isLt).2 (ix2 0 s) = (outsAt0 m c (t.val - 1) (Nat.lt_of_le_of_lt (Nat.sub_le _ _) t.isLt)).2 (ix2 0 s) + term m c t.val s := by
  rw [sum_next m c t h, term_at]
  pointwise [k0_pay2, k0_pay3, k0_pay5, k0_pay6, dhk_at, x_block, rstd_block]
  rfl

theorem reference_sum (s : Fin 1024) : val_main_v27 (F := Ideal) (m (c.tc.loc main_arg0)) (m (c.tc.loc main_arg2)) (m (c.tc.loc main_arg3)) (m (c.tc.loc main_arg4)) (m (c.tc.loc main_arg5)) (m (c.tc.loc main_arg6)) (ix2 0 s) = ∑ a, part m c a s := by
  pointwise [val_main_cst, val_main_cst_0, val_main_cst_1, val_main_v8, val_main_cst_2, val_main_v9, val_main_v10, val_main_v11, val_main_v12, val_main_v13, val_main_v14, val_main_v15, val_main_v16, val_main_v17, val_main_v18, val_main_cst_3, val_main_cst_4, val_main_v25, val_main_cst_5, val_main_v26, val_main_v27, val_main_v28, val_main_v29, val_main_v30, val_main_cst_6, val_main_v31, val_main_v32, val_main_v33, val_main_v34, val_main_v35, val_main_v36, val_main_cst_7, val_main_v37, val_main_v38, val_main_cst_8, val_main_v39, val_main_v40, val_main_v41, val_main_v42, val_main_v43, val_main_v44]
  exact Finset.sum_congr rfl fun k _ => mul_comm (G := EReal) _ _

/-- The reference's array, as a function of the arguments. -/
abbrev G12 : S2048x1024.Idx → EReal := val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

theorem value12 (hf : Finite m c) (t : Fin cfg0.N) (r : Fin 256) (s : Fin 1024) :
    (outsAt0 m c t.val t.isLt).1 (ix2 r s) = G12 m c (ix2 ⟨t.val * 256 + r.val, by have := points t; omega⟩ s) := by
  rw [rows]
  pointwise [k0_pay1, k0_pay5, k0_pay6, grad_at, x_block, rstd_block, dx_block, val_main_cst, val_main_cst_0, val_main_cst_1, val_main_v8, val_main_cst_2, val_main_v9, val_main_v10, val_main_v11, val_main_v12, val_main_v13, val_main_v14, val_main_v15, val_main_v16, val_main_v17, val_main_v18, val_main_cst_3, val_main_cst_4, val_main_v25, val_main_cst_5, val_main_v26, val_main_v27, val_main_v28, val_main_v29, val_main_v30, val_main_cst_6, val_main_v31, val_main_v32, val_main_v33, val_main_v34, val_main_v35, val_main_v36, val_main_cst_7, val_main_v37, val_main_v38, val_main_cst_8, val_main_v39, val_main_v40, val_main_v41, val_main_v42, val_main_v43, val_main_v44]
  simp only [Fin.sum_univ_one]
  exact norm_grad (fun k => (m (c.tc.loc main_arg0)) (ix2 ⟨t.val * 256 + r.val, by have := points t; omega⟩ k)) (fun k => val_main_v24 (F := Ideal) (m (c.tc.loc main_arg2)) (m (c.tc.loc main_arg3)) (m (c.tc.loc main_arg4)) (m (c.tc.loc main_arg5)) (m (c.tc.loc main_arg6)) (ix2 ⟨t.val * 256 + r.val, by have := points t; omega⟩ k) * (m (c.tc.loc main_arg1)) (ix2 0 k)) _ _ _
    (fun k => hf.1 _) (fun k => (row_real m c hf _ k).mul (hf.2.1 _)) (hf.2.2.2.2.2.2.2 _) (root_arg m c hf _) (root m c _) s

theorem result12 (hf : Finite m c) (t : Fin cfg0.N) (j : S256x1024.Idx) :
    (outsAt0 m c t.val t.isLt).1 j = G12 m c ((win0_12.rect t).emb j) := by
  idx_vars j
  rw [value12 m c hf t]
  congr 1
  funext a
  apply Fin.ext
  refine Eq.symm ((Pipeline.Window.rect_emb_val win0_12 t (ix2 j0 j1) a).trans ?_)
  rw [at12]
  fin_cases a
  · rfl
  · exact Nat.zero_add _

theorem inside12 (t : Fin cfg0.N) (i : S2048x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v21_0).slice (win0_12.rect t)).set ↔ _
  rw [View.set_slice_whole, Rect.mem_set_unit]
  exact Iff.rfl

theorem covered12 (i : S2048x1024.Idx) : ∃ t : Fin cfg0.N, (cfg0.win 12).flush t = true ∧ i ∈ ((cfg0.win 12).blk t).view.set := by
  have h0 : (i 0).val < 2048 := (i 0).isLt
  have h1 : (i 1).val < 1024 := (i 1).isLt
  have hb : (i 0).val / 256 < 8 := by omega
  refine ⟨⟨(i 0).val / 256, by rw [show cfg0.N = 8 from N_0]; exact hb⟩, flush0_12 _, (inside12 _ _).mpr ?_⟩
  rw [at12]
  intro a
  fin_cases a
  · show ((i 0).val / 256) * 256 ≤ (i 0).val ∧ (i 0).val < ((i 0).val / 256) * 256 + 256; omega
  · show 0 * 1024 ≤ (i 1).val ∧ (i 1).val < 0 * 1024 + 1024; omega

theorem final12 (hf : Finite m c) : (dats m 0 c).arrAt 12 cfg0.N = G12 m c := by
  refine Pipeline.Dat.arrAt_eq_of_cover (dats m 0 c) 12 (G12 m c) (fun t _ => ?_) (covered12)
  rw [Value.flushed12]
  funext j
  exact result12 m c hf t j

/-- The reference's array, as a function of the arguments. -/
abbrev G13 : S1x1024.Idx → EReal := val_main_v27 (F := Ideal) (m (c.tc.loc main_arg0)) (m (c.tc.loc main_arg2)) (m (c.tc.loc main_arg3)) (m (c.tc.loc main_arg4)) (m (c.tc.loc main_arg5)) (m (c.tc.loc main_arg6))

theorem value13 (t : Fin cfg0.N) (ht : t.val % 8 = 7) (r : Fin 1) (s : Fin 1024) :
    (outsAt0 m c t.val t.isLt).2 (ix2 r s) = G13 m c (ix2 r s) := by
  obtain rfl : r = 0 := Subsingleton.elim _ _
  refine (Pipeline.eq_sum_of_reset_step_apply_single (fun n h (u : Fin 1024) => (outsAt0 m c n h).2 (ix2 0 u)) 8 (fun _ => 0) (term m c)
    (fun t h u => first_at m c t h u) (fun t h u => next_at m c t h u) (le_of_eq N_0) t s).trans ?_
  have hn : t.val + 1 = 8 := by have := points t; omega
  rw [hn, zero_add]
  exact (sum_of_points 8 256 rfl fun a => part m c a s).trans (reference_sum m c s).symm

theorem result13 (t : Fin cfg0.N) (ht : t.val % 8 = 7) (j : S1x1024.Idx) :
    (outsAt0 m c t.val t.isLt).2 j = G13 m c ((win0_13.rect t).emb j) := by
  idx_vars j
  rw [value13 m c t ht]
  congr 1
  funext a
  apply Fin.ext
  refine Eq.symm ((Pipeline.Window.rect_emb_val win0_13 t (ix2 j0 j1) a).trans ?_)
  rw [at13]
  fin_cases a
  · exact Nat.zero_add _
  · exact Nat.zero_add _

theorem inside13 (t : Fin cfg0.N) (i : S1x1024.Idx) :
    i ∈ ((cfg0.win 13).blk t).view.set ↔ ∀ a : Fin 2, win0_13.index t a * S1x1024.size a ≤ (i a).val ∧ (i a).val < win0_13.index t a * S1x1024.size a + S1x1024.size a := by
  show i ∈ ((View.whole main_v21_1).slice (win0_13.rect t)).set ↔ _
  rw [View.set_slice_whole, Rect.mem_set_unit]
  exact Iff.rfl

theorem covered13 (i : S1x1024.Idx) : ∃ t : Fin cfg0.N, (cfg0.win 13).flush t = true ∧ i ∈ ((cfg0.win 13).blk t).view.set := by
  have h0 : (i 0).val < 1 := (i 0).isLt
  have h1 : (i 1).val < 1024 := (i 1).isLt
  have hb : 7 < 8 := by omega
  refine ⟨⟨7, by rw [show cfg0.N = 8 from N_0]; exact hb⟩, (flush0_13 _).mpr (by show (7)  % 8 = 7; omega), (inside13 _ _).mpr ?_⟩
  rw [at13]
  intro a
  fin_cases a
  · show 0 * 1 ≤ (i 0).val ∧ (i 0).val < 0 * 1 + 1; omega
  · show 0 * 1024 ≤ (i 1).val ∧ (i 1).val < 0 * 1024 + 1024; omega

theorem final13 : (dats m 0 c).arrAt 13 cfg0.N = G13 m c := by
  refine Pipeline.Dat.arrAt_eq_of_cover (dats m 0 c) 13 (G13 m c) (fun t hfl => ?_) (covered13)
  rw [Value.flushed13]
  funext j
  exact result13 m c t ((flush0_13 t).mp hfl) j

end Cert.Proof.MixDh

end
-- ==== Proof.Loss.lean ====
/- The loss, its gradient at the last norm's input and at that norm's weight: the values of the kernel's arrays. -/
module

public import proofs.«01_k».proof.Proof.Gen.Kernel22Ideal.Value
public import proofs.«01_k».proof.Proof.Gen.Reference22Ideal.Read
public import proofs.«01_k».proof.Proof.Basis
public import proofs.«01_k».proof.Proof.Pieces
public import proofs.«01_k».proof.Defs
public import proofs.«01_k».proof.Proof.Gen.Pre_loss_finite
public import proofs.«01_k».proof.Proof.NormGrad

@[expose] public section

set_option maxRecDepth 16384

noncomputable section

namespace Cert.Proof.Loss

open Cert.Kernel22Ideal Cert.Kernel22Ideal.Gen Idealize.ShloMosaic Idealize.ShloMosaic.TcCoe Idealize.SL.Sem Cert.Reference22Ideal.Read

variable (m : (ℓ : Loc nD τ sig) → Buf (Elt Ideal) ℓ) (c : Dev nD)

theorem points (t : Fin cfg0.N) : t.val < 8 := t.isLt.trans_eq N_0

/-! The block that each window has at point `t` of the grid. -/

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0] := by decide +kernel
theorem at3 : ∀ t : Fin grid0.N, win0_3.index t = ![t.val, 0] := by decide +kernel
theorem at4 : ∀ t : Fin grid0.N, win0_4.index t = ![0, 0] := by decide +kernel
theorem at5 : ∀ t : Fin grid0.N, win0_5.index t = ![0, 0] := by decide +kernel

theorem x_block (t : Fin cfg0.N) (r : Fin 256) (s : Fin 1024) :
    iblk m c 0 t (ix2 r s) = (m (c.tc.loc main_arg0)) (ix2 ⟨t.val * 256 + r.val, by have := points t; omega⟩ s) := by
  have h : iblk m c 0 t (ix2 r s) = V m c main_arg0 (ix2 ⟨t.val * 256 + r.val, by have := points t; omega⟩ s) := by
    show V m c main_arg0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  rw [V_main_arg0]

theorem g_block (t : Fin cfg0.N) (r : Fin 1) (s : Fin 1024) :
    iblk m c 1 t (ix2 r s) = (m (c.tc.loc main_arg1)) (ix2 r s) := by
  have h : iblk m c 1 t (ix2 r s) = V m c main_arg1 (ix2 r s) := by
    show V m c main_arg1 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  rw [V_main_arg1]

theorem target_block (t : Fin cfg0.N) (r : Fin 256) (s : Fin 1024) :
    iblk m c 2 t (ix2 r s) = (m (c.tc.loc main_arg2)) (ix2 ⟨t.val * 256 + r.val, by have := points t; omega⟩ s) := by
  have h : iblk m c 2 t (ix2 r s) = V m c main_arg2 (ix2 ⟨t.val * 256 + r.val, by have := points t; omega⟩ s) := by
    show V m c main_arg2 ((win0_2.rect t).emb (ix2 r s)) = _
    congr 1
    funext a
    apply Fin.ext
    refine (Pipeline.Window.rect_emb_val win0_2 t (ix2 r s) a).trans ?_
    rw [at2]
    fin_cases a
    · rfl
    · exact Nat.zero_add _
  refine h.trans ?_
  rw [V_main_arg2]

/-- The arguments that the precondition names hold real numbers. -/
def Finite : Prop :=
  (∀ i, IsReal ((m (c.tc.loc main_arg0)) i)) ∧ (∀ i, IsReal ((m (c.tc.loc main_arg1)) i)) ∧ (∀ i, IsReal ((m (c.tc.loc main_arg2)) i))

theorem finite (h : Cert.Pre_Kernel22Ideal_loss_finite m) (c : Dev nD) : Finite m c := by
  obtain ⟨h0, h1, h2⟩ := h c
  exact ⟨fun i => isReal_of_lt _ (congrFun h0 i), fun i => isReal_of_lt _ (congrFun h1 i), fun i => isReal_of_lt _ (congrFun h2 i)⟩

theorem two_bits : Ideal.ofBits .f32 0x40000000#32 = ((2 : ℝ) : EReal) := by
  simp [Ideal.ofBits, Ideal.ieee]
  norm_cast
  norm_num

theorem mean_bits : Ideal.ofBits .f32 0x3A800000#32 = ((1 / 1024 : ℝ) : EReal) := by
  simp [Ideal.ofBits, Ideal.ieee]
  norm_cast
  norm_num

/-- Half of a mean's derivative at a square is the difference over the width. -/
theorem mean_scale (e : EReal) : e * Ideal.ofBits .f32 0x3A800000#32 =
    Ideal.div (Ideal.ofBits .f32 0x3F000000#32) (Ideal.ofBits .f32 0x44800000#32) * (Ideal.ofBits .f32 0x40000000#32 * e) := by
  rw [half_bits, two_bits, mean_bits, width_bits, Ideal.div_coe (by norm_num), ← mul_assoc, ← EReal.coe_mul, ← EReal.coe_mul, mul_comm]
  congr 2
  norm_num

/-- Half of a sum of real numbers is the sum of the halves. -/
theorem half_sum {ι : Type} [Fintype ι] (f : ι → EReal) (hf : ∀ i, IsReal (f i)) : (Ideal.ofBits .f32 0x3F000000#32) * ∑ i, f i = ∑ i, (Ideal.ofBits .f32 0x3F000000#32) * f i := by
  choose y hy using hf
  simp only [hy, half_bits]
  rw [← real_sum, ← EReal.coe_mul, Finset.mul_sum, real_sum]
  simp only [EReal.coe_mul]

theorem root_at (t : Fin cfg0.N) (r : Fin 256) (q : Fin 1) : k0_pay4 (iblk m c 0 t) (ix2 r q) = val_main_v7 (F := Ideal) (m (c.tc.loc main_arg0)) (ix2 ⟨t.val * 256 + r.val, by have := points t; omega⟩ 0) := by
  pointwise [k0_pay4, x_block, val_main_v7, val_main_v6, val_main_v5, val_main_v4, val_main_v3, val_main_v2, val_main_v1, val_main_v0, val_main_cst, val_main_cst_0, val_main_cst_1]

theorem diff_at (t : Fin cfg0.N) (r : Fin 256) (s : Fin 1024) : k0_pay6 (iblk m c 0 t) (iblk m c 1 t) (iblk m c 2 t) (ix2 r s) = val_main_v15 (F := Ideal) (m (c.tc.loc main_arg0)) (m (c.tc.loc main_arg1)) (m (c.tc.loc main_arg2)) (ix2 ⟨t.val * 256 + r.val, by have := points t; omega⟩ s) := by
  pointwise [k0_pay6, k0_pay5, root_at, x_block, g_block, target_block, val_main_v15, val_main_v14, val_main_v13, val_main_v12, val_main_v11]

theorem err_at (t : Fin cfg0.N) (r : Fin 256) (s : Fin 1024) : k0_pay8 (iblk m c 0 t) (iblk m c 1 t) (iblk m c 2 t) (ix2 r s) = val_main_v29 (F := Ideal) (m (c.tc.loc main_arg0)) (m (c.tc.loc main_arg1)) (m (c.tc.loc main_arg2)) (ix2 ⟨t.val * 256 + r.val, by have := points t; omega⟩ s) := by
  pointwise [k0_pay8, diff_at, val_main_v29, val_main_v28, val_main_v27, val_main_v26, val_main_v25, val_main_v24, val_main_v18, val_main_v17, val_main_cst_3, val_main_cst_8, val_main_cst_9, val_main_cst_10]
  exact mean_scale _

/-- What every point leaves in its rows of the first array. -/
theorem rows (t : Fin cfg0.N) : (outsAt0 m c t.val t.isLt).1 = k0_pay9 (iblk m c 0 t) (iblk m c 1 t) (iblk m c 2 t) := by
  by_cases h : t.val % 8 = 0
  · rw [outsAt0_A m c t h (by have := points t; omega)]
    dsimp only
    frame_open
    simp (disch := decide) only [↓ View.readCov_skip, ↓ View.readCov_cons_toLoadRect, ↓ View.readCov_fill]
    frame_out
    try rfl
  · rw [outsAt0_B m c t h (by omega)]
    dsimp only
    frame_open
    simp (disch := decide) only [↓ View.readCov_skip, ↓ View.readCov_cons_toLoadRect, ↓ View.readCov_fill]
    frame_out
    try rfl

theorem sum_first (t : Fin cfg0.N) (h : t.val % 8 = 0) (j : S1x1024.Idx) : (outsAt0 m c t.val t.isLt).2.1 j = k0_pay1 (k0_pay5 (iblk m c 0 t)) (k0_pay8 (iblk m c 0 t) (iblk m c 1 t) (iblk m c 2 t)) j := by
  rw [outsAt0_A m c t h (by have := points t; omega)]
  dsimp only
  frame_open
  simp (disch := decide) only [↓ View.readCov_skip, ↓ View.readCov_cons_toLoadRect, ↓ View.readCov_fill]
  frame_out
  try rfl

theorem sum_next (t : Fin cfg0.N) (h : ¬t.val % 8 = 0) (j : S1x1024.Idx) : (outsAt0 m c t.val t.isLt).2.1 j = k0_pay2 (k0_pay5 (iblk m c 0 t)) (k0_pay8 (iblk m c 0 t) (iblk m c 1 t) (iblk m c 2 t)) (outsAt0 m c (t.val - 1) (Nat.lt_of_le_of_lt (Nat.sub_le _ _) t.isLt)).2.1 j := by
  rw [outsAt0_B m c t h (by omega)]
  dsimp only
  frame_open
  simp (disch := decide) only [↓ View.readCov_skip, ↓ View.readCov_cons_toLoadRect, ↓ View.readCov_fill]
  frame_out
  try rfl

theorem loss_first (t : Fin cfg0.N) (h : t.val % 8 = 0) (j : S1x1.Idx) : (outsAt0 m c t.val t.isLt).2.2 j = k0_pay7 (iblk m c 0 t) (iblk m c 1 t) (iblk m c 2 t) j := by
  rw [outsAt0_A m c t h (by have := points t; omega)]
  dsimp only
  frame_open
  simp (disch := decide) only [↓ View.readCov_skip, ↓ View.readCov_cons_toLoadRect, ↓ View.readCov_fill]
  frame_out
  try rfl

theorem loss_next (t : Fin cfg0.N) (h : ¬t.val % 8 = 0) (j : S1x1.Idx) : (outsAt0 m c t.val t.isLt).2.2 j = k0_pay3 (k0_pay7 (iblk m c 0 t) (iblk m c 1 t) (iblk m c 2 t)) (outsAt0 m c (t.val - 1) (Nat.lt_of_le_of_lt (Nat.sub_le _ _) t.isLt)).2.2 j := by
  rw [outsAt0_B m c t h (by omega)]
  dsimp only
  frame_open
  simp (disch := decide) only [↓ View.readCov_skip, ↓ View.readCov_cons_toLoadRect, ↓ View.readCov_fill]
  frame_out
  try rfl

theorem root_arg (hf : Finite m c) (a : Fin 2048) : ∃ v : ℝ, 0 < v ∧ val_main_v6 (F := Ideal) (m (c.tc.loc main_arg0)) (ix2 a 0) = (v : EReal) := by
  pointwise [val_main_v6, val_main_v5, val_main_v4, val_main_v3, val_main_v2, val_main_v1, val_main_v0, val_main_cst, val_main_cst_0, val_main_cst_1]
  exact mean_square_pos _ fun k => hf.1 _

theorem root (a : Fin 2048) : val_main_v7 (F := Ideal) (m (c.tc.loc main_arg0)) (ix2 a 0) = Ideal.rsqrt (val_main_v6 (F := Ideal) (m (c.tc.loc main_arg0)) (ix2 a 0)) := rfl

theorem root_real (hf : Finite m c) (a : Fin 2048) : IsReal (val_main_v7 (F := Ideal) (m (c.tc.loc main_arg0)) (ix2 a 0)) := by
  obtain ⟨v, hv, e⟩ := root_arg m c hf a
  rw [root, e, Ideal.rsqrt_coe, if_neg hv.not_gt, if_neg hv.ne']
  exact ⟨_, rfl⟩

theorem diff_real (hf : Finite m c) (a : Fin 2048) (s : Fin 1024) : IsReal (val_main_v15 (F := Ideal) (m (c.tc.loc main_arg0)) (m (c.tc.loc main_arg1)) (m (c.tc.loc main_arg2)) (ix2 a s)) := by
  pointwise [val_main_v15, val_main_v14, val_main_v13, val_main_v12, val_main_v11]
  exact (((hf.1 _).mul (root_real m c hf a)).mul (hf.2.1 _)).sub (hf.2.2 _)

theorem err_real (hf : Finite m c) (a : Fin 2048) (s : Fin 1024) : IsReal (val_main_v29 (F := Ideal) (m (c.tc.loc main_arg0)) (m (c.tc.loc main_arg1)) (m (c.tc.loc main_arg2)) (ix2 a s)) := by
  have h : val_main_v29 (F := Ideal) (m (c.tc.loc main_arg0)) (m (c.tc.loc main_arg1)) (m (c.tc.loc main_arg2)) (ix2 a s) = HMul.hMul (α := EReal) (β := EReal) (val_main_v15 (F := Ideal) (m (c.tc.loc main_arg0)) (m (c.tc.loc main_arg1)) (m (c.tc.loc main_arg2)) (ix2 a s)) (Ideal.ofBits .f32 0x3A800000#32) := by
    pointwise [val_main_v29, val_main_v28, val_main_v27, val_main_v26, val_main_v25, val_main_v24, val_main_v18, val_main_v17, val_main_cst_3, val_main_cst_8, val_main_cst_9, val_main_cst_10]
    exact (mean_scale _).symm
  rw [h]
  exact (diff_real m c hf a s).mul ⟨_, mean_bits⟩

theorem cell_real (hf : Finite m c) (a : Fin 2048) : IsReal (val_main_v21 (F := Ideal) (m (c.tc.loc main_arg0)) (m (c.tc.loc main_arg1)) (m (c.tc.loc main_arg2)) (ix1 a)) := by
  pointwise [val_main_v21, val_main_v20, val_main_v19, val_main_v16, val_main_cst_4, val_main_cst_5]
  rw [width_bits, Ideal.div_coe (by norm_num)]
  exact (IsReal.sum _ fun k => (diff_real m c hf a k).mul (diff_real m c hf a k)).mul ⟨_, rfl⟩

/-- One row's part of the gradient at the norm's weight. -/
def part (a : Fin 2048) (s : Fin 1024) : EReal :=
  HMul.hMul (α := EReal) (β := EReal) (val_main_v29 (F := Ideal) (m (c.tc.loc main_arg0)) (m (c.tc.loc main_arg1)) (m (c.tc.loc main_arg2)) (ix2 a s)) (HMul.hMul (α := EReal) (β := EReal) ((m (c.tc.loc main_arg0)) (ix2 a s)) (val_main_v7 (F := Ideal) (m (c.tc.loc main_arg0)) (ix2 a 0)))

/-- What the `n`-th point of the grid adds to it. -/
def term (n : ℕ) (s : Fin 1024) : EReal := ∑ r : Fin 256, if h : n * 256 + r.val < 2048 then part m c ⟨n * 256 + r.val, h⟩ s else 0

theorem term_at (t : Fin cfg0.N) (s : Fin 1024) : term m c t.val s = ∑ r : Fin 256, part m c ⟨t.val * 256 + r.val, by have := points t; omega⟩ s :=
  Finset.sum_congr rfl fun r _ => dif_pos _

theorem first_at (t : Fin cfg0.N) (h : t.val % 8 = 0) (s : Fin 1024) : (outsAt0 m c t.val t.isLt).2.1 (ix2 0 s) = 0 + term m c t.val s := by
  rw [sum_first m c t h, term_at, zero_add]
  pointwise [k0_pay1, k0_pay5, err_at, root_at, x_block]
  rfl

theorem next_at (t : Fin cfg0.N) (h : ¬t.val % 8 = 0) (s : Fin 1024) :
    (outsAt0 m c t.val t.isLt).2.1 (ix2 0 s) = (outsAt0 m c (t.val - 1) (Nat.lt_of_le_of_lt (Nat.sub_le _ _) t.isLt)).2.1 (ix2 0 s) + term m c t.val s := by
  rw [sum_next m c t h, term_at]
  pointwise [k0_pay1, k0_pay2, k0_pay5, err_at, root_at, x_block]
  rfl

theorem reference_sum (s : Fin 1024) : val_main_v32 (F := Ideal) (m (c.tc.loc main_arg0)) (m (c.tc.loc main_arg1)) (m (c.tc.loc main_arg2)) (ix2 0 s) = ∑ a, part m c a s := by
  pointwise [val_main_v32, val_main_v31, val_main_v30, val_main_v12, val_main_v11, val_main_cst_11]
  exact Finset.sum_congr rfl fun k _ => mul_comm (G := EReal) _ _

/-- Half of one row's mean of squares. -/
def cell (a : Fin 2048) : EReal := HMul.hMul (α := EReal) (β := EReal) (Ideal.ofBits .f32 0x3F000000#32) (val_main_v21 (F := Ideal) (m (c.tc.loc main_arg0)) (m (c.tc.loc main_arg1)) (m (c.tc.loc main_arg2)) (ix1 a))

/-- What the `n`-th point of the grid adds to the loss. -/
def lossTerm (n : ℕ) (_ : Unit) : EReal := ∑ r : Fin 256, if h : n * 256 + r.val < 2048 then cell m c ⟨n * 256 + r.val, h⟩ else 0

theorem loss_at (hf : Finite m c) (t : Fin cfg0.N) : k0_pay7 (iblk m c 0 t) (iblk m c 1 t) (iblk m c 2 t) (ix2 0 0) = lossTerm m c t.val () := by
  have h : lossTerm m c t.val () = ∑ r : Fin 256, cell m c ⟨t.val * 256 + r.val, by have := points t; omega⟩ := Finset.sum_congr rfl fun r _ => dif_pos _
  rw [h]
  refine Eq.trans ?_ (half_sum (fun r : Fin 256 => val_main_v21 (F := Ideal) (m (c.tc.loc main_arg0)) (m (c.tc.loc main_arg1)) (m (c.tc.loc main_arg2)) (ix1 ⟨t.val * 256 + r.val, by have := points t; omega⟩)) fun r => cell_real m c hf _)
  pointwise [k0_pay7, diff_at, val_main_v21, val_main_v20, val_main_v19, val_main_v16, val_main_cst_4, val_main_cst_5]

theorem loss_first_at (hf : Finite m c) (t : Fin cfg0.N) (h : t.val % 8 = 0) : (outsAt0 m c t.val t.isLt).2.2 (ix2 0 0) = 0 + lossTerm m c t.val () := by
  rw [loss_first m c t h, loss_at m c hf, zero_add]

theorem loss_next_at (hf : Finite m c) (t : Fin cfg0.N) (h : ¬t.val % 8 = 0) :
    (outsAt0 m c t.val t.isLt).2.2 (ix2 0 0) = (outsAt0 m c (t.val - 1) (Nat.lt_of_le_of_lt (Nat.sub_le _ _) t.isLt)).2.2 (ix2 0 0) + lossTerm m c t.val () := by
  rw [loss_next m c t h, ← loss_at m c hf]
  pointwise [k0_pay3]

theorem reference_loss (hf : Finite m c) : val_main_v49 (F := Ideal) (m (c.tc.loc main_arg0)) (m (c.tc.loc main_arg1)) (m (c.tc.loc main_arg2)) (ix2 0 0) = ∑ a, cell m c a := by
  refine Eq.trans ?_ (half_sum (fun a : Fin 2048 => val_main_v21 (F := Ideal) (m (c.tc.loc main_arg0)) (m (c.tc.loc main_arg1)) (m (c.tc.loc main_arg2)) (ix1 a)) fun a => cell_real m c hf a)
  pointwise [val_main_v49, val_main_v23, val_main_v22, val_main_cst_6, val_main_cst_7]

/-- The reference's array, as a function of the arguments. -/
abbrev G3 : S2048x1024.Idx → EReal := val_main_v48 (F := Ideal) (m (c.tc.loc main_arg0)) (m (c.tc.loc main_arg1)) (m (c.tc.loc main_arg2))

theorem value3 (hf : Finite m c) (t : Fin cfg0.N) (r : Fin 256) (s : Fin 1024) :
    (outsAt0 m c t.val t.isLt).1 (ix2 r s) = G3 m c (ix2 ⟨t.val * 256 + r.val, by have := points t; omega⟩ s) := by
  rw [rows]
  pointwise [k0_pay9, k0_pay5, err_at, root_at, x_block, g_block, val_main_v8, val_main_cst_2, val_main_v9, val_main_v10, val_main_v11, val_main_v13, val_main_v14, val_main_v16, val_main_cst_3, val_main_v17, val_main_v18, val_main_cst_4, val_main_v19, val_main_cst_5, val_main_v20, val_main_cst_6, val_main_v22, val_main_cst_7, val_main_v23, val_main_cst_8, val_main_cst_9, val_main_v24, val_main_v25, val_main_cst_10, val_main_v26, val_main_v27, val_main_v28, val_main_v30, val_main_cst_11, val_main_v31, val_main_v32, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48, val_main_v49]
  simp only [Fin.sum_univ_one]
  have h := norm_grad (fun k => (m (c.tc.loc main_arg0)) (ix2 ⟨t.val * 256 + r.val, by have := points t; omega⟩ k)) (fun k => val_main_v29 (F := Ideal) (m (c.tc.loc main_arg0)) (m (c.tc.loc main_arg1)) (m (c.tc.loc main_arg2)) (ix2 ⟨t.val * 256 + r.val, by have := points t; omega⟩ k) * (m (c.tc.loc main_arg1)) (ix2 0 k)) 0 (val_main_v7 (F := Ideal) (m (c.tc.loc main_arg0)) (ix2 ⟨t.val * 256 + r.val, by have := points t; omega⟩ 0)) (val_main_v6 (F := Ideal) (m (c.tc.loc main_arg0)) (ix2 ⟨t.val * 256 + r.val, by have := points t; omega⟩ 0))
    (fun k => hf.1 _) (fun k => (err_real m c hf _ k).mul (hf.2.1 _)) IsReal.zero (root_arg m c hf ⟨t.val * 256 + r.val, by have := points t; omega⟩) (root m c ⟨t.val * 256 + r.val, by have := points t; omega⟩) s
  simp only [zero_add] at h
  exact h

theorem result3 (hf : Finite m c) (t : Fin cfg0.N) (j : S256x1024.Idx) :
    (outsAt0 m c t.val t.isLt).1 j = G3 m c ((win0_3.rect t).emb j) := by
  idx_vars j
  rw [value3 m c hf t]
  congr 1
  funext a
  apply Fin.ext
  refine Eq.symm ((Pipeline.Window.rect_emb_val win0_3 t (ix2 j0 j1) a).trans ?_)
  rw [at3]
  fin_cases a
  · rfl
  · exact Nat.zero_add _

theorem inside3 (t : Fin cfg0.N) (i : S2048x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0_0).slice (win0_3.rect t)).set ↔ _
  rw [View.set_slice_whole, Rect.mem_set_unit]
  exact Iff.rfl

theorem covered3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  have hb : (i 0).val / 256 < 8 := by omega
  refine ⟨⟨(i 0).val / 256, by rw [show cfg0.N = 8 from N_0]; exact hb⟩, flush0_3 _, (inside3 _ _).mpr ?_⟩
  rw [at3]
  intro a
  fin_cases a
  · show ((i 0).val / 256) * 256 ≤ (i 0).val ∧ (i 0).val < ((i 0).val / 256) * 256 + 256; omega
  · show 0 * 1024 ≤ (i 1).val ∧ (i 1).val < 0 * 1024 + 1024; omega

theorem final3 (hf : Finite m c) : (dats m 0 c).arrAt 3 cfg0.N = G3 m c := by
  refine Pipeline.Dat.arrAt_eq_of_cover (dats m 0 c) 3 (G3 m c) (fun t _ => ?_) (covered3)
  rw [Value.flushed3]
  funext j
  exact result3 m c hf t j

/-- The reference's array, as a function of the arguments. -/
abbrev G4 : S1x1024.Idx → EReal := val_main_v32 (F := Ideal) (m (c.tc.loc main_arg0)) (m (c.tc.loc main_arg1)) (m (c.tc.loc main_arg2))

theorem value4 (t : Fin cfg0.N) (ht : t.val % 8 = 7) (r : Fin 1) (s : Fin 1024) :
    (outsAt0 m c t.val t.isLt).2.1 (ix2 r s) = G4 m c (ix2 r s) := by
  obtain rfl : r = 0 := Subsingleton.elim _ _
  refine (Pipeline.eq_sum_of_reset_step_apply_single (fun n h (u : Fin 1024) => (outsAt0 m c n h).2.1 (ix2 0 u)) 8 (fun _ => 0) (term m c)
    (fun t h u => first_at m c t h u) (fun t h u => next_at m c t h u) (le_of_eq N_0) t s).trans ?_
  have hn : t.val + 1 = 8 := by have := points t; omega
  rw [hn, zero_add]
  exact (sum_of_points 8 256 rfl fun a => part m c a s).trans (reference_sum m c s).symm

theorem result4 (t : Fin cfg0.N) (ht : t.val % 8 = 7) (j : S1x1024.Idx) :
    (outsAt0 m c t.val t.isLt).2.1 j = G4 m c ((win0_4.rect t).emb j) := by
  idx_vars j
  rw [value4 m c t ht]
  congr 1
  funext a
  apply Fin.ext
  refine Eq.symm ((Pipeline.Window.rect_emb_val win0_4 t (ix2 j0 j1) a).trans ?_)
  rw [at4]
  fin_cases a
  · exact Nat.zero_add _
  · exact Nat.zero_add _

theorem inside4 (t : Fin cfg0.N) (i : S1x1024.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v0_1).slice (win0_4.rect t)).set ↔ _
  rw [View.set_slice_whole, Rect.mem_set_unit]
  exact Iff.rfl

theorem covered4 (i : S1x1024.Idx) : ∃ t : Fin cfg0.N, (cfg0.win 4).flush t = true ∧ i ∈ ((cfg0.win 4).blk t).view.set := by
  have h0 : (i 0).val < 1 := (i 0).isLt
  have h1 : (i 1).val < 1024 := (i 1).isLt
  have hb : 7 < 8 := by omega
  refine ⟨⟨7, by rw [show cfg0.N = 8 from N_0]; exact hb⟩, (flush0_4 _).mpr (by show (7)  % 8 = 7; omega), (inside4 _ _).mpr ?_⟩
  rw [at4]
  intro a
  fin_cases a
  · show 0 * 1 ≤ (i 0).val ∧ (i 0).val < 0 * 1 + 1; omega
  · show 0 * 1024 ≤ (i 1).val ∧ (i 1).val < 0 * 1024 + 1024; omega

theorem final4 : (dats m 0 c).arrAt 4 cfg0.N = G4 m c := by
  refine Pipeline.Dat.arrAt_eq_of_cover (dats m 0 c) 4 (G4 m c) (fun t hfl => ?_) (covered4)
  rw [Value.flushed4]
  funext j
  exact result4 m c t ((flush0_4 t).mp hfl) j

/-- The reference's array, as a function of the arguments. -/
abbrev G5 : S1x1.Idx → EReal := val_main_v49 (F := Ideal) (m (c.tc.loc main_arg0)) (m (c.tc.loc main_arg1)) (m (c.tc.loc main_arg2))

theorem value5 (hf : Finite m c) (t : Fin cfg0.N) (ht : t.val % 8 = 7) (r : Fin 1) (s : Fin 1) :
    (outsAt0 m c t.val t.isLt).2.2 (ix2 r s) = G5 m c (ix2 r s) := by
  obtain rfl : r = 0 := Subsingleton.elim _ _
  obtain rfl : s = 0 := Subsingleton.elim _ _
  refine (Pipeline.eq_sum_of_reset_step_apply_single (fun n h (_ : Unit) => (outsAt0 m c n h).2.2 (ix2 0 0)) 8 (fun _ => 0) (lossTerm m c)
    (fun t h _ => loss_first_at m c hf t h) (fun t h _ => loss_next_at m c hf t h) (le_of_eq N_0) t ()).trans ?_
  have hn : t.val + 1 = 8 := by have := points t; omega
  rw [hn, zero_add]
  exact (sum_of_points 8 256 rfl fun a => cell m c a).trans (reference_loss m c hf).symm

theorem result5 (hf : Finite m c) (t : Fin cfg0.N) (ht : t.val % 8 = 7) (j : S1x1.Idx) :
    (outsAt0 m c t.val t.isLt).2.2 j = G5 m c ((win0_5.rect t).emb j) := by
  idx_vars j
  rw [value5 m c hf t ht]
  congr 1
  funext a
  apply Fin.ext
  refine Eq.symm ((Pipeline.Window.rect_emb_val win0_5 t (ix2 j0 j1) a).trans ?_)
  rw [at5]
  fin_cases a
  · exact Nat.zero_add _
  · exact Nat.zero_add _

theorem inside5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v0_2).slice (win0_5.rect t)).set ↔ _
  rw [View.set_slice_whole, Rect.mem_set_unit]
  exact Iff.rfl

theorem covered5 (i : S1x1.Idx) : ∃ t : Fin cfg0.N, (cfg0.win 5).flush t = true ∧ i ∈ ((cfg0.win 5).blk t).view.set := by
  have h0 : (i 0).val < 1 := (i 0).isLt
  have h1 : (i 1).val < 1 := (i 1).isLt
  have hb : 7 < 8 := by omega
  refine ⟨⟨7, by rw [show cfg0.N = 8 from N_0]; exact hb⟩, (flush0_5 _).mpr (by show (7)  % 8 = 7; omega), (inside5 _ _).mpr ?_⟩
  rw [at5]
  intro a
  fin_cases a
  · show 0 * 1 ≤ (i 0).val ∧ (i 0).val < 0 * 1 + 1; omega
  · show 0 * 1 ≤ (i 1).val ∧ (i 1).val < 0 * 1 + 1; omega

theorem final5 (hf : Finite m c) : (dats m 0 c).arrAt 5 cfg0.N = G5 m c := by
  refine Pipeline.Dat.arrAt_eq_of_cover (dats m 0 c) 5 (G5 m c) (fun t hfl => ?_) (covered5)
  rw [Value.flushed5]
  funext j
  exact result5 m c hf t ((flush0_5 t).mp hfl) j

end Cert.Proof.Loss

end
-- ==== Proof.Claims7.lean ====
/- The claims about the mixers' input and the loss. -/
module

public import proofs.«01_k».proof.Defs
public import proofs.«01_k».proof.Proof.MixDh
public import proofs.«01_k».proof.Proof.Gen.Reference7Ideal.Run
public import proofs.«01_k».proof.Proof.Gen.Pre_mixer_dh_finite
public import proofs.«01_k».proof.Proof.Loss
public import proofs.«01_k».proof.Proof.Gen.Reference22Ideal.Run
public import proofs.«01_k».proof.Proof.Gen.Pre_loss_finite

@[expose] public section

set_option maxRecDepth 16384

noncomputable section

namespace Cert.Proof

open Idealize.ShloMosaic Idealize.ShloMosaic.TcCoe Idealize.SL.Sem

theorem mixdh_value : Cert.algebraic_Kernel7Ideal_Reference7Ideal_pre_mixer_dh_finite := by
  intro m g m' g' hpre hargs
  have hf := MixDh.finite m hpre
  refine ⟨fun c => MixDh.G12 m c, fun c => MixDh.G13 m c,
    (θ_run _ _ _).mono (fun r h c => ?_) (Cert.Kernel7Ideal.Value.run_blocks m g),
    (θ_run _ _ _).mono (fun r h c => ?_) (Cert.Reference7Ideal.Value.run m' g')⟩
  · obtain ⟨h0, h1, ha⟩ := h c
    exact ⟨h0.trans (MixDh.final12 m c (hf c)), h1.trans (MixDh.final13 m c), ha⟩
  · obtain ⟨h0, h1, ha⟩ := h c
    obtain ⟨e0, e1, e2, e3, e4, e5, e6, e7⟩ := hargs c
    refine ⟨h0.trans ?_, h1.trans ?_, ha⟩
    · rw [Cert.Reference7Ideal.Read.val_main_v44_eq, e0, e1, e2, e3, e4, e5, e6, e7]
    · rw [e0, e2, e3, e4, e5, e6]; rfl

theorem loss_value : Cert.algebraic_Kernel22Ideal_Reference22Ideal_pre_loss_finite := by
  intro m g m' g' hpre hargs
  have hf := Loss.finite m hpre
  refine ⟨fun c => Loss.G3 m c, fun c => Loss.G4 m c, fun c => Loss.G5 m c,
    (θ_run _ _ _).mono (fun r h c => ?_) (Cert.Kernel22Ideal.Value.run_blocks m g),
    (θ_run _ _ _).mono (fun r h c => ?_) (Cert.Reference22Ideal.Value.run m' g')⟩
  · obtain ⟨h0, h1, h2, ha⟩ := h c
    exact ⟨h0.trans (Loss.final3 m c (hf c)), h1.trans (Loss.final4 m c), h2.trans (Loss.final5 m c (hf c)), ha⟩
  · obtain ⟨h0, h1, h2, ha⟩ := h c
    obtain ⟨e0, e1, e2⟩ := hargs c
    refine ⟨h0.trans ?_, h1.trans ?_, h2.trans ?_, ha⟩
    · rw [Cert.Reference22Ideal.Read.val_main_v48_eq, e0, e1, e2]
    · rw [e0, e1, e2]; rfl
    · rw [e0, e1, e2]; rfl

end Cert.Proof

end
-- ==== Proof.PairFfn.lean ====
/- The sum of a pair's two parts of a feed-forward half's weight gradients: the values of the kernel's array. -/
module

public import proofs.«01_k».proof.Proof.Gen.Kernel29.Frame
public import proofs.«01_k».proof.Proof.Gen.Kernel29Ideal.Frame
public import proofs.«01_k».proof.Proof.Gen.Reference29Ideal
public import proofs.«01_k».proof.Proof.Basis

@[expose] public section

set_option maxRecDepth 16384

noncomputable section

namespace Cert.Proof.PairFfn

open Idealize.ShloMosaic Idealize.ShloMosaic.TcCoe Idealize.SL.Sem

section Table

open Cert.Kernel29 Cert.Kernel29.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference29Ideal Cert.Reference29Ideal.Gen Idealize.ShloMosaic.StableHlo

variable {F : FTy → Type} [FloatOps F]

/-- The reference's operations, in order. -/
abbrev ref_lines : List (HloOp Cert.Reference29Ideal.τ Cert.Reference29Ideal.sig (Elt F)) :=
  [ unary main_arg0 main_v0 ((extractStridedSlice S4x3x352x1024 ![0, 0, 0, 0] · slices_S4x3x704x1024_S4x3x352x1024_0_0_0_0) : (⟨S4x3x704x1024, .bf16⟩ : BufTy).Contents (Elt F) → (⟨S4x3x352x1024, .bf16⟩ : BufTy).Contents (Elt F)),
    unary main_v0 main_v1 ((extf .f32 · bitsLt_bf16_f32) : (⟨S4x3x352x1024, .bf16⟩ : BufTy).Contents (Elt F) → (⟨S4x3x352x1024, .f32⟩ : BufTy).Contents (Elt F)),
    unary main_arg1 main_v2 ((extf .f32 · bitsLt_bf16_f32) : (⟨S4x3x352x1024, .bf16⟩ : BufTy).Contents (Elt F) → (⟨S4x3x352x1024, .f32⟩ : BufTy).Contents (Elt F)),
    binary main_v1 main_v2 main_v3 (addf : (⟨S4x3x352x1024, .f32⟩ : BufTy).Contents (Elt F) → (⟨S4x3x352x1024, .f32⟩ : BufTy).Contents (Elt F) → (⟨S4x3x352x1024, .f32⟩ : BufTy).Contents (Elt F)),
    unary main_v3 main_v4 ((truncf .bf16 · bitsLt_bf16_f32) : (⟨S4x3x352x1024, .f32⟩ : BufTy).Contents (Elt F) → (⟨S4x3x352x1024, .bf16⟩ : BufTy).Contents (Elt F)) ]

theorem ref_inside : (ref_lines : List (HloOp Cert.Reference29Ideal.τ Cert.Reference29Ideal.sig (Elt F))).Forall fun op => op.bufs ⊆ tcRefs Cert.Reference29Ideal.τ Cert.Reference29Ideal.sig :=
  ⟨unary_bufs_sub .., unary_bufs_sub .., unary_bufs_sub .., binary_bufs_sub .., unary_bufs_sub ..⟩

/-- What the reference computes of its two arguments. -/
def ref_term (x : FVec F S4x3x704x1024 .bf16) (y : FVec F S4x3x352x1024 .bf16) : FVec F S4x3x352x1024 .bf16 :=
  truncf .bf16 (addf (extf .f32 (extractStridedSlice S4x3x352x1024 ![0, 0, 0, 0] x slices_S4x3x704x1024_S4x3x352x1024_0_0_0_0) bitsLt_bf16_f32)
    (extf .f32 y bitsLt_bf16_f32)) bitsLt_bf16_f32

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v4) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v4).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel29Ideal Cert.Kernel29Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 12 := t.isLt

theorem at0 (t : Fin (pipe m).N) : ((pipe m).win 0).index t = ![t.val / 3, t.val % 3, 0, 0] := by
  show cc0_transform_0 _ _ (tbl m) (grid0.coords t) = _
  rw [table m]
  revert t
  show ∀ t : Fin grid0.N, cc0_transform_0 _ _ place (grid0.coords t) = ![t.val / 3, t.val % 3, 0, 0]
  decide

theorem at1 (t : Fin (pipe m).N) : ((pipe m).win 1).index t = ![t.val / 3, t.val % 3, 0, 0] := by
  show cc0_transform_1 (grid0.coords t) = _
  revert t
  show ∀ t : Fin grid0.N, cc0_transform_1 (grid0.coords t) = ![t.val / 3, t.val % 3, 0, 0]
  decide

theorem at2 (t : Fin (pipe m).N) : ((pipe m).win 2).index t = ![t.val / 3, t.val % 3, 0, 0] := by
  show cc0_transform_2 (grid0.coords t) = _
  revert t
  show ∀ t : Fin grid0.N, cc0_transform_2 (grid0.coords t) = ![t.val / 3, t.val % 3, 0, 0]
  decide

/-- Every point writes its block back: the next point has another. -/
theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 12
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 : (t.val + 1) / 3 = t.val / 3 := congrFun e 0
    have e1 : (t.val + 1) % 3 = t.val % 3 := congrFun e 1
    have e2 : 0 = 0 := congrFun e 2
    omega

/-- The chip, the array and the row of the half at which a row of the block at point `t` lies. -/
abbrev chip_of (t : Fin (pipe m).N) : Fin 4 := ⟨t.val / 3, by have h := points m t; omega⟩

abbrev arr_of (t : Fin (pipe m).N) : Fin 3 := ⟨t.val % 3, by have h := points m t; omega⟩

abbrev row_of (t : Fin (pipe m).N) (r : Fin 352) : Fin 352 := ⟨0 * 352 + r.val, by have h := points m t; omega⟩

theorem own_block (t : Fin (pipe m).N) (q q' : Fin 1) (r : Fin 352) (s : Fin 1024) :
    iblk m (ok m) c 0 t (ix4 q q' r s) = m (c.tc.loc main_arg0) (ix4 (chip_of m t) (arr_of m t) ⟨(row_of m t r).val, by omega⟩ s) := by
  have h : iblk m (ok m) c 0 t (ix4 q q' r s) = V m c main_arg0 (ix4 (chip_of m t) (arr_of m t) ⟨(row_of m t r).val, by omega⟩ s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show t.val / 3 * 1 + q.val = t.val / 3; omega
    · show t.val % 3 * 1 + q'.val = t.val % 3; omega
    · rfl
    · exact Nat.zero_add _
  rw [h, V_main_arg0]

theorem received_block (t : Fin (pipe m).N) (q q' : Fin 1) (r : Fin 352) (s : Fin 1024) :
    iblk m (ok m) c 1 t (ix4 q q' r s) = m (c.tc.loc main_arg1) (ix4 (chip_of m t) (arr_of m t) (row_of m t r) s) := by
  have h : iblk m (ok m) c 1 t (ix4 q q' r s) = V m c main_arg1 (ix4 (chip_of m t) (arr_of m t) (row_of m t r) s) := by
    show V m c main_arg1 ((((pipe m).win 1).rect t).emb (ix4 q q' r s)) = _
    congr 1
    funext a
    apply Fin.ext
    refine (Pipeline.Window.rect_emb_val ((pipe m).win 1) t (ix4 q q' r s) a).trans ?_
    rw [at1]
    fin_cases a
    · show t.val / 3 * 1 + q.val = t.val / 3; omega
    · show t.val % 3 * 1 + q'.val = t.val % 3; omega
    · rfl
    · exact Nat.zero_add _
  rw [h, V_main_arg1]

/-- The sum of the pair's two parts, at an entry of the device's half. -/
def total (k : Fin 4) (a : Fin 3) (r : Fin 352) (s : Fin 1024) : EReal :=
  HAdd.hAdd (α := EReal) (β := EReal) (m (c.tc.loc main_arg0) (ix4 k a ⟨r.val, by omega⟩ s))
    (m (c.tc.loc main_arg1) (ix4 k a r s))

/-- What the body leaves at an entry of its block, of any blocks that it loads. -/
theorem body_value (i : grid0.Coords) (arg3 : Memref sig .tc .vmem S1x1x352x1024 .bf16) (harg3 : arg3.IsWhole)
    (arg4 : Memref sig .tc .vmem S1x1x352x1024 .bf16) (harg4 : arg4.IsWhole) (arg5 : Memref sig .tc .vmem S1x1x352x1024 .bf16)
    (harg5 : arg5.IsWhole) (x0 : Vec Ideal S1x1x352x1024 .bf16) (x1 : Vec Ideal S1x1x352x1024 .bf16)
    (xt0 : TbBuf0 (F := Ideal) c tbM0_0) (q q' : Fin 1) (r : Fin 352) (s : Fin 1024) :
    out0_A_2 c i arg3 harg3 arg4 harg4 arg5 harg5 x0 x1 xt0 (ix4 q q' r s)
      = HAdd.hAdd (α := EReal) (β := EReal) (x0 (ix4 0 0 r s)) (x1 (ix4 0 0 r s)) := by
  frame_open
  simp (disch := decide) only [↓ View.readCov_skip, ↓ View.readCov_cons_toLoadRect, ↓ View.readCov_fill]
  frame_out
  pointwise [k0_pay1]

theorem value (t : Fin (pipe m).N) (q q' : Fin 1) (r : Fin 352) (s : Fin 1024) :
    outsAt0 m (ok m) c t (ix4 q q' r s) = total m c (chip_of m t) (arr_of m t) (row_of m t r) s := by
  unfold outsAt0
  refine (body_value c _ _ _ _ _ _ _ _ _ _ q q' r s).trans ?_
  unfold total
  erw [own_block, received_block]

/-- The array that the kernel leaves. -/
abbrev R : S4x3x352x1024.Idx → EReal := fun i => total m c (i 0) (i 1) (i 2) (i 3)

/-- Where an entry of the block at point `t` lies in the array. -/
def place_of (t : Fin (pipe m).N) (j : S1x1x352x1024.Idx) : S4x3x352x1024.Idx := (((pipe m).win 2).rect t).emb j

theorem place_val (t : Fin (pipe m).N) (j : S1x1x352x1024.Idx) (a : Fin 4) :
    (place_of m t j a).val = (![t.val / 3, t.val % 3, 0, 0] : Fin 4 → Nat) a * S1x1x352x1024.size a + (j a).val := by
  refine (Pipeline.Window.rect_emb_val ((pipe m).win 2) t j a).trans ?_
  rw [at2]
  rfl

theorem block_value (t : Fin (pipe m).N) (j : S1x1x352x1024.Idx) : outsAt0 m (ok m) c t j = R m c (place_of m t j) := by
  idx_vars j
  rw [value]
  have e0 : place_of m t (ix4 j0 j1 j2 j3) 0 = chip_of m t := Fin.ext ((place_val m t _ 0).trans (by show t.val / 3 * 1 + j0.val = t.val / 3; omega))
  have e1 : place_of m t (ix4 j0 j1 j2 j3) 1 = arr_of m t := Fin.ext ((place_val m t _ 1).trans (by show t.val % 3 * 1 + j1.val = t.val % 3; omega))
  have e2 : place_of m t (ix4 j0 j1 j2 j3) 2 = row_of m t j2 := Fin.ext (place_val m t _ 2)
  have e3 : place_of m t (ix4 j0 j1 j2 j3) 3 = j3 := Fin.ext ((place_val m t _ 3).trans (Nat.zero_add _))
  show _ = total m c _ _ _ _
  rw [e0, e1, e2, e3]

theorem flushed (t : Fin (pipe m).N) :
    (dats m (ok m) 0 c).flushed 2 t = (((pipe m).win 2).blk t).view.read (Elt Ideal) (R m c) := by
  show ((pipe m).win 2).cut (grid0.coords t) ((dats m (ok m) 0 c).after 2 t) = _
  rw [after0_2]
  funext j
  exact block_value m c t j

theorem inside (t : Fin (pipe m).N) (i : S4x3x352x1024.Idx) :
    i ∈ (((pipe m).win 2).blk t).view.set ↔ ∀ a : Fin 4, (![t.val / 3, t.val % 3, 0, 0] : Fin 4 → Nat) a * S1x1x352x1024.size a ≤ (i a).val ∧ (i a).val < (![t.val / 3, t.val % 3, 0, 0] : Fin 4 → Nat) a * S1x1x352x1024.size a + S1x1x352x1024.size a := by
  refine (iff_of_eq (congrArg (fun z : Finset S4x3x352x1024.Idx => i ∈ z) (View.set_slice_whole main_v1 (((pipe m).win 2).rect t)))).trans ?_
  refine Rect.mem_set_unit.trans ?_
  show (∀ a : Fin 4, ((pipe m).win 2).index t a * S1x1x352x1024.size a ≤ (i a).val ∧ (i a).val < ((pipe m).win 2).index t a * S1x1x352x1024.size a + S1x1x352x1024.size a) ↔ _
  rw [at2]

theorem covered (i : S4x3x352x1024.Idx) : ∃ t : Fin (pipe m).N, ((pipe m).win 2).flush t = true ∧ i ∈ (((pipe m).win 2).blk t).view.set := by
  have h0 : (i 0).val < 4 := (i 0).isLt
  have h1 : (i 1).val < 3 := (i 1).isLt
  have h2 : (i 2).val < 352 := (i 2).isLt
  have h3 : (i 3).val < 1024 := (i 3).isLt
  have hp : (i 0).val * 3 + (i 1).val < (pipe m).N := by
    show (i 0).val * 3 + (i 1).val < grid0.N
    rw [N_0]; omega
  refine ⟨⟨(i 0).val * 3 + (i 1).val, hp⟩, flush m _, (inside m _ _).mpr ?_⟩
  intro b
  fin_cases b
  · show ((i 0).val * 3 + (i 1).val) / 3 * 1 ≤ (i 0).val ∧ (i 0).val < ((i 0).val * 3 + (i 1).val) / 3 * 1 + 1; omega
  · show ((i 0).val * 3 + (i 1).val) % 3 * 1 ≤ (i 1).val ∧ (i 1).val < ((i 0).val * 3 + (i 1).val) % 3 * 1 + 1; omega
  · show 0 * 352 ≤ (i 2).val ∧ (i 2).val < 0 * 352 + 352; omega
  · show 0 * 1024 ≤ (i 3).val ∧ (i 3).val < 0 * 1024 + 1024; omega

theorem after_run (r : PUnit × MemSt nD τ sig (Elt Ideal))
    (h : Pipeline.FramePost (Pipeline.pin pcfgs fun _ => adm m (ok m)) (dats m (ok m)) 0 (V m) r) :
    r.2.mem (c.tc.loc main_v1) = R m c :=
  ((h c).1 2).trans (Pipeline.Dat.arrAt_eq_of_cover (dats m (ok m) 0 c) 2 (R m c) (fun t _ => flushed m c t) (covered m))

theorem ref_value : ref_term (F := Ideal) (m (c.tc.loc main_arg0)) (m (c.tc.loc main_arg1)) = R m c := by
  funext i
  idx_vars i
  unfold ref_term R total
  pointwise []

end Cert.Proof.PairFfn

end
-- ==== Proof.PairIn.lean ====
/- The sum of a pair's two parts of the gradient of w_in: the values of the kernel's array. -/
module

public import proofs.«01_k».proof.Proof.Gen.Kernel30.Frame
public import proofs.«01_k».proof.Proof.Gen.Kernel30Ideal.Frame
public import proofs.«01_k».proof.Proof.Gen.Reference30Ideal
public import proofs.«01_k».proof.Proof.Basis

@[expose] public section

set_option maxRecDepth 16384

noncomputable section

namespace Cert.Proof.PairIn

open Idealize.ShloMosaic Idealize.ShloMosaic.TcCoe Idealize.SL.Sem

section Table

open Cert.Kernel30 Cert.Kernel30.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference30Ideal Cert.Reference30Ideal.Gen Idealize.ShloMosaic.StableHlo

variable {F : FTy → Type} [FloatOps F]

/-- The reference's operations, in order. -/
abbrev ref_lines : List (HloOp Cert.Reference30Ideal.τ Cert.Reference30Ideal.sig (Elt F)) :=
  [ unary main_arg0 main_v0 ((extractStridedSlice S4x1x400x1024 ![0, 0, 0, 0] · slices_S4x1x800x1024_S4x1x400x1024_0_0_0_0) : (⟨S4x1x800x1024, .bf16⟩ : BufTy).Contents (Elt F) → (⟨S4x1x400x1024, .bf16⟩ : BufTy).Contents (Elt F)),
    unary main_v0 main_v1 ((extf .f32 · bitsLt_bf16_f32) : (⟨S4x1x400x1024, .bf16⟩ : BufTy).Contents (Elt F) → (⟨S4x1x400x1024, .f32⟩ : BufTy).Contents (Elt F)),
    unary main_arg1 main_v2 ((extf .f32 · bitsLt_bf16_f32) : (⟨S4x1x400x1024, .bf16⟩ : BufTy).Contents (Elt F) → (⟨S4x1x400x1024, .f32⟩ : BufTy).Contents (Elt F)),
    binary main_v1 main_v2 main_v3 (addf : (⟨S4x1x400x1024, .f32⟩ : BufTy).Contents (Elt F) → (⟨S4x1x400x1024, .f32⟩ : BufTy).Contents (Elt F) → (⟨S4x1x400x1024, .f32⟩ : BufTy).Contents (Elt F)),
    unary main_v3 main_v4 ((truncf .bf16 · bitsLt_bf16_f32) : (⟨S4x1x400x1024, .f32⟩ : BufTy).Contents (Elt F) → (⟨S4x1x400x1024, .bf16⟩ : BufTy).Contents (Elt F)) ]

theorem ref_inside : (ref_lines : List (HloOp Cert.Reference30Ideal.τ Cert.Reference30Ideal.sig (Elt F))).Forall fun op => op.bufs ⊆ tcRefs Cert.Reference30Ideal.τ Cert.Reference30Ideal.sig :=
  ⟨unary_bufs_sub .., unary_bufs_sub .., unary_bufs_sub .., binary_bufs_sub .., unary_bufs_sub ..⟩

/-- What the reference computes of its two arguments. -/
def ref_term (x : FVec F S4x1x800x1024 .bf16) (y : FVec F S4x1x400x1024 .bf16) : FVec F S4x1x400x1024 .bf16 :=
  truncf .bf16 (addf (extf .f32 (extractStridedSlice S4x1x400x1024 ![0, 0, 0, 0] x slices_S4x1x800x1024_S4x1x400x1024_0_0_0_0) bitsLt_bf16_f32)
    (extf .f32 y bitsLt_bf16_f32)) bitsLt_bf16_f32

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v4) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v4).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel30Ideal Cert.Kernel30Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 4 := t.isLt

theorem at0 (t : Fin (pipe m).N) : ((pipe m).win 0).index t = ![t.val, 0, 0, 0] := by
  show cc0_transform_0 _ _ (tbl m) (grid0.coords t) = _
  rw [table m]
  revert t
  show ∀ t : Fin grid0.N, cc0_transform_0 _ _ place (grid0.coords t) = ![t.val, 0, 0, 0]
  decide

theorem at1 (t : Fin (pipe m).N) : ((pipe m).win 1).index t = ![t.val, 0, 0, 0] := by
  show cc0_transform_1 (grid0.coords t) = _
  revert t
  show ∀ t : Fin grid0.N, cc0_transform_1 (grid0.coords t) = ![t.val, 0, 0, 0]
  decide

theorem at2 (t : Fin (pipe m).N) : ((pipe m).win 2).index t = ![t.val, 0, 0, 0] := by
  show cc0_transform_2 (grid0.coords t) = _
  revert t
  show ∀ t : Fin grid0.N, cc0_transform_2 (grid0.coords t) = ![t.val, 0, 0, 0]
  decide

/-- Every point writes its block back: the next point has another. -/
theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 4
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 : (t.val + 1) = t.val := congrFun e 0
    have e1 : 0 = 0 := congrFun e 1
    have e2 : 0 = 0 := congrFun e 2
    omega

/-- The chip, the array and the row of the half at which a row of the block at point `t` lies. -/
abbrev chip_of (t : Fin (pipe m).N) : Fin 4 := ⟨t.val, by have h := points m t; omega⟩

abbrev arr_of (t : Fin (pipe m).N) : Fin 1 := ⟨0, by have h := points m t; omega⟩

abbrev row_of (t : Fin (pipe m).N) (r : Fin 400) : Fin 400 := ⟨0 * 400 + r.val, by have h := points m t; omega⟩

theorem own_block (t : Fin (pipe m).N) (q q' : Fin 1) (r : Fin 400) (s : Fin 1024) :
    iblk m (ok m) c 0 t (ix4 q q' r s) = m (c.tc.loc main_arg0) (ix4 (chip_of m t) (arr_of m t) ⟨(row_of m t r).val, by omega⟩ s) := by
  have h : iblk m (ok m) c 0 t (ix4 q q' r s) = V m c main_arg0 (ix4 (chip_of m t) (arr_of m t) ⟨(row_of m t r).val, by omega⟩ s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show t.val * 1 + q.val = t.val; omega
    · show 0 * 1 + q'.val = 0; omega
    · rfl
    · exact Nat.zero_add _
  rw [h, V_main_arg0]

theorem received_block (t : Fin (pipe m).N) (q q' : Fin 1) (r : Fin 400) (s : Fin 1024) :
    iblk m (ok m) c 1 t (ix4 q q' r s) = m (c.tc.loc main_arg1) (ix4 (chip_of m t) (arr_of m t) (row_of m t r) s) := by
  have h : iblk m (ok m) c 1 t (ix4 q q' r s) = V m c main_arg1 (ix4 (chip_of m t) (arr_of m t) (row_of m t r) s) := by
    show V m c main_arg1 ((((pipe m).win 1).rect t).emb (ix4 q q' r s)) = _
    congr 1
    funext a
    apply Fin.ext
    refine (Pipeline.Window.rect_emb_val ((pipe m).win 1) t (ix4 q q' r s) a).trans ?_
    rw [at1]
    fin_cases a
    · show t.val * 1 + q.val = t.val; omega
    · show 0 * 1 + q'.val = 0; omega
    · rfl
    · exact Nat.zero_add _
  rw [h, V_main_arg1]

/-- The sum of the pair's two parts, at an entry of the device's half. -/
def total (k : Fin 4) (a : Fin 1) (r : Fin 400) (s : Fin 1024) : EReal :=
  HAdd.hAdd (α := EReal) (β := EReal) (m (c.tc.loc main_arg0) (ix4 k a ⟨r.val, by omega⟩ s))
    (m (c.tc.loc main_arg1) (ix4 k a r s))

/-- What the body leaves at an entry of its block, of any blocks that it loads. -/
theorem body_value (i : grid0.Coords) (arg3 : Memref sig .tc .vmem S1x1x400x1024 .bf16) (harg3 : arg3.IsWhole)
    (arg4 : Memref sig .tc .vmem S1x1x400x1024 .bf16) (harg4 : arg4.IsWhole) (arg5 : Memref sig .tc .vmem S1x1x400x1024 .bf16)
    (harg5 : arg5.IsWhole) (x0 : Vec Ideal S1x1x400x1024 .bf16) (x1 : Vec Ideal S1x1x400x1024 .bf16)
    (xt0 : TbBuf0 (F := Ideal) c tbM0_0) (q q' : Fin 1) (r : Fin 400) (s : Fin 1024) :
    out0_A_2 c i arg3 harg3 arg4 harg4 arg5 harg5 x0 x1 xt0 (ix4 q q' r s)
      = HAdd.hAdd (α := EReal) (β := EReal) (x0 (ix4 0 0 r s)) (x1 (ix4 0 0 r s)) := by
  frame_open
  simp (disch := decide) only [↓ View.readCov_skip, ↓ View.readCov_cons_toLoadRect, ↓ View.readCov_fill]
  frame_out
  pointwise [k0_pay1]

theorem value (t : Fin (pipe m).N) (q q' : Fin 1) (r : Fin 400) (s : Fin 1024) :
    outsAt0 m (ok m) c t (ix4 q q' r s) = total m c (chip_of m t) (arr_of m t) (row_of m t r) s := by
  unfold outsAt0
  refine (body_value c _ _ _ _ _ _ _ _ _ _ q q' r s).trans ?_
  unfold total
  erw [own_block, received_block]

/-- The array that the kernel leaves. -/
abbrev R : S4x1x400x1024.Idx → EReal := fun i => total m c (i 0) (i 1) (i 2) (i 3)

/-- Where an entry of the block at point `t` lies in the array. -/
def place_of (t : Fin (pipe m).N) (j : S1x1x400x1024.Idx) : S4x1x400x1024.Idx := (((pipe m).win 2).rect t).emb j

theorem place_val (t : Fin (pipe m).N) (j : S1x1x400x1024.Idx) (a : Fin 4) :
    (place_of m t j a).val = (![t.val, 0, 0, 0] : Fin 4 → Nat) a * S1x1x400x1024.size a + (j a).val := by
  refine (Pipeline.Window.rect_emb_val ((pipe m).win 2) t j a).trans ?_
  rw [at2]
  rfl

theorem block_value (t : Fin (pipe m).N) (j : S1x1x400x1024.Idx) : outsAt0 m (ok m) c t j = R m c (place_of m t j) := by
  idx_vars j
  rw [value]
  have e0 : place_of m t (ix4 j0 j1 j2 j3) 0 = chip_of m t := Fin.ext ((place_val m t _ 0).trans (by show t.val * 1 + j0.val = t.val; omega))
  have e1 : place_of m t (ix4 j0 j1 j2 j3) 1 = arr_of m t := Fin.ext ((place_val m t _ 1).trans (by show 0 * 1 + j1.val = 0; omega))
  have e2 : place_of m t (ix4 j0 j1 j2 j3) 2 = row_of m t j2 := Fin.ext (place_val m t _ 2)
  have e3 : place_of m t (ix4 j0 j1 j2 j3) 3 = j3 := Fin.ext ((place_val m t _ 3).trans (Nat.zero_add _))
  show _ = total m c _ _ _ _
  rw [e0, e1, e2, e3]

theorem flushed (t : Fin (pipe m).N) :
    (dats m (ok m) 0 c).flushed 2 t = (((pipe m).win 2).blk t).view.read (Elt Ideal) (R m c) := by
  show ((pipe m).win 2).cut (grid0.coords t) ((dats m (ok m) 0 c).after 2 t) = _
  rw [after0_2]
  funext j
  exact block_value m c t j

theorem inside (t : Fin (pipe m).N) (i : S4x1x400x1024.Idx) :
    i ∈ (((pipe m).win 2).blk t).view.set ↔ ∀ a : Fin 4, (![t.val, 0, 0, 0] : Fin 4 → Nat) a * S1x1x400x1024.size a ≤ (i a).val ∧ (i a).val < (![t.val, 0, 0, 0] : Fin 4 → Nat) a * S1x1x400x1024.size a + S1x1x400x1024.size a := by
  refine (iff_of_eq (congrArg (fun z : Finset S4x1x400x1024.Idx => i ∈ z) (View.set_slice_whole main_v1 (((pipe m).win 2).rect t)))).trans ?_
  refine Rect.mem_set_unit.trans ?_
  show (∀ a : Fin 4, ((pipe m).win 2).index t a * S1x1x400x1024.size a ≤ (i a).val ∧ (i a).val < ((pipe m).win 2).index t a * S1x1x400x1024.size a + S1x1x400x1024.size a) ↔ _
  rw [at2]

theorem covered (i : S4x1x400x1024.Idx) : ∃ t : Fin (pipe m).N, ((pipe m).win 2).flush t = true ∧ i ∈ (((pipe m).win 2).blk t).view.set := by
  have h0 : (i 0).val < 4 := (i 0).isLt
  have h1 : (i 1).val < 1 := (i 1).isLt
  have h2 : (i 2).val < 400 := (i 2).isLt
  have h3 : (i 3).val < 1024 := (i 3).isLt
  have hp : (i 0).val < (pipe m).N := by
    show (i 0).val < grid0.N
    rw [N_0]; omega
  refine ⟨⟨(i 0).val, hp⟩, flush m _, (inside m _ _).mpr ?_⟩
  intro b
  fin_cases b
  · show (i 0).val * 1 ≤ (i 0).val ∧ (i 0).val < (i 0).val * 1 + 1; omega
  · show 0 * 1 ≤ (i 1).val ∧ (i 1).val < 0 * 1 + 1; omega
  · show 0 * 400 ≤ (i 2).val ∧ (i 2).val < 0 * 400 + 400; omega
  · show 0 * 1024 ≤ (i 3).val ∧ (i 3).val < 0 * 1024 + 1024; omega

theorem after_run (r : PUnit × MemSt nD τ sig (Elt Ideal))
    (h : Pipeline.FramePost (Pipeline.pin pcfgs fun _ => adm m (ok m)) (dats m (ok m)) 0 (V m) r) :
    r.2.mem (c.tc.loc main_v1) = R m c :=
  ((h c).1 2).trans (Pipeline.Dat.arrAt_eq_of_cover (dats m (ok m) 0 c) 2 (R m c) (fun t _ => flushed m c t) (covered m))

theorem ref_value : ref_term (F := Ideal) (m (c.tc.loc main_arg0)) (m (c.tc.loc main_arg1)) = R m c := by
  funext i
  idx_vars i
  obtain rfl : i1 = 0 := Subsingleton.elim _ _
  unfold ref_term R total
  pointwise []

end Cert.Proof.PairIn

end
-- ==== Proof.PairGate.lean ====
/- The sum of a pair's two parts of the gradient of w_gate: the values of the kernel's array. -/
module

public import proofs.«01_k».proof.Proof.Gen.Kernel31.Frame
public import proofs.«01_k».proof.Proof.Gen.Kernel31Ideal.Frame
public import proofs.«01_k».proof.Proof.Gen.Reference31Ideal
public import proofs.«01_k».proof.Proof.Basis

@[expose] public section

set_option maxRecDepth 16384

noncomputable section

namespace Cert.Proof.PairGate

open Idealize.ShloMosaic Idealize.ShloMosaic.TcCoe Idealize.SL.Sem

section Table

open Cert.Kernel31 Cert.Kernel31.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference31Ideal Cert.Reference31Ideal.Gen Idealize.ShloMosaic.StableHlo

variable {F : FTy → Type} [FloatOps F]

/-- The reference's operations, in order. -/
abbrev ref_lines : List (HloOp Cert.Reference31Ideal.τ Cert.Reference31Ideal.sig (Elt F)) :=
  [ unary main_arg0 main_v0 ((extractStridedSlice S4x1x256x1024 ![0, 0, 0, 0] · slices_S4x1x512x1024_S4x1x256x1024_0_0_0_0) : (⟨S4x1x512x1024, .bf16⟩ : BufTy).Contents (Elt F) → (⟨S4x1x256x1024, .bf16⟩ : BufTy).Contents (Elt F)),
    unary main_v0 main_v1 ((extf .f32 · bitsLt_bf16_f32) : (⟨S4x1x256x1024, .bf16⟩ : BufTy).Contents (Elt F) → (⟨S4x1x256x1024, .f32⟩ : BufTy).Contents (Elt F)),
    unary main_arg1 main_v2 ((extf .f32 · bitsLt_bf16_f32) : (⟨S4x1x256x1024, .bf16⟩ : BufTy).Contents (Elt F) → (⟨S4x1x256x1024, .f32⟩ : BufTy).Contents (Elt F)),
    binary main_v1 main_v2 main_v3 (addf : (⟨S4x1x256x1024, .f32⟩ : BufTy).Contents (Elt F) → (⟨S4x1x256x1024, .f32⟩ : BufTy).Contents (Elt F) → (⟨S4x1x256x1024, .f32⟩ : BufTy).Contents (Elt F)),
    unary main_v3 main_v4 ((truncf .bf16 · bitsLt_bf16_f32) : (⟨S4x1x256x1024, .f32⟩ : BufTy).Contents (Elt F) → (⟨S4x1x256x1024, .bf16⟩ : BufTy).Contents (Elt F)) ]

theorem ref_inside : (ref_lines : List (HloOp Cert.Reference31Ideal.τ Cert.Reference31Ideal.sig (Elt F))).Forall fun op => op.bufs ⊆ tcRefs Cert.Reference31Ideal.τ Cert.Reference31Ideal.sig :=
  ⟨unary_bufs_sub .., unary_bufs_sub .., unary_bufs_sub .., binary_bufs_sub .., unary_bufs_sub ..⟩

/-- What the reference computes of its two arguments. -/
def ref_term (x : FVec F S4x1x512x1024 .bf16) (y : FVec F S4x1x256x1024 .bf16) : FVec F S4x1x256x1024 .bf16 :=
  truncf .bf16 (addf (extf .f32 (extractStridedSlice S4x1x256x1024 ![0, 0, 0, 0] x slices_S4x1x512x1024_S4x1x256x1024_0_0_0_0) bitsLt_bf16_f32)
    (extf .f32 y bitsLt_bf16_f32)) bitsLt_bf16_f32

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v4) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v4).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel31Ideal Cert.Kernel31Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 4 := t.isLt

theorem at0 (t : Fin (pipe m).N) : ((pipe m).win 0).index t = ![t.val, 0, 0, 0] := by
  show cc0_transform_0 _ _ (tbl m) (grid0.coords t) = _
  rw [table m]
  revert t
  show ∀ t : Fin grid0.N, cc0_transform_0 _ _ place (grid0.coords t) = ![t.val, 0, 0, 0]
  decide

theorem at1 (t : Fin (pipe m).N) : ((pipe m).win 1).index t = ![t.val, 0, 0, 0] := by
  show cc0_transform_1 (grid0.coords t) = _
  revert t
  show ∀ t : Fin grid0.N, cc0_transform_1 (grid0.coords t) = ![t.val, 0, 0, 0]
  decide

theorem at2 (t : Fin (pipe m).N) : ((pipe m).win 2).index t = ![t.val, 0, 0, 0] := by
  show cc0_transform_2 (grid0.coords t) = _
  revert t
  show ∀ t : Fin grid0.N, cc0_transform_2 (grid0.coords t) = ![t.val, 0, 0, 0]
  decide

/-- Every point writes its block back: the next point has another. -/
theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 4
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 : (t.val + 1) = t.val := congrFun e 0
    have e1 : 0 = 0 := congrFun e 1
    have e2 : 0 = 0 := congrFun e 2
    omega

/-- The chip, the array and the row of the half at which a row of the block at point `t` lies. -/
abbrev chip_of (t : Fin (pipe m).N) : Fin 4 := ⟨t.val, by have h := points m t; omega⟩

abbrev arr_of (t : Fin (pipe m).N) : Fin 1 := ⟨0, by have h := points m t; omega⟩

abbrev row_of (t : Fin (pipe m).N) (r : Fin 256) : Fin 256 := ⟨0 * 256 + r.val, by have h := points m t; omega⟩

theorem own_block (t : Fin (pipe m).N) (q q' : Fin 1) (r : Fin 256) (s : Fin 1024) :
    iblk m (ok m) c 0 t (ix4 q q' r s) = m (c.tc.loc main_arg0) (ix4 (chip_of m t) (arr_of m t) ⟨(row_of m t r).val, by omega⟩ s) := by
  have h : iblk m (ok m) c 0 t (ix4 q q' r s) = V m c main_arg0 (ix4 (chip_of m t) (arr_of m t) ⟨(row_of m t r).val, by omega⟩ s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show t.val * 1 + q.val = t.val; omega
    · show 0 * 1 + q'.val = 0; omega
    · rfl
    · exact Nat.zero_add _
  rw [h, V_main_arg0]

theorem received_block (t : Fin (pipe m).N) (q q' : Fin 1) (r : Fin 256) (s : Fin 1024) :
    iblk m (ok m) c 1 t (ix4 q q' r s) = m (c.tc.loc main_arg1) (ix4 (chip_of m t) (arr_of m t) (row_of m t r) s) := by
  have h : iblk m (ok m) c 1 t (ix4 q q' r s) = V m c main_arg1 (ix4 (chip_of m t) (arr_of m t) (row_of m t r) s) := by
    show V m c main_arg1 ((((pipe m).win 1).rect t).emb (ix4 q q' r s)) = _
    congr 1
    funext a
    apply Fin.ext
    refine (Pipeline.Window.rect_emb_val ((pipe m).win 1) t (ix4 q q' r s) a).trans ?_
    rw [at1]
    fin_cases a
    · show t.val * 1 + q.val = t.val; omega
    · show 0 * 1 + q'.val = 0; omega
    · rfl
    · exact Nat.zero_add _
  rw [h, V_main_arg1]

/-- The sum of the pair's two parts, at an entry of the device's half. -/
def total (k : Fin 4) (a : Fin 1) (r : Fin 256) (s : Fin 1024) : EReal :=
  HAdd.hAdd (α := EReal) (β := EReal) (m (c.tc.loc main_arg0) (ix4 k a ⟨r.val, by omega⟩ s))
    (m (c.tc.loc main_arg1) (ix4 k a r s))

/-- What the body leaves at an entry of its block, of any blocks that it loads. -/
theorem body_value (i : grid0.Coords) (arg3 : Memref sig .tc .vmem S1x1x256x1024 .bf16) (harg3 : arg3.IsWhole)
    (arg4 : Memref sig .tc .vmem S1x1x256x1024 .bf16) (harg4 : arg4.IsWhole) (arg5 : Memref sig .tc .vmem S1x1x256x1024 .bf16)
    (harg5 : arg5.IsWhole) (x0 : Vec Ideal S1x1x256x1024 .bf16) (x1 : Vec Ideal S1x1x256x1024 .bf16)
    (xt0 : TbBuf0 (F := Ideal) c tbM0_0) (q q' : Fin 1) (r : Fin 256) (s : Fin 1024) :
    out0_A_2 c i arg3 harg3 arg4 harg4 arg5 harg5 x0 x1 xt0 (ix4 q q' r s)
      = HAdd.hAdd (α := EReal) (β := EReal) (x0 (ix4 0 0 r s)) (x1 (ix4 0 0 r s)) := by
  frame_open
  simp (disch := decide) only [↓ View.readCov_skip, ↓ View.readCov_cons_toLoadRect, ↓ View.readCov_fill]
  frame_out
  pointwise [k0_pay1]

theorem value (t : Fin (pipe m).N) (q q' : Fin 1) (r : Fin 256) (s : Fin 1024) :
    outsAt0 m (ok m) c t (ix4 q q' r s) = total m c (chip_of m t) (arr_of m t) (row_of m t r) s := by
  unfold outsAt0
  refine (body_value c _ _ _ _ _ _ _ _ _ _ q q' r s).trans ?_
  unfold total
  erw [own_block, received_block]

/-- The array that the kernel leaves. -/
abbrev R : S4x1x256x1024.Idx → EReal := fun i => total m c (i 0) (i 1) (i 2) (i 3)

/-- Where an entry of the block at point `t` lies in the array. -/
def place_of (t : Fin (pipe m).N) (j : S1x1x256x1024.Idx) : S4x1x256x1024.Idx := (((pipe m).win 2).rect t).emb j

theorem place_val (t : Fin (pipe m).N) (j : S1x1x256x1024.Idx) (a : Fin 4) :
    (place_of m t j a).val = (![t.val, 0, 0, 0] : Fin 4 → Nat) a * S1x1x256x1024.size a + (j a).val := by
  refine (Pipeline.Window.rect_emb_val ((pipe m).win 2) t j a).trans ?_
  rw [at2]
  rfl

theorem block_value (t : Fin (pipe m).N) (j : S1x1x256x1024.Idx) : outsAt0 m (ok m) c t j = R m c (place_of m t j) := by
  idx_vars j
  rw [value]
  have e0 : place_of m t (ix4 j0 j1 j2 j3) 0 = chip_of m t := Fin.ext ((place_val m t _ 0).trans (by show t.val * 1 + j0.val = t.val; omega))
  have e1 : place_of m t (ix4 j0 j1 j2 j3) 1 = arr_of m t := Fin.ext ((place_val m t _ 1).trans (by show 0 * 1 + j1.val = 0; omega))
  have e2 : place_of m t (ix4 j0 j1 j2 j3) 2 = row_of m t j2 := Fin.ext (place_val m t _ 2)
  have e3 : place_of m t (ix4 j0 j1 j2 j3) 3 = j3 := Fin.ext ((place_val m t _ 3).trans (Nat.zero_add _))
  show _ = total m c _ _ _ _
  rw [e0, e1, e2, e3]

theorem flushed (t : Fin (pipe m).N) :
    (dats m (ok m) 0 c).flushed 2 t = (((pipe m).win 2).blk t).view.read (Elt Ideal) (R m c) := by
  show ((pipe m).win 2).cut (grid0.coords t) ((dats m (ok m) 0 c).after 2 t) = _
  rw [after0_2]
  funext j
  exact block_value m c t j

theorem inside (t : Fin (pipe m).N) (i : S4x1x256x1024.Idx) :
    i ∈ (((pipe m).win 2).blk t).view.set ↔ ∀ a : Fin 4, (![t.val, 0, 0, 0] : Fin 4 → Nat) a * S1x1x256x1024.size a ≤ (i a).val ∧ (i a).val < (![t.val, 0, 0, 0] : Fin 4 → Nat) a * S1x1x256x1024.size a + S1x1x256x1024.size a := by
  refine (iff_of_eq (congrArg (fun z : Finset S4x1x256x1024.Idx => i ∈ z) (View.set_slice_whole main_v1 (((pipe m).win 2).rect t)))).trans ?_
  refine Rect.mem_set_unit.trans ?_
  show (∀ a : Fin 4, ((pipe m).win 2).index t a * S1x1x256x1024.size a ≤ (i a).val ∧ (i a).val < ((pipe m).win 2).index t a * S1x1x256x1024.size a + S1x1x256x1024.size a) ↔ _
  rw [at2]

theorem covered (i : S4x1x256x1024.Idx) : ∃ t : Fin (pipe m).N, ((pipe m).win 2).flush t = true ∧ i ∈ (((pipe m).win 2).blk t).view.set := by
  have h0 : (i 0).val < 4 := (i 0).isLt
  have h1 : (i 1).val < 1 := (i 1).isLt
  have h2 : (i 2).val < 256 := (i 2).isLt
  have h3 : (i 3).val < 1024 := (i 3).isLt
  have hp : (i 0).val < (pipe m).N := by
    show (i 0).val < grid0.N
    rw [N_0]; omega
  refine ⟨⟨(i 0).val, hp⟩, flush m _, (inside m _ _).mpr ?_⟩
  intro b
  fin_cases b
  · show (i 0).val * 1 ≤ (i 0).val ∧ (i 0).val < (i 0).val * 1 + 1; omega
  · show 0 * 1 ≤ (i 1).val ∧ (i 1).val < 0 * 1 + 1; omega
  · show 0 * 256 ≤ (i 2).val ∧ (i 2).val < 0 * 256 + 256; omega
  · show 0 * 1024 ≤ (i 3).val ∧ (i 3).val < 0 * 1024 + 1024; omega

theorem after_run (r : PUnit × MemSt nD τ sig (Elt Ideal))
    (h : Pipeline.FramePost (Pipeline.pin pcfgs fun _ => adm m (ok m)) (dats m (ok m)) 0 (V m) r) :
    r.2.mem (c.tc.loc main_v1) = R m c :=
  ((h c).1 2).trans (Pipeline.Dat.arrAt_eq_of_cover (dats m (ok m) 0 c) 2 (R m c) (fun t _ => flushed m c t) (covered m))

theorem ref_value : ref_term (F := Ideal) (m (c.tc.loc main_arg0)) (m (c.tc.loc main_arg1)) = R m c := by
  funext i
  idx_vars i
  obtain rfl : i1 = 0 := Subsingleton.elim _ _
  unfold ref_term R total
  pointwise []

end Cert.Proof.PairGate

end
-- ==== Proof.PairUp.lean ====
/- The sum of a pair's two parts of the gradients of w_up_a and w_up_b: the values of the kernel's array. -/
module

public import proofs.«01_k».proof.Proof.Gen.Kernel32.Frame
public import proofs.«01_k».proof.Proof.Gen.Kernel32Ideal.Frame
public import proofs.«01_k».proof.Proof.Gen.Reference32Ideal
public import proofs.«01_k».proof.Proof.Basis

@[expose] public section

set_option maxRecDepth 16384

noncomputable section

namespace Cert.Proof.PairUp

open Idealize.ShloMosaic Idealize.ShloMosaic.TcCoe Idealize.SL.Sem

section Table

open Cert.Kernel32 Cert.Kernel32.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference32Ideal Cert.Reference32Ideal.Gen Idealize.ShloMosaic.StableHlo

variable {F : FTy → Type} [FloatOps F]

/-- The reference's operations, in order. -/
abbrev ref_lines : List (HloOp Cert.Reference32Ideal.τ Cert.Reference32Ideal.sig (Elt F)) :=
  [ unary main_arg0 main_v0 ((extractStridedSlice S4x1x512x256 ![0, 0, 0, 0] · slices_S4x1x1024x256_S4x1x512x256_0_0_0_0) : (⟨S4x1x1024x256, .bf16⟩ : BufTy).Contents (Elt F) → (⟨S4x1x512x256, .bf16⟩ : BufTy).Contents (Elt F)),
    unary main_v0 main_v1 ((extf .f32 · bitsLt_bf16_f32) : (⟨S4x1x512x256, .bf16⟩ : BufTy).Contents (Elt F) → (⟨S4x1x512x256, .f32⟩ : BufTy).Contents (Elt F)),
    unary main_arg1 main_v2 ((extf .f32 · bitsLt_bf16_f32) : (⟨S4x1x512x256, .bf16⟩ : BufTy).Contents (Elt F) → (⟨S4x1x512x256, .f32⟩ : BufTy).Contents (Elt F)),
    binary main_v1 main_v2 main_v3 (addf : (⟨S4x1x512x256, .f32⟩ : BufTy).Contents (Elt F) → (⟨S4x1x512x256, .f32⟩ : BufTy).Contents (Elt F) → (⟨S4x1x512x256, .f32⟩ : BufTy).Contents (Elt F)),
    unary main_v3 main_v4 ((truncf .bf16 · bitsLt_bf16_f32) : (⟨S4x1x512x256, .f32⟩ : BufTy).Contents (Elt F) → (⟨S4x1x512x256, .bf16⟩ : BufTy).Contents (Elt F)) ]

theorem ref_inside : (ref_lines : List (HloOp Cert.Reference32Ideal.τ Cert.Reference32Ideal.sig (Elt F))).Forall fun op => op.bufs ⊆ tcRefs Cert.Reference32Ideal.τ Cert.Reference32Ideal.sig :=
  ⟨unary_bufs_sub .., unary_bufs_sub .., unary_bufs_sub .., binary_bufs_sub .., unary_bufs_sub ..⟩

/-- What the reference computes of its two arguments. -/
def ref_term (x : FVec F S4x1x1024x256 .bf16) (y : FVec F S4x1x512x256 .bf16) : FVec F S4x1x512x256 .bf16 :=
  truncf .bf16 (addf (extf .f32 (extractStridedSlice S4x1x512x256 ![0, 0, 0, 0] x slices_S4x1x1024x256_S4x1x512x256_0_0_0_0) bitsLt_bf16_f32)
    (extf .f32 y bitsLt_bf16_f32)) bitsLt_bf16_f32

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v4) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v4).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel32Ideal Cert.Kernel32Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 8 := t.isLt

theorem at0 (t : Fin (pipe m).N) : ((pipe m).win 0).index t = ![t.val / 2, 0, t.val % 2, 0] := by
  show cc0_transform_0 _ _ (tbl m) (grid0.coords t) = _
  rw [table m]
  revert t
  show ∀ t : Fin grid0.N, cc0_transform_0 _ _ place (grid0.coords t) = ![t.val / 2, 0, t.val % 2, 0]
  decide

theorem at1 (t : Fin (pipe m).N) : ((pipe m).win 1).index t = ![t.val / 2, 0, t.val % 2, 0] := by
  show cc0_transform_1 (grid0.coords t) = _
  revert t
  show ∀ t : Fin grid0.N, cc0_transform_1 (grid0.coords t) = ![t.val / 2, 0, t.val % 2, 0]
  decide

theorem at2 (t : Fin (pipe m).N) : ((pipe m).win 2).index t = ![t.val / 2, 0, t.val % 2, 0] := by
  show cc0_transform_2 (grid0.coords t) = _
  revert t
  show ∀ t : Fin grid0.N, cc0_transform_2 (grid0.coords t) = ![t.val / 2, 0, t.val % 2, 0]
  decide

/-- Every point writes its block back: the next point has another. -/
theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 8
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 : (t.val + 1) / 2 = t.val / 2 := congrFun e 0
    have e1 : 0 = 0 := congrFun e 1
    have e2 : (t.val + 1) % 2 = t.val % 2 := congrFun e 2
    omega

/-- The chip, the array and the row of the half at which a row of the block at point `t` lies. -/
abbrev chip_of (t : Fin (pipe m).N) : Fin 4 := ⟨t.val / 2, by have h := points m t; omega⟩

abbrev arr_of (t : Fin (pipe m).N) : Fin 1 := ⟨0, by have h := points m t; omega⟩

abbrev row_of (t : Fin (pipe m).N) (r : Fin 256) : Fin 512 := ⟨t.val % 2 * 256 + r.val, by have h := points m t; omega⟩

theorem own_block (t : Fin (pipe m).N) (q q' : Fin 1) (r : Fin 256) (s : Fin 256) :
    iblk m (ok m) c 0 t (ix4 q q' r s) = m (c.tc.loc main_arg0) (ix4 (chip_of m t) (arr_of m t) ⟨(row_of m t r).val, by omega⟩ s) := by
  have h : iblk m (ok m) c 0 t (ix4 q q' r s) = V m c main_arg0 (ix4 (chip_of m t) (arr_of m t) ⟨(row_of m t r).val, by omega⟩ s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show t.val / 2 * 1 + q.val = t.val / 2; omega
    · show 0 * 1 + q'.val = 0; omega
    · rfl
    · exact Nat.zero_add _
  rw [h, V_main_arg0]

theorem received_block (t : Fin (pipe m).N) (q q' : Fin 1) (r : Fin 256) (s : Fin 256) :
    iblk m (ok m) c 1 t (ix4 q q' r s) = m (c.tc.loc main_arg1) (ix4 (chip_of m t) (arr_of m t) (row_of m t r) s) := by
  have h : iblk m (ok m) c 1 t (ix4 q q' r s) = V m c main_arg1 (ix4 (chip_of m t) (arr_of m t) (row_of m t r) s) := by
    show V m c main_arg1 ((((pipe m).win 1).rect t).emb (ix4 q q' r s)) = _
    congr 1
    funext a
    apply Fin.ext
    refine (Pipeline.Window.rect_emb_val ((pipe m).win 1) t (ix4 q q' r s) a).trans ?_
    rw [at1]
    fin_cases a
    · show t.val / 2 * 1 + q.val = t.val / 2; omega
    · show 0 * 1 + q'.val = 0; omega
    · rfl
    · exact Nat.zero_add _
  rw [h, V_main_arg1]

/-- The sum of the pair's two parts, at an entry of the device's half. -/
def total (k : Fin 4) (a : Fin 1) (r : Fin 512) (s : Fin 256) : EReal :=
  HAdd.hAdd (α := EReal) (β := EReal) (m (c.tc.loc main_arg0) (ix4 k a ⟨r.val, by omega⟩ s))
    (m (c.tc.loc main_arg1) (ix4 k a r s))

/-- What the body leaves at an entry of its block, of any blocks that it loads. -/
theorem body_value (i : grid0.Coords) (arg3 : Memref sig .tc .vmem S1x1x256x256 .bf16) (harg3 : arg3.IsWhole)
    (arg4 : Memref sig .tc .vmem S1x1x256x256 .bf16) (harg4 : arg4.IsWhole) (arg5 : Memref sig .tc .vmem S1x1x256x256 .bf16)
    (harg5 : arg5.IsWhole) (x0 : Vec Ideal S1x1x256x256 .bf16) (x1 : Vec Ideal S1x1x256x256 .bf16)
    (xt0 : TbBuf0 (F := Ideal) c tbM0_0) (q q' : Fin 1) (r : Fin 256) (s : Fin 256) :
    out0_A_2 c i arg3 harg3 arg4 harg4 arg5 harg5 x0 x1 xt0 (ix4 q q' r s)
      = HAdd.hAdd (α := EReal) (β := EReal) (x0 (ix4 0 0 r s)) (x1 (ix4 0 0 r s)) := by
  frame_open
  simp (disch := decide) only [↓ View.readCov_skip, ↓ View.readCov_cons_toLoadRect, ↓ View.readCov_fill]
  frame_out
  pointwise [k0_pay1]

theorem value (t : Fin (pipe m).N) (q q' : Fin 1) (r : Fin 256) (s : Fin 256) :
    outsAt0 m (ok m) c t (ix4 q q' r s) = total m c (chip_of m t) (arr_of m t) (row_of m t r) s := by
  unfold outsAt0
  refine (body_value c _ _ _ _ _ _ _ _ _ _ q q' r s).trans ?_
  unfold total
  erw [own_block, received_block]

/-- The array that the kernel leaves. -/
abbrev R : S4x1x512x256.Idx → EReal := fun i => total m c (i 0) (i 1) (i 2) (i 3)

/-- Where an entry of the block at point `t` lies in the array. -/
def place_of (t : Fin (pipe m).N) (j : S1x1x256x256.Idx) : S4x1x512x256.Idx := (((pipe m).win 2).rect t).emb j

theorem place_val (t : Fin (pipe m).N) (j : S1x1x256x256.Idx) (a : Fin 4) :
    (place_of m t j a).val = (![t.val / 2, 0, t.val % 2, 0] : Fin 4 → Nat) a * S1x1x256x256.size a + (j a).val := by
  refine (Pipeline.Window.rect_emb_val ((pipe m).win 2) t j a).trans ?_
  rw [at2]
  rfl

theorem block_value (t : Fin (pipe m).N) (j : S1x1x256x256.Idx) : outsAt0 m (ok m) c t j = R m c (place_of m t j) := by
  idx_vars j
  rw [value]
  have e0 : place_of m t (ix4 j0 j1 j2 j3) 0 = chip_of m t := Fin.ext ((place_val m t _ 0).trans (by show t.val / 2 * 1 + j0.val = t.val / 2; omega))
  have e1 : place_of m t (ix4 j0 j1 j2 j3) 1 = arr_of m t := Fin.ext ((place_val m t _ 1).trans (by show 0 * 1 + j1.val = 0; omega))
  have e2 : place_of m t (ix4 j0 j1 j2 j3) 2 = row_of m t j2 := Fin.ext (place_val m t _ 2)
  have e3 : place_of m t (ix4 j0 j1 j2 j3) 3 = j3 := Fin.ext ((place_val m t _ 3).trans (Nat.zero_add _))
  show _ = total m c _ _ _ _
  rw [e0, e1, e2, e3]

theorem flushed (t : Fin (pipe m).N) :
    (dats m (ok m) 0 c).flushed 2 t = (((pipe m).win 2).blk t).view.read (Elt Ideal) (R m c) := by
  show ((pipe m).win 2).cut (grid0.coords t) ((dats m (ok m) 0 c).after 2 t) = _
  rw [after0_2]
  funext j
  exact block_value m c t j

theorem inside (t : Fin (pipe m).N) (i : S4x1x512x256.Idx) :
    i ∈ (((pipe m).win 2).blk t).view.set ↔ ∀ a : Fin 4, (![t.val / 2, 0, t.val % 2, 0] : Fin 4 → Nat) a * S1x1x256x256.size a ≤ (i a).val ∧ (i a).val < (![t.val / 2, 0, t.val % 2, 0] : Fin 4 → Nat) a * S1x1x256x256.size a + S1x1x256x256.size a := by
  refine (iff_of_eq (congrArg (fun z : Finset S4x1x512x256.Idx => i ∈ z) (View.set_slice_whole main_v1 (((pipe m).win 2).rect t)))).trans ?_
  refine Rect.mem_set_unit.trans ?_
  show (∀ a : Fin 4, ((pipe m).win 2).index t a * S1x1x256x256.size a ≤ (i a).val ∧ (i a).val < ((pipe m).win 2).index t a * S1x1x256x256.size a + S1x1x256x256.size a) ↔ _
  rw [at2]

theorem covered (i : S4x1x512x256.Idx) : ∃ t : Fin (pipe m).N, ((pipe m).win 2).flush t = true ∧ i ∈ (((pipe m).win 2).blk t).view.set := by
  have h0 : (i 0).val < 4 := (i 0).isLt
  have h1 : (i 1).val < 1 := (i 1).isLt
  have h2 : (i 2).val < 512 := (i 2).isLt
  have h3 : (i 3).val < 256 := (i 3).isLt
  have hp : (i 0).val * 2 + (i 2).val / 256 < (pipe m).N := by
    show (i 0).val * 2 + (i 2).val / 256 < grid0.N
    rw [N_0]; omega
  refine ⟨⟨(i 0).val * 2 + (i 2).val / 256, hp⟩, flush m _, (inside m _ _).mpr ?_⟩
  intro b
  fin_cases b
  · show ((i 0).val * 2 + (i 2).val / 256) / 2 * 1 ≤ (i 0).val ∧ (i 0).val < ((i 0).val * 2 + (i 2).val / 256) / 2 * 1 + 1; omega
  · show 0 * 1 ≤ (i 1).val ∧ (i 1).val < 0 * 1 + 1; omega
  · show ((i 0).val * 2 + (i 2).val / 256) % 2 * 256 ≤ (i 2).val ∧ (i 2).val < ((i 0).val * 2 + (i 2).val / 256) % 2 * 256 + 256; omega
  · show 0 * 256 ≤ (i 3).val ∧ (i 3).val < 0 * 256 + 256; omega

theorem after_run (r : PUnit × MemSt nD τ sig (Elt Ideal))
    (h : Pipeline.FramePost (Pipeline.pin pcfgs fun _ => adm m (ok m)) (dats m (ok m)) 0 (V m) r) :
    r.2.mem (c.tc.loc main_v1) = R m c :=
  ((h c).1 2).trans (Pipeline.Dat.arrAt_eq_of_cover (dats m (ok m) 0 c) 2 (R m c) (fun t _ => flushed m c t) (covered m))

theorem ref_value : ref_term (F := Ideal) (m (c.tc.loc main_arg0)) (m (c.tc.loc main_arg1)) = R m c := by
  funext i
  idx_vars i
  obtain rfl : i1 = 0 := Subsingleton.elim _ _
  unfold ref_term R total
  pointwise []

end Cert.Proof.PairUp

end
-- ==== Proof.PairOut.lean ====
/- The sum of a pair's two parts of the gradient of w_out: the values of the kernel's array. -/
module

public import proofs.«01_k».proof.Proof.Gen.Kernel33.Frame
public import proofs.«01_k».proof.Proof.Gen.Kernel33Ideal.Frame
public import proofs.«01_k».proof.Proof.Gen.Reference33Ideal
public import proofs.«01_k».proof.Proof.Basis

@[expose] public section

set_option maxRecDepth 16384

noncomputable section

namespace Cert.Proof.PairOut

open Idealize.ShloMosaic Idealize.ShloMosaic.TcCoe Idealize.SL.Sem

section Table

open Cert.Kernel33 Cert.Kernel33.Gen

/-- The table of device 0: both words are 0. -/
def place0 : pre0.Contents (Elt Bits) := fun | ⟨0, _⟩ => fun _ => 0#32 | ⟨_ + 1, h⟩ => absurd h (by simp)

theorem table0 (m : (ℓ : Loc nD τ sig) → Buf (Elt Bits) ℓ) : tbl m = place0 := by
  funext j x
  match j with
  | ⟨0, _⟩ =>
    show V m 0 main_v0 x = 0#32
    unfold V
    after_reads_at

theorem ok0 (m : (ℓ : Loc nD τ sig) → Buf (Elt Bits) ℓ) : Ok (F := Bits) m := by
  unfold Ok; rw [table0 m]; decide

end Table

/-! ## The reference's run -/

section Reference

open Cert.Reference33Ideal Cert.Reference33Ideal.Gen Idealize.ShloMosaic.StableHlo

variable {F : FTy → Type} [FloatOps F]

/-- The reference's operations, in order. -/
abbrev ref_lines : List (HloOp Cert.Reference33Ideal.τ Cert.Reference33Ideal.sig (Elt F)) :=
  [ unary main_arg0 main_v0 ((extractStridedSlice S4x1x128x1024 ![0, 0, 0, 0] · slices_S4x1x256x1024_S4x1x128x1024_0_0_0_0) : (⟨S4x1x256x1024, .bf16⟩ : BufTy).Contents (Elt F) → (⟨S4x1x128x1024, .bf16⟩ : BufTy).Contents (Elt F)),
    unary main_v0 main_v1 ((extf .f32 · bitsLt_bf16_f32) : (⟨S4x1x128x1024, .bf16⟩ : BufTy).Contents (Elt F) → (⟨S4x1x128x1024, .f32⟩ : BufTy).Contents (Elt F)),
    unary main_arg1 main_v2 ((extf .f32 · bitsLt_bf16_f32) : (⟨S4x1x128x1024, .bf16⟩ : BufTy).Contents (Elt F) → (⟨S4x1x128x1024, .f32⟩ : BufTy).Contents (Elt F)),
    binary main_v1 main_v2 main_v3 (addf : (⟨S4x1x128x1024, .f32⟩ : BufTy).Contents (Elt F) → (⟨S4x1x128x1024, .f32⟩ : BufTy).Contents (Elt F) → (⟨S4x1x128x1024, .f32⟩ : BufTy).Contents (Elt F)),
    unary main_v3 main_v4 ((truncf .bf16 · bitsLt_bf16_f32) : (⟨S4x1x128x1024, .f32⟩ : BufTy).Contents (Elt F) → (⟨S4x1x128x1024, .bf16⟩ : BufTy).Contents (Elt F)) ]

theorem ref_inside : (ref_lines : List (HloOp Cert.Reference33Ideal.τ Cert.Reference33Ideal.sig (Elt F))).Forall fun op => op.bufs ⊆ tcRefs Cert.Reference33Ideal.τ Cert.Reference33Ideal.sig :=
  ⟨unary_bufs_sub .., unary_bufs_sub .., unary_bufs_sub .., binary_bufs_sub .., unary_bufs_sub ..⟩

/-- What the reference computes of its two arguments. -/
def ref_term (x : FVec F S4x1x256x1024 .bf16) (y : FVec F S4x1x128x1024 .bf16) : FVec F S4x1x128x1024 .bf16 :=
  truncf .bf16 (addf (extf .f32 (extractStridedSlice S4x1x128x1024 ![0, 0, 0, 0] x slices_S4x1x256x1024_S4x1x128x1024_0_0_0_0) bitsLt_bf16_f32)
    (extf .f32 y bitsLt_bf16_f32)) bitsLt_bf16_f32

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v4) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v4).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel33Ideal Cert.Kernel33Ideal.Gen

/-- The table of device 0: both words are 0. -/
def place : pre0.Contents (Elt Ideal) := fun | ⟨0, _⟩ => fun _ => 0#32 | ⟨_ + 1, h⟩ => absurd h (by simp)

variable (m : (ℓ : Loc nD τ sig) → Buf (Elt Ideal) ℓ) (c : Dev nD)

theorem table : tbl m = place := by
  funext j x
  match j with
  | ⟨0, _⟩ =>
    show V m 0 main_v0 x = 0#32
    unfold V
    after_reads_at

theorem ok : Ok (F := Ideal) m := by
  unfold Ok; rw [table m]; decide

abbrev pipe : Pipeline.Cfg sig Λ₀ := cfgM m (ok m)

theorem points (t : Fin (pipe m).N) : t.val < 4 := t.isLt

theorem at0 (t : Fin (pipe m).N) : ((pipe m).win 0).index t = ![t.val, 0, 0, 0] := by
  show cc0_transform_0 _ _ (tbl m) (grid0.coords t) = _
  rw [table m]
  revert t
  show ∀ t : Fin grid0.N, cc0_transform_0 _ _ place (grid0.coords t) = ![t.val, 0, 0, 0]
  decide

theorem at1 (t : Fin (pipe m).N) : ((pipe m).win 1).index t = ![t.val, 0, 0, 0] := by
  show cc0_transform_1 (grid0.coords t) = _
  revert t
  show ∀ t : Fin grid0.N, cc0_transform_1 (grid0.coords t) = ![t.val, 0, 0, 0]
  decide

theorem at2 (t : Fin (pipe m).N) : ((pipe m).win 2).index t = ![t.val, 0, 0, 0] := by
  show cc0_transform_2 (grid0.coords t) = _
  revert t
  show ∀ t : Fin grid0.N, cc0_transform_2 (grid0.coords t) = ![t.val, 0, 0, 0]
  decide

/-- Every point writes its block back: the next point has another. -/
theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 4
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 : (t.val + 1) = t.val := congrFun e 0
    have e1 : 0 = 0 := congrFun e 1
    have e2 : 0 = 0 := congrFun e 2
    omega

/-- The chip, the array and the row of the half at which a row of the block at point `t` lies. -/
abbrev chip_of (t : Fin (pipe m).N) : Fin 4 := ⟨t.val, by have h := points m t; omega⟩

abbrev arr_of (t : Fin (pipe m).N) : Fin 1 := ⟨0, by have h := points m t; omega⟩

abbrev row_of (t : Fin (pipe m).N) (r : Fin 128) : Fin 128 := ⟨0 * 128 + r.val, by have h := points m t; omega⟩

theorem own_block (t : Fin (pipe m).N) (q q' : Fin 1) (r : Fin 128) (s : Fin 1024) :
    iblk m (ok m) c 0 t (ix4 q q' r s) = m (c.tc.loc main_arg0) (ix4 (chip_of m t) (arr_of m t) ⟨(row_of m t r).val, by omega⟩ s) := by
  have h : iblk m (ok m) c 0 t (ix4 q q' r s) = V m c main_arg0 (ix4 (chip_of m t) (arr_of m t) ⟨(row_of m t r).val, by omega⟩ s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show t.val * 1 + q.val = t.val; omega
    · show 0 * 1 + q'.val = 0; omega
    · rfl
    · exact Nat.zero_add _
  rw [h, V_main_arg0]

theorem received_block (t : Fin (pipe m).N) (q q' : Fin 1) (r : Fin 128) (s : Fin 1024) :
    iblk m (ok m) c 1 t (ix4 q q' r s) = m (c.tc.loc main_arg1) (ix4 (chip_of m t) (arr_of m t) (row_of m t r) s) := by
  have h : iblk m (ok m) c 1 t (ix4 q q' r s) = V m c main_arg1 (ix4 (chip_of m t) (arr_of m t) (row_of m t r) s) := by
    show V m c main_arg1 ((((pipe m).win 1).rect t).emb (ix4 q q' r s)) = _
    congr 1
    funext a
    apply Fin.ext
    refine (Pipeline.Window.rect_emb_val ((pipe m).win 1) t (ix4 q q' r s) a).trans ?_
    rw [at1]
    fin_cases a
    · show t.val * 1 + q.val = t.val; omega
    · show 0 * 1 + q'.val = 0; omega
    · rfl
    · exact Nat.zero_add _
  rw [h, V_main_arg1]

/-- The sum of the pair's two parts, at an entry of the device's half. -/
def total (k : Fin 4) (a : Fin 1) (r : Fin 128) (s : Fin 1024) : EReal :=
  HAdd.hAdd (α := EReal) (β := EReal) (m (c.tc.loc main_arg0) (ix4 k a ⟨r.val, by omega⟩ s))
    (m (c.tc.loc main_arg1) (ix4 k a r s))

/-- What the body leaves at an entry of its block, of any blocks that it loads. -/
theorem body_value (i : grid0.Coords) (arg3 : Memref sig .tc .vmem S1x1x128x1024 .bf16) (harg3 : arg3.IsWhole)
    (arg4 : Memref sig .tc .vmem S1x1x128x1024 .bf16) (harg4 : arg4.IsWhole) (arg5 : Memref sig .tc .vmem S1x1x128x1024 .bf16)
    (harg5 : arg5.IsWhole) (x0 : Vec Ideal S1x1x128x1024 .bf16) (x1 : Vec Ideal S1x1x128x1024 .bf16)
    (xt0 : TbBuf0 (F := Ideal) c tbM0_0) (q q' : Fin 1) (r : Fin 128) (s : Fin 1024) :
    out0_A_2 c i arg3 harg3 arg4 harg4 arg5 harg5 x0 x1 xt0 (ix4 q q' r s)
      = HAdd.hAdd (α := EReal) (β := EReal) (x0 (ix4 0 0 r s)) (x1 (ix4 0 0 r s)) := by
  frame_open
  simp (disch := decide) only [↓ View.readCov_skip, ↓ View.readCov_cons_toLoadRect, ↓ View.readCov_fill]
  frame_out
  pointwise [k0_pay1]

theorem value (t : Fin (pipe m).N) (q q' : Fin 1) (r : Fin 128) (s : Fin 1024) :
    outsAt0 m (ok m) c t (ix4 q q' r s) = total m c (chip_of m t) (arr_of m t) (row_of m t r) s := by
  unfold outsAt0
  refine (body_value c _ _ _ _ _ _ _ _ _ _ q q' r s).trans ?_
  unfold total
  erw [own_block, received_block]

/-- The array that the kernel leaves. -/
abbrev R : S4x1x128x1024.Idx → EReal := fun i => total m c (i 0) (i 1) (i 2) (i 3)

/-- Where an entry of the block at point `t` lies in the array. -/
def place_of (t : Fin (pipe m).N) (j : S1x1x128x1024.Idx) : S4x1x128x1024.Idx := (((pipe m).win 2).rect t).emb j

theorem place_val (t : Fin (pipe m).N) (j : S1x1x128x1024.Idx) (a : Fin 4) :
    (place_of m t j a).val = (![t.val, 0, 0, 0] : Fin 4 → Nat) a * S1x1x128x1024.size a + (j a).val := by
  refine (Pipeline.Window.rect_emb_val ((pipe m).win 2) t j a).trans ?_
  rw [at2]
  rfl

theorem block_value (t : Fin (pipe m).N) (j : S1x1x128x1024.Idx) : outsAt0 m (ok m) c t j = R m c (place_of m t j) := by
  idx_vars j
  rw [value]
  have e0 : place_of m t (ix4 j0 j1 j2 j3) 0 = chip_of m t := Fin.ext ((place_val m t _ 0).trans (by show t.val * 1 + j0.val = t.val; omega))
  have e1 : place_of m t (ix4 j0 j1 j2 j3) 1 = arr_of m t := Fin.ext ((place_val m t _ 1).trans (by show 0 * 1 + j1.val = 0; omega))
  have e2 : place_of m t (ix4 j0 j1 j2 j3) 2 = row_of m t j2 := Fin.ext (place_val m t _ 2)
  have e3 : place_of m t (ix4 j0 j1 j2 j3) 3 = j3 := Fin.ext ((place_val m t _ 3).trans (Nat.zero_add _))
  show _ = total m c _ _ _ _
  rw [e0, e1, e2, e3]

theorem flushed (t : Fin (pipe m).N) :
    (dats m (ok m) 0 c).flushed 2 t = (((pipe m).win 2).blk t).view.read (Elt Ideal) (R m c) := by
  show ((pipe m).win 2).cut (grid0.coords t) ((dats m (ok m) 0 c).after 2 t) = _
  rw [after0_2]
  funext j
  exact block_value m c t j

theorem inside (t : Fin (pipe m).N) (i : S4x1x128x1024.Idx) :
    i ∈ (((pipe m).win 2).blk t).view.set ↔ ∀ a : Fin 4, (![t.val, 0, 0, 0] : Fin 4 → Nat) a * S1x1x128x1024.size a ≤ (i a).val ∧ (i a).val < (![t.val, 0, 0, 0] : Fin 4 → Nat) a * S1x1x128x1024.size a + S1x1x128x1024.size a := by
  refine (iff_of_eq (congrArg (fun z : Finset S4x1x128x1024.Idx => i ∈ z) (View.set_slice_whole main_v1 (((pipe m).win 2).rect t)))).trans ?_
  refine Rect.mem_set_unit.trans ?_
  show (∀ a : Fin 4, ((pipe m).win 2).index t a * S1x1x128x1024.size a ≤ (i a).val ∧ (i a).val < ((pipe m).win 2).index t a * S1x1x128x1024.size a + S1x1x128x1024.size a) ↔ _
  rw [at2]

theorem covered (i : S4x1x128x1024.Idx) : ∃ t : Fin (pipe m).N, ((pipe m).win 2).flush t = true ∧ i ∈ (((pipe m).win 2).blk t).view.set := by
  have h0 : (i 0).val < 4 := (i 0).isLt
  have h1 : (i 1).val < 1 := (i 1).isLt
  have h2 : (i 2).val < 128 := (i 2).isLt
  have h3 : (i 3).val < 1024 := (i 3).isLt
  have hp : (i 0).val < (pipe m).N := by
    show (i 0).val < grid0.N
    rw [N_0]; omega
  refine ⟨⟨(i 0).val, hp⟩, flush m _, (inside m _ _).mpr ?_⟩
  intro b
  fin_cases b
  · show (i 0).val * 1 ≤ (i 0).val ∧ (i 0).val < (i 0).val * 1 + 1; omega
  · show 0 * 1 ≤ (i 1).val ∧ (i 1).val < 0 * 1 + 1; omega
  · show 0 * 128 ≤ (i 2).val ∧ (i 2).val < 0 * 128 + 128; omega
  · show 0 * 1024 ≤ (i 3).val ∧ (i 3).val < 0 * 1024 + 1024; omega

theorem after_run (r : PUnit × MemSt nD τ sig (Elt Ideal))
    (h : Pipeline.FramePost (Pipeline.pin pcfgs fun _ => adm m (ok m)) (dats m (ok m)) 0 (V m) r) :
    r.2.mem (c.tc.loc main_v1) = R m c :=
  ((h c).1 2).trans (Pipeline.Dat.arrAt_eq_of_cover (dats m (ok m) 0 c) 2 (R m c) (fun t _ => flushed m c t) (covered m))

theorem ref_value : ref_term (F := Ideal) (m (c.tc.loc main_arg0)) (m (c.tc.loc main_arg1)) = R m c := by
  funext i
  idx_vars i
  obtain rfl : i1 = 0 := Subsingleton.elim _ _
  unfold ref_term R total
  pointwise []

end Cert.Proof.PairOut

end
-- ==== Proof.Claims8.lean ====
/- The value claims of the sums of a pair's parts. -/
module

public import proofs.«01_k».proof.Defs
public import proofs.«01_k».proof.Proof.PairFfn
public import proofs.«01_k».proof.Proof.PairIn
public import proofs.«01_k».proof.Proof.PairGate
public import proofs.«01_k».proof.Proof.PairUp
public import proofs.«01_k».proof.Proof.PairOut
public import proofs.«01_k».proof.Proof.Basis

@[expose] public section

set_option maxRecDepth 16384

noncomputable section

namespace Cert.Proof

open Idealize.ShloMosaic Idealize.ShloMosaic.TcCoe Idealize.SL.Sem

theorem pairffn_value : Cert.algebraic_Kernel29Ideal_Reference29Ideal := by
  intro m g m' g' hpre hargs
  refine ⟨fun c => PairFfn.R m c,
    (θ_run _ _ _).mono (fun r h c => ⟨PairFfn.after_run m c r h.1, h.2 c⟩)
      (θ_run_and (Cert.Kernel29Ideal.Gen.run_main m g (PairFfn.ok m)) (Cert.Kernel29Ideal.Gen.unchanged m g (PairFfn.ok m))),
    (θ_run _ _ _).mono (fun r h c => ?_) (PairFfn.ref_run (F := Ideal) m' g')⟩
  obtain ⟨h0, ha⟩ := h c
  obtain ⟨e0, e1⟩ := hargs c
  refine ⟨h0.trans ?_, ha⟩
  rw [e0, e1]
  exact PairFfn.ref_value m c

theorem pairin_value : Cert.algebraic_Kernel30Ideal_Reference30Ideal := by
  intro m g m' g' hpre hargs
  refine ⟨fun c => PairIn.R m c,
    (θ_run _ _ _).mono (fun r h c => ⟨PairIn.after_run m c r h.1, h.2 c⟩)
      (θ_run_and (Cert.Kernel30Ideal.Gen.run_main m g (PairIn.ok m)) (Cert.Kernel30Ideal.Gen.unchanged m g (PairIn.ok m))),
    (θ_run _ _ _).mono (fun r h c => ?_) (PairIn.ref_run (F := Ideal) m' g')⟩
  obtain ⟨h0, ha⟩ := h c
  obtain ⟨e0, e1⟩ := hargs c
  refine ⟨h0.trans ?_, ha⟩
  rw [e0, e1]
  exact PairIn.ref_value m c

theorem pairgate_value : Cert.algebraic_Kernel31Ideal_Reference31Ideal := by
  intro m g m' g' hpre hargs
  refine ⟨fun c => PairGate.R m c,
    (θ_run _ _ _).mono (fun r h c => ⟨PairGate.after_run m c r h.1, h.2 c⟩)
      (θ_run_and (Cert.Kernel31Ideal.Gen.run_main m g (PairGate.ok m)) (Cert.Kernel31Ideal.Gen.unchanged m g (PairGate.ok m))),
    (θ_run _ _ _).mono (fun r h c => ?_) (PairGate.ref_run (F := Ideal) m' g')⟩
  obtain ⟨h0, ha⟩ := h c
  obtain ⟨e0, e1⟩ := hargs c
  refine ⟨h0.trans ?_, ha⟩
  rw [e0, e1]
  exact PairGate.ref_value m c

theorem pairup_value : Cert.algebraic_Kernel32Ideal_Reference32Ideal := by
  intro m g m' g' hpre hargs
  refine ⟨fun c => PairUp.R m c,
    (θ_run _ _ _).mono (fun r h c => ⟨PairUp.after_run m c r h.1, h.2 c⟩)
      (θ_run_and (Cert.Kernel32Ideal.Gen.run_main m g (PairUp.ok m)) (Cert.Kernel32Ideal.Gen.unchanged m g (PairUp.ok m))),
    (θ_run _ _ _).mono (fun r h c => ?_) (PairUp.ref_run (F := Ideal) m' g')⟩
  obtain ⟨h0, ha⟩ := h c
  obtain ⟨e0, e1⟩ := hargs c
  refine ⟨h0.trans ?_, ha⟩
  rw [e0, e1]
  exact PairUp.ref_value m c

theorem pairout_value : Cert.algebraic_Kernel33Ideal_Reference33Ideal := by
  intro m g m' g' hpre hargs
  refine ⟨fun c => PairOut.R m c,
    (θ_run _ _ _).mono (fun r h c => ⟨PairOut.after_run m c r h.1, h.2 c⟩)
      (θ_run_and (Cert.Kernel33Ideal.Gen.run_main m g (PairOut.ok m)) (Cert.Kernel33Ideal.Gen.unchanged m g (PairOut.ok m))),
    (θ_run _ _ _).mono (fun r h c => ?_) (PairOut.ref_run (F := Ideal) m' g')⟩
  obtain ⟨h0, ha⟩ := h c
  obtain ⟨e0, e1⟩ := hargs c
  refine ⟨h0.trans ?_, ha⟩
  rw [e0, e1]
  exact PairOut.ref_value m c

end Cert.Proof

end
-- ==== Proof.LogSums.lean ====
/- The running sums over the tokens of the logarithms of the forget gates: sums of extended reals. -/
module

public import proofs.«01_k».proof.Proof.Basis
public import Idealize.ShloMosaic.Lib.Routing.OpsOne
public import Mathlib.Algebra.BigOperators.Fin
public import Mathlib.Algebra.BigOperators.Intervals

@[expose] public section

noncomputable section

namespace Cert.Proof.Forget

open Idealize.ShloMosaic

/-- The logarithm of the logistic function, as the kernel computes it. -/
def logsig (u : EReal) : EReal := min u 0 - Ideal.log (1 + Ideal.exp (0 - max u (-u)))

theorem log_part (a : ℝ) : ∃ l : ℝ, Ideal.log (1 + Ideal.exp (0 - max (a : EReal) (-(a : EReal)))) = (l : EReal) := by
  refine ⟨Real.log (1 + Real.exp (-|a|)), ?_⟩
  have e : (0 : EReal) - max (a : EReal) (-(a : EReal)) = ((-|a| : ℝ) : EReal) := by
    rw [abs_eq_max_neg, zero_sub, EReal.coe_neg, EReal.coe_strictMono.monotone.map_max, EReal.coe_neg]
  rw [e, Ideal.exp_coe]
  norm_cast
  rw [Ideal.log_coe, if_neg (not_le.mpr (by positivity))]

theorem log_one : Ideal.log 1 = 0 := by
  rw [← EReal.coe_one, Ideal.log_coe, if_neg (by norm_num), Real.log_one, EReal.coe_zero]

theorem logsig_ne_top (u : EReal) : logsig u ≠ ⊤ := by
  induction u with
  | bot => simp [logsig, log_one]
  | top => simp [logsig, log_one]
  | coe a =>
    obtain ⟨l, hl⟩ := log_part a
    unfold logsig
    rw [hl]
    norm_cast
    exact EReal.coe_ne_top _

/-- The same by the reference's formula. -/
theorem logsig_eq (u : EReal) :
    -(max (-u) 0 + Ideal.log1p (Ideal.exp (-(max (-u - 0) (-(-u - 0)))))) = logsig u := by
  induction u with
  | bot => simp [logsig, log_one, Ideal.log1p]
  | top => simp [logsig, log_one, Ideal.log1p]
  | coe a =>
    obtain ⟨l, hl⟩ := log_part a
    unfold logsig Ideal.log1p
    have e : -(max (-(a : EReal) - 0) (-(-(a : EReal) - 0))) = 0 - max (a : EReal) (-(a : EReal)) := by
      rw [sub_zero, neg_neg, max_comm, zero_sub]
    rw [e, hl, ← EReal.coe_neg, ← EReal.coe_zero, ← EReal.coe_strictMono.monotone.map_max, ← EReal.coe_strictMono.monotone.map_min]
    norm_cast
    rw [neg_add, ← sub_eq_add_neg]
    congr 1
    rw [show max (-a) 0 = max (-a) (-0) by rw [neg_zero], max_neg_neg, neg_neg]

/-- A sum of three parts, of which the second and the third are the rounding errors, is the sum itself. -/
theorem split_sum {n : Nat} (h : Fin n → EReal) (ht : ∀ x, h x ≠ ⊤) :
    ∑ x, h x + ∑ x, (h x - h x) + ∑ x, ((h x - h x) - (h x - h x)) = ∑ x, h x := by
  rw [← Finset.sum_add_distrib, ← Finset.sum_add_distrib]
  refine Finset.sum_congr rfl fun x _ => ?_
  have := ht x
  generalize h x = y at this
  induction y with
  | bot => simp
  | top => exact absurd rfl this
  | coe a => norm_cast; simp

theorem lower_bit (x r : Fin 128) :
    ((((BitVec.setWidth 32 (IntOp.cmpi .sle (BitVec.ofNat 32 x.val) (BitVec.ofNat 32 r.val)) : BitVec 32).toInt : ℝ)) : EReal)
      = if x.val ≤ r.val then 1 else 0 := by
  have h : ∀ x r : Fin 128, (BitVec.setWidth 32 (IntOp.cmpi .sle (BitVec.ofNat 32 x.val) (BitVec.ofNat 32 r.val)) : BitVec 32).toInt = if x.val ≤ r.val then 1 else 0 := by
    decide +kernel
  rw [h]
  split <;> norm_num

theorem prefix_sum (n : Nat) (r : Fin n) (G : ℕ → EReal) :
    ∑ x : Fin n, (if x.val ≤ r.val then G x.val else 0) = ∑ j ∈ Finset.range (r.val + 1), G j := by
  rw [Fin.sum_univ_eq_sum_range (fun j => if j ≤ r.val then G j else 0) n, ← Finset.sum_filter]
  refine Finset.sum_congr (Finset.ext fun j => ?_) fun _ _ => rfl
  have := r.isLt
  rw [Finset.mem_filter, Finset.mem_range, Finset.mem_range]
  omega

theorem fold_sum {N : Nat} (f : Fin N → EReal) : (List.finRange N).foldl (fun r n => r + f n) 0 = ∑ n, f n := by
  rw [Fin.sum_univ_def, List.sum_eq_foldl, List.foldl_map]

/-- The sum over a window of `a + 1` rows that ends at the row `i`, the rows before the first being 0. -/
theorem window_sum (a : ℕ) (i : Fin (a + 1)) (G : ℕ → EReal) :
    ∑ n : Fin (a + 1), (if a ≤ i.val + n.val then G (i.val + n.val - a) else 0) = ∑ j ∈ Finset.range (i.val + 1), G j := by
  rw [Fin.sum_univ_eq_sum_range (fun n => if a ≤ i.val + n then G (i.val + n - a) else 0) (a + 1)]
  have hi := i.isLt
  rw [show Finset.range (a + 1) = Finset.range ((a - i.val) + (i.val + 1)) from congrArg Finset.range (by omega), Finset.sum_range_add]
  rw [Finset.sum_eq_zero (s := Finset.range (a - i.val)), zero_add]
  · refine Finset.sum_congr rfl fun j _ => ?_
    have e : i.val + (a - i.val + j) - a = j := by omega
    rw [if_pos (show a ≤ i.val + (a - i.val + j) by omega), e]
  · intro n hn
    rw [Finset.mem_range] at hn
    exact if_neg (by omega)

/-- The sum over a window of `R` rows that begins at the row `i`, the rows past the last being 0. -/
theorem window_tail (R : ℕ) (i : Fin R) (G : ℕ → EReal) :
    ∑ n : Fin R, (if i.val + n.val < R then G (i.val + n.val) else 0) = ∑ j ∈ Finset.Ico i.val R, G j := by
  rw [Fin.sum_univ_eq_sum_range (fun n => if i.val + n < R then G (i.val + n) else 0) R, ← Finset.sum_filter, Finset.sum_Ico_eq_sum_range]
  refine Finset.sum_congr (Finset.ext fun j => ?_) fun _ _ => rfl
  rw [Finset.mem_filter, Finset.mem_range, Finset.mem_range]
  omega

/-- The sums over windows of the whole height, of a column padded with `lo` rows above. -/
theorem column_windows {R lo hi C : ℕ} (x : (Routing.shape2 R C).Idx → EReal) (v : Routing.shape0.Idx → EReal) (hv : ∀ k, v k = 0)
    (h : (Routing.shape2 R C).ReduceWindows (![R, 1] : Fin 2 → ℕ) ![1, 1] ![lo, 0] ![hi, 0] (Routing.shape2 R C)) (hu : 0 < Routing.shape0.numel) (i : Fin R) (s : Fin C) :
    Host.reduceWindow (fun a b : EReal => a + b) ![R, 1] ![1, 1] ![lo, 0] ![hi, 0] x v h hu (ix2 i s)
      = ∑ n : Fin R, (if h : lo ≤ i.val + n.val ∧ i.val + n.val - lo < R then x (ix2 ⟨i.val + n.val - lo, h.2⟩ s) else 0) := by
  have hs := s.isLt
  have hw0 : ∀ n, ((Routing.shape2 R 1).rowMajor.symm n 0).val = n.val := fun n => by rw [Routing.symm_col]; rfl
  have hw1 : ∀ n, ((Routing.shape2 R 1).rowMajor.symm n 1).val = 0 := fun n => by rw [Routing.symm_col]; rfl
  rw [← Equiv.sum_comp (finCongr (Routing.numel_col R)), ← fold_sum]
  unfold Host.reduceWindow
  rw [hv]
  refine congrArg (fun g => List.foldl g (0 : EReal) (List.finRange _)) (funext fun r => funext fun n => congrArg (r + ·) ?_)
  show _ = if h : lo ≤ i.val + n.val ∧ i.val + n.val - lo < R then _ else _
  split
  · next hin =>
    have h0 := hin 0
    change lo ≤ i.val * 1 + ((Routing.shape2 R 1).rowMajor.symm n 0).val ∧ i.val * 1 + ((Routing.shape2 R 1).rowMajor.symm n 0).val - lo < R at h0
    rw [hw0] at h0
    rw [dif_pos (by omega)]
    refine congrArg x (funext fun a => Fin.ext ?_)
    match a with
    | ⟨0, _⟩ =>
      show i.val * 1 + ((Routing.shape2 R 1).rowMajor.symm n 0).val - lo = i.val + n.val - lo
      rw [hw0, Nat.mul_one]
    | ⟨1, _⟩ =>
      show s.val * 1 + ((Routing.shape2 R 1).rowMajor.symm n 1).val - 0 = s.val
      rw [hw1]
      omega
  · next hin =>
    rw [dif_neg fun hle => hin fun a => by
      match a with
      | ⟨0, _⟩ =>
        show lo ≤ i.val * 1 + ((Routing.shape2 R 1).rowMajor.symm n 0).val ∧ i.val * 1 + ((Routing.shape2 R 1).rowMajor.symm n 0).val - lo < R
        rw [hw0]
        omega
      | ⟨1, _⟩ =>
        show 0 ≤ s.val * 1 + ((Routing.shape2 R 1).rowMajor.symm n 1).val ∧ s.val * 1 + ((Routing.shape2 R 1).rowMajor.symm n 1).val - 0 < C
        rw [hw1]
        omega]

/-- Padded above with one row less than the height, each entry is the sum of its column up to its row. -/
theorem column_sums {R Rm1 C : ℕ} (hR : Rm1 + 1 = R) (x : (Routing.shape2 R C).Idx → EReal) (v : Routing.shape0.Idx → EReal) (hv : ∀ k, v k = 0)
    (h : (Routing.shape2 R C).ReduceWindows (![R, 1] : Fin 2 → ℕ) ![1, 1] ![Rm1, 0] ![0, 0] (Routing.shape2 R C)) (hu : 0 < Routing.shape0.numel) (i : Fin R) (s : Fin C) :
    Host.reduceWindow (fun a b : EReal => a + b) ![R, 1] ![1, 1] ![Rm1, 0] ![0, 0] x v h hu (ix2 i s)
      = ∑ j ∈ Finset.range (i.val + 1), (if h : j < R then x (ix2 ⟨j, h⟩ s) else 0) := by
  subst hR
  rw [column_windows x v hv h hu i s]
  refine Eq.trans (Finset.sum_congr rfl fun n _ => ?_) (window_sum Rm1 i fun j => if h : j < Rm1 + 1 then x (ix2 ⟨j, h⟩ s) else 0)
  have hi := i.isLt
  have hn := n.isLt
  by_cases hle : Rm1 ≤ i.val + n.val
  · have hlt : i.val + n.val - Rm1 < Rm1 + 1 := by omega
    rw [dif_pos ⟨hle, hlt⟩, if_pos hle]
    symm
    exact dif_pos hlt
  · rw [dif_neg fun h => hle h.1, if_neg hle]

/-- Padded below, each entry is the sum of its column from its row on. -/
theorem column_tails {R hi C : ℕ} (x : (Routing.shape2 R C).Idx → EReal) (v : Routing.shape0.Idx → EReal) (hv : ∀ k, v k = 0)
    (h : (Routing.shape2 R C).ReduceWindows (![R, 1] : Fin 2 → ℕ) ![1, 1] ![0, 0] ![hi, 0] (Routing.shape2 R C)) (hu : 0 < Routing.shape0.numel) (i : Fin R) (s : Fin C) :
    Host.reduceWindow (fun a b : EReal => a + b) ![R, 1] ![1, 1] ![0, 0] ![hi, 0] x v h hu (ix2 i s)
      = ∑ j ∈ Finset.Ico i.val R, (if h : j < R then x (ix2 ⟨j, h⟩ s) else 0) := by
  rw [column_windows x v hv h hu i s]
  refine Eq.trans (Finset.sum_congr rfl fun n _ => ?_) (window_tail R i fun j => if h : j < R then x (ix2 ⟨j, h⟩ s) else 0)
  by_cases hlt : i.val + n.val < R
  · rw [dif_pos ⟨Nat.zero_le _, hlt⟩, if_pos hlt]
    symm
    exact dif_pos hlt
  · rw [dif_neg fun h => hlt h.2, if_neg hlt]

theorem upper_bit (x r : Fin 128) :
    ((((BitVec.setWidth 32 (IntOp.cmpi .sge (BitVec.ofNat 32 x.val) (BitVec.ofNat 32 r.val)) : BitVec 32).toInt : ℝ)) : EReal)
      = if r.val ≤ x.val then 1 else 0 :=
  lower_bit r x

theorem suffix_sum (n : Nat) (r : Fin n) (G : ℕ → EReal) :
    ∑ x : Fin n, (if r.val ≤ x.val then G x.val else 0) = ∑ j ∈ Finset.Ico r.val n, G j := by
  rw [Fin.sum_univ_eq_sum_range (fun j => if r.val ≤ j then G j else 0) n, ← Finset.sum_filter]
  refine Finset.sum_congr (Finset.ext fun j => ?_) fun _ _ => rfl
  rw [Finset.mem_filter, Finset.mem_range, Finset.mem_Ico]
  omega

/-- The derivative of the logarithm of the logistic function, as the kernel computes it. -/
def dlogsig (u : EReal) : EReal := Ideal.exp (min (0 - u) 0 - Ideal.log (1 + Ideal.exp (0 - max u (-u))))

/-- The same by the reference's formula, in which `out` is the negated logarithm. -/
theorem dlogsig_eq (u out : EReal) (ho : -out = logsig u) :
    Ideal.exp ((if -u = ⊤ then 0 else -u) - (if out = ⊤ then 0 else out)) = dlogsig u := by
  obtain rfl : out = -logsig u := by rw [← ho, neg_neg]
  induction u with
  | bot => simp [dlogsig, logsig, log_one]
  | top => simp [dlogsig, logsig, log_one]
  | coe a =>
    obtain ⟨l, hl⟩ := log_part a
    unfold logsig dlogsig
    rw [hl, zero_sub, ← EReal.coe_neg, ← EReal.coe_zero, ← EReal.coe_strictMono.monotone.map_min, ← EReal.coe_strictMono.monotone.map_min, ← EReal.coe_sub, ← EReal.coe_sub,
      ← EReal.coe_neg, if_neg (EReal.coe_ne_top _), if_neg (EReal.coe_ne_top _), ← EReal.coe_sub]
    congr 2
    rcases le_total a 0 with h | h
    · rw [min_eq_left h, min_eq_right (by linarith)]; ring
    · rw [min_eq_right h, min_eq_left (by linarith)]; ring

/-- What is read where every piece agrees with one function, at an entry that a piece covers. -/
theorem read_pieces {sg : RefSig} {κ : Kind} {sp : Space} {s : Shape} (v : View sg κ sp s .f32) (f : v.ty.Contents (Elt Ideal)) (G : s.Idx → EReal)
    (y : s.Idx) (L : List (View.Piece (Elt Ideal) s .f32)) (h : ∀ p ∈ L, ∀ z : p.1.shape.Idx, p.2 z = G (p.1.emb z)) (hc : ∃ p ∈ L, y ∈ p.1.set) :
    v.read (Elt Ideal) (v.writes (Elt Ideal) f L) y = G y := by
  induction L with
  | nil => obtain ⟨_, hm, _⟩ := hc; exact absurd hm List.not_mem_nil
  | cons p L ih =>
    by_cases hy : y ∈ p.1.set
    · obtain ⟨z, rfl⟩ : ∃ z, p.1.emb z = y := p.1.exists_idx_of_mem hy
      rw [View.read_writes_cons_emb]
      exact h p List.mem_cons_self z
    · rw [View.writes_cons, View.read_slice_write_of_not_mem p.1 _ _ _ (by rwa [Rect.map_emb_univ])]
      refine ih (fun q hq => h q (List.mem_cons_of_mem _ hq)) ?_
      obtain ⟨q, hq, hyq⟩ := hc
      exact ⟨q, (List.mem_cons.mp hq).resolve_left (fun e => hy (e ▸ hyq)), hyq⟩

end Cert.Proof.Forget

end
-- ==== Proof.Forget.lean ====
/- The running sums over the tokens of the logarithms of the forget gates: the kernel's 16 trips, each of which adds up
   128 rows with a triangle of ones and carries its last row on, and the reference's sums over windows. -/
module

public import proofs.«01_k».proof.Proof.Gen.Kernel34Ideal.Frame
public import proofs.«01_k».proof.Proof.Gen.Reference34Ideal
public import proofs.«01_k».proof.Proof.LogSums
public import proofs.«01_k».proof.Proof.Basis

@[expose] public section

set_option maxRecDepth 16384

noncomputable section

namespace Cert.Proof.Forget

open Idealize.ShloMosaic Idealize.ShloMosaic.TcCoe Idealize.SL.Sem

section Reference

open Cert.Reference34Ideal Cert.Reference34Ideal.Gen Idealize.ShloMosaic.StableHlo

variable {F : FTy → Type} [FloatOps F]

/-- The reference's operations, in order. -/
abbrev ref_lines : List (HloOp Cert.Reference34Ideal.τ Cert.Reference34Ideal.sig (Elt F)) :=
  [ unary main_arg1 main_v0 (broadcastInDim S2048x128 ![0, 1] bcast_S1x128_S2048x128_0_1 : (⟨S1x128, .f32⟩ : BufTy).Contents (Elt F) → (⟨S2048x128, .f32⟩ : BufTy).Contents (Elt F)),
    binary main_arg0 main_v0 main_v1 (addf : (⟨S2048x128, .f32⟩ : BufTy).Contents (Elt F) → (⟨S2048x128, .f32⟩ : BufTy).Contents (Elt F) → (⟨S2048x128, .f32⟩ : BufTy).Contents (Elt F)),
    TRef.unary (TRef.of (T := ⟨S2048x128, .f32⟩) main_v1) (TRef.of (T := ⟨S2048x128, .f32⟩) main_call0_v0) Host.negf,
    TRef.nullary (TRef.of (T := ⟨S_, .f32⟩) main_call0_call0_cst) (constant S_ .f32 0x00000000#32),
    TRef.unary (TRef.of (T := ⟨S_, .f32⟩) main_call0_call0_cst) (TRef.of (T := ⟨S2048x128, .f32⟩) main_call0_call0_v0) (broadcastInDim S2048x128 ![] bcast_S_S2048x128),
    TRef.binary (TRef.of (T := ⟨S2048x128, .f32⟩) main_call0_v0) (TRef.of (T := ⟨S2048x128, .f32⟩) main_call0_call0_v0) (TRef.of (T := ⟨S2048x128, .f32⟩) main_call0_call0_v1) maximumf,
    TRef.unary (TRef.of (T := ⟨S_, .f32⟩) main_call0_call0_cst) (TRef.of (T := ⟨S2048x128, .f32⟩) main_call0_call0_v2) (broadcastInDim S2048x128 ![] bcast_S_S2048x128),
    TRef.binary (TRef.of (T := ⟨S2048x128, .f32⟩) main_call0_v0) (TRef.of (T := ⟨S2048x128, .f32⟩) main_call0_call0_v2) (TRef.of (T := ⟨S2048x128, .f32⟩) main_call0_call0_v3) subf,
    TRef.binary (TRef.of (T := ⟨S2048x128, .f32⟩) main_call0_call0_v3) (TRef.of (T := ⟨S2048x128, .f32⟩) main_call0_call0_v3) (TRef.of (T := ⟨S2048x128, .i1⟩) main_call0_call0_v4) (cmpf .une),
    TRef.unary (TRef.of (T := ⟨S_, .f32⟩) main_call0_call0_cst) (TRef.of (T := ⟨S2048x128, .f32⟩) main_call0_call0_v5) (broadcastInDim S2048x128 ![] bcast_S_S2048x128),
    TRef.binary (TRef.of (T := ⟨S2048x128, .f32⟩) main_call0_v0) (TRef.of (T := ⟨S2048x128, .f32⟩) main_call0_call0_v5) (TRef.of (T := ⟨S2048x128, .f32⟩) main_call0_call0_v6) addf,
    TRef.unary (TRef.of (T := ⟨S2048x128, .f32⟩) main_call0_call0_v3) (TRef.of (T := ⟨S2048x128, .f32⟩) main_call0_call0_v7) Host.absf,
    TRef.unary (TRef.of (T := ⟨S2048x128, .f32⟩) main_call0_call0_v7) (TRef.of (T := ⟨S2048x128, .f32⟩) main_call0_call0_v8) Host.negf,
    TRef.unary (TRef.of (T := ⟨S2048x128, .f32⟩) main_call0_call0_v8) (TRef.of (T := ⟨S2048x128, .f32⟩) main_call0_call0_v9) Host.exp,
    TRef.unary (TRef.of (T := ⟨S2048x128, .f32⟩) main_call0_call0_v9) (TRef.of (T := ⟨S2048x128, .f32⟩) main_call0_call0_v10) Host.log1p,
    TRef.binary (TRef.of (T := ⟨S2048x128, .f32⟩) main_call0_call0_v1) (TRef.of (T := ⟨S2048x128, .f32⟩) main_call0_call0_v10) (TRef.of (T := ⟨S2048x128, .f32⟩) main_call0_call0_v11) addf,
    TRef.ternary (TRef.of (T := ⟨S2048x128, .i1⟩) main_call0_call0_v4) (TRef.of (T := ⟨S2048x128, .f32⟩) main_call0_call0_v6) (TRef.of (T := ⟨S2048x128, .f32⟩) main_call0_call0_v11) (TRef.of (T := ⟨S2048x128, .f32⟩) main_call0_v1) select,
    TRef.unary (TRef.of (T := ⟨S2048x128, .f32⟩) main_call0_v1) (TRef.of (T := ⟨S2048x128, .f32⟩) main_v2) Host.negf,
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S2048x128, .f32⟩) main_v2) (TRef.of (T := ⟨S_, .f32⟩) main_call1_call0_v0) (TRef.of (T := ⟨S2048x128, .f32⟩) main_v3)
      (fun x v => Host.reduceWindowAdd ![2048, 1] ![1, 1] ![2047, 0] ![0, 0] x v reduceWindows_S2048x128_S2048x128_w2048s1p2047_0_w1s1p0_0 h_S_) ]

theorem ref_inside : (ref_lines : List (HloOp Cert.Reference34Ideal.τ Cert.Reference34Ideal.sig (Elt F))).Forall fun op => op.bufs ⊆ tcRefs Cert.Reference34Ideal.τ Cert.Reference34Ideal.sig :=
  ⟨unary_bufs_sub .., binary_bufs_sub .., unary_bufs_sub .., nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub .., binary_bufs_sub .., ternary_bufs_sub .., unary_bufs_sub ..,
    nullary_bufs_sub .., unary_bufs_sub .., binary_bufs_sub ..⟩

abbrev zeros : FVec F S2048x128 .f32 := broadcastInDim S2048x128 ![] bcast_S_S2048x128 (constant S_ .f32 0x00000000#32)

/-- The reference's logarithms, of the negated logits. -/
abbrev ref_logs (n : FVec F S2048x128 .f32) : FVec F S2048x128 .f32 :=
  Host.negf (select (cmpf .une (subf n zeros) (subf n zeros)) (addf n zeros)
    (addf (maximumf n zeros) (Host.log1p (Host.exp (Host.negf (Host.absf (subf n zeros)))))))

/-- What the reference computes of its two arguments. -/
def ref_term (x : FVec F S2048x128 .f32) (b : FVec F S1x128 .f32) : FVec F S2048x128 .f32 :=
  Host.reduceWindowAdd ![2048, 1] ![1, 1] ![2047, 0] ![0, 0]
    (ref_logs (Host.negf (addf x (broadcastInDim S2048x128 ![0, 1] bcast_S1x128_S2048x128_0_1 b))))
    (broadcastInDim S_ ![] bcast_S_S_ (constant S_ .f32 0x00000000#32) : FVec F S_ .f32)
    reduceWindows_S2048x128_S2048x128_w2048s1p2047_0_w1s1p0_0 h_S_

set_option maxHeartbeats 2000000 in
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v3) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v3).trans (by
        simp only [ref_lines, TRef.binary, TRef.nullary, TRef.unary, TRef.ternary, TRef.toBuf, TRef.ofBuf, cast_eq]; after_results <;> rfl),
      (h c main_arg0).trans (by simp only [ref_lines, TRef.binary, TRef.nullary, TRef.unary, TRef.ternary, TRef.toBuf, TRef.ofBuf, cast_eq]; after_results <;> rfl),
      (h c main_arg1).trans (by simp only [ref_lines, TRef.binary, TRef.nullary, TRef.unary, TRef.ternary, TRef.toBuf, TRef.ofBuf, cast_eq]; after_results <;> rfl)⟩)
    (run_seq (by decide) (by decide) defs main (fun _ => ref_lines) (fun _ => rfl) (fun _ => ref_inside) m ρ)

theorem ref_log (x : FVec Ideal S2048x128 .f32) (b : FVec Ideal S1x128 .f32) (i : Fin 2048) (s : Fin 128) :
    ref_logs (Host.negf (addf x (broadcastInDim S2048x128 ![0, 1] bcast_S1x128_S2048x128_0_1 b))) (ix2 i s)
      = logsig (HAdd.hAdd (α := EReal) (β := EReal) (x (ix2 i s)) (b (ix2 0 s))) := by
  rw [← logsig_eq]
  pointwise []
  rw [if_neg (not_not.mpr rfl)]
  rfl

/-- The reference's running sum, at an entry. -/
theorem ref_sum (x : FVec Ideal S2048x128 .f32) (v : FVec Ideal S_ .f32) (hv : ∀ k, v k = (0 : EReal)) (i : Fin 2048) (s : Fin 128) :
    Host.reduceWindowAdd ![2048, 1] ![1, 1] ![2047, 0] ![0, 0] x v reduceWindows_S2048x128_S2048x128_w2048s1p2047_0_w1s1p0_0 h_S_ (ix2 i s)
      = ∑ j ∈ Finset.range (i.val + 1), (if h : j < 2048 then (x (ix2 ⟨j, h⟩ s) : EReal) else 0) := by
  unfold Host.reduceWindowAdd
  rw [Ideal.hostReduceWindowAdd_def, hv]
  unfold Ideal.hostReduceWindowAdd
  exact column_sums (R := 2048) (Rm1 := 2047) (C := 128) (by norm_num) x (fun _ => 0) (fun _ => rfl) _ _ i s

end Reference

open Cert.Kernel34Ideal Cert.Kernel34Ideal.Gen

/-- The logarithm of the forget gate of the row `j`, 0 past the last row. -/
def gate (x : Vec Ideal S2048x128 .f32) (b : Vec Ideal S1x128 .f32) (s : Fin 128) (j : ℕ) : EReal :=
  if h : j < 2048 then logsig (HAdd.hAdd (α := EReal) (β := EReal) (x (ix2 ⟨j, h⟩ s)) (b (ix2 0 s))) else 0

theorem gate_ne_top (x : Vec Ideal S2048x128 .f32) (b : Vec Ideal S1x128 .f32) (s : Fin 128) (j : ℕ) : gate x b s j ≠ ⊤ := by
  unfold gate
  split
  · exact logsig_ne_top _
  · exact EReal.zero_ne_top

/-- What a trip stores, of its carried row and of the rows that it loads. -/
theorem pay_value (acc : FVec Ideal S1x128 .f32) (u : Vec Ideal S128x128 .f32) (b : Vec Ideal S1x128 .f32) (r s : Fin 128) :
    k0_pay2 acc u b (ix2 r s)
      = HAdd.hAdd (α := EReal) (β := EReal) (∑ j : Fin 128, (if j.val ≤ r.val then logsig (HAdd.hAdd (α := EReal) (β := EReal) (u (ix2 j s)) (b (ix2 0 s))) else 0))
        (acc (ix2 0 s)) := by
  have h := split_sum (fun j : Fin 128 => if j.val ≤ r.val then logsig (HAdd.hAdd (α := EReal) (β := EReal) (u (ix2 j s)) (b (ix2 0 s))) else 0)
    (fun j => by split; exacts [logsig_ne_top _, EReal.zero_ne_top])
  rw [← h]
  pointwise [k0_pay2]
  have bit : ∀ j : Fin 128, (FloatOps.sitofp FTy.f32 (BitVec.setWidth 32 (IntOp.cmpi CmpIPredicate.sle (BitVec.ofNat 32 j.val) (BitVec.ofNat 32 r.val))) : Ideal .f32)
      = if j.val ≤ r.val then (1 : EReal) else 0 := fun j => lower_bit j r
  congr 1
  congr 1
  · congr 1
    · refine Finset.sum_congr rfl fun j _ => ?_
      rw [bit]
      split
      · exact one_mul _
      · exact zero_mul _
    · refine Finset.sum_congr rfl fun j _ => ?_
      rw [bit]
      split
      · exact one_mul _
      · rw [sub_zero]; exact zero_mul _
  · refine Finset.sum_congr rfl fun j _ => ?_
    rw [bit]
    split
    · exact one_mul _
    · rw [sub_zero, sub_zero]; exact zero_mul _

theorem pay_last (acc : FVec Ideal S1x128 .f32) (u : Vec Ideal S128x128 .f32) (b : Vec Ideal S1x128 .f32) (r : Fin 1) (s : Fin 128) :
    k0_pay3 acc u b (ix2 r s) = k0_pay2 acc u b (ix2 127 s) := by
  pointwise [k0_pay3]

section Trips

variable (c : Dev nD) (arg0 : Memref sig .tc .vmem S2048x128 .f32) (harg0 : arg0.IsWhole) (arg1 : Memref sig .tc .vmem S1x128 .f32) (harg1 : arg1.IsWhole)
  (arg2 : Memref sig .tc .vmem S2048x128 .f32) (harg2 : arg2.IsWhole) (x : Vec Ideal S2048x128 .f32) (b : Vec Ideal S1x128 .f32)

/-- The running sum at an entry. -/
def W (i : S2048x128.Idx) : EReal := ∑ j ∈ Finset.range ((i 0).val + 1), gate x b (i 1) j

abbrev before (k : ℕ) := st_k0_t1 (F := Ideal) Variants.none c none arg0 harg0 arg1 harg1 arg2 harg2 (harg0.unread x) (harg1.unread b) (k0_pay1 (F := Ideal)) k

/-- The rows and the bias that a trip loads. -/
abbrev rows (k : Fin k0_t1_loop.trips) : Vec Ideal S128x128 .f32 :=
  View.readAt (Elt Ideal) arg0.view (Rect.unit (s := S2048x128) (k0_off1 k) S128x128.size (k0_off1_inb k)).toLoadRect (harg0.unread x)

abbrev bias : Vec Ideal S1x128 .f32 :=
  View.readAt (Elt Ideal) arg1.view (Rect.unit (s := S1x128) ![0, 0] S1x128.size inb_S1x128_S1x128_0_0).toLoadRect (harg1.unread b)

theorem trip_result (k : Fin k0_t1_loop.trips) (acc : FVec Ideal S1x128 .f32) :
    tripR_k0_t1 (F := Ideal) Variants.none c none arg0 harg0 arg1 harg1 arg2 harg2 (harg0.unread x) (harg1.unread b) k acc
      = k0_pay3 acc (rows arg0 harg0 x k) (bias arg1 harg1 b) := by
  unfold tripR_k0_t1 trip_k0_t1
  rfl

theorem trip_pieces (k : Fin k0_t1_loop.trips) (acc : FVec Ideal S1x128 .f32) :
    tripL_k0_t1 (F := Ideal) Variants.none c none arg0 harg0 arg1 harg1 arg2 harg2 (harg0.unread x) (harg1.unread b) k acc
      = [⟨Rect.unit (s := S2048x128) (k0_off1 k) S128x128.size (k0_off1_inb k), k0_pay2 acc (rows arg0 harg0 x k) (bias arg1 harg1 b)⟩] := by
  unfold tripL_k0_t1 trip_k0_t1
  rfl

theorem trips_lt (k : Fin k0_t1_loop.trips) : k.val < 16 := Nat.lt_of_lt_of_le k.isLt k0_t1_abs.2.1

theorem rows_value (k : Fin k0_t1_loop.trips) (j s : Fin 128) :
    rows arg0 harg0 x k (ix2 j s) = x (ix2 ⟨128 * k.val + j.val, by have := trips_lt k; omega⟩ s) := by
  refine (harg0.readAt_unread x (Rect.unit (s := S2048x128) (k0_off1 k) S128x128.size (k0_off1_inb k)).toLoadRect (show S128x128.Idx from ix2 j s)).trans (congrArg x (funext fun a => Fin.ext ?_))
  have e := k0_off1_eq k
  fin_cases a
  · show k0_off1 k 0 + 1 * j.val = 128 * k.val + j.val
    rw [e]
    exact congrArg _ (Nat.one_mul _)
  · show k0_off1 k 1 + 1 * s.val = s.val
    rw [e]
    exact (Nat.zero_add _).trans (Nat.one_mul _)

theorem bias_value (s : Fin 128) : bias arg1 harg1 b (ix2 0 s) = b (ix2 0 s) := by
  refine (harg1.readAt_unread b (Rect.unit (s := S1x128) ![0, 0] S1x128.size inb_S1x128_S1x128_0_0).toLoadRect (show S1x128.Idx from ix2 0 s)).trans (congrArg b (funext fun a => Fin.ext ?_))
  fin_cases a
  · rfl
  · show 0 + 1 * s.val = s.val
    omega

/-- A trip's stored entry, once the carried row holds the sums of the rows before. -/
theorem trip_value (k : Fin k0_t1_loop.trips) (acc : FVec Ideal S1x128 .f32)
    (hacc : ∀ s : Fin 128, acc (ix2 0 s) = ∑ j ∈ Finset.range (128 * k.val), gate x b s j) (r s : Fin 128) :
    k0_pay2 acc (rows arg0 harg0 x k) (bias arg1 harg1 b) (ix2 r s) = ∑ j ∈ Finset.range (128 * k.val + (r.val + 1)), gate x b s j := by
  rw [pay_value, hacc, Finset.sum_range_add, ← prefix_sum 128 r (fun j => gate x b s (128 * k.val + j))]
  refine (add_comm _ _).trans (congrArg _ (Finset.sum_congr rfl fun j _ => ?_))
  have hk := trips_lt k
  rw [rows_value, bias_value]
  unfold gate
  rw [dif_pos (show 128 * k.val + j.val < 2048 by omega)]

/-- Before every trip the carried row holds the sums of the rows before, and what was stored agrees with the sums. -/
theorem trips_value : ∀ k : ℕ, k ≤ k0_t1_loop.trips →
    (∀ s : Fin 128, (before c arg0 harg0 arg1 harg1 arg2 harg2 x b k).1 (ix2 0 s) = ∑ j ∈ Finset.range (128 * k), gate x b s j)
    ∧ (∀ p ∈ (before c arg0 harg0 arg1 harg1 arg2 harg2 x b k).2, ∀ z : p.1.shape.Idx, p.2 z = W x b (p.1.emb z))
  | 0, _ => ⟨fun s => by
      show k0_pay1 (F := Ideal) (ix2 0 s) = _
      rw [Nat.mul_zero, Finset.sum_range_zero]
      pointwise [k0_pay1], fun p hp => absurd hp List.not_mem_nil⟩
  | k + 1, hk => by
    obtain ⟨h1, h2⟩ := trips_value k (by omega)
    have e := st_k0_t1_succ (F := Ideal) Variants.none c none arg0 harg0 arg1 harg1 arg2 harg2 (harg0.unread x) (harg1.unread b) (k0_pay1 (F := Ideal)) ⟨k, by omega⟩
    rw [trip_result, trip_pieces] at e
    have hv := trip_value arg0 harg0 arg1 harg1 x b ⟨k, by omega⟩ (before c arg0 harg0 arg1 harg1 arg2 harg2 x b k).1 h1
    refine ⟨fun s => ?_, fun p hp z => ?_⟩
    · refine (congrFun (congrArg Prod.fst e) (ix2 0 s)).trans ?_
      show k0_pay3 _ _ _ (ix2 0 s) = _
      rw [pay_last, hv 127 s]
      rfl
    · rw [show before c arg0 harg0 arg1 harg1 arg2 harg2 x b (k + 1) = _ from e] at hp
      rcases List.mem_append.mp hp with hp | hp
      · obtain rfl := List.mem_singleton.mp hp
        revert z
        show ∀ z : S128x128.Idx, k0_pay2 (F := Ideal) _ _ _ z = W x b _
        intro z
        idx_vars z
        refine (hv z0 z1).trans ?_
        have e0 : ((Rect.unit (s := S2048x128) (k0_off1 ⟨k, by omega⟩) S128x128.size (k0_off1_inb ⟨k, by omega⟩)).emb (ix2 z0 z1) 0).val = 128 * k + z0.val := by
          show k0_off1 ⟨k, by omega⟩ 0 + 1 * z0.val = _
          rw [k0_off1_eq]
          exact congrArg _ (Nat.one_mul _)
        have e1 : (Rect.unit (s := S2048x128) (k0_off1 ⟨k, by omega⟩) S128x128.size (k0_off1_inb ⟨k, by omega⟩)).emb (ix2 z0 z1) 1 = z1 := Fin.ext (by
          show k0_off1 ⟨k, by omega⟩ 1 + 1 * z1.val = _
          rw [k0_off1_eq]
          exact (Nat.zero_add _).trans (Nat.one_mul _))
        unfold W
        rw [e0, e1, Nat.add_assoc]
      · exact h2 p hp z

theorem body_value (y : S2048x128.Idx) : out0_A_2 c arg0 harg0 arg1 harg1 arg2 harg2 x b y = W x b y := by
  unfold out0_A_2
  refine read_pieces _ _ (W x b) y _ ?_ (cover0_A_2 c arg0 harg0 arg1 harg1 arg2 harg2 x b y)
  unfold kernelRun0_A
  exact (trips_value c arg0 harg0 arg1 harg1 arg2 harg2 x b k0_t1_loop.trips le_rfl).2

end Trips

variable (m : (ℓ : Loc nD τ sig) → Buf (Elt Ideal) ℓ) (c : Dev nD)

theorem block0 (t : Fin cfg0.N) : iblk m c 0 t = m (c.tc.loc main_arg0) := by
  funext i
  show V m c main_arg0 (((cfg0.win 0).rect t).emb i) = _
  rw [V_main_arg0]
  refine congrArg _ (funext fun a => Fin.ext ?_)
  refine (Pipeline.Window.rect_emb_val (cfg0.win 0) t i a).trans ?_
  show 0 * _ + (i a).val = (i a).val
  omega

theorem block1 (t : Fin cfg0.N) : iblk m c 1 t = m (c.tc.loc main_arg1) := by
  funext i
  show V m c main_arg1 (((cfg0.win 1).rect t).emb i) = _
  rw [V_main_arg1]
  refine congrArg _ (funext fun a => Fin.ext ?_)
  refine (Pipeline.Window.rect_emb_val (cfg0.win 1) t i a).trans ?_
  show 0 * _ + (i a).val = (i a).val
  omega

/-- The array that the kernel leaves. -/
abbrev R : S2048x128.Idx → EReal := W (m (c.tc.loc main_arg0)) (m (c.tc.loc main_arg1))

theorem value (t : Fin cfg0.N) (y : S2048x128.Idx) : outsAt0 m c t y = R m c y := by
  unfold outsAt0
  refine (body_value c _ _ _ _ _ _ _ _ y).trans ?_
  unfold R
  erw [block0, block1]

theorem whole_block (t : Fin cfg0.N) (j : S2048x128.Idx) : ((cfg0.win 2).rect t).emb j = j := by
  refine funext fun a => Fin.ext ?_
  refine (Pipeline.Window.rect_emb_val (cfg0.win 2) t j a).trans ?_
  show 0 * _ + (j a).val = (j a).val
  omega

theorem flushed (t : Fin cfg0.N) : (dats m 0 c).flushed 2 t = ((cfg0.win 2).blk t).view.read (Elt Ideal) (R m c) := by
  show (cfg0.win 2).cut (grid0.coords t) ((dats m 0 c).after 2 t) = _
  rw [after0_2]
  funext j
  refine (value m c t j).trans ?_
  show _ = R m c (((cfg0.win 2).rect t).emb j)
  erw [whole_block]

theorem covered (i : S2048x128.Idx) : ∃ t : Fin cfg0.N, (cfg0.win 2).flush t = true ∧ i ∈ ((cfg0.win 2).blk t).view.set := by
  refine ⟨t0_0, by decide, ?_⟩
  refine (iff_of_eq (congrArg (fun z : Finset S2048x128.Idx => i ∈ z) (View.set_slice_whole main_v0 ((cfg0.win 2).rect t0_0)))).mpr ?_
  refine Rect.mem_set_unit.mpr fun a => ?_
  show 0 * _ ≤ (i a).val ∧ (i a).val < 0 * _ + S2048x128.size a
  have := (i a).isLt
  omega

theorem after_run (r : PUnit × MemSt nD τ sig (Elt Ideal)) (h : Pipeline.FramePost cfgs (dats m) 0 (V m) r) :
    r.2.mem (c.tc.loc main_v0) = R m c :=
  ((h c).1 2).trans (Pipeline.Dat.arrAt_eq_of_cover (dats m 0 c) 2 (R m c) (fun t _ => flushed m c t) (covered))

theorem ref_value : ref_term (F := Ideal) (m (c.tc.loc main_arg0)) (m (c.tc.loc main_arg1)) = R m c := by
  funext i
  idx_vars i
  unfold ref_term
  refine (ref_sum _ _ (fun k => by pointwise []) i0 i1).trans ?_
  refine Finset.sum_congr rfl fun j _ => ?_
  unfold gate
  by_cases h : j < 2048
  · rw [dif_pos h, dif_pos h]; exact ref_log _ _ _ _
  · rw [dif_neg h, dif_neg h]

end Cert.Proof.Forget

end
-- ==== Proof.SumUpB.lean ====
/- The sum of the four chips' parts of the gradients of w_up_b: the values of the kernel's array. -/
module

public import proofs.«01_k».proof.Proof.Gen.Kernel36.Frame
public import proofs.«01_k».proof.Proof.Gen.Kernel36Ideal.Frame
public import proofs.«01_k».proof.Proof.Gen.Reference36Ideal
public import proofs.«01_k».proof.Proof.Basis

@[expose] public section

set_option maxRecDepth 16384

noncomputable section

namespace Cert.Proof.SumUpB

open Idealize.ShloMosaic Idealize.ShloMosaic.TcCoe Idealize.SL.Sem

section Table

open Cert.Kernel36 Cert.Kernel36.Gen

/-- The table of a device with `c` = 1 on the first chip. -/
def place0 : pre0.Contents (Elt Bits) := fun | ⟨0, _⟩ => fun x : S2.Idx => (![1#32, 0#32] : Fin 2 → BitVec 32) (x 0) | ⟨_ + 1, h⟩ => absurd h (by simp)

theorem table0 (m : (ℓ : Loc nD τ sig) → Buf (Elt Bits) ℓ) : tbl m = place0 := by
  funext j x
  match j with
  | ⟨0, _⟩ =>
    revert x
    show ∀ x : S2.Idx, V m 0 main_c x = (![1#32, 0#32] : Fin 2 → BitVec 32) (x 0)
    intro x
    unfold V
    after_reads_at
    idx_vars x
    fin_cases x0 <;> rfl

theorem ok0 (m : (ℓ : Loc nD τ sig) → Buf (Elt Bits) ℓ) : Ok (F := Bits) m := by
  unfold Ok; rw [table0 m]; decide

end Table

/-! ## The reference's run -/

section Reference

open Cert.Reference36Ideal Cert.Reference36Ideal.Gen Idealize.ShloMosaic.StableHlo

variable {F : FTy → Type} [FloatOps F]

/-- The reference's operations, in order. -/
abbrev ref_lines : List (HloOp Cert.Reference36Ideal.τ Cert.Reference36Ideal.sig (Elt F)) :=
  [ unary main_arg0 main_v0 ((extractStridedSlice S1x1x512x256 ![0, 0, 0, 0] · slices_S4x1x512x256_S1x1x512x256_0_0_0_0) : (⟨S4x1x512x256, .bf16⟩ : BufTy).Contents (Elt F) → (⟨S1x1x512x256, .bf16⟩ : BufTy).Contents (Elt F)),
    reshape main_v0 main_v1 (rfl : (.bf16 : EltTy) = .bf16) shapeCasts_S1x1x512x256_S1x512x256,
    unary main_v1 main_v2 ((extf .f32 · bitsLt_bf16_f32) : (⟨S1x512x256, .bf16⟩ : BufTy).Contents (Elt F) → (⟨S1x512x256, .f32⟩ : BufTy).Contents (Elt F)),
    unary main_arg1 main_v3 ((extf .f32 · bitsLt_bf16_f32) : (⟨S3x1x512x256, .bf16⟩ : BufTy).Contents (Elt F) → (⟨S3x1x512x256, .f32⟩ : BufTy).Contents (Elt F)),
    nullary main_cst (constant S_ .f32 0x00000000#32),
    binary main_v3 main_cst main_v4 ((fun x v => Host.reduceAdd x v reducesTo_S3x1x512x256_S1x512x256_d0 h_S_) : (⟨S3x1x512x256, .f32⟩ : BufTy).Contents (Elt F) → (⟨S_, .f32⟩ : BufTy).Contents (Elt F) → (⟨S1x512x256, .f32⟩ : BufTy).Contents (Elt F)),
    binary main_v2 main_v4 main_v5 (addf : (⟨S1x512x256, .f32⟩ : BufTy).Contents (Elt F) → (⟨S1x512x256, .f32⟩ : BufTy).Contents (Elt F) → (⟨S1x512x256, .f32⟩ : BufTy).Contents (Elt F)) ]

theorem ref_inside : (ref_lines : List (HloOp Cert.Reference36Ideal.τ Cert.Reference36Ideal.sig (Elt F))).Forall fun op => op.bufs ⊆ tcRefs Cert.Reference36Ideal.τ Cert.Reference36Ideal.sig :=
  ⟨unary_bufs_sub .., reshape_bufs_sub .., unary_bufs_sub .., unary_bufs_sub .., nullary_bufs_sub .., binary_bufs_sub .., binary_bufs_sub ..⟩

/-- What the reference computes of its two arguments. -/
def ref_term (x : FVec F S4x1x512x256 .bf16) (y : FVec F S3x1x512x256 .bf16) : FVec F S1x512x256 .f32 :=
  addf (extf .f32 (shapeCast S1x512x256 (extractStridedSlice S1x1x512x256 ![0, 0, 0, 0] x slices_S4x1x512x256_S1x1x512x256_0_0_0_0) shapeCasts_S1x1x512x256_S1x512x256) bitsLt_bf16_f32)
    (Host.reduceAdd (extf .f32 y bitsLt_bf16_f32) (constant S_ .f32 0x00000000#32) reducesTo_S3x1x512x256_S1x512x256_d0 h_S_)

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_term (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c main_v5).trans (by after_results_simp <;> rfl <;> (unfold ref_term; rfl)),
      (h c main_arg0).trans (by after_results_simp <;> rfl),
      (h c main_arg1).trans (by after_results_simp <;> rfl)⟩)
    (run_seq (by decide) (by decide) defs main (fun _ => ref_lines) (fun _ => rfl) (fun _ => ref_inside) m ρ)

end Reference

open Cert.Kernel36Ideal Cert.Kernel36Ideal.Gen

/-- The table of a device with `c` = 1 on the first chip. -/
def place : pre0.Contents (Elt Ideal) := fun | ⟨0, _⟩ => fun x : S2.Idx => (![1#32, 0#32] : Fin 2 → BitVec 32) (x 0) | ⟨_ + 1, h⟩ => absurd h (by simp)

variable (m : (ℓ : Loc nD τ sig) → Buf (Elt Ideal) ℓ) (c : Dev nD)

theorem table : tbl m = place := by
  funext j x
  match j with
  | ⟨0, _⟩ =>
    revert x
    show ∀ x : S2.Idx, V m 0 main_c x = (![1#32, 0#32] : Fin 2 → BitVec 32) (x 0)
    intro x
    unfold V
    after_reads_at
    idx_vars x
    fin_cases x0 <;> rfl

theorem ok : Ok (F := Ideal) m := by
  unfold Ok; rw [table m]; decide

abbrev pipe : Pipeline.Cfg sig Λ₀ := cfgM m (ok m)

theorem points (t : Fin (pipe m).N) : t.val < 2 := t.isLt

theorem at0 (t : Fin (pipe m).N) : ((pipe m).win 0).index t = ![0, 0, t.val, 0] := by
  show cc0_transform_0 _ _ (tbl m) (grid0.coords t) = _
  rw [table m]
  revert t
  show ∀ t : Fin grid0.N, cc0_transform_0 _ _ place (grid0.coords t) = ![0, 0, t.val, 0]
  decide

theorem at1 (t : Fin (pipe m).N) : ((pipe m).win 1).index t = ![0, 0, t.val, 0] := by
  show cc0_transform_1 (grid0.coords t) = _
  revert t
  show ∀ t : Fin grid0.N, cc0_transform_1 (grid0.coords t) = ![0, 0, t.val, 0]
  decide

theorem at2 (t : Fin (pipe m).N) : ((pipe m).win 2).index t = ![0, 2 + t.val, 0] := by
  show cc0_transform_2 _ _ (tbl m) (grid0.coords t) = _
  rw [table m]
  revert t
  show ∀ t : Fin grid0.N, cc0_transform_2 _ _ place (grid0.coords t) = ![0, 2 + t.val, 0]
  decide

/-- The kernel's array after the region. -/
abbrev whole : FVec Ideal S1x1024x256 .f32 := (dats m (ok m) 0 c).arrAt 2 (pipe m).N

theorem after_run (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem (c.tc.loc main_v1) = extractStridedSlice S1x512x256 ![0, 512, 0] (whole m c) Facts₀.slices_S1x1024x256_S1x512x256_0_512_0 := by
  refine ((h c).2 main_v1 (Pipeline.mem_restRefs_of main_v1 (by decide) (show ∀ w : Fin 3, Pipeline.arrRef spec0 w ≠ main_v1 by decide))).trans ?_
  have e : Pipeline.withArrays (Pipeline.pin pcfgs (fun _ => adm m (ok m)) 0).spec c (V0 m c) (fun w => (dats m (ok m) 0 c).arrAt w (pipe m).N) (Proc.devRef .tc main_v0) = whole m c :=
    Pipeline.withArrays_arr spec0 winFacts0.arr_inj c (V0 m c) (fun w => (dats m (ok m) 0 c).arrAt w (pipe m).N) 2
  unfold Pipeline.afterTail
  rw [← e]
  funext x
  after_reads_at

theorem flush (t : Fin (pipe m).N) : ((pipe m).win 2).flush t = true := by
  have h := points m t
  unfold Pipeline.Window.flush
  rw [Bool.and_eq_true]
  refine ⟨rfl, ?_⟩
  rw [Bool.or_eq_true]
  by_cases hl : t.val + 1 = 2
  · exact Or.inl (decide_eq_true (show t.val + 1 = grid0.N by rw [N_0]; exact hl))
  · refine Or.inr (decide_eq_true ⟨show t.val + 1 < grid0.N by rw [N_0]; omega, fun e => ?_⟩)
    rw [at2, at2] at e
    have e0 := congrFun e 0
    have e1 := congrFun e 1
    simp at e0 e1

/-- The array and the row of the half at which a row of the block at point `t` lies. -/
abbrev arr_of (t : Fin (pipe m).N) : Fin 1 := ⟨0, by have h := points m t; omega⟩

abbrev row_of (t : Fin (pipe m).N) (r : Fin 256) : Fin 512 := ⟨t.val * 256 + r.val, by have h := points m t; omega⟩

theorem parts_block (t : Fin (pipe m).N) (q q' : Fin 1) (r : Fin 256) (s : Fin 256) :
    iblk m (ok m) c 0 t (ix4 q q' r s) = m (c.tc.loc main_arg0) (ix4 0 (arr_of m t) (row_of m t r) s) := by
  have h : iblk m (ok m) c 0 t (ix4 q q' r s) = V m c main_arg0 (ix4 0 (arr_of m t) (row_of m t r) s) := by
    show V m c main_arg0 ((((pipe m).win 0).rect t).emb (ix4 q q' r s)) = _
    congr 1
    funext a
    apply Fin.ext
    refine (Pipeline.Window.rect_emb_val ((pipe m).win 0) t (ix4 q q' r s) a).trans ?_
    rw [at0]
    fin_cases a
    · show 0 * 1 + q.val = 0; omega
    · show 0 * 1 + q'.val = 0; omega
    · rfl
    · exact Nat.zero_add _
  rw [h, V_main_arg0]

theorem landed_block (t : Fin (pipe m).N) (k : Fin 3) (q' : Fin 1) (r : Fin 256) (s : Fin 256) :
    iblk m (ok m) c 1 t (ix4 k q' r s) = m (c.tc.loc main_arg1) (ix4 k (arr_of m t) (row_of m t r) s) := by
  have h : iblk m (ok m) c 1 t (ix4 k q' r s) = V m c main_arg1 (ix4 k (arr_of m t) (row_of m t r) s) := by
    show V m c main_arg1 ((((pipe m).win 1).rect t).emb (ix4 k q' r s)) = _
    congr 1
    funext a
    apply Fin.ext
    refine (Pipeline.Window.rect_emb_val ((pipe m).win 1) t (ix4 k q' r s) a).trans ?_
    rw [at1]
    fin_cases a
    · exact Nat.zero_add _
    · show 0 * 1 + q'.val = 0; omega
    · rfl
    · exact Nat.zero_add _
  rw [h, V_main_arg1]

/-- The sum of the four chips' parts, at an entry of the device's half. -/
def total (a : Fin 1) (r : Fin 512) (s : Fin 256) : EReal :=
  HAdd.hAdd (α := EReal) (β := EReal) (m (c.tc.loc main_arg0) (ix4 0 a r s))
    (HAdd.hAdd (α := EReal) (β := EReal) (HAdd.hAdd (α := EReal) (β := EReal) (m (c.tc.loc main_arg1) (ix4 0 a r s))
      (m (c.tc.loc main_arg1) (ix4 1 a r s))) (m (c.tc.loc main_arg1) (ix4 2 a r s)))

/-- What the body leaves at an entry of its block, of any blocks that it loads. -/
theorem body_value (i : grid0.Coords) (arg3 : Memref sig .tc .vmem S1x1x256x256 .bf16) (harg3 : arg3.IsWhole)
    (arg4 : Memref sig .tc .vmem S3x1x256x256 .bf16) (harg4 : arg4.IsWhole) (arg5 : Memref sig .tc .vmem S1x256x256 .f32)
    (harg5 : arg5.IsWhole) (x0 : Vec Ideal S1x1x256x256 .bf16) (x1 : Vec Ideal S3x1x256x256 .bf16)
    (xt0 : TbBuf0 (F := Ideal) c tbM0_0) (q : Fin 1) (r : Fin 256) (s : Fin 256) :
    out0_A_2 c i arg3 harg3 arg4 harg4 arg5 harg5 x0 x1 xt0 (ix3 q r s)
      = HAdd.hAdd (α := EReal) (β := EReal) (HAdd.hAdd (α := EReal) (β := EReal) (HAdd.hAdd (α := EReal) (β := EReal)
          (x0 (ix4 0 0 r s)) (x1 (ix4 0 0 r s))) (x1 (ix4 1 0 r s))) (x1 (ix4 2 0 r s)) := by
  frame_open
  simp (disch := decide) only [↓ View.readCov_skip, ↓ View.readCov_cons_toLoadRect, ↓ View.readCov_fill]
  frame_out
  simp only [Memref.IsWhole.read_unread, View.ld_unit]
  pointwise [k0_pay1]

theorem value (t : Fin (pipe m).N) (q : Fin 1) (r : Fin 256) (s : Fin 256) :
    outsAt0 m (ok m) c t (ix3 q r s) = total m c (arr_of m t) (row_of m t r) s := by
  unfold outsAt0
  refine (body_value c _ _ _ _ _ _ _ _ _ _ q r s).trans ?_
  unfold total
  refine Eq.trans ?_ (add_assoc (G := EReal) _ _ _)
  refine Eq.trans ?_ (congrArg (fun z : EReal => HAdd.hAdd (α := EReal) (β := EReal) z _) (add_assoc (G := EReal) _ _ _))
  erw [parts_block, landed_block, landed_block, landed_block]

/-- The array that the kernel leaves on the rows of the device's half (on the others anything would do). -/
def G : S1x1024x256.Idx → EReal := fun i =>
  total m c (i 0) ⟨(i 1).val - 512, by have : (i 1).val < 1024 := (i 1).isLt; omega⟩ (i 2)

theorem G_at (i : S1x1024x256.Idx) (a : Fin 1) (r : Fin 512) (s : Fin 256) (h0 : (i 0).val = a.val) (h1 : (i 1).val = 512 + r.val)
    (h2 : (i 2).val = s.val) : G m c i = total m c a r s := by
  unfold G
  congr 1
  · exact Fin.ext h0
  · exact Fin.ext (by show (i 1).val - 512 = r.val; omega)
  · exact Fin.ext h2

/-- Where an entry of the block at point `t` lies in the array. -/
def place_of (t : Fin (pipe m).N) (j : S1x256x256.Idx) : S1x1024x256.Idx := (((pipe m).win 2).rect t).emb j

theorem place_val (t : Fin (pipe m).N) (j : S1x256x256.Idx) (a : Fin 3) :
    (place_of m t j a).val = (![0, 2 + t.val, 0] : Fin 3 → Nat) a * S1x256x256.size a + (j a).val := by
  refine (Pipeline.Window.rect_emb_val ((pipe m).win 2) t j a).trans ?_
  rw [at2]
  rfl

theorem block_value (t : Fin (pipe m).N) (j : S1x256x256.Idx) : outsAt0 m (ok m) c t j = G m c (place_of m t j) := by
  idx_vars j
  rw [value]
  refine (G_at m c _ (arr_of m t) (row_of m t j1) j2 ?_ ?_ ?_).symm
  · rw [place_val]
    show 0 * 1 + j0.val = 0; omega
  · rw [place_val]
    show (2 + t.val) * 256 + j1.val = 512 + (t.val * 256 + j1.val); omega
  · rw [place_val]
    exact Nat.zero_add _

theorem flushed (t : Fin (pipe m).N) :
    (dats m (ok m) 0 c).flushed 2 t = (((pipe m).win 2).blk t).view.read (Elt Ideal) (G m c) := by
  show ((pipe m).win 2).cut (grid0.coords t) ((dats m (ok m) 0 c).after 2 t) = _
  rw [after0_2]
  funext j
  exact block_value m c t j

theorem inside (t : Fin (pipe m).N) (i : S1x1024x256.Idx) :
    i ∈ (((pipe m).win 2).blk t).view.set ↔ ∀ a : Fin 3, (![0, 2 + t.val, 0] : Fin 3 → Nat) a * S1x256x256.size a ≤ (i a).val ∧ (i a).val < (![0, 2 + t.val, 0] : Fin 3 → Nat) a * S1x256x256.size a + S1x256x256.size a := by
  refine (iff_of_eq (congrArg (fun z : Finset S1x1024x256.Idx => i ∈ z) (View.set_slice_whole main_v0 (((pipe m).win 2).rect t)))).trans ?_
  refine Rect.mem_set_unit.trans ?_
  show (∀ a : Fin 3, ((pipe m).win 2).index t a * S1x256x256.size a ≤ (i a).val ∧ (i a).val < ((pipe m).win 2).index t a * S1x256x256.size a + S1x256x256.size a) ↔ _
  rw [at2]

theorem final (a : Fin 1) (r : Fin 512) (s : Fin 256) :
    whole m c (ix3 a ⟨512 + r.val, by omega⟩ s) = total m c a r s := by
  have hp : r.val / 256 < (pipe m).N := by
    show r.val / 256 < grid0.N
    rw [N_0]; omega
  refine (Pipeline.Dat.arrAt_apply_of_mem (dats m (ok m) 0 c) 2 (G m c) (fun t _ => flushed m c t) (pipe m).N ⟨r.val / 256, hp⟩ _ hp
    (flush m _) ((inside m _ _).mpr ?_)).trans (G_at m c _ a r s rfl rfl rfl)
  intro b
  fin_cases b
  · show 0 * 1 ≤ a.val ∧ a.val < 0 * 1 + 1; omega
  · show (2 + r.val / 256) * 256 ≤ 512 + r.val ∧ 512 + r.val < (2 + r.val / 256) * 256 + 256; omega
  · show 0 * 256 ≤ s.val ∧ s.val < 0 * 256 + 256; omega

/-- The result: the rows of the device's half. -/
abbrev R : S1x512x256.Idx → EReal := fun i => total m c (i 0) (i 1) (i 2)

theorem rows (X : FVec Ideal S1x1024x256 .f32) (a : Fin 1) (r : Fin 512) (s : Fin 256) :
    extractStridedSlice S1x512x256 ![0, 512, 0] X Facts₀.slices_S1x1024x256_S1x512x256_0_512_0 (ix3 a r s) = X (ix3 a ⟨512 + r.val, by omega⟩ s) := by
  obtain rfl : a = 0 := Subsingleton.elim _ _
  pointwise []

theorem result : extractStridedSlice S1x512x256 ![0, 512, 0] (whole m c) Facts₀.slices_S1x1024x256_S1x512x256_0_512_0 = R m c := by
  funext i
  idx_vars i
  exact (rows (whole m c) i0 i1 i2).trans (final m c i0 i1 i2)

theorem ref_value : ref_term (F := Ideal) (m (c.tc.loc main_arg0)) (m (c.tc.loc main_arg1)) = R m c := by
  funext i
  idx_vars i
  obtain rfl : i0 = 0 := Subsingleton.elim _ _
  unfold ref_term R total
  pointwise []
  exact congrArg (fun z : EReal => HAdd.hAdd (α := EReal) (β := EReal) _ z) (Fin.sum_univ_three _)

end Cert.Proof.SumUpB

end
-- ==== Proof.Claims9.lean ====
/- The value claims of the running sums of the forget gates and of the sum of the parts for w_up_b. -/
module

public import proofs.«01_k».proof.Defs
public import proofs.«01_k».proof.Proof.Forget
public import proofs.«01_k».proof.Proof.SumUpB
public import proofs.«01_k».proof.Proof.Basis

@[expose] public section

set_option maxRecDepth 16384

noncomputable section

namespace Cert.Proof

open Idealize.ShloMosaic Idealize.ShloMosaic.TcCoe Idealize.SL.Sem

theorem prep_value : Cert.algebraic_Kernel34Ideal_Reference34Ideal := by
  intro m g m' g' hpre hargs
  refine ⟨fun c => Forget.R m c,
    (θ_run _ _ _).mono (fun r h c => ⟨Forget.after_run m c r h.1, h.2 c⟩)
      (θ_run_and (Cert.Kernel34Ideal.Gen.run_main m g) (Cert.Kernel34Ideal.Gen.unchanged m g)),
    (θ_run _ _ _).mono (fun r h c => ?_) (Forget.ref_run (F := Ideal) m' g')⟩
  obtain ⟨h0, ha⟩ := h c
  obtain ⟨e0, e1⟩ := hargs c
  refine ⟨h0.trans ?_, ha⟩
  rw [e0, e1]
  exact Forget.ref_value m c

theorem sumupb_value : Cert.algebraic_Kernel36Ideal_Reference36Ideal := by
  intro m g m' g' hpre hargs
  refine ⟨fun c => SumUpB.R m c,
    (θ_run _ _ _).mono (fun r h c => ⟨(SumUpB.after_run m c r h.1).trans (SumUpB.result m c), h.2 c⟩)
      (θ_run_and (Cert.Kernel36Ideal.Gen.run_main m g (SumUpB.ok m)) (Cert.Kernel36Ideal.Gen.unchanged m g (SumUpB.ok m))),
    (θ_run _ _ _).mono (fun r h c => ?_) (SumUpB.ref_run (F := Ideal) m' g')⟩
  obtain ⟨h0, ha⟩ := h c
  obtain ⟨e0, e1⟩ := hargs c
  refine ⟨h0.trans ?_, ha⟩
  rw [e0, e1]
  exact SumUpB.ref_value m c

end Cert.Proof

end
-- ==== Proof.ForgetLogits.lean ====
/- The projection to the forget gates: the values of the kernel's array. -/
module

public import proofs.«01_k».proof.Proof.Gen.Kernel37Ideal.Value
public import proofs.«01_k».proof.Proof.Gen.Reference37Ideal.Read
public import proofs.«01_k».proof.Proof.Basis

@[expose] public section

set_option maxRecDepth 16384

noncomputable section

namespace Cert.Proof.ForgetLogits

open Cert.Kernel37Ideal Cert.Kernel37Ideal.Gen Idealize.ShloMosaic Idealize.ShloMosaic.TcCoe Idealize.SL.Sem

variable (m : (ℓ : Loc nD τ sig) → Buf (Elt Ideal) ℓ) (c : Dev nD)

theorem points (t : Fin cfg0.N) : t.val < 4 := t.isLt.trans_eq N_0

/-! The block that each window has at point `t` of the grid. -/

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![t.val, 0] := by decide +kernel

theorem h_block (t : Fin cfg0.N) (r : Fin 512) (s : Fin 1024) :
    iblk m c 0 t (ix2 r s) = (m (c.tc.loc main_arg0)) (ix2 ⟨t.val * 512 + r.val, by have := points t; omega⟩ s) := by
  have h : iblk m c 0 t (ix2 r s) = V m c main_v0 (ix2 ⟨t.val * 512 + r.val, by have := points t; omega⟩ s) := by
    show V m c main_v0 ((win0_0.rect t).emb (ix2 r s)) = _
    congr 1
    funext a
    apply Fin.ext
    refine (Pipeline.Window.rect_emb_val win0_0 t (ix2 r s) a).trans ?_
    rw [at0]
    fin_cases a
    · rfl
    · exact Nat.zero_add _
  refine h.trans ?_
  have := points t
  unfold V
  after_reads_at

theorem w_block (t : Fin cfg0.N) (r : Fin 128) (s : Fin 1024) :
    iblk m c 1 t (ix2 r s) = (m (c.tc.loc main_arg1)) (ix2 s r) := by
  have h : iblk m c 1 t (ix2 r s) = V m c main_v2 (ix2 r s) := by
    show V m c main_v2 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  have := points t
  unfold V
  after_reads_at

theorem zero_block (t : Fin cfg0.N) (r : Fin 1) (s : Fin 128) :
    iblk m c 2 t (ix2 r s) = (0 : EReal) := by
  have h : iblk m c 2 t (ix2 r s) = V m c main_v3 (ix2 r s) := by
    show V m c main_v3 ((win0_2.rect t).emb (ix2 r s)) = _
    congr 1
    funext a
    apply Fin.ext
    refine (Pipeline.Window.rect_emb_val win0_2 t (ix2 r s) a).trans ?_
    rw [at2]
    fin_cases a
    · exact Nat.zero_add _
    · exact Nat.zero_add _
  refine h.trans ?_
  have := points t
  unfold V
  after_reads_at

/-- The reference's array, as a function of the arguments. -/
abbrev G3 : S2048x128.Idx → EReal := Cert.Reference37Ideal.Read.val_main_v0 (F := Ideal) (m (c.tc.loc main_arg0)) (m (c.tc.loc main_arg1))

theorem value3 (t : Fin cfg0.N) (r : Fin 512) (s : Fin 128) :
    out0_3 (iblk m c 0 t) (iblk m c 1 t) (iblk m c 2 t) (ix2 r s) = G3 m c (ix2 ⟨t.val * 512 + r.val, by have := points t; omega⟩ s) := by
  unfold out0_3
  rw [View.canon_cons_unit_lit _ _ _ (by decide)]
  pointwise [k0_pay1, h_block, w_block, zero_block, Cert.Reference37Ideal.Read.val_main_v0]
  try rfl

theorem result3 (t : Fin cfg0.N) (j : S512x128.Idx) :
    out0_3 (iblk m c 0 t) (iblk m c 1 t) (iblk m c 2 t) j = G3 m c ((win0_3.rect t).emb j) := by
  idx_vars j
  rw [value3]
  congr 1
  funext a
  apply Fin.ext
  refine Eq.symm ((Pipeline.Window.rect_emb_val win0_3 t (ix2 j0 j1) a).trans ?_)
  rw [at3]
  fin_cases a
  · rfl
  · exact Nat.zero_add _

theorem inside3 (t : Fin cfg0.N) (i : S2048x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v4).slice (win0_3.rect t)).set ↔ _
  rw [View.set_slice_whole, Rect.mem_set_unit]
  exact Iff.rfl

theorem covered3 (i : S2048x128.Idx) : ∃ t : Fin cfg0.N, (cfg0.win 3).flush t = true ∧ i ∈ ((cfg0.win 3).blk t).view.set := by
  have h0 : (i 0).val < 2048 := (i 0).isLt
  have h1 : (i 1).val < 128 := (i 1).isLt
  have hb : (i 0).val / 512 < 4 := by omega
  refine ⟨⟨(i 0).val / 512, by rw [show cfg0.N = 4 from N_0]; exact hb⟩, flush0_3 _, (inside3 _ _).mpr ?_⟩
  rw [at3]
  intro a
  fin_cases a
  · show (i 0).val / 512 * 512 ≤ (i 0).val ∧ (i 0).val < (i 0).val / 512 * 512 + 512; omega
  · show 0 * 128 ≤ (i 1).val ∧ (i 1).val < 0 * 128 + 128; omega

theorem final3 : (dats m 0 c).arrAt 3 cfg0.N = G3 m c := by
  refine Pipeline.Dat.arrAt_eq_of_cover (dats m 0 c) 3 (G3 m c) (fun t _ => ?_) (covered3)
  rw [Value.flushed3]
  funext j
  exact result3 m c t j

end Cert.Proof.ForgetLogits

end
-- ==== Proof.ForgetGrad.lean ====
/- The weight gradient of the projection to the forget gates: the values of the kernel's array. -/
module

public import proofs.«01_k».proof.Proof.Gen.Kernel38Ideal.Value
public import proofs.«01_k».proof.Proof.Gen.Reference38Ideal.Read
public import proofs.«01_k».proof.Proof.Basis

@[expose] public section

set_option maxRecDepth 16384

noncomputable section

namespace Cert.Proof.ForgetGrad

open Cert.Kernel38Ideal Cert.Kernel38Ideal.Gen Idealize.ShloMosaic Idealize.ShloMosaic.TcCoe Idealize.SL.Sem

variable (m : (ℓ : Loc nD τ sig) → Buf (Elt Ideal) ℓ) (c : Dev nD)

theorem points (t : Fin cfg0.N) : t.val < 1 := t.isLt.trans_eq N_0

/-! The block that each window has at point `t` of the grid. -/

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel

theorem d_block (t : Fin cfg0.N) (r : Fin 2048) (s : Fin 128) :
    iblk m c 0 t (ix2 r s) = (m (c.tc.loc main_arg1)) (ix2 r s) := by
  have h : iblk m c 0 t (ix2 r s) = V m c main_v1 (ix2 r s) := by
    show V m c main_v1 ((win0_0.rect t).emb (ix2 r s)) = _
    congr 1
    funext a
    apply Fin.ext
    refine (Pipeline.Window.rect_emb_val win0_0 t (ix2 r s) a).trans ?_
    rw [at0]
    fin_cases a
    · exact Nat.zero_add _
    · exact Nat.zero_add _
  refine h.trans ?_
  have := points t
  unfold V
  after_reads_at

theorem h_block (t : Fin cfg0.N) (r : Fin 2048) (s : Fin 1024) :
    iblk m c 1 t (ix2 r s) = (m (c.tc.loc main_arg0)) (ix2 r s) := by
  have h : iblk m c 1 t (ix2 r s) = V m c main_v0 (ix2 r s) := by
    show V m c main_v0 ((win0_1.rect t).emb (ix2 r s)) = _
    congr 1
    funext a
    apply Fin.ext
    refine (Pipeline.Window.rect_emb_val win0_1 t (ix2 r s) a).trans ?_
    rw [at1]
    fin_cases a
    · exact Nat.zero_add _
    · exact Nat.zero_add _
  refine h.trans ?_
  have := points t
  unfold V
  after_reads_at

/-- The reference's array, as a function of the arguments. -/
abbrev G2 : S128x1024.Idx → EReal := Cert.Reference38Ideal.Read.val_main_v5 (F := Ideal) (m (c.tc.loc main_arg0)) (m (c.tc.loc main_arg1))

theorem value2 (t : Fin cfg0.N) (r : Fin 128) (s : Fin 1024) :
    out0_2 (iblk m c 0 t) (iblk m c 1 t) (ix2 r s) = G2 m c (ix2 r s) := by
  unfold out0_2
  rw [View.canon_cons_unit_lit _ _ _ (by decide)]
  pointwise [k0_pay1, d_block, h_block, Cert.Reference38Ideal.Read.val_main_cst, Cert.Reference38Ideal.Read.val_main_v0, Cert.Reference38Ideal.Read.val_main_v1, Cert.Reference38Ideal.Read.val_main_v2, Cert.Reference38Ideal.Read.val_main_v3, Cert.Reference38Ideal.Read.val_main_v4, Cert.Reference38Ideal.Read.val_main_v5]
  try rfl

theorem result2 (t : Fin cfg0.N) (j : S128x1024.Idx) :
    out0_2 (iblk m c 0 t) (iblk m c 1 t) j = G2 m c ((win0_2.rect t).emb j) := by
  idx_vars j
  rw [value2]
  congr 1
  funext a
  apply Fin.ext
  refine Eq.symm ((Pipeline.Window.rect_emb_val win0_2 t (ix2 j0 j1) a).trans ?_)
  rw [at2]
  fin_cases a
  · exact Nat.zero_add _
  · exact Nat.zero_add _

theorem inside2 (t : Fin cfg0.N) (i : S128x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v2).slice (win0_2.rect t)).set ↔ _
  rw [View.set_slice_whole, Rect.mem_set_unit]
  exact Iff.rfl

theorem covered2 (i : S128x1024.Idx) : ∃ t : Fin cfg0.N, (cfg0.win 2).flush t = true ∧ i ∈ ((cfg0.win 2).blk t).view.set := by
  have h0 : (i 0).val < 128 := (i 0).isLt
  have h1 : (i 1).val < 1024 := (i 1).isLt
  refine ⟨⟨0, by rw [show cfg0.N = 1 from N_0]; exact Nat.one_pos⟩, flush0_2 _, (inside2 _ _).mpr ?_⟩
  rw [at2]
  intro a
  fin_cases a
  · show 0 * 128 ≤ (i 0).val ∧ (i 0).val < 0 * 128 + 128; omega
  · show 0 * 1024 ≤ (i 1).val ∧ (i 1).val < 0 * 1024 + 1024; omega

theorem final2 : (dats m 0 c).arrAt 2 cfg0.N = G2 m c := by
  refine Pipeline.Dat.arrAt_eq_of_cover (dats m 0 c) 2 (G2 m c) (fun t _ => ?_) (covered2)
  rw [Value.flushed2]
  funext j
  exact result2 m c t j

end Cert.Proof.ForgetGrad

end
-- ==== Proof.Claims10.lean ====
/- The value claims of the projection to the forget gates and of its weight gradient. -/
module

public import proofs.«01_k».proof.Defs
public import proofs.«01_k».proof.Proof.ForgetLogits
public import proofs.«01_k».proof.Proof.Gen.Reference37Ideal.Run
public import proofs.«01_k».proof.Proof.ForgetGrad
public import proofs.«01_k».proof.Proof.Gen.Reference38Ideal.Run
public import proofs.«01_k».proof.Proof.Basis

@[expose] public section

set_option maxRecDepth 16384

noncomputable section

namespace Cert.Proof

open Idealize.ShloMosaic Idealize.ShloMosaic.TcCoe Idealize.SL.Sem

theorem pforget_value : Cert.algebraic_Kernel37Ideal_Reference37Ideal := by
  intro m g m' g' hpre hargs
  refine ⟨fun c => ForgetLogits.G3 m c,
    (θ_run _ _ _).mono (fun r h c => ?_) (Cert.Kernel37Ideal.Value.run_blocks m g),
    (θ_run _ _ _).mono (fun r h c => ?_) (Cert.Reference37Ideal.Value.run m' g')⟩
  · obtain ⟨h0, ha⟩ := h c
    exact ⟨h0.trans (ForgetLogits.final3 m c), ha⟩
  · obtain ⟨h0, ha⟩ := h c
    obtain ⟨e0, e1⟩ := hargs c
    refine ⟨h0.trans ?_, ha⟩
    · rw [e0, e1]; rfl

theorem wforget_value : Cert.algebraic_Kernel38Ideal_Reference38Ideal := by
  intro m g m' g' hpre hargs
  refine ⟨fun c => ForgetGrad.G2 m c,
    (θ_run _ _ _).mono (fun r h c => ?_) (Cert.Kernel38Ideal.Value.run_blocks m g),
    (θ_run _ _ _).mono (fun r h c => ?_) (Cert.Reference38Ideal.Value.run m' g')⟩
  · obtain ⟨h0, ha⟩ := h c
    exact ⟨h0.trans (ForgetGrad.final2 m c), ha⟩
  · obtain ⟨h0, ha⟩ := h c
    obtain ⟨e0, e1⟩ := hargs c
    refine ⟨h0.trans ?_, ha⟩
    · rw [e0, e1]; rfl

end Cert.Proof

end
-- ==== Proof.ForgetGate.lean ====
/- The gradient of the forget gates: the kernel's 16 trips from the last rows to the first, each of which adds up 128 rows
   with a triangle of ones and carries its first row on, and the reference's sums over windows. -/
module

public import proofs.«01_k».proof.Proof.Gen.Kernel35Ideal.Frame
public import proofs.«01_k».proof.Proof.Gen.Reference35Ideal
public import proofs.«01_k».proof.Proof.LogSums
public import proofs.«01_k».proof.Proof.Reals
public import proofs.«01_k».proof.Proof.Basis

@[expose] public section

set_option maxRecDepth 16384

noncomputable section

namespace Cert.Proof.ForgetGate

open Idealize.ShloMosaic Idealize.ShloMosaic.TcCoe Idealize.SL.Sem Forget

section Reference

open Cert.Reference35Ideal Cert.Reference35Ideal.Gen Idealize.ShloMosaic.StableHlo

variable {F : FTy → Type} [FloatOps F]

abbrev A : BufTy := ⟨S2048x128, .f32⟩
abbrev Z : BufTy := ⟨S_, .f32⟩

/-! The reference's arrays. -/

abbrev typed (T : BufTy) (r : Ref Cert.Reference35Ideal.sig .tc) (h : r.ty = T ∧ r.space ≠ .host ∧ r.isScoped = false) : TRef Cert.Reference35Ideal.sig T := ⟨r, h.1, h.2.1, h.2.2⟩
abbrev wide (r : Ref Cert.Reference35Ideal.sig .tc) (h : r.ty = A ∧ r.space ≠ .host ∧ r.isScoped = false := by exact ⟨rfl, by decide, rfl⟩) := typed A r h
abbrev mask (r : Ref Cert.Reference35Ideal.sig .tc) (h : r.ty = ⟨S2048x128, .i1⟩ ∧ r.space ≠ .host ∧ r.isScoped = false := by exact ⟨rfl, by decide, rfl⟩) := typed ⟨S2048x128, .i1⟩ r h
abbrev one (r : Ref Cert.Reference35Ideal.sig .tc) (h : r.ty = Z ∧ r.space ≠ .host ∧ r.isScoped = false := by exact ⟨rfl, by decide, rfl⟩) := typed Z r h
abbrev bit (r : Ref Cert.Reference35Ideal.sig .tc) (h : r.ty = ⟨S_, .i1⟩ ∧ r.space ≠ .host ∧ r.isScoped = false := by exact ⟨rfl, by decide, rfl⟩) := typed ⟨S_, .i1⟩ r h

/-- The reference's operations, in order. -/
abbrev ref_lines : List (HloOp Cert.Reference35Ideal.τ Cert.Reference35Ideal.sig (Elt F)) :=
  [ unary main_arg2 main_v0 (broadcastInDim S2048x128 ![0, 1] bcast_S1x128_S2048x128_0_1 : (⟨S1x128, .f32⟩ : BufTy).Contents (Elt F) → A.Contents (Elt F)),
    binary main_arg1 main_v0 main_v1 (addf : A.Contents (Elt F) → A.Contents (Elt F) → A.Contents (Elt F)),
    TRef.unary (wide main_v1) (wide main_call0_v0) Host.negf,
    TRef.nullary (one main_call0_call0_cst) (constant S_ .f32 0x00000000#32),
    TRef.unary (one main_call0_call0_cst) (wide main_call0_call0_v0) (broadcastInDim S2048x128 ![] bcast_S_S2048x128),
    TRef.binary (wide main_call0_v0) (wide main_call0_call0_v0) (wide main_call0_call0_v1) maximumf,
    TRef.unary (one main_call0_call0_cst) (wide main_call0_call0_v2) (broadcastInDim S2048x128 ![] bcast_S_S2048x128),
    TRef.binary (wide main_call0_v0) (wide main_call0_call0_v2) (wide main_call0_call0_v3) subf,
    TRef.binary (wide main_call0_call0_v3) (wide main_call0_call0_v3) (mask main_call0_call0_v4) (cmpf .une),
    TRef.unary (one main_call0_call0_cst) (wide main_call0_call0_v5) (broadcastInDim S2048x128 ![] bcast_S_S2048x128),
    TRef.binary (wide main_call0_v0) (wide main_call0_call0_v5) (wide main_call0_call0_v6) addf,
    TRef.unary (wide main_call0_call0_v3) (wide main_call0_call0_v7) Host.absf,
    TRef.unary (wide main_call0_call0_v7) (wide main_call0_call0_v8) Host.negf,
    TRef.unary (wide main_call0_call0_v8) (wide main_call0_call0_v9) Host.exp,
    TRef.unary (wide main_call0_call0_v9) (wide main_call0_call0_v10) Host.log1p,
    TRef.binary (wide main_call0_call0_v1) (wide main_call0_call0_v10) (wide main_call0_call0_v11) addf,
    TRef.ternary (mask main_call0_call0_v4) (wide main_call0_call0_v6) (wide main_call0_call0_v11) (wide main_call0_v1_0) select,
    TRef.nullary (one main_call0_call0_cst_0) (constant S_ .f32 0x7F800000#32),
    TRef.unary (one main_call0_call0_cst_0) (wide main_call0_call0_v13) (broadcastInDim S2048x128 ![] bcast_S_S2048x128),
    TRef.binary (wide main_call0_v0) (wide main_call0_call0_v13) (mask main_call0_call0_v14) (cmpf .oeq),
    TRef.nullary (one main_call0_call0_cst_1) (constant S_ .f32 0x00000000#32),
    TRef.unary (one main_call0_call0_cst_1) (wide main_call0_call0_v15) (broadcastInDim S2048x128 ![] bcast_S_S2048x128),
    TRef.ternary (mask main_call0_call0_v14) (wide main_call0_call0_v15) (wide main_call0_v0) (wide main_call0_call0_v16) select,
    TRef.nullary (one main_call0_call0_cst_2) (constant S_ .f32 0x7F800000#32),
    TRef.unary (one main_call0_call0_cst_2) (wide main_call0_call0_v17) (broadcastInDim S2048x128 ![] bcast_S_S2048x128),
    TRef.binary (wide main_call0_v1_0) (wide main_call0_call0_v17) (mask main_call0_call0_v18) (cmpf .oeq),
    TRef.nullary (one main_call0_call0_cst_3) (constant S_ .f32 0x00000000#32),
    TRef.unary (one main_call0_call0_cst_3) (wide main_call0_call0_v19) (broadcastInDim S2048x128 ![] bcast_S_S2048x128),
    TRef.ternary (mask main_call0_call0_v18) (wide main_call0_call0_v19) (wide main_call0_v1_0) (wide main_call0_call0_v20) select,
    TRef.binary (wide main_call0_call0_v16) (wide main_call0_call0_v20) (wide main_call0_call0_v21) subf,
    TRef.unary (wide main_call0_call0_v21) (wide main_v2_1) Host.exp,
    TRef.nullary (one main_call0_call0_cst_4) (constant S_ .f32 0x00000000#32),
    TRef.nullary (one main_call0_call0_cst_5) (constant S_ .f32 0x7F800000#32),
    TRef.binary (one main_call0_call0_cst_4) (one main_call0_call0_cst_5) (bit main_call0_call0_v23) (cmpf .oeq),
    TRef.nullary (one main_call0_call0_cst_6) (constant S_ .f32 0x00000000#32),
    TRef.nullary (one main_call0_call0_cst_7) (constant S_ .f32 0x00000000#32),
    TRef.ternary (bit main_call0_call0_v23) (one main_call0_call0_cst_7) (one main_call0_call0_cst_6) (one main_call0_call0_v24) select,
    TRef.nullary (one main_call0_call0_cst_8) (constant S_ .f32 0x7F800000#32),
    TRef.unary (one main_call0_call0_cst_8) (wide main_call0_call0_v25) (broadcastInDim S2048x128 ![] bcast_S_S2048x128),
    TRef.binary (wide main_call0_v1_0) (wide main_call0_call0_v25) (mask main_call0_call0_v26) (cmpf .oeq),
    TRef.nullary (one main_call0_call0_cst_9) (constant S_ .f32 0x00000000#32),
    TRef.unary (one main_call0_call0_cst_9) (wide main_call0_call0_v27) (broadcastInDim S2048x128 ![] bcast_S_S2048x128),
    TRef.ternary (mask main_call0_call0_v26) (wide main_call0_call0_v27) (wide main_call0_v1_0) (wide main_call0_call0_v28) select,
    TRef.unary (one main_call0_call0_v24) (wide main_call0_call0_v29) (broadcastInDim S2048x128 ![] bcast_S_S2048x128),
    TRef.binary (wide main_call0_call0_v29) (wide main_call0_call0_v28) (wide main_call0_call0_v30) subf,
    TRef.unary (wide main_call0_call0_v30) (wide main_call0_call0_v31) Host.exp,
    TRef.nullary (one main_call0_call0_cst_10) (constant S_ .f32 0x00000000#32),
    TRef.unary (one main_call0_call0_cst_10) (wide main_call0_call0_v32) (broadcastInDim S2048x128 ![] bcast_S_S2048x128),
    TRef.binary (wide main_call0_call0_v32) (wide main_call0_call0_v31) (wide main_v2_2) mulf,
    TRef.unary (wide main_call0_v1_0) (wide main_v2_0) Host.negf,
    TRef.nullary (one main_call1_call0_cst) (constant S_ .f32 0x00000000#32),
    TRef.unary (one main_call1_call0_cst) (one main_call1_call0_v0) (broadcastInDim S_ ![] bcast_S_S_),
    TRef.binary (wide main_v2_0) (one main_call1_call0_v0) (wide main_v3) (fun x v => Host.reduceWindowAdd ![2048, 1] ![1, 1] ![2047, 0] ![0, 0] x v reduceWindows_S2048x128_S2048x128_w2048s1p2047_0_w1s1p0_0 h_S_),
    TRef.nullary (one main_call2_call0_cst) (constant S_ .f32 0x00000000#32),
    TRef.unary (one main_call2_call0_cst) (one main_call2_call0_v0) (broadcastInDim S_ ![] bcast_S_S_),
    TRef.binary (wide main_arg0) (one main_call2_call0_v0) (wide main_v4) (fun x v => Host.reduceWindowAdd ![2048, 1] ![1, 1] ![0, 0] ![2047, 0] x v reduceWindows_S2048x128_S2048x128_w2048s1p0_2047_w1s1p0_0 h_S_),
    TRef.unary (wide main_v4) (wide main_call3_v0) Host.negf,
    TRef.binary (wide main_call3_v0) (wide main_v2_1) (wide main_call3_v1) mulf,
    TRef.unary (wide main_call3_v1) (wide main_v5) Host.negf,
    nullary main_cst (constant S_ .f32 0x00000000#32),
    binary main_v5 main_cst main_v6 ((fun x v => Host.reduceAdd x v reducesTo_S2048x128_S128_d0 h_S_) : A.Contents (Elt F) → Z.Contents (Elt F) → (⟨S128, .f32⟩ : BufTy).Contents (Elt F)),
    reshape main_v6 main_v7 (rfl : (.f32 : EltTy) = .f32) shapeCasts_S128_S1x128 ]

theorem ref_inside : (ref_lines : List (HloOp Cert.Reference35Ideal.τ Cert.Reference35Ideal.sig (Elt F))).Forall fun op => op.bufs ⊆ tcRefs Cert.Reference35Ideal.τ Cert.Reference35Ideal.sig :=
  ⟨unary_bufs_sub .., binary_bufs_sub .., unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub .., unary_bufs_sub .., binary_bufs_sub ..,
    ternary_bufs_sub .., nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub .., binary_bufs_sub .., unary_bufs_sub ..,
    nullary_bufs_sub .., nullary_bufs_sub .., binary_bufs_sub .., nullary_bufs_sub .., nullary_bufs_sub .., ternary_bufs_sub .., nullary_bufs_sub ..,
    unary_bufs_sub .., binary_bufs_sub .., nullary_bufs_sub .., unary_bufs_sub .., ternary_bufs_sub .., unary_bufs_sub .., binary_bufs_sub .., unary_bufs_sub ..,
    nullary_bufs_sub .., unary_bufs_sub .., binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., nullary_bufs_sub .., binary_bufs_sub .., reshape_bufs_sub ..⟩

abbrev fill (w : BitVec 32) : FVec F S2048x128 .f32 := broadcastInDim S2048x128 ![] bcast_S_S2048x128 (constant S_ .f32 w)

/-- The reference's negated logarithms, of the negated logits. -/
abbrev ref_out (n : FVec F S2048x128 .f32) : FVec F S2048x128 .f32 :=
  select (cmpf .une (subf n (fill 0x00000000#32)) (subf n (fill 0x00000000#32))) (addf n (fill 0x00000000#32))
    (addf (maximumf n (fill 0x00000000#32)) (Host.log1p (Host.exp (Host.negf (Host.absf (subf n (fill 0x00000000#32)))))))

/-- `x`, with 0 in the place of plus infinity. -/
abbrev guarded (x : FVec F S2048x128 .f32) : FVec F S2048x128 .f32 := select (cmpf .oeq x (fill 0x7F800000#32)) (fill 0x00000000#32) x

abbrev ref_neg (x : FVec F S2048x128 .f32) (b : FVec F S1x128 .f32) : FVec F S2048x128 .f32 :=
  Host.negf (addf x (broadcastInDim S2048x128 ![0, 1] bcast_S1x128_S2048x128_0_1 b))

/-- The reference's derivatives. -/
abbrev ref_slope (n : FVec F S2048x128 .f32) : FVec F S2048x128 .f32 := Host.exp (subf (guarded n) (guarded (ref_out n)))

/-- The reference's sums from a row on. -/
def ref_tail (d : FVec F S2048x128 .f32) : FVec F S2048x128 .f32 :=
  Host.reduceWindowAdd ![2048, 1] ![1, 1] ![0, 0] ![2047, 0] d (broadcastInDim S_ ![] bcast_S_S_ (constant S_ .f32 0x00000000#32) : FVec F S_ .f32)
    reduceWindows_S2048x128_S2048x128_w2048s1p0_2047_w1s1p0_0 h_S_

/-- The reference's first result. -/
def ref_rows (d x : FVec F S2048x128 .f32) (b : FVec F S1x128 .f32) : FVec F S2048x128 .f32 :=
  Host.negf (mulf (Host.negf (ref_tail d)) (ref_slope (ref_neg x b)))

/-- The reference's second result. -/
def ref_bias (d x : FVec F S2048x128 .f32) (b : FVec F S1x128 .f32) : FVec F S1x128 .f32 :=
  shapeCast S1x128 (Host.reduceAdd (ref_rows d x b) (constant S_ .f32 0x00000000#32) reducesTo_S2048x128_S128_d0 h_S_) shapeCasts_S128_S1x128

set_option maxHeartbeats 4000000 in
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v5) = ref_rows (m (c.tc.loc main_arg0)) (m (c.tc.loc main_arg1)) (m (c.tc.loc main_arg2))
      ∧ r.2.mem (c.tc.loc main_v7) = ref_bias (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => by
      refine ⟨(h c main_v5).trans ?_, (h c main_v7).trans ?_, (h c main_arg0).trans ?_, (h c main_arg1).trans ?_, (h c main_arg2).trans ?_⟩ <;>
        simp only [ref_lines, wide, mask, one, bit, typed, TRef.binary, TRef.nullary, TRef.unary, TRef.ternary, TRef.toBuf, TRef.ofBuf, cast_eq] <;> after_results <;> rfl)
    (run_seq (by decide) (by decide) defs main (fun _ => ref_lines) (fun _ => rfl) (fun _ => ref_inside) m ρ)

theorem ref_out_value (x : FVec Ideal S2048x128 .f32) (b : FVec Ideal S1x128 .f32) (i : Fin 2048) (s : Fin 128) :
    -(show EReal from ref_out (ref_neg x b) (ix2 i s)) = logsig (HAdd.hAdd (α := EReal) (β := EReal) (x (ix2 i s)) (b (ix2 0 s))) := by
  rw [← logsig_eq]
  pointwise []
  rw [if_neg (not_not.mpr rfl)]
  rfl

theorem guarded_value (x : FVec Ideal S2048x128 .f32) (i : Fin 2048) (s : Fin 128) :
    guarded x (ix2 i s) = if (x (ix2 i s) : EReal) = ⊤ then (0 : EReal) else x (ix2 i s) := by
  pointwise []
  rw [top_bits]

theorem ref_slope_value (x : FVec Ideal S2048x128 .f32) (b : FVec Ideal S1x128 .f32) (i : Fin 2048) (s : Fin 128) :
    ref_slope (ref_neg x b) (ix2 i s) = dlogsig (HAdd.hAdd (α := EReal) (β := EReal) (x (ix2 i s)) (b (ix2 0 s))) := by
  rw [← dlogsig_eq _ _ (ref_out_value x b i s)]
  show Ideal.exp ((guarded (ref_neg x b) (ix2 i s) : EReal) - (guarded (ref_out (ref_neg x b)) (ix2 i s) : EReal)) = _
  rw [guarded_value, guarded_value]
  have e : ref_neg x b (ix2 i s) = (-(HAdd.hAdd (α := EReal) (β := EReal) (x (ix2 i s)) (b (ix2 0 s))) : EReal) := by pointwise []
  rw [e]

theorem ref_tail_value (d : FVec Ideal S2048x128 .f32) (i : Fin 2048) (s : Fin 128) :
    ref_tail d (ix2 i s) = ∑ j ∈ Finset.Ico i.val 2048, (if h : j < 2048 then (d (ix2 ⟨j, h⟩ s) : EReal) else 0) := by
  unfold ref_tail
  have hv : ∀ k, (broadcastInDim S_ ![] bcast_S_S_ (constant S_ .f32 0x00000000#32) : FVec Ideal S_ .f32) k = (0 : EReal) := fun k => by pointwise []
  generalize (broadcastInDim S_ ![] bcast_S_S_ (constant S_ .f32 0x00000000#32) : FVec Ideal S_ .f32) = v at hv
  unfold Host.reduceWindowAdd
  rw [Ideal.hostReduceWindowAdd_def, hv]
  unfold Ideal.hostReduceWindowAdd
  exact column_tails (R := 2048) (hi := 2047) (C := 128) d (fun _ => 0) (fun _ => rfl) _ _ i s

theorem ref_rows_value (d x : FVec Ideal S2048x128 .f32) (b : FVec Ideal S1x128 .f32) (i : Fin 2048) (s : Fin 128) :
    ref_rows d x b (ix2 i s) = HMul.hMul (α := EReal) (β := EReal) (∑ j ∈ Finset.Ico i.val 2048, (if h : j < 2048 then (d (ix2 ⟨j, h⟩ s) : EReal) else 0))
      (dlogsig (HAdd.hAdd (α := EReal) (β := EReal) (x (ix2 i s)) (b (ix2 0 s)))) := by
  rw [← ref_tail_value, ← ref_slope_value]
  show -(-(ref_tail d (ix2 i s) : EReal) * (ref_slope (ref_neg x b) (ix2 i s) : EReal)) = _
  rw [EReal.neg_mul, neg_neg]

theorem ref_bias_value (d x : FVec Ideal S2048x128 .f32) (b : FVec Ideal S1x128 .f32) (s : Fin 128) :
    ref_bias d x b (ix2 0 s) = ∑ i : Fin 2048, (ref_rows d x b (ix2 i s) : EReal) := by
  unfold ref_bias
  generalize ref_rows d x b = y
  pointwise []

end Reference

open Cert.Kernel35Ideal Cert.Kernel35Ideal.Gen

/-- The gradient of the row `j`, 0 past the last row. -/
def grad (d : Vec Ideal S2048x128 .f32) (s : Fin 128) (j : ℕ) : EReal := if h : j < 2048 then d (ix2 ⟨j, h⟩ s) else 0

/-- The gradient of the logarithm of the gate of the row `j`, 0 past the last row. -/
def gate (d x : Vec Ideal S2048x128 .f32) (b : Vec Ideal S1x128 .f32) (s : Fin 128) (j : ℕ) : EReal :=
  if h : j < 2048 then (∑ l ∈ Finset.Ico j 2048, grad d s l) * dlogsig (HAdd.hAdd (α := EReal) (β := EReal) (x (ix2 ⟨j, h⟩ s)) (b (ix2 0 s))) else 0

/-- A trip's sums, of its carried row and of the rows that it loads. -/
theorem pay_tail (acc : FVec Ideal S1x128 .f32) (u : Vec Ideal S128x128 .f32) (hu : ∀ z, (u z : EReal) ≠ ⊤) (r s : Fin 128) :
    k0_pay4 (k0_pay1 (F := Ideal)) acc u (ix2 r s)
      = HAdd.hAdd (α := EReal) (β := EReal) (∑ j : Fin 128, (if r.val ≤ j.val then (u (ix2 j s) : EReal) else 0)) (acc (ix2 0 s)) := by
  have h := split_sum (fun j : Fin 128 => if r.val ≤ j.val then (u (ix2 j s) : EReal) else 0)
    (fun j => by split; exacts [hu _, EReal.zero_ne_top])
  rw [← h]
  pointwise [k0_pay4, k0_pay1]
  have bit : ∀ j : Fin 128, (FloatOps.sitofp FTy.f32 (BitVec.setWidth 32 (IntOp.cmpi CmpIPredicate.sge (BitVec.ofNat 32 j.val) (BitVec.ofNat 32 r.val))) : Ideal .f32)
      = if r.val ≤ j.val then (1 : EReal) else 0 := fun j => upper_bit j r
  congr 1
  congr 1
  · congr 1
    · refine Finset.sum_congr rfl fun j _ => ?_
      rw [bit]
      split
      · exact one_mul _
      · exact zero_mul _
    · refine Finset.sum_congr rfl fun j _ => ?_
      rw [bit]
      split
      · exact one_mul _
      · rw [sub_zero]; exact zero_mul _
  · refine Finset.sum_congr rfl fun j _ => ?_
    rw [bit]
    split
    · exact one_mul _
    · rw [sub_zero, sub_zero]; exact zero_mul _

/-- What a trip stores, of those sums. -/
theorem pay_rows (v : FVec Ideal S128x128 .bf16) (acc : FVec Ideal S1x128 .f32) (u x : Vec Ideal S128x128 .f32) (b : Vec Ideal S1x128 .f32) (r s : Fin 128) :
    k0_pay5 v acc u x b (ix2 r s)
      = HMul.hMul (α := EReal) (β := EReal) (k0_pay4 v acc u (ix2 r s)) (dlogsig (HAdd.hAdd (α := EReal) (β := EReal) (x (ix2 r s)) (b (ix2 0 s)))) := by
  unfold k0_pay5
  generalize k0_pay4 v acc u = y
  unfold dlogsig
  pointwise []
  rfl

theorem pay_first (v : FVec Ideal S128x128 .bf16) (acc : FVec Ideal S1x128 .f32) (u : Vec Ideal S128x128 .f32) (s : Fin 128) :
    k0_pay6 v acc u (ix2 0 s) = k0_pay4 v acc u (ix2 0 s) := by
  unfold k0_pay6
  generalize k0_pay4 v acc u = y
  pointwise []

theorem pay_total (tot : FVec Ideal S1x128 .f32) (v : FVec Ideal S128x128 .bf16) (acc : FVec Ideal S1x128 .f32) (u x : Vec Ideal S128x128 .f32) (b : Vec Ideal S1x128 .f32) (s : Fin 128) :
    k0_pay3 tot (k0_pay7 v acc u x b) (ix2 0 s)
      = HAdd.hAdd (α := EReal) (β := EReal) (tot (ix2 0 s)) (∑ r : Fin 128, (k0_pay5 v acc u x b (ix2 r s) : EReal)) := by
  unfold k0_pay3 k0_pay7
  generalize k0_pay5 v acc u x b = y
  pointwise []

section Trips

variable (c : Dev nD) (arg0 : Memref sig .tc .vmem S2048x128 .f32) (harg0 : arg0.IsWhole) (arg1 : Memref sig .tc .vmem S2048x128 .f32) (harg1 : arg1.IsWhole)
  (arg2 : Memref sig .tc .vmem S1x128 .f32) (harg2 : arg2.IsWhole) (arg3 : Memref sig .tc .vmem S2048x128 .f32) (harg3 : arg3.IsWhole)
  (arg4 : Memref sig .tc .vmem S1x128 .f32) (harg4 : arg4.IsWhole) (d x : Vec Ideal S2048x128 .f32) (b : Vec Ideal S1x128 .f32) (hd : ∀ z, (d z : EReal) ≠ ⊤)

abbrev before (k : ℕ) := st_k0_t1 (F := Ideal) Variants.none c none arg0 harg0 arg1 harg1 arg2 harg2 arg3 harg3 arg4 harg4 (harg0.unread d) (harg1.unread x) (harg2.unread b)
  (k0_pay2 (F := Ideal), k0_pay2 (F := Ideal)) k

/-- The rows that a trip loads of an array. -/
abbrev rows (a : Memref sig .tc .vmem S2048x128 .f32) (ha : a.IsWhole) (y : Vec Ideal S2048x128 .f32) (k : Fin k0_t1_loop.trips) : Vec Ideal S128x128 .f32 :=
  View.readAt (Elt Ideal) a.view (Rect.unit (s := S2048x128) (k0_off1 k) S128x128.size (k0_off1_inb k)).toLoadRect (ha.unread y)

abbrev bias : Vec Ideal S1x128 .f32 :=
  View.readAt (Elt Ideal) arg2.view (Rect.unit (s := S1x128) ![0, 0] S1x128.size inb_S1x128_S1x128_0_0).toLoadRect (harg2.unread b)

theorem trip_result (k : Fin k0_t1_loop.trips) (acc : FVec Ideal S1x128 .f32 × FVec Ideal S1x128 .f32) :
    tripR_k0_t1 (F := Ideal) Variants.none c none arg0 harg0 arg1 harg1 arg2 harg2 arg3 harg3 arg4 harg4 (harg0.unread d) (harg1.unread x) (harg2.unread b) k acc
      = (k0_pay6 (k0_pay1 (F := Ideal)) acc.1 (rows arg0 harg0 d k),
        k0_pay3 acc.2 (k0_pay7 (k0_pay1 (F := Ideal)) acc.1 (rows arg0 harg0 d k) (rows arg1 harg1 x k) (bias arg2 harg2 b))) := by
  unfold tripR_k0_t1 trip_k0_t1
  rfl

theorem trip_pieces (k : Fin k0_t1_loop.trips) (acc : FVec Ideal S1x128 .f32 × FVec Ideal S1x128 .f32) :
    tripL_k0_t1 (F := Ideal) Variants.none c none arg0 harg0 arg1 harg1 arg2 harg2 arg3 harg3 arg4 harg4 (harg0.unread d) (harg1.unread x) (harg2.unread b) k acc
      = [⟨Rect.unit (s := S2048x128) (k0_off1 k) S128x128.size (k0_off1_inb k),
          k0_pay5 (k0_pay1 (F := Ideal)) acc.1 (rows arg0 harg0 d k) (rows arg1 harg1 x k) (bias arg2 harg2 b)⟩] := by
  unfold tripL_k0_t1 trip_k0_t1
  rfl

theorem trips_lt (k : Fin k0_t1_loop.trips) : k.val < 16 := Nat.lt_of_lt_of_le k.isLt k0_t1_abs.2.1

theorem row_lt (k : Fin k0_t1_loop.trips) (j : Fin 128) : 1920 - 128 * k.val + j.val < 2048 := by
  have := trips_lt k
  omega

/-- Where the entry of a trip's rows lies in the array. -/
theorem row_emb (k : Fin k0_t1_loop.trips) (j s : Fin 128) :
    (Rect.unit (s := S2048x128) (k0_off1 k) S128x128.size (k0_off1_inb k)).emb (show S128x128.Idx from ix2 j s) = ix2 ⟨1920 - 128 * k.val + j.val, row_lt k j⟩ s := by
  refine funext fun a => Fin.ext ?_
  have e := k0_off1_eq k
  fin_cases a
  · show k0_off1 k 0 + 1 * j.val = 1920 - 128 * k.val + j.val
    rw [e]
    exact congrArg _ (Nat.one_mul _)
  · show k0_off1 k 1 + 1 * s.val = s.val
    rw [e]
    exact (Nat.zero_add _).trans (Nat.one_mul _)

theorem rows_value (a : Memref sig .tc .vmem S2048x128 .f32) (ha : a.IsWhole) (y : Vec Ideal S2048x128 .f32) (k : Fin k0_t1_loop.trips) (j s : Fin 128) :
    rows a ha y k (ix2 j s) = y (ix2 ⟨1920 - 128 * k.val + j.val, row_lt k j⟩ s) :=
  (ha.readAt_unread y (Rect.unit (s := S2048x128) (k0_off1 k) S128x128.size (k0_off1_inb k)).toLoadRect (show S128x128.Idx from ix2 j s)).trans (congrArg y (row_emb k j s))

theorem bias_value (s : Fin 128) : bias arg2 harg2 b (ix2 0 s) = b (ix2 0 s) := by
  refine (harg2.readAt_unread b (Rect.unit (s := S1x128) ![0, 0] S1x128.size inb_S1x128_S1x128_0_0).toLoadRect (show S1x128.Idx from ix2 0 s)).trans (congrArg b (funext fun a => Fin.ext ?_))
  fin_cases a
  · rfl
  · show 0 + 1 * s.val = s.val
    omega

include hd in
/-- A trip's sums, once the carried row holds the sums of the rows after. -/
theorem trip_tail (k : Fin k0_t1_loop.trips) (acc : FVec Ideal S1x128 .f32)
    (hacc : ∀ s : Fin 128, acc (ix2 0 s) = ∑ j ∈ Finset.Ico (2048 - 128 * k.val) 2048, grad d s j) (r s : Fin 128) :
    k0_pay4 (k0_pay1 (F := Ideal)) acc (rows arg0 harg0 d k) (ix2 r s) = ∑ j ∈ Finset.Ico (1920 - 128 * k.val + r.val) 2048, grad d s j := by
  have hk := trips_lt k
  rw [pay_tail _ _ (fun z => by idx_vars z; rw [rows_value]; exact hd _), hacc,
    ← Finset.sum_Ico_consecutive (fun j => grad d s j) (show 1920 - 128 * k.val + r.val ≤ 2048 - 128 * k.val by omega) (show 2048 - 128 * k.val ≤ 2048 by omega)]
  refine congrArg (· + _) ?_
  have e := (suffix_sum 128 r (fun j => grad d s (1920 - 128 * k.val + j))).trans (Finset.sum_Ico_add (fun j => grad d s j) r.val 128 (1920 - 128 * k.val))
  rw [show r.val + (1920 - 128 * k.val) = 1920 - 128 * k.val + r.val by omega, show 128 + (1920 - 128 * k.val) = 2048 - 128 * k.val by omega] at e
  refine Eq.trans (Finset.sum_congr rfl fun j _ => ?_) e
  rw [rows_value]
  unfold grad
  rw [dif_pos (row_lt k j)]

include hd in
theorem trip_rows (k : Fin k0_t1_loop.trips) (acc : FVec Ideal S1x128 .f32)
    (hacc : ∀ s : Fin 128, acc (ix2 0 s) = ∑ j ∈ Finset.Ico (2048 - 128 * k.val) 2048, grad d s j) (r s : Fin 128) :
    k0_pay5 (k0_pay1 (F := Ideal)) acc (rows arg0 harg0 d k) (rows arg1 harg1 x k) (bias arg2 harg2 b) (ix2 r s) = gate d x b s (1920 - 128 * k.val + r.val) := by
  rw [pay_rows, trip_tail arg0 harg0 d hd k acc hacc, rows_value, bias_value]
  unfold gate
  rw [dif_pos (row_lt k r)]

/-- The gradients of the logits. -/
def W3 (i : S2048x128.Idx) : EReal := gate d x b (i 1) (i 0).val

include hd in
/-- Before every trip the carried rows hold the sums of the rows after, and what was stored agrees with the gradients. -/
theorem trips_value : ∀ k : ℕ, k ≤ k0_t1_loop.trips →
    (∀ s : Fin 128, (before c arg0 harg0 arg1 harg1 arg2 harg2 arg3 harg3 arg4 harg4 d x b k).1.1 (ix2 0 s) = ∑ j ∈ Finset.Ico (2048 - 128 * k) 2048, grad d s j)
    ∧ (∀ s : Fin 128, (before c arg0 harg0 arg1 harg1 arg2 harg2 arg3 harg3 arg4 harg4 d x b k).1.2 (ix2 0 s) = ∑ j ∈ Finset.Ico (2048 - 128 * k) 2048, gate d x b s j)
    ∧ (∀ p ∈ (before c arg0 harg0 arg1 harg1 arg2 harg2 arg3 harg3 arg4 harg4 d x b k).2, ∀ z : p.1.shape.Idx, p.2 z = W3 d x b (p.1.emb z))
  | 0, _ => by
    have e : ∀ s : Fin 128, k0_pay2 (F := Ideal) (ix2 0 s) = (0 : EReal) := fun s => by pointwise [k0_pay2]
    refine ⟨fun s => (e s).trans ?_, fun s => (e s).trans ?_, fun p hp => absurd hp List.not_mem_nil⟩ <;>
      exact (Finset.sum_eq_zero fun j hj => absurd (Finset.mem_Ico.mp hj) (by omega)).symm
  | k + 1, hk => by
    obtain ⟨h1, h2, h3⟩ := trips_value k (by omega)
    have hlt : k < k0_t1_loop.trips := by omega
    have hk16 : k < 16 := trips_lt ⟨k, hlt⟩
    have e := st_k0_t1_succ (F := Ideal) Variants.none c none arg0 harg0 arg1 harg1 arg2 harg2 arg3 harg3 arg4 harg4 (harg0.unread d) (harg1.unread x) (harg2.unread b)
      (k0_pay2 (F := Ideal), k0_pay2 (F := Ideal)) ⟨k, hlt⟩
    rw [trip_result, trip_pieces] at e
    have hv := trip_rows arg0 harg0 arg1 harg1 arg2 harg2 d x b hd ⟨k, hlt⟩ (before c arg0 harg0 arg1 harg1 arg2 harg2 arg3 harg3 arg4 harg4 d x b k).1.1 h1
    have e1 : 2048 - 128 * (k + 1) = 1920 - 128 * k := by omega
    refine ⟨fun s => ?_, fun s => ?_, fun p hp z => ?_⟩
    · refine (congrFun (congrArg (fun p => p.1.1) e) (ix2 0 s)).trans ?_
      show k0_pay6 _ _ _ (ix2 0 s) = _
      rw [pay_first, trip_tail arg0 harg0 d hd ⟨k, hlt⟩ _ h1, e1]
      rfl
    · refine (congrFun (congrArg (fun p => p.1.2) e) (ix2 0 s)).trans ?_
      show k0_pay3 _ _ (ix2 0 s) = _
      rw [pay_total, h2, e1, ← Finset.sum_Ico_consecutive (fun j => gate d x b s j) (show 1920 - 128 * k ≤ 2048 - 128 * k by omega) (show 2048 - 128 * k ≤ 2048 by omega)]
      refine (add_comm _ _).trans (congrArg (· + _) ?_)
      rw [Finset.sum_congr rfl fun r _ => hv r s, Fin.sum_univ_eq_sum_range (fun r => gate d x b s (1920 - 128 * k + r)) 128, Finset.sum_Ico_eq_sum_range,
        show 2048 - 128 * k - (1920 - 128 * k) = 128 by omega]
    · rw [show before c arg0 harg0 arg1 harg1 arg2 harg2 arg3 harg3 arg4 harg4 d x b (k + 1) = _ from e] at hp
      rcases List.mem_append.mp hp with hp | hp
      · obtain rfl := List.mem_singleton.mp hp
        revert z
        show ∀ z : S128x128.Idx, k0_pay5 (F := Ideal) _ _ _ _ _ z = W3 d x b _
        intro z
        idx_vars z
        refine (hv z0 z1).trans ?_
        rw [row_emb]
        rfl
      · exact h3 p hp z

include hd in
theorem rows_body (y : S2048x128.Idx) : out0_A_3 c arg0 harg0 arg1 harg1 arg2 harg2 arg3 harg3 arg4 harg4 d x b y = W3 d x b y := by
  unfold out0_A_3
  refine read_pieces _ _ (W3 d x b) y _ ?_ (cover0_A_3 c arg0 harg0 arg1 harg1 arg2 harg2 arg3 harg3 arg4 harg4 d x b y)
  unfold kernelRun0_A
  exact (trips_value c arg0 harg0 arg1 harg1 arg2 harg2 arg3 harg3 arg4 harg4 d x b hd k0_t1_loop.trips le_rfl).2.2

/-- The gradients of the bias. -/
def W4 (i : S1x128.Idx) : EReal := ∑ j ∈ Finset.range 2048, gate d x b (i 1) j

include hd in
theorem bias_body (y : S1x128.Idx) : out0_A_4 c arg0 harg0 arg1 harg1 arg2 harg2 arg3 harg3 arg4 harg4 d x b y = W4 d x b y := by
  unfold out0_A_4
  refine read_pieces _ _ (W4 d x b) y _ ?_ (cover0_A_4 c arg0 harg0 arg1 harg1 arg2 harg2 arg3 harg3 arg4 harg4 d x b y)
  unfold kernelRun0_A
  intro p hp
  obtain rfl := List.mem_singleton.mp hp
  show ∀ z : S1x128.Idx, (before c arg0 harg0 arg1 harg1 arg2 harg2 arg3 harg3 arg4 harg4 d x b k0_t1_loop.trips).1.2 z = W4 d x b _
  intro z
  idx_vars z
  refine (congrArg _ (congrArg (fun r => ix2 r z1) (Subsingleton.elim z0 0))).trans (((trips_value c arg0 harg0 arg1 harg1 arg2 harg2 arg3 harg3 arg4 harg4 d x b hd k0_t1_loop.trips le_rfl).2.1 z1).trans ?_)
  unfold W4
  rw [show 2048 - 128 * k0_t1_loop.trips = 0 by decide, Finset.range_eq_Ico]
  refine Finset.sum_congr rfl fun j _ => congrArg (fun s => gate d x b s j) (Fin.ext ?_)
  show z1.val = 0 + 1 * z1.val
  omega

end Trips

variable (m : (ℓ : Loc nD τ sig) → Buf (Elt Ideal) ℓ) (c : Dev nD)

theorem block0 (t : Fin cfg0.N) : iblk m c 0 t = m (c.tc.loc main_arg0) := by
  funext i
  show m (c.tc.loc main_arg0) (((cfg0.win 0).rect t).emb i) = _
  refine congrArg _ (funext fun a => Fin.ext ?_)
  refine (Pipeline.Window.rect_emb_val (cfg0.win 0) t i a).trans ?_
  show 0 * _ + (i a).val = (i a).val
  omega

theorem block1 (t : Fin cfg0.N) : iblk m c 1 t = m (c.tc.loc main_arg1) := by
  funext i
  show m (c.tc.loc main_arg1) (((cfg0.win 1).rect t).emb i) = _
  refine congrArg _ (funext fun a => Fin.ext ?_)
  refine (Pipeline.Window.rect_emb_val (cfg0.win 1) t i a).trans ?_
  show 0 * _ + (i a).val = (i a).val
  omega

theorem block2 (t : Fin cfg0.N) : iblk m c 2 t = m (c.tc.loc main_arg2) := by
  funext i
  show m (c.tc.loc main_arg2) (((cfg0.win 2).rect t).emb i) = _
  refine congrArg _ (funext fun a => Fin.ext ?_)
  refine (Pipeline.Window.rect_emb_val (cfg0.win 2) t i a).trans ?_
  show 0 * _ + (i a).val = (i a).val
  omega

/-- The arrays that the kernel leaves. -/
abbrev R3 : S2048x128.Idx → EReal := W3 (m (c.tc.loc main_arg0)) (m (c.tc.loc main_arg1)) (m (c.tc.loc main_arg2))
abbrev R4 : S1x128.Idx → EReal := W4 (m (c.tc.loc main_arg0)) (m (c.tc.loc main_arg1)) (m (c.tc.loc main_arg2))

abbrev Bounded : Prop := ∀ z, (show EReal from m (c.tc.loc main_arg0) z) ≠ ⊤

theorem value3 (hd : Bounded m c) (t : Fin cfg0.N) (y : S2048x128.Idx) : (outsAt0 m c t).1 y = R3 m c y := by
  unfold outsAt0 R3
  unfold Bounded at hd
  rw [← block0 m c t] at hd
  rw [← block0 m c t, ← block1 m c t, ← block2 m c t]
  exact rows_body c _ _ _ _ _ _ _ _ _ _ _ _ _ hd y

theorem value4 (hd : Bounded m c) (t : Fin cfg0.N) (y : S1x128.Idx) : (outsAt0 m c t).2 y = R4 m c y := by
  unfold outsAt0 R4
  unfold Bounded at hd
  rw [← block0 m c t] at hd
  rw [← block0 m c t, ← block1 m c t, ← block2 m c t]
  exact bias_body c _ _ _ _ _ _ _ _ _ _ _ _ _ hd y

theorem whole3 (t : Fin cfg0.N) (j : S2048x128.Idx) : ((cfg0.win 3).rect t).emb j = j := by
  refine funext fun a => Fin.ext ?_
  refine (Pipeline.Window.rect_emb_val (cfg0.win 3) t j a).trans ?_
  show 0 * _ + (j a).val = (j a).val
  omega

theorem whole4 (t : Fin cfg0.N) (j : S1x128.Idx) : ((cfg0.win 4).rect t).emb j = j := by
  refine funext fun a => Fin.ext ?_
  refine (Pipeline.Window.rect_emb_val (cfg0.win 4) t j a).trans ?_
  show 0 * _ + (j a).val = (j a).val
  omega

theorem flushed3 (hd : Bounded m c) (t : Fin cfg0.N) : (dats m 0 c).flushed 3 t = ((cfg0.win 3).blk t).view.read (Elt Ideal) (R3 m c) := by
  show (cfg0.win 3).cut (grid0.coords t) ((dats m 0 c).after 3 t) = _
  rw [after0_3]
  funext j
  refine (value3 m c hd t j).trans ?_
  show _ = R3 m c (((cfg0.win 3).rect t).emb j)
  erw [whole3]

theorem flushed4 (hd : Bounded m c) (t : Fin cfg0.N) : (dats m 0 c).flushed 4 t = ((cfg0.win 4).blk t).view.read (Elt Ideal) (R4 m c) := by
  show (cfg0.win 4).cut (grid0.coords t) ((dats m 0 c).after 4 t) = _
  rw [after0_4]
  funext j
  refine (value4 m c hd t j).trans ?_
  show _ = R4 m c (((cfg0.win 4).rect t).emb j)
  erw [whole4]

theorem covered3 (i : S2048x128.Idx) : ∃ t : Fin cfg0.N, (cfg0.win 3).flush t = true ∧ i ∈ ((cfg0.win 3).blk t).view.set := by
  refine ⟨t0_0, by decide, ?_⟩
  refine (iff_of_eq (congrArg (fun z : Finset S2048x128.Idx => i ∈ z) (View.set_slice_whole main_v0_0 ((cfg0.win 3).rect t0_0)))).mpr ?_
  refine Rect.mem_set_unit.mpr fun a => ?_
  show 0 * _ ≤ (i a).val ∧ (i a).val < 0 * _ + S2048x128.size a
  have := (i a).isLt
  omega

theorem covered4 (i : S1x128.Idx) : ∃ t : Fin cfg0.N, (cfg0.win 4).flush t = true ∧ i ∈ ((cfg0.win 4).blk t).view.set := by
  refine ⟨t0_0, by decide, ?_⟩
  refine (iff_of_eq (congrArg (fun z : Finset S1x128.Idx => i ∈ z) (View.set_slice_whole main_v0_1 ((cfg0.win 4).rect t0_0)))).mpr ?_
  refine Rect.mem_set_unit.mpr fun a => ?_
  show 0 * _ ≤ (i a).val ∧ (i a).val < 0 * _ + S1x128.size a
  have := (i a).isLt
  omega

theorem after_run (hd : Bounded m c) (r : PUnit × MemSt nD τ sig (Elt Ideal)) (h : Pipeline.FramePost cfgs (dats m) 0 (V m) r) :
    r.2.mem (c.tc.loc main_v0_0) = R3 m c ∧ r.2.mem (c.tc.loc main_v0_1) = R4 m c :=
  ⟨((h c).1 3).trans (Pipeline.Dat.arrAt_eq_of_cover (dats m 0 c) 3 (R3 m c) (fun t _ => flushed3 m c hd t) covered3),
    ((h c).1 4).trans (Pipeline.Dat.arrAt_eq_of_cover (dats m 0 c) 4 (R4 m c) (fun t _ => flushed4 m c hd t) covered4)⟩

theorem ref_gate (d x : Vec Ideal S2048x128 .f32) (b : Vec Ideal S1x128 .f32) (i : Fin 2048) (s : Fin 128) : ref_rows (F := Ideal) d x b (ix2 i s) = gate d x b s i.val := by
  unfold gate
  rw [dif_pos i.isLt]
  exact ref_rows_value d x b i s

theorem ref_value3 (d x : Vec Ideal S2048x128 .f32) (b : Vec Ideal S1x128 .f32) : ref_rows (F := Ideal) d x b = W3 d x b := by
  funext i
  idx_vars i
  exact ref_gate d x b i0 i1

theorem ref_value4 (d x : Vec Ideal S2048x128 .f32) (b : Vec Ideal S1x128 .f32) : ref_bias (F := Ideal) d x b = W4 d x b := by
  funext i
  idx_vars i
  obtain rfl := Subsingleton.elim i0 0
  refine (ref_bias_value d x b i1).trans ?_
  refine (Finset.sum_congr rfl fun i _ => ref_gate d x b i i1).trans (Fin.sum_univ_eq_sum_range (fun j => gate d x b i1 j) 2048)

end Cert.Proof.ForgetGate

end
-- ==== Proof.Claims11.lean ====
/- The value claim of the gradient of the forget gates. -/
module

public import proofs.«01_k».proof.Defs
public import proofs.«01_k».proof.Proof.ForgetGate
public import proofs.«01_k».proof.Proof.Gen.Pre_dc_bounded
public import proofs.«01_k».proof.Proof.Basis

@[expose] public section

set_option maxRecDepth 16384

noncomputable section

namespace Cert.Proof

open Idealize.ShloMosaic Idealize.ShloMosaic.TcCoe Idealize.SL.Sem

theorem ne_top_of_lt (x : EReal) (h : Ideal.cmp .olt x (Ideal.ofBits .f32 0x7F800000#32) = 1#1) : x ≠ ⊤ := by
  rintro rfl
  rw [top_bits] at h
  simp [Ideal.cmp] at h

theorem fgate_value : Cert.algebraic_Kernel35Ideal_Reference35Ideal_pre_dc_bounded := by
  intro m g m' g' hpre hargs
  have hd : ∀ c, ForgetGate.Bounded m c := fun c i => ne_top_of_lt _ (congrFun (hpre c) i)
  refine ⟨fun c => ForgetGate.R3 m c, fun c => ForgetGate.R4 m c,
    (θ_run _ _ _).mono (fun r h c => ⟨(ForgetGate.after_run m c (hd c) r h.1).1, (ForgetGate.after_run m c (hd c) r h.1).2, h.2 c⟩)
      (θ_run_and (Cert.Kernel35Ideal.Gen.run_main m g) (Cert.Kernel35Ideal.Gen.unchanged m g)),
    (θ_run _ _ _).mono (fun r h c => ?_) (ForgetGate.ref_run (F := Ideal) m' g')⟩
  obtain ⟨h0, h1, ha⟩ := h c
  obtain ⟨e0, e1, e2⟩ := hargs c
  refine ⟨h0.trans ?_, h1.trans ?_, ha⟩
  · rw [e0, e1, e2]
    exact ForgetGate.ref_value3 _ _ _
  · rw [e0, e1, e2]
    exact ForgetGate.ref_value4 _ _ _

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Reference24Ideal
public import proofs.«01_k».proof.Proof.Gen.Kernel25.Frame
public import proofs.«01_k».proof.Proof.Gen.Kernel25Ideal.Frame
public import proofs.«01_k».proof.Proof.Gen.Reference25Ideal
public import proofs.«01_k».proof.Proof.Gen.Kernel26.Frame
public import proofs.«01_k».proof.Proof.Gen.Kernel26Ideal.Frame
public import proofs.«01_k».proof.Proof.Gen.Reference26Ideal
public import proofs.«01_k».proof.Proof.Gen.Kernel27.Frame
public import proofs.«01_k».proof.Proof.Gen.Kernel27Ideal.Frame
public import proofs.«01_k».proof.Proof.Gen.Reference27Ideal
public import proofs.«01_k».proof.Proof.Gen.Kernel28.Frame
public import proofs.«01_k».proof.Proof.Gen.Kernel28Ideal.Frame
public import proofs.«01_k».proof.Proof.Gen.Reference28Ideal
public import proofs.«01_k».proof.Proof.Gen.Kernel29.Frame
public import proofs.«01_k».proof.Proof.Gen.Kernel29Ideal.Frame
public import proofs.«01_k».proof.Proof.Gen.Reference29Ideal
public import proofs.«01_k».proof.Proof.Gen.Kernel30.Frame
public import proofs.«01_k».proof.Proof.Gen.Kernel30Ideal.Frame
public import proofs.«01_k».proof.Proof.Gen.Reference30Ideal
public import proofs.«01_k».proof.Proof.Gen.Kernel31.Frame
public import proofs.«01_k».proof.Proof.Gen.Kernel31Ideal.Frame
public import proofs.«01_k».proof.Proof.Gen.Reference31Ideal
public import proofs.«01_k».proof.Proof.Gen.Kernel32.Frame
public import proofs.«01_k».proof.Proof.Gen.Kernel32Ideal.Frame
public import proofs.«01_k».proof.Proof.Gen.Reference32Ideal
public import proofs.«01_k».proof.Proof.Gen.Kernel33.Frame
public import proofs.«01_k».proof.Proof.Gen.Kernel33Ideal.Frame
public import proofs.«01_k».proof.Proof.Gen.Reference33Ideal
public import proofs.«01_k».proof.Proof.Gen.Kernel34.Frame
public import proofs.«01_k».proof.Proof.Gen.Kernel34Ideal.Frame
public import proofs.«01_k».proof.Proof.Gen.Reference34Ideal
public import proofs.«01_k».proof.Proof.Gen.Kernel35.Frame
public import proofs.«01_k».proof.Proof.Gen.Kernel35Ideal.Frame
public import proofs.«01_k».proof.Proof.Gen.Reference35Ideal
public import proofs.«01_k».proof.Proof.Gen.Kernel36.Frame
public import proofs.«01_k».proof.Proof.Gen.Kernel36Ideal.Frame
public import proofs.«01_k».proof.Proof.Gen.Reference36Ideal
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Pre_act_finite
public import proofs.«01_k».proof.Proof.Gen.Pre_dh_finite
public import proofs.«01_k».proof.Proof.Gen.Pre_mixer_dh_finite
public import proofs.«01_k».proof.Proof.Gen.Pre_loss_finite
public import proofs.«01_k».proof.Proof.Gen.Pre_dc_bounded
public import proofs.«01_k».proof.Proof.Claims1
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import proofs.«01_k».proof.Proof.Claims11
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

set_option maxHeartbeats 4000000 in
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Pre_act_finite.Gen.facts, Cert.Pre_dh_finite.Gen.facts, Cert.Pre_mixer_dh_finite.Gen.facts, Cert.Pre_loss_finite.Gen.facts, Cert.Pre_dc_bounded.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => (θ_run _ _ _).mono (fun r h => ⟨fun c => (h c).2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run _ _ _).mono (fun r h => ⟨fun c => (h c).2.2, sem_eq_zero_of_no_sems (by decide) r.2⟩) (Cert.Reference3Ideal.Value.run m ρ),
  fun m ρ _ => (θ_run _ _ _).mono (fun r h => ⟨fun c => (h c).2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2.2.2.2.2.2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run _ _ _).mono (fun r h => ⟨fun c => (h c).2.2, sem_eq_zero_of_no_sems (by decide) r.2⟩) (Cert.Reference7Ideal.Value.run m ρ),
  fun m ρ _ => (θ_run _ _ _).mono (fun r h => ⟨fun c => (h c).2.2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run _ _ _).mono (fun r h => ⟨fun c => (h c).2.2.2.2.2.2.2.2.2, sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => (θ_run _ _ _).mono (fun r h => ⟨fun c => (h c).2.2.2, sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => (θ_run _ _ _).mono (fun r h => ⟨fun c => (h c).2.2.2, sem_eq_zero_of_no_sems (by decide) r.2⟩) (Cert.Reference14Ideal.Value.run m ρ),
  fun m ρ _ => Cert.Kernel15.Gen.frame m ρ,
  fun m ρ _ => Cert.Kernel15Ideal.Gen.frame m ρ,
  fun m ρ _ => (θ_run _ _ _).mono (fun r h => ⟨fun c => (h c).2.2.2, sem_eq_zero_of_no_sems (by decide) r.2⟩) (Cert.Reference15Ideal.Value.run m ρ),
  fun m ρ _ => Cert.Kernel16.Gen.frame m ρ,
  fun m ρ _ => Cert.Kernel16Ideal.Gen.frame m ρ,
  fun m ρ _ => (θ_run _ _ _).mono (fun r h => ⟨fun c => (h c).2.2.2, sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run _ _ _).mono (fun r h => ⟨fun c => (h c).2, sem_eq_zero_of_no_sems (by decide) r.2⟩) (Cert.Reference17Ideal.Value.run m ρ),
  fun m ρ _ => Cert.Kernel18.Gen.frame m ρ,
  fun m ρ _ => Cert.Kernel18Ideal.Gen.frame m ρ,
  fun m ρ _ => (θ_run _ _ _).mono (fun r h => ⟨fun c => (h c).2.2.2, sem_eq_zero_of_no_sems (by decide) r.2⟩) (Cert.Reference18Ideal.Value.run m ρ),
  fun m ρ _ => Cert.Kernel19.Gen.frame m ρ,
  fun m ρ _ => Cert.Kernel19Ideal.Gen.frame m ρ,
  fun m ρ _ => (θ_run _ _ _).mono (fun r h => ⟨fun c => (h c).2, sem_eq_zero_of_no_sems (by decide) r.2⟩) (Cert.Reference19Ideal.Value.run m ρ),
  fun m ρ _ => Cert.Kernel20.Gen.frame m ρ,
  fun m ρ _ => Cert.Kernel20Ideal.Gen.frame m ρ,
  fun m ρ _ => (θ_run _ _ _).mono (fun r h => ⟨fun c => (h c).2, sem_eq_zero_of_no_sems (by decide) r.2⟩) (Cert.Reference20Ideal.Value.run m ρ),
  fun m ρ _ => Cert.Kernel21.Gen.frame m ρ,
  fun m ρ _ => Cert.Kernel21Ideal.Gen.frame m ρ,
  fun m ρ _ => (θ_run _ _ _).mono (fun r h => ⟨fun c => (h c).2, sem_eq_zero_of_no_sems (by decide) r.2⟩) (Cert.Reference21Ideal.Value.run m ρ),
  fun m ρ _ => Cert.Kernel22.Gen.frame m ρ,
  fun m ρ _ => Cert.Kernel22Ideal.Gen.frame m ρ,
  fun m ρ _ => Cert.Kernel22Ideal.Gen.frame m ρ,
  fun m ρ _ => (θ_run _ _ _).mono (fun r h => ⟨fun c => (h c).2.2.2, sem_eq_zero_of_no_sems (by decide) r.2⟩) (Cert.Reference22Ideal.Value.run m ρ),
  fun m ρ _ => (θ_run _ _ _).mono (fun r h => ⟨fun c => (h c).2.2.2, sem_eq_zero_of_no_sems (by decide) r.2⟩) (Cert.Reference22Ideal.Value.run m ρ),
  fun m ρ _ => Cert.Kernel23.Gen.frame m ρ,
  fun m ρ _ => Cert.Kernel23Ideal.Gen.frame m ρ,
  fun m ρ _ => (θ_run _ _ _).mono (fun r h => ⟨fun c => (h c).2.2, sem_eq_zero_of_no_sems (by decide) r.2⟩) (Cert.Reference23Ideal.Value.run m ρ),
  fun m ρ _ => Cert.Kernel24.Gen.frame m ρ (SumFfn.ok0 m),
  fun m ρ _ => Cert.Kernel24Ideal.Gen.frame m ρ (SumFfn.ok m),
  fun m ρ _ => (θ_run _ _ _).mono (fun r h => ⟨fun c => (h c).2, sem_eq_zero_of_no_sems (by decide) r.2⟩) (SumFfn.ref_run m ρ),
  fun m ρ _ => Cert.Kernel25.Gen.frame m ρ (SumIn.ok0 m),
  fun m ρ _ => Cert.Kernel25Ideal.Gen.frame m ρ (SumIn.ok m),
  fun m ρ _ => (θ_run _ _ _).mono (fun r h => ⟨fun c => (h c).2, sem_eq_zero_of_no_sems (by decide) r.2⟩) (SumIn.ref_run m ρ),
  fun m ρ _ => Cert.Kernel26.Gen.frame m ρ (SumGate.ok0 m),
  fun m ρ _ => Cert.Kernel26Ideal.Gen.frame m ρ (SumGate.ok m),
  fun m ρ _ => (θ_run _ _ _).mono (fun r h => ⟨fun c => (h c).2, sem_eq_zero_of_no_sems (by decide) r.2⟩) (SumGate.ref_run m ρ),
  fun m ρ _ => Cert.Kernel27.Gen.frame m ρ (SumUp.ok0 m),
  fun m ρ _ => Cert.Kernel27Ideal.Gen.frame m ρ (SumUp.ok m),
  fun m ρ _ => (θ_run _ _ _).mono (fun r h => ⟨fun c => (h c).2, sem_eq_zero_of_no_sems (by decide) r.2⟩) (SumUp.ref_run m ρ),
  fun m ρ _ => Cert.Kernel28.Gen.frame m ρ (SumOut.ok0 m),
  fun m ρ _ => Cert.Kernel28Ideal.Gen.frame m ρ (SumOut.ok m),
  fun m ρ _ => (θ_run _ _ _).mono (fun r h => ⟨fun c => (h c).2, sem_eq_zero_of_no_sems (by decide) r.2⟩) (SumOut.ref_run m ρ),
  fun m ρ _ => Cert.Kernel29.Gen.frame m ρ (PairFfn.ok0 m),
  fun m ρ _ => Cert.Kernel29Ideal.Gen.frame m ρ (PairFfn.ok m),
  fun m ρ _ => (θ_run _ _ _).mono (fun r h => ⟨fun c => (h c).2, sem_eq_zero_of_no_sems (by decide) r.2⟩) (PairFfn.ref_run m ρ),
  fun m ρ _ => Cert.Kernel30.Gen.frame m ρ (PairIn.ok0 m),
  fun m ρ _ => Cert.Kernel30Ideal.Gen.frame m ρ (PairIn.ok m),
  fun m ρ _ => (θ_run _ _ _).mono (fun r h => ⟨fun c => (h c).2, sem_eq_zero_of_no_sems (by decide) r.2⟩) (PairIn.ref_run m ρ),
  fun m ρ _ => Cert.Kernel31.Gen.frame m ρ (PairGate.ok0 m),
  fun m ρ _ => Cert.Kernel31Ideal.Gen.frame m ρ (PairGate.ok m),
  fun m ρ _ => (θ_run _ _ _).mono (fun r h => ⟨fun c => (h c).2, sem_eq_zero_of_no_sems (by decide) r.2⟩) (PairGate.ref_run m ρ),
  fun m ρ _ => Cert.Kernel32.Gen.frame m ρ (PairUp.ok0 m),
  fun m ρ _ => Cert.Kernel32Ideal.Gen.frame m ρ (PairUp.ok m),
  fun m ρ _ => (θ_run _ _ _).mono (fun r h => ⟨fun c => (h c).2, sem_eq_zero_of_no_sems (by decide) r.2⟩) (PairUp.ref_run m ρ),
  fun m ρ _ => Cert.Kernel33.Gen.frame m ρ (PairOut.ok0 m),
  fun m ρ _ => Cert.Kernel33Ideal.Gen.frame m ρ (PairOut.ok m),
  fun m ρ _ => (θ_run _ _ _).mono (fun r h => ⟨fun c => (h c).2, sem_eq_zero_of_no_sems (by decide) r.2⟩) (PairOut.ref_run m ρ),
  fun m ρ _ => Cert.Kernel34.Gen.frame m ρ,
  fun m ρ _ => Cert.Kernel34Ideal.Gen.frame m ρ,
  fun m ρ _ => (θ_run _ _ _).mono (fun r h => ⟨fun c => (h c).2, sem_eq_zero_of_no_sems (by decide) r.2⟩) (Forget.ref_run m ρ),
  fun m ρ _ => Cert.Kernel35.Gen.frame m ρ,
  fun m ρ _ => Cert.Kernel35Ideal.Gen.frame m ρ,
  fun m ρ _ => Cert.Kernel35Ideal.Gen.frame m ρ,
  fun m ρ _ => (θ_run _ _ _).mono (fun r h => ⟨fun c => (h c).2.2, sem_eq_zero_of_no_sems (by decide) r.2⟩) (ForgetGate.ref_run m ρ),
  fun m ρ _ => (θ_run _ _ _).mono (fun r h => ⟨fun c => (h c).2.2, sem_eq_zero_of_no_sems (by decide) r.2⟩) (ForgetGate.ref_run m ρ),
  fun m ρ _ => Cert.Kernel36.Gen.frame m ρ (SumUpB.ok0 m),
  fun m ρ _ => Cert.Kernel36Ideal.Gen.frame m ρ (SumUpB.ok m),
  fun m ρ _ => (θ_run _ _ _).mono (fun r h => ⟨fun c => (h c).2, sem_eq_zero_of_no_sems (by decide) r.2⟩) (SumUpB.ref_run m ρ),
  fun m ρ _ => Cert.Kernel37.Gen.frame m ρ,
  fun m ρ _ => Cert.Kernel37Ideal.Gen.frame m ρ,
  fun m ρ _ => (θ_run _ _ _).mono (fun r h => ⟨fun c => (h c).2, sem_eq_zero_of_no_sems (by decide) r.2⟩) (Cert.Reference37Ideal.Value.run m ρ),
  fun m ρ _ => Cert.Kernel38.Gen.frame m ρ,
  fun m ρ _ => Cert.Kernel38Ideal.Gen.frame m ρ,
  fun m ρ _ => (θ_run _ _ _).mono (fun r h => ⟨fun c => (h c).2, sem_eq_zero_of_no_sems (by decide) r.2⟩) (Cert.Reference38Ideal.Value.run m ρ),
  trivial,
  act_value,
  trivial,
  wgrad_value,
  trivial,
  dh_value,
  trivial,
  mix_value,
  trivial,
  up_value,
  trivial,
  down_value,
  trivial,
  mixdh_value,
  trivial,
  wqkv_value,
  trivial,
  wgate_value,
  trivial,
  pqkv_value,
  trivial,
  pgate_value,
  trivial,
  affn_value,
  trivial,
  ain_value,
  trivial,
  agate_value,
  trivial,
  aup_value,
  trivial,
  aout_value,
  trivial,
  mixout_value,
  trivial,
  mixfwd_value,
  trivial,
  wout_value,
  trivial,
  upbwd_value,
  trivial,
  upwgrad_value,
  trivial,
  loss_value,
  trivial,
  rms_value,
  trivial,
  sumffn_value,
  trivial,
  sumin_value,
  trivial,
  sumgate_value,
  trivial,
  sumup_value,
  trivial,
  sumout_value,
  trivial,
  pairffn_value,
  trivial,
  pairin_value,
  trivial,
  pairgate_value,
  trivial,
  pairup_value,
  trivial,
  pairout_value,
  trivial,
  prep_value,
  trivial,
  fgate_value,
  trivial,
  sumupb_value,
  trivial,
  pforget_value,
  trivial,
  wforget_value⟩

end Cert.Proof

end
